-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S4096x8192 : Shape := ⟨2, ![4096, 8192]⟩
abbrev S2x128x8192 : Shape := ⟨3, ![2, 128, 8192]⟩
abbrev S2x32x8192 : Shape := ⟨3, ![2, 32, 8192]⟩
abbrev S4x32x8192 : Shape := ⟨3, ![4, 32, 8192]⟩
abbrev S8x8x128 : Shape := ⟨3, ![8, 8, 128]⟩
abbrev S4 : Shape := ⟨1, ![4]⟩
abbrev S5 : Shape := ⟨1, ![5]⟩
abbrev S2 : Shape := ⟨1, ![2]⟩
abbrev S_ : Shape := ⟨0, ![]⟩
abbrev S128x128 : Shape := ⟨2, ![128, 128]⟩
abbrev S1x128x8192 : Shape := ⟨3, ![1, 128, 8192]⟩
abbrev S1x32x8192 : Shape := ⟨3, ![1, 32, 8192]⟩
abbrev S32x8192 : Shape := ⟨2, ![32, 8192]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S4096x8192, .f32⟩
  | .local _ .vmem, ⟨0, _⟩ => ⟨S4096x128, .f32⟩
  | .local _ .vmem, ⟨1, _⟩ => ⟨S128x8192, .f32⟩
  | .local _ .vmem, ⟨2, _⟩ => ⟨S2x128x8192, .f32⟩
  | .local _ .vmem, ⟨3, _⟩ => ⟨S2x32x8192, .bf16⟩
  | .local _ .vmem, ⟨4, _⟩ => ⟨S2x32x8192, .bf16⟩
  | .local _ .vmem, ⟨5, _⟩ => ⟨S2x32x8192, .bf16⟩
  | .local _ .vmem, ⟨6, _⟩ => ⟨S2x32x8192, .bf16⟩
  | .local _ .vmem, ⟨7, _⟩ => ⟨S4x32x8192, .bf16⟩
  | .local _ .vmem, ⟨8, _⟩ => ⟨S4x32x8192, .bf16⟩
  | .local _ .vmem, ⟨9, _⟩ => ⟨S4x32x8192, .bf16⟩
  | .local _ .vmem, ⟨10, _⟩ => ⟨S4x32x8192, .bf16⟩
  | .local _ .vmem, ⟨11, _⟩ => ⟨S4x32x8192, .i8⟩
  | .local _ .vmem, ⟨12, _⟩ => ⟨S4x32x8192, .i8⟩
  | .local _ .vmem, ⟨13, _⟩ => ⟨S4x32x8192, .i8⟩
  | .local _ .vmem, ⟨14, _⟩ => ⟨S4x32x8192, .i8⟩
  | .local _ .vmem, ⟨15, _⟩ => ⟨S8x8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 5 46 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_sem0_0 : DmaSem sig := 0
abbrev cc0_sem1_0 : DmaSem sig := 1
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_15 : BitVec 32 := 1#32
  let v27 : BitVec 32 := Scalar.muli v25 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v29 : BitVec 32 := Scalar.muli v13 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v31 : BitVec 32 := Scalar.muli v2 c128_i32
  let v32 : Index := Scalar.indexCast v31
  let c0 : Index := 0#32
  ![v32.toNat, 0]
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v65 : BitVec 32 := Scalar.muli v13 c1_i32_50
  let v66 : BitVec 32 := Scalar.addi c0_i32_51 v65
  v66.toNat
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_60 : BitVec 32 := 1#32
  let v75 : BitVec 32 := Scalar.muli v13 c1_i32_60
  let v76 : BitVec 32 := Scalar.addi c0_i32_61 v75
  v76.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_70 : BitVec 32 := 1#32
  let v85 : BitVec 32 := Scalar.muli v13 c1_i32_70
  let v86 : BitVec 32 := Scalar.addi c0_i32_71 v85
  v86.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_80 : BitVec 32 := 1#32
  let v95 : BitVec 32 := Scalar.muli v13 c1_i32_80
  let v96 : BitVec 32 := Scalar.addi c0_i32_81 v95
  v96.toNat
def k0_off2 (d0 : Dev nD) (c0_i32_86 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v105 : BitVec 32 := Scalar.subi v2 c0_i32_86
  let c1_i32_87 : BitVec 32 := 1#32
  let v106 : BitVec 32 := Scalar.subi v105 c1_i32_87
  let c32_i32_88 : BitVec 32 := 32#32
  let c0_i32_89 : BitVec 32 := 0#32
  let v107 : BitVec 1 := Scalar.cmpi .eq c32_i32_88 c0_i32_89
  let c1_i32_90 : BitVec 32 := 1#32
  let v108 : BitVec 32 := Scalar.select v107 c1_i32_90 c32_i32_88
  let v109 : BitVec 32 := Scalar.remsi v106 v108
  let c0_i32_92 : BitVec 32 := 0#32
  let v111 : BitVec 1 := Scalar.cmpi .slt v109 c0_i32_92
  let c0_i32_93 : BitVec 32 := 0#32
  let v112 : BitVec 1 := Scalar.cmpi .slt v108 c0_i32_93
  let v113 : BitVec 1 := Scalar.xori v111 v112
  let c0_i32_91 : BitVec 32 := 0#32
  let v110 : BitVec 1 := Scalar.cmpi .ne v109 c0_i32_91
  let v114 : BitVec 1 := Scalar.andi v113 v110
  let v115 : BitVec 32 := Scalar.addi v109 v108
  let v116 : BitVec 32 := Scalar.select v114 v115 v109
  let c128_i32_94 : BitVec 32 := 128#32
  let v117 : BitVec 32 := Scalar.muli v116 c128_i32_94
  let v118 : Index := Scalar.indexCast v117
  let c0_95 : Index := 0#32
  ![v118.toNat, 0]
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_127 : BitVec 32 := 1#32
  let v150 : BitVec 32 := Scalar.muli v25 c1_i32_127
  let v151 : BitVec 32 := Scalar.addi c0_i32_128 v150
  v151.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_133 : BitVec 32 := 1#32
  let v152 : BitVec 32 := Scalar.muli v13 c1_i32_133
  let v153 : BitVec 32 := Scalar.addi c0_i32_134 v152
  v153.toNat
def k0_dev9 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_165 : BitVec 32 := 1#32
  let v185 : BitVec 32 := Scalar.muli v25 c1_i32_165
  let v186 : BitVec 32 := Scalar.addi c0_i32_166 v185
  v186.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_171 : BitVec 32 := 1#32
  let v187 : BitVec 32 := Scalar.muli v13 c1_i32_171
  let v188 : BitVec 32 := Scalar.addi c0_i32_172 v187
  v188.toNat
def k0_dev11 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_203 : BitVec 32 := 1#32
  let v220 : BitVec 32 := Scalar.muli v25 c1_i32_203
  let v221 : BitVec 32 := Scalar.addi c0_i32_204 v220
  v221.toNat
def k0_dev12 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_209 : BitVec 32 := 1#32
  let v222 : BitVec 32 := Scalar.muli v13 c1_i32_209
  let v223 : BitVec 32 := Scalar.addi c0_i32_210 v222
  v223.toNat
def k0_dev13 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_241 : BitVec 32 := 1#32
  let v255 : BitVec 32 := Scalar.muli v25 c1_i32_241
  let v256 : BitVec 32 := Scalar.addi c0_i32_242 v255
  v256.toNat
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_247 : BitVec 32 := 1#32
  let v257 : BitVec 32 := Scalar.muli v13 c1_i32_247
  let v258 : BitVec 32 := Scalar.addi c0_i32_248 v257
  v258.toNat
def k0_dev15 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_304 : BitVec 32 := 1#32
  let v318 : BitVec 32 := Scalar.muli v25 c1_i32_304
  let v319 : BitVec 32 := Scalar.addi c0_i32_305 v318
  v319.toNat
def k0_dev16 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_310 : BitVec 32 := 1#32
  let v320 : BitVec 32 := Scalar.muli v13 c1_i32_310
  let v321 : BitVec 32 := Scalar.addi c0_i32_311 v320
  v321.toNat
def k0_dev17 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_351 : BitVec 32 := 1#32
  let v359 : BitVec 32 := Scalar.muli v25 c1_i32_351
  let v360 : BitVec 32 := Scalar.addi c0_i32_352 v359
  v360.toNat
def k0_dev18 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_357 : BitVec 32 := 1#32
  let v361 : BitVec 32 := Scalar.muli v13 c1_i32_357
  let v362 : BitVec 32 := Scalar.addi c0_i32_358 v361
  v362.toNat
def k0_dev19 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_398 : BitVec 32 := 1#32
  let v400 : BitVec 32 := Scalar.muli v25 c1_i32_398
  let v401 : BitVec 32 := Scalar.addi c0_i32_399 v400
  v401.toNat
def k0_dev20 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_404 : BitVec 32 := 1#32
  let v402 : BitVec 32 := Scalar.muli v13 c1_i32_404
  let v403 : BitVec 32 := Scalar.addi c0_i32_405 v402
  v403.toNat
def k0_dev21 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_445 : BitVec 32 := 1#32
  let v441 : BitVec 32 := Scalar.muli v25 c1_i32_445
  let v442 : BitVec 32 := Scalar.addi c0_i32_446 v441
  v442.toNat
def k0_dev22 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_451 : BitVec 32 := 1#32
  let v443 : BitVec 32 := Scalar.muli v13 c1_i32_451
  let v444 : BitVec 32 := Scalar.addi c0_i32_452 v443
  v444.toNat
def k0_dev23 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_507 : BitVec 32 := 1#32
  let v504 : BitVec 32 := Scalar.muli v25 c1_i32_507
  let v505 : BitVec 32 := Scalar.addi c0_i32_508 v504
  v505.toNat
def k0_dev24 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_512 : BitVec 32 := 1#32
  let v506 : BitVec 32 := Scalar.muli v13 c1_i32_512
  let v507 : BitVec 32 := Scalar.addi c0_i32_513 v506
  v507.toNat
def k0_dev25 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_553 : BitVec 32 := 1#32
  let v545 : BitVec 32 := Scalar.muli v25 c1_i32_553
  let v546 : BitVec 32 := Scalar.addi c0_i32_554 v545
  v546.toNat
def k0_dev26 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_559 : BitVec 32 := 1#32
  let v547 : BitVec 32 := Scalar.muli v13 c1_i32_559
  let v548 : BitVec 32 := Scalar.addi c0_i32_560 v547
  v548.toNat
def k0_dev27 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_600 : BitVec 32 := 1#32
  let v586 : BitVec 32 := Scalar.muli v25 c1_i32_600
  let v587 : BitVec 32 := Scalar.addi c0_i32_601 v586
  v587.toNat
def k0_dev28 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_606 : BitVec 32 := 1#32
  let v588 : BitVec 32 := Scalar.muli v13 c1_i32_606
  let v589 : BitVec 32 := Scalar.addi c0_i32_607 v588
  v589.toNat
def k0_dev29 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_647 : BitVec 32 := 1#32
  let v627 : BitVec 32 := Scalar.muli v25 c1_i32_647
  let v628 : BitVec 32 := Scalar.addi c0_i32_648 v627
  v628.toNat
def k0_dev30 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_653 : BitVec 32 := 1#32
  let v629 : BitVec 32 := Scalar.muli v13 c1_i32_653
  let v630 : BitVec 32 := Scalar.addi c0_i32_654 v629
  v630.toNat
def k0_dev31 (d0 : Dev nD) : Nat :=
  let c0_i32_710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_709 : BitVec 32 := 1#32
  let v690 : BitVec 32 := Scalar.muli v25 c1_i32_709
  let v691 : BitVec 32 := Scalar.addi c0_i32_710 v690
  v691.toNat
def k0_dev32 (d0 : Dev nD) : Nat :=
  let c0_i32_718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_717 : BitVec 32 := 1#32
  let v692 : BitVec 32 := Scalar.muli v13 c1_i32_717
  let v693 : BitVec 32 := Scalar.addi c0_i32_718 v692
  v693.toNat
def k0_dev33 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_758 : BitVec 32 := 1#32
  let v731 : BitVec 32 := Scalar.muli v25 c1_i32_758
  let v732 : BitVec 32 := Scalar.addi c0_i32_759 v731
  v732.toNat
def k0_dev34 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_766 : BitVec 32 := 1#32
  let v733 : BitVec 32 := Scalar.muli v13 c1_i32_766
  let v734 : BitVec 32 := Scalar.addi c0_i32_767 v733
  v734.toNat
def k0_dev35 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_807 : BitVec 32 := 1#32
  let v772 : BitVec 32 := Scalar.muli v25 c1_i32_807
  let v773 : BitVec 32 := Scalar.addi c0_i32_808 v772
  v773.toNat
def k0_dev36 (d0 : Dev nD) : Nat :=
  let c0_i32_816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_815 : BitVec 32 := 1#32
  let v774 : BitVec 32 := Scalar.muli v13 c1_i32_815
  let v775 : BitVec 32 := Scalar.addi c0_i32_816 v774
  v775.toNat
def k0_dev37 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_856 : BitVec 32 := 1#32
  let v813 : BitVec 32 := Scalar.muli v25 c1_i32_856
  let v814 : BitVec 32 := Scalar.addi c0_i32_857 v813
  v814.toNat
def k0_dev38 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_864 : BitVec 32 := 1#32
  let v815 : BitVec 32 := Scalar.muli v13 c1_i32_864
  let v816 : BitVec 32 := Scalar.addi c0_i32_865 v815
  v816.toNat
def k0_dev39 (d0 : Dev nD) : Nat :=
  let c0_i32_921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_920 : BitVec 32 := 1#32
  let v876 : BitVec 32 := Scalar.muli v25 c1_i32_920
  let v877 : BitVec 32 := Scalar.addi c0_i32_921 v876
  v877.toNat
def k0_dev40 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_928 : BitVec 32 := 1#32
  let v878 : BitVec 32 := Scalar.muli v13 c1_i32_928
  let v879 : BitVec 32 := Scalar.addi c0_i32_929 v878
  v879.toNat
def k0_dev41 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_969 : BitVec 32 := 1#32
  let v917 : BitVec 32 := Scalar.muli v25 c1_i32_969
  let v918 : BitVec 32 := Scalar.addi c0_i32_970 v917
  v918.toNat
def k0_dev42 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_977 : BitVec 32 := 1#32
  let v919 : BitVec 32 := Scalar.muli v13 c1_i32_977
  let v920 : BitVec 32 := Scalar.addi c0_i32_978 v919
  v920.toNat
def k0_dev43 (d0 : Dev nD) : Nat :=
  let c0_i32_1019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1018 : BitVec 32 := 1#32
  let v958 : BitVec 32 := Scalar.muli v25 c1_i32_1018
  let v959 : BitVec 32 := Scalar.addi c0_i32_1019 v958
  v959.toNat
def k0_dev44 (d0 : Dev nD) : Nat :=
  let c0_i32_1027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1026 : BitVec 32 := 1#32
  let v960 : BitVec 32 := Scalar.muli v13 c1_i32_1026
  let v961 : BitVec 32 := Scalar.addi c0_i32_1027 v960
  v961.toNat
def k0_dev45 (d0 : Dev nD) : Nat :=
  let c0_i32_1068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1067 : BitVec 32 := 1#32
  let v999 : BitVec 32 := Scalar.muli v25 c1_i32_1067
  let v1000 : BitVec 32 := Scalar.addi c0_i32_1068 v999
  v1000.toNat
def k0_dev46 (d0 : Dev nD) : Nat :=
  let c0_i32_1076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1075 : BitVec 32 := 1#32
  let v1001 : BitVec 32 := Scalar.muli v13 c1_i32_1075
  let v1002 : BitVec 32 := Scalar.addi c0_i32_1076 v1001
  v1002.toNat
def k0_dev47 (d0 : Dev nD) : Nat :=
  let c0_i32_1132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1131 : BitVec 32 := 1#32
  let v1062 : BitVec 32 := Scalar.muli v25 c1_i32_1131
  let v1063 : BitVec 32 := Scalar.addi c0_i32_1132 v1062
  v1063.toNat
def k0_dev48 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1139 : BitVec 32 := 1#32
  let v1064 : BitVec 32 := Scalar.muli v13 c1_i32_1139
  let v1065 : BitVec 32 := Scalar.addi c0_i32_1140 v1064
  v1065.toNat
def k0_dev49 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1180 : BitVec 32 := 1#32
  let v1103 : BitVec 32 := Scalar.muli v25 c1_i32_1180
  let v1104 : BitVec 32 := Scalar.addi c0_i32_1181 v1103
  v1104.toNat
def k0_dev50 (d0 : Dev nD) : Nat :=
  let c0_i32_1189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1188 : BitVec 32 := 1#32
  let v1105 : BitVec 32 := Scalar.muli v13 c1_i32_1188
  let v1106 : BitVec 32 := Scalar.addi c0_i32_1189 v1105
  v1106.toNat
def k0_dev51 (d0 : Dev nD) : Nat :=
  let c0_i32_1230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1229 : BitVec 32 := 1#32
  let v1144 : BitVec 32 := Scalar.muli v25 c1_i32_1229
  let v1145 : BitVec 32 := Scalar.addi c0_i32_1230 v1144
  v1145.toNat
def k0_dev52 (d0 : Dev nD) : Nat :=
  let c0_i32_1238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1237 : BitVec 32 := 1#32
  let v1146 : BitVec 32 := Scalar.muli v13 c1_i32_1237
  let v1147 : BitVec 32 := Scalar.addi c0_i32_1238 v1146
  v1147.toNat
def k0_dev53 (d0 : Dev nD) : Nat :=
  let c0_i32_1279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1278 : BitVec 32 := 1#32
  let v1185 : BitVec 32 := Scalar.muli v25 c1_i32_1278
  let v1186 : BitVec 32 := Scalar.addi c0_i32_1279 v1185
  v1186.toNat
def k0_dev54 (d0 : Dev nD) : Nat :=
  let c0_i32_1287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1286 : BitVec 32 := 1#32
  let v1187 : BitVec 32 := Scalar.muli v13 c1_i32_1286
  let v1188 : BitVec 32 := Scalar.addi c0_i32_1287 v1187
  v1188.toNat
def k0_dev55 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1342 : BitVec 32 := 1#32
  let v1248 : BitVec 32 := Scalar.muli v25 c1_i32_1342
  let v1249 : BitVec 32 := Scalar.addi c0_i32_1343 v1248
  v1249.toNat
def k0_dev56 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1350 : BitVec 32 := 1#32
  let v1250 : BitVec 32 := Scalar.muli v13 c1_i32_1350
  let v1251 : BitVec 32 := Scalar.addi c0_i32_1351 v1250
  v1251.toNat
def k0_dev57 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1391 : BitVec 32 := 1#32
  let v1289 : BitVec 32 := Scalar.muli v25 c1_i32_1391
  let v1290 : BitVec 32 := Scalar.addi c0_i32_1392 v1289
  v1290.toNat
def k0_dev58 (d0 : Dev nD) : Nat :=
  let c0_i32_1400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1399 : BitVec 32 := 1#32
  let v1291 : BitVec 32 := Scalar.muli v13 c1_i32_1399
  let v1292 : BitVec 32 := Scalar.addi c0_i32_1400 v1291
  v1292.toNat
def k0_dev59 (d0 : Dev nD) : Nat :=
  let c0_i32_1441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1440 : BitVec 32 := 1#32
  let v1330 : BitVec 32 := Scalar.muli v25 c1_i32_1440
  let v1331 : BitVec 32 := Scalar.addi c0_i32_1441 v1330
  v1331.toNat
def k0_dev60 (d0 : Dev nD) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1448 : BitVec 32 := 1#32
  let v1332 : BitVec 32 := Scalar.muli v13 c1_i32_1448
  let v1333 : BitVec 32 := Scalar.addi c0_i32_1449 v1332
  v1333.toNat
def k0_dev61 (d0 : Dev nD) : Nat :=
  let c0_i32_1490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1489 : BitVec 32 := 1#32
  let v1371 : BitVec 32 := Scalar.muli v25 c1_i32_1489
  let v1372 : BitVec 32 := Scalar.addi c0_i32_1490 v1371
  v1372.toNat
def k0_dev62 (d0 : Dev nD) : Nat :=
  let c0_i32_1498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1497 : BitVec 32 := 1#32
  let v1373 : BitVec 32 := Scalar.muli v13 c1_i32_1497
  let v1374 : BitVec 32 := Scalar.addi c0_i32_1498 v1373
  v1374.toNat
def k0_dev63 (d0 : Dev nD) : Nat :=
  let c0_i32_1554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1553 : BitVec 32 := 1#32
  let v1434 : BitVec 32 := Scalar.muli v25 c1_i32_1553
  let v1435 : BitVec 32 := Scalar.addi c0_i32_1554 v1434
  v1435.toNat
def k0_dev64 (d0 : Dev nD) : Nat :=
  let c0_i32_1562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1561 : BitVec 32 := 1#32
  let v1436 : BitVec 32 := Scalar.muli v13 c1_i32_1561
  let v1437 : BitVec 32 := Scalar.addi c0_i32_1562 v1436
  v1437.toNat
def k0_dev65 (d0 : Dev nD) : Nat :=
  let c0_i32_1603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1602 : BitVec 32 := 1#32
  let v1475 : BitVec 32 := Scalar.muli v25 c1_i32_1602
  let v1476 : BitVec 32 := Scalar.addi c0_i32_1603 v1475
  v1476.toNat
def k0_dev66 (d0 : Dev nD) : Nat :=
  let c0_i32_1611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1610 : BitVec 32 := 1#32
  let v1477 : BitVec 32 := Scalar.muli v13 c1_i32_1610
  let v1478 : BitVec 32 := Scalar.addi c0_i32_1611 v1477
  v1478.toNat
def k0_dev67 (d0 : Dev nD) : Nat :=
  let c0_i32_1652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1651 : BitVec 32 := 1#32
  let v1516 : BitVec 32 := Scalar.muli v25 c1_i32_1651
  let v1517 : BitVec 32 := Scalar.addi c0_i32_1652 v1516
  v1517.toNat
def k0_dev68 (d0 : Dev nD) : Nat :=
  let c0_i32_1660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1659 : BitVec 32 := 1#32
  let v1518 : BitVec 32 := Scalar.muli v13 c1_i32_1659
  let v1519 : BitVec 32 := Scalar.addi c0_i32_1660 v1518
  v1519.toNat
def k0_dev69 (d0 : Dev nD) : Nat :=
  let c0_i32_1701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1700 : BitVec 32 := 1#32
  let v1557 : BitVec 32 := Scalar.muli v25 c1_i32_1700
  let v1558 : BitVec 32 := Scalar.addi c0_i32_1701 v1557
  v1558.toNat
def k0_dev70 (d0 : Dev nD) : Nat :=
  let c0_i32_1709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1708 : BitVec 32 := 1#32
  let v1559 : BitVec 32 := Scalar.muli v13 c1_i32_1708
  let v1560 : BitVec 32 := Scalar.addi c0_i32_1709 v1559
  v1560.toNat
def k0_dev71 (d0 : Dev nD) : Nat :=
  let c0_i32_1765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1764 : BitVec 32 := 1#32
  let v1620 : BitVec 32 := Scalar.muli v25 c1_i32_1764
  let v1621 : BitVec 32 := Scalar.addi c0_i32_1765 v1620
  v1621.toNat
def k0_dev72 (d0 : Dev nD) : Nat :=
  let c0_i32_1773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1772 : BitVec 32 := 1#32
  let v1622 : BitVec 32 := Scalar.muli v13 c1_i32_1772
  let v1623 : BitVec 32 := Scalar.addi c0_i32_1773 v1622
  v1623.toNat
def k0_dev73 (d0 : Dev nD) : Nat :=
  let c0_i32_1814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1813 : BitVec 32 := 1#32
  let v1661 : BitVec 32 := Scalar.muli v25 c1_i32_1813
  let v1662 : BitVec 32 := Scalar.addi c0_i32_1814 v1661
  v1662.toNat
def k0_dev74 (d0 : Dev nD) : Nat :=
  let c0_i32_1822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1821 : BitVec 32 := 1#32
  let v1663 : BitVec 32 := Scalar.muli v13 c1_i32_1821
  let v1664 : BitVec 32 := Scalar.addi c0_i32_1822 v1663
  v1664.toNat
def k0_dev75 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1862 : BitVec 32 := 1#32
  let v1702 : BitVec 32 := Scalar.muli v25 c1_i32_1862
  let v1703 : BitVec 32 := Scalar.addi c0_i32_1863 v1702
  v1703.toNat
def k0_dev76 (d0 : Dev nD) : Nat :=
  let c0_i32_1871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1870 : BitVec 32 := 1#32
  let v1704 : BitVec 32 := Scalar.muli v13 c1_i32_1870
  let v1705 : BitVec 32 := Scalar.addi c0_i32_1871 v1704
  v1705.toNat
def k0_dev77 (d0 : Dev nD) : Nat :=
  let c0_i32_1912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1911 : BitVec 32 := 1#32
  let v1743 : BitVec 32 := Scalar.muli v25 c1_i32_1911
  let v1744 : BitVec 32 := Scalar.addi c0_i32_1912 v1743
  v1744.toNat
def k0_dev78 (d0 : Dev nD) : Nat :=
  let c0_i32_1920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1919 : BitVec 32 := 1#32
  let v1745 : BitVec 32 := Scalar.muli v13 c1_i32_1919
  let v1746 : BitVec 32 := Scalar.addi c0_i32_1920 v1745
  v1746.toNat
def k0_dev79 (d0 : Dev nD) : Nat :=
  let c0_i32_1976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1975 : BitVec 32 := 1#32
  let v1806 : BitVec 32 := Scalar.muli v25 c1_i32_1975
  let v1807 : BitVec 32 := Scalar.addi c0_i32_1976 v1806
  v1807.toNat
def k0_dev80 (d0 : Dev nD) : Nat :=
  let c0_i32_1984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1983 : BitVec 32 := 1#32
  let v1808 : BitVec 32 := Scalar.muli v13 c1_i32_1983
  let v1809 : BitVec 32 := Scalar.addi c0_i32_1984 v1808
  v1809.toNat
def k0_dev81 (d0 : Dev nD) : Nat :=
  let c0_i32_2025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2024 : BitVec 32 := 1#32
  let v1847 : BitVec 32 := Scalar.muli v25 c1_i32_2024
  let v1848 : BitVec 32 := Scalar.addi c0_i32_2025 v1847
  v1848.toNat
def k0_dev82 (d0 : Dev nD) : Nat :=
  let c0_i32_2033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2032 : BitVec 32 := 1#32
  let v1849 : BitVec 32 := Scalar.muli v13 c1_i32_2032
  let v1850 : BitVec 32 := Scalar.addi c0_i32_2033 v1849
  v1850.toNat
def k0_dev83 (d0 : Dev nD) : Nat :=
  let c0_i32_2074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2073 : BitVec 32 := 1#32
  let v1888 : BitVec 32 := Scalar.muli v25 c1_i32_2073
  let v1889 : BitVec 32 := Scalar.addi c0_i32_2074 v1888
  v1889.toNat
def k0_dev84 (d0 : Dev nD) : Nat :=
  let c0_i32_2082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2081 : BitVec 32 := 1#32
  let v1890 : BitVec 32 := Scalar.muli v13 c1_i32_2081
  let v1891 : BitVec 32 := Scalar.addi c0_i32_2082 v1890
  v1891.toNat
def k0_dev85 (d0 : Dev nD) : Nat :=
  let c0_i32_2123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2122 : BitVec 32 := 1#32
  let v1929 : BitVec 32 := Scalar.muli v25 c1_i32_2122
  let v1930 : BitVec 32 := Scalar.addi c0_i32_2123 v1929
  v1930.toNat
def k0_dev86 (d0 : Dev nD) : Nat :=
  let c0_i32_2131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2130 : BitVec 32 := 1#32
  let v1931 : BitVec 32 := Scalar.muli v13 c1_i32_2130
  let v1932 : BitVec 32 := Scalar.addi c0_i32_2131 v1931
  v1932.toNat
def k0_dev87 (d0 : Dev nD) : Nat :=
  let c0_i32_2187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2186 : BitVec 32 := 1#32
  let v1992 : BitVec 32 := Scalar.muli v25 c1_i32_2186
  let v1993 : BitVec 32 := Scalar.addi c0_i32_2187 v1992
  v1993.toNat
def k0_dev88 (d0 : Dev nD) : Nat :=
  let c0_i32_2195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2194 : BitVec 32 := 1#32
  let v1994 : BitVec 32 := Scalar.muli v13 c1_i32_2194
  let v1995 : BitVec 32 := Scalar.addi c0_i32_2195 v1994
  v1995.toNat
def k0_dev89 (d0 : Dev nD) : Nat :=
  let c0_i32_2236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2235 : BitVec 32 := 1#32
  let v2033 : BitVec 32 := Scalar.muli v25 c1_i32_2235
  let v2034 : BitVec 32 := Scalar.addi c0_i32_2236 v2033
  v2034.toNat
def k0_dev90 (d0 : Dev nD) : Nat :=
  let c0_i32_2244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2243 : BitVec 32 := 1#32
  let v2035 : BitVec 32 := Scalar.muli v13 c1_i32_2243
  let v2036 : BitVec 32 := Scalar.addi c0_i32_2244 v2035
  v2036.toNat
def k0_dev91 (d0 : Dev nD) : Nat :=
  let c0_i32_2285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2284 : BitVec 32 := 1#32
  let v2074 : BitVec 32 := Scalar.muli v25 c1_i32_2284
  let v2075 : BitVec 32 := Scalar.addi c0_i32_2285 v2074
  v2075.toNat
def k0_dev92 (d0 : Dev nD) : Nat :=
  let c0_i32_2293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2292 : BitVec 32 := 1#32
  let v2076 : BitVec 32 := Scalar.muli v13 c1_i32_2292
  let v2077 : BitVec 32 := Scalar.addi c0_i32_2293 v2076
  v2077.toNat
def k0_dev93 (d0 : Dev nD) : Nat :=
  let c0_i32_2334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2333 : BitVec 32 := 1#32
  let v2115 : BitVec 32 := Scalar.muli v25 c1_i32_2333
  let v2116 : BitVec 32 := Scalar.addi c0_i32_2334 v2115
  v2116.toNat
def k0_dev94 (d0 : Dev nD) : Nat :=
  let c0_i32_2342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2341 : BitVec 32 := 1#32
  let v2117 : BitVec 32 := Scalar.muli v13 c1_i32_2341
  let v2118 : BitVec 32 := Scalar.addi c0_i32_2342 v2117
  v2118.toNat
def k0_dev95 (d0 : Dev nD) : Nat :=
  let c0_i32_2398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2397 : BitVec 32 := 1#32
  let v2178 : BitVec 32 := Scalar.muli v25 c1_i32_2397
  let v2179 : BitVec 32 := Scalar.addi c0_i32_2398 v2178
  v2179.toNat
def k0_dev96 (d0 : Dev nD) : Nat :=
  let c0_i32_2406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2405 : BitVec 32 := 1#32
  let v2180 : BitVec 32 := Scalar.muli v13 c1_i32_2405
  let v2181 : BitVec 32 := Scalar.addi c0_i32_2406 v2180
  v2181.toNat
def k0_dev97 (d0 : Dev nD) : Nat :=
  let c0_i32_2447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2446 : BitVec 32 := 1#32
  let v2219 : BitVec 32 := Scalar.muli v25 c1_i32_2446
  let v2220 : BitVec 32 := Scalar.addi c0_i32_2447 v2219
  v2220.toNat
def k0_dev98 (d0 : Dev nD) : Nat :=
  let c0_i32_2455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2454 : BitVec 32 := 1#32
  let v2221 : BitVec 32 := Scalar.muli v13 c1_i32_2454
  let v2222 : BitVec 32 := Scalar.addi c0_i32_2455 v2221
  v2222.toNat
def k0_dev99 (d0 : Dev nD) : Nat :=
  let c0_i32_2496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2495 : BitVec 32 := 1#32
  let v2260 : BitVec 32 := Scalar.muli v25 c1_i32_2495
  let v2261 : BitVec 32 := Scalar.addi c0_i32_2496 v2260
  v2261.toNat
def k0_dev100 (d0 : Dev nD) : Nat :=
  let c0_i32_2504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2503 : BitVec 32 := 1#32
  let v2262 : BitVec 32 := Scalar.muli v13 c1_i32_2503
  let v2263 : BitVec 32 := Scalar.addi c0_i32_2504 v2262
  v2263.toNat
def k0_dev101 (d0 : Dev nD) : Nat :=
  let c0_i32_2545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2544 : BitVec 32 := 1#32
  let v2301 : BitVec 32 := Scalar.muli v25 c1_i32_2544
  let v2302 : BitVec 32 := Scalar.addi c0_i32_2545 v2301
  v2302.toNat
def k0_dev102 (d0 : Dev nD) : Nat :=
  let c0_i32_2553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2552 : BitVec 32 := 1#32
  let v2303 : BitVec 32 := Scalar.muli v13 c1_i32_2552
  let v2304 : BitVec 32 := Scalar.addi c0_i32_2553 v2303
  v2304.toNat
def k0_dev103 (d0 : Dev nD) : Nat :=
  let c0_i32_2609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2608 : BitVec 32 := 1#32
  let v2364 : BitVec 32 := Scalar.muli v25 c1_i32_2608
  let v2365 : BitVec 32 := Scalar.addi c0_i32_2609 v2364
  v2365.toNat
def k0_dev104 (d0 : Dev nD) : Nat :=
  let c0_i32_2617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2616 : BitVec 32 := 1#32
  let v2366 : BitVec 32 := Scalar.muli v13 c1_i32_2616
  let v2367 : BitVec 32 := Scalar.addi c0_i32_2617 v2366
  v2367.toNat
def k0_dev105 (d0 : Dev nD) : Nat :=
  let c0_i32_2658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2657 : BitVec 32 := 1#32
  let v2405 : BitVec 32 := Scalar.muli v25 c1_i32_2657
  let v2406 : BitVec 32 := Scalar.addi c0_i32_2658 v2405
  v2406.toNat
def k0_dev106 (d0 : Dev nD) : Nat :=
  let c0_i32_2666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2665 : BitVec 32 := 1#32
  let v2407 : BitVec 32 := Scalar.muli v13 c1_i32_2665
  let v2408 : BitVec 32 := Scalar.addi c0_i32_2666 v2407
  v2408.toNat
def k0_dev107 (d0 : Dev nD) : Nat :=
  let c0_i32_2707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2706 : BitVec 32 := 1#32
  let v2446 : BitVec 32 := Scalar.muli v25 c1_i32_2706
  let v2447 : BitVec 32 := Scalar.addi c0_i32_2707 v2446
  v2447.toNat
def k0_dev108 (d0 : Dev nD) : Nat :=
  let c0_i32_2715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2714 : BitVec 32 := 1#32
  let v2448 : BitVec 32 := Scalar.muli v13 c1_i32_2714
  let v2449 : BitVec 32 := Scalar.addi c0_i32_2715 v2448
  v2449.toNat
def k0_dev109 (d0 : Dev nD) : Nat :=
  let c0_i32_2756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2755 : BitVec 32 := 1#32
  let v2487 : BitVec 32 := Scalar.muli v25 c1_i32_2755
  let v2488 : BitVec 32 := Scalar.addi c0_i32_2756 v2487
  v2488.toNat
def k0_dev110 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2763 : BitVec 32 := 1#32
  let v2489 : BitVec 32 := Scalar.muli v13 c1_i32_2763
  let v2490 : BitVec 32 := Scalar.addi c0_i32_2764 v2489
  v2490.toNat
def k0_dev111 (d0 : Dev nD) : Nat :=
  let c0_i32_2820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2819 : BitVec 32 := 1#32
  let v2550 : BitVec 32 := Scalar.muli v25 c1_i32_2819
  let v2551 : BitVec 32 := Scalar.addi c0_i32_2820 v2550
  v2551.toNat
def k0_dev112 (d0 : Dev nD) : Nat :=
  let c0_i32_2828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2827 : BitVec 32 := 1#32
  let v2552 : BitVec 32 := Scalar.muli v13 c1_i32_2827
  let v2553 : BitVec 32 := Scalar.addi c0_i32_2828 v2552
  v2553.toNat
def k0_dev113 (d0 : Dev nD) : Nat :=
  let c0_i32_2869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2868 : BitVec 32 := 1#32
  let v2591 : BitVec 32 := Scalar.muli v25 c1_i32_2868
  let v2592 : BitVec 32 := Scalar.addi c0_i32_2869 v2591
  v2592.toNat
def k0_dev114 (d0 : Dev nD) : Nat :=
  let c0_i32_2877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2876 : BitVec 32 := 1#32
  let v2593 : BitVec 32 := Scalar.muli v13 c1_i32_2876
  let v2594 : BitVec 32 := Scalar.addi c0_i32_2877 v2593
  v2594.toNat
def k0_dev115 (d0 : Dev nD) : Nat :=
  let c0_i32_2918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2917 : BitVec 32 := 1#32
  let v2632 : BitVec 32 := Scalar.muli v25 c1_i32_2917
  let v2633 : BitVec 32 := Scalar.addi c0_i32_2918 v2632
  v2633.toNat
def k0_dev116 (d0 : Dev nD) : Nat :=
  let c0_i32_2926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2925 : BitVec 32 := 1#32
  let v2634 : BitVec 32 := Scalar.muli v13 c1_i32_2925
  let v2635 : BitVec 32 := Scalar.addi c0_i32_2926 v2634
  v2635.toNat
def k0_dev117 (d0 : Dev nD) : Nat :=
  let c0_i32_2967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2966 : BitVec 32 := 1#32
  let v2673 : BitVec 32 := Scalar.muli v25 c1_i32_2966
  let v2674 : BitVec 32 := Scalar.addi c0_i32_2967 v2673
  v2674.toNat
def k0_dev118 (d0 : Dev nD) : Nat :=
  let c0_i32_2975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2974 : BitVec 32 := 1#32
  let v2675 : BitVec 32 := Scalar.muli v13 c1_i32_2974
  let v2676 : BitVec 32 := Scalar.addi c0_i32_2975 v2675
  v2676.toNat
def k0_dev119 (d0 : Dev nD) : Nat :=
  let c0_i32_3031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3030 : BitVec 32 := 1#32
  let v2736 : BitVec 32 := Scalar.muli v25 c1_i32_3030
  let v2737 : BitVec 32 := Scalar.addi c0_i32_3031 v2736
  v2737.toNat
def k0_dev120 (d0 : Dev nD) : Nat :=
  let c0_i32_3039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3038 : BitVec 32 := 1#32
  let v2738 : BitVec 32 := Scalar.muli v13 c1_i32_3038
  let v2739 : BitVec 32 := Scalar.addi c0_i32_3039 v2738
  v2739.toNat
def k0_dev121 (d0 : Dev nD) : Nat :=
  let c0_i32_3080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3079 : BitVec 32 := 1#32
  let v2777 : BitVec 32 := Scalar.muli v25 c1_i32_3079
  let v2778 : BitVec 32 := Scalar.addi c0_i32_3080 v2777
  v2778.toNat
def k0_dev122 (d0 : Dev nD) : Nat :=
  let c0_i32_3088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3087 : BitVec 32 := 1#32
  let v2779 : BitVec 32 := Scalar.muli v13 c1_i32_3087
  let v2780 : BitVec 32 := Scalar.addi c0_i32_3088 v2779
  v2780.toNat
def k0_dev123 (d0 : Dev nD) : Nat :=
  let c0_i32_3129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3128 : BitVec 32 := 1#32
  let v2818 : BitVec 32 := Scalar.muli v25 c1_i32_3128
  let v2819 : BitVec 32 := Scalar.addi c0_i32_3129 v2818
  v2819.toNat
def k0_dev124 (d0 : Dev nD) : Nat :=
  let c0_i32_3137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3136 : BitVec 32 := 1#32
  let v2820 : BitVec 32 := Scalar.muli v13 c1_i32_3136
  let v2821 : BitVec 32 := Scalar.addi c0_i32_3137 v2820
  v2821.toNat
def k0_dev125 (d0 : Dev nD) : Nat :=
  let c0_i32_3178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3177 : BitVec 32 := 1#32
  let v2859 : BitVec 32 := Scalar.muli v25 c1_i32_3177
  let v2860 : BitVec 32 := Scalar.addi c0_i32_3178 v2859
  v2860.toNat
def k0_dev126 (d0 : Dev nD) : Nat :=
  let c0_i32_3186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3185 : BitVec 32 := 1#32
  let v2861 : BitVec 32 := Scalar.muli v13 c1_i32_3185
  let v2862 : BitVec 32 := Scalar.addi c0_i32_3186 v2861
  v2862.toNat
def k0_dev127 (d0 : Dev nD) : Nat :=
  let c0_i32_3242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3241 : BitVec 32 := 1#32
  let v2922 : BitVec 32 := Scalar.muli v25 c1_i32_3241
  let v2923 : BitVec 32 := Scalar.addi c0_i32_3242 v2922
  v2923.toNat
def k0_dev128 (d0 : Dev nD) : Nat :=
  let c0_i32_3250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3249 : BitVec 32 := 1#32
  let v2924 : BitVec 32 := Scalar.muli v13 c1_i32_3249
  let v2925 : BitVec 32 := Scalar.addi c0_i32_3250 v2924
  v2925.toNat
def k0_dev129 (d0 : Dev nD) : Nat :=
  let c0_i32_3291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3290 : BitVec 32 := 1#32
  let v2963 : BitVec 32 := Scalar.muli v25 c1_i32_3290
  let v2964 : BitVec 32 := Scalar.addi c0_i32_3291 v2963
  v2964.toNat
def k0_dev130 (d0 : Dev nD) : Nat :=
  let c0_i32_3299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3298 : BitVec 32 := 1#32
  let v2965 : BitVec 32 := Scalar.muli v13 c1_i32_3298
  let v2966 : BitVec 32 := Scalar.addi c0_i32_3299 v2965
  v2966.toNat
def k0_dev131 (d0 : Dev nD) : Nat :=
  let c0_i32_3340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3339 : BitVec 32 := 1#32
  let v3004 : BitVec 32 := Scalar.muli v25 c1_i32_3339
  let v3005 : BitVec 32 := Scalar.addi c0_i32_3340 v3004
  v3005.toNat
def k0_dev132 (d0 : Dev nD) : Nat :=
  let c0_i32_3348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3347 : BitVec 32 := 1#32
  let v3006 : BitVec 32 := Scalar.muli v13 c1_i32_3347
  let v3007 : BitVec 32 := Scalar.addi c0_i32_3348 v3006
  v3007.toNat
def k0_dev133 (d0 : Dev nD) : Nat :=
  let c0_i32_3389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3388 : BitVec 32 := 1#32
  let v3045 : BitVec 32 := Scalar.muli v25 c1_i32_3388
  let v3046 : BitVec 32 := Scalar.addi c0_i32_3389 v3045
  v3046.toNat
def k0_dev134 (d0 : Dev nD) : Nat :=
  let c0_i32_3397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3396 : BitVec 32 := 1#32
  let v3047 : BitVec 32 := Scalar.muli v13 c1_i32_3396
  let v3048 : BitVec 32 := Scalar.addi c0_i32_3397 v3047
  v3048.toNat
def k0_dev135 (d0 : Dev nD) : Nat :=
  let c0_i32_3453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3452 : BitVec 32 := 1#32
  let v3108 : BitVec 32 := Scalar.muli v25 c1_i32_3452
  let v3109 : BitVec 32 := Scalar.addi c0_i32_3453 v3108
  v3109.toNat
def k0_dev136 (d0 : Dev nD) : Nat :=
  let c0_i32_3461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3460 : BitVec 32 := 1#32
  let v3110 : BitVec 32 := Scalar.muli v13 c1_i32_3460
  let v3111 : BitVec 32 := Scalar.addi c0_i32_3461 v3110
  v3111.toNat
def k0_dev137 (d0 : Dev nD) : Nat :=
  let c0_i32_3502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3501 : BitVec 32 := 1#32
  let v3149 : BitVec 32 := Scalar.muli v25 c1_i32_3501
  let v3150 : BitVec 32 := Scalar.addi c0_i32_3502 v3149
  v3150.toNat
def k0_dev138 (d0 : Dev nD) : Nat :=
  let c0_i32_3510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3509 : BitVec 32 := 1#32
  let v3151 : BitVec 32 := Scalar.muli v13 c1_i32_3509
  let v3152 : BitVec 32 := Scalar.addi c0_i32_3510 v3151
  v3152.toNat
def k0_dev139 (d0 : Dev nD) : Nat :=
  let c0_i32_3551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3550 : BitVec 32 := 1#32
  let v3190 : BitVec 32 := Scalar.muli v25 c1_i32_3550
  let v3191 : BitVec 32 := Scalar.addi c0_i32_3551 v3190
  v3191.toNat
def k0_dev140 (d0 : Dev nD) : Nat :=
  let c0_i32_3559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3558 : BitVec 32 := 1#32
  let v3192 : BitVec 32 := Scalar.muli v13 c1_i32_3558
  let v3193 : BitVec 32 := Scalar.addi c0_i32_3559 v3192
  v3193.toNat
def k0_dev141 (d0 : Dev nD) : Nat :=
  let c0_i32_3600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3599 : BitVec 32 := 1#32
  let v3231 : BitVec 32 := Scalar.muli v25 c1_i32_3599
  let v3232 : BitVec 32 := Scalar.addi c0_i32_3600 v3231
  v3232.toNat
def k0_dev142 (d0 : Dev nD) : Nat :=
  let c0_i32_3608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3607 : BitVec 32 := 1#32
  let v3233 : BitVec 32 := Scalar.muli v13 c1_i32_3607
  let v3234 : BitVec 32 := Scalar.addi c0_i32_3608 v3233
  v3234.toNat
def k0_dev143 (d0 : Dev nD) : Nat :=
  let c0_i32_3664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3663 : BitVec 32 := 1#32
  let v3294 : BitVec 32 := Scalar.muli v25 c1_i32_3663
  let v3295 : BitVec 32 := Scalar.addi c0_i32_3664 v3294
  v3295.toNat
def k0_dev144 (d0 : Dev nD) : Nat :=
  let c0_i32_3672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3671 : BitVec 32 := 1#32
  let v3296 : BitVec 32 := Scalar.muli v13 c1_i32_3671
  let v3297 : BitVec 32 := Scalar.addi c0_i32_3672 v3296
  v3297.toNat
def k0_dev145 (d0 : Dev nD) : Nat :=
  let c0_i32_3713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3712 : BitVec 32 := 1#32
  let v3335 : BitVec 32 := Scalar.muli v25 c1_i32_3712
  let v3336 : BitVec 32 := Scalar.addi c0_i32_3713 v3335
  v3336.toNat
def k0_dev146 (d0 : Dev nD) : Nat :=
  let c0_i32_3721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3720 : BitVec 32 := 1#32
  let v3337 : BitVec 32 := Scalar.muli v13 c1_i32_3720
  let v3338 : BitVec 32 := Scalar.addi c0_i32_3721 v3337
  v3338.toNat
def k0_dev147 (d0 : Dev nD) : Nat :=
  let c0_i32_3762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3761 : BitVec 32 := 1#32
  let v3376 : BitVec 32 := Scalar.muli v25 c1_i32_3761
  let v3377 : BitVec 32 := Scalar.addi c0_i32_3762 v3376
  v3377.toNat
def k0_dev148 (d0 : Dev nD) : Nat :=
  let c0_i32_3770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3769 : BitVec 32 := 1#32
  let v3378 : BitVec 32 := Scalar.muli v13 c1_i32_3769
  let v3379 : BitVec 32 := Scalar.addi c0_i32_3770 v3378
  v3379.toNat
def k0_dev149 (d0 : Dev nD) : Nat :=
  let c0_i32_3811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3810 : BitVec 32 := 1#32
  let v3417 : BitVec 32 := Scalar.muli v25 c1_i32_3810
  let v3418 : BitVec 32 := Scalar.addi c0_i32_3811 v3417
  v3418.toNat
def k0_dev150 (d0 : Dev nD) : Nat :=
  let c0_i32_3819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3818 : BitVec 32 := 1#32
  let v3419 : BitVec 32 := Scalar.muli v13 c1_i32_3818
  let v3420 : BitVec 32 := Scalar.addi c0_i32_3819 v3419
  v3420.toNat
def k0_dev151 (d0 : Dev nD) : Nat :=
  let c0_i32_3875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3874 : BitVec 32 := 1#32
  let v3480 : BitVec 32 := Scalar.muli v25 c1_i32_3874
  let v3481 : BitVec 32 := Scalar.addi c0_i32_3875 v3480
  v3481.toNat
def k0_dev152 (d0 : Dev nD) : Nat :=
  let c0_i32_3883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3882 : BitVec 32 := 1#32
  let v3482 : BitVec 32 := Scalar.muli v13 c1_i32_3882
  let v3483 : BitVec 32 := Scalar.addi c0_i32_3883 v3482
  v3483.toNat
def k0_dev153 (d0 : Dev nD) : Nat :=
  let c0_i32_3924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3923 : BitVec 32 := 1#32
  let v3521 : BitVec 32 := Scalar.muli v25 c1_i32_3923
  let v3522 : BitVec 32 := Scalar.addi c0_i32_3924 v3521
  v3522.toNat
def k0_dev154 (d0 : Dev nD) : Nat :=
  let c0_i32_3932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3931 : BitVec 32 := 1#32
  let v3523 : BitVec 32 := Scalar.muli v13 c1_i32_3931
  let v3524 : BitVec 32 := Scalar.addi c0_i32_3932 v3523
  v3524.toNat
def k0_dev155 (d0 : Dev nD) : Nat :=
  let c0_i32_3973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3972 : BitVec 32 := 1#32
  let v3562 : BitVec 32 := Scalar.muli v25 c1_i32_3972
  let v3563 : BitVec 32 := Scalar.addi c0_i32_3973 v3562
  v3563.toNat
def k0_dev156 (d0 : Dev nD) : Nat :=
  let c0_i32_3981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3980 : BitVec 32 := 1#32
  let v3564 : BitVec 32 := Scalar.muli v13 c1_i32_3980
  let v3565 : BitVec 32 := Scalar.addi c0_i32_3981 v3564
  v3565.toNat
def k0_dev157 (d0 : Dev nD) : Nat :=
  let c0_i32_4022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4021 : BitVec 32 := 1#32
  let v3603 : BitVec 32 := Scalar.muli v25 c1_i32_4021
  let v3604 : BitVec 32 := Scalar.addi c0_i32_4022 v3603
  v3604.toNat
def k0_dev158 (d0 : Dev nD) : Nat :=
  let c0_i32_4030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4029 : BitVec 32 := 1#32
  let v3605 : BitVec 32 := Scalar.muli v13 c1_i32_4029
  let v3606 : BitVec 32 := Scalar.addi c0_i32_4030 v3605
  v3606.toNat
def k0_dev159 (d0 : Dev nD) : Nat :=
  let c0_i32_4086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4085 : BitVec 32 := 1#32
  let v3666 : BitVec 32 := Scalar.muli v25 c1_i32_4085
  let v3667 : BitVec 32 := Scalar.addi c0_i32_4086 v3666
  v3667.toNat
def k0_dev160 (d0 : Dev nD) : Nat :=
  let c0_i32_4094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4093 : BitVec 32 := 1#32
  let v3668 : BitVec 32 := Scalar.muli v13 c1_i32_4093
  let v3669 : BitVec 32 := Scalar.addi c0_i32_4094 v3668
  v3669.toNat
def k0_dev161 (d0 : Dev nD) : Nat :=
  let c0_i32_4135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4134 : BitVec 32 := 1#32
  let v3707 : BitVec 32 := Scalar.muli v25 c1_i32_4134
  let v3708 : BitVec 32 := Scalar.addi c0_i32_4135 v3707
  v3708.toNat
def k0_dev162 (d0 : Dev nD) : Nat :=
  let c0_i32_4143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4142 : BitVec 32 := 1#32
  let v3709 : BitVec 32 := Scalar.muli v13 c1_i32_4142
  let v3710 : BitVec 32 := Scalar.addi c0_i32_4143 v3709
  v3710.toNat
def k0_dev163 (d0 : Dev nD) : Nat :=
  let c0_i32_4184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4183 : BitVec 32 := 1#32
  let v3748 : BitVec 32 := Scalar.muli v25 c1_i32_4183
  let v3749 : BitVec 32 := Scalar.addi c0_i32_4184 v3748
  v3749.toNat
def k0_dev164 (d0 : Dev nD) : Nat :=
  let c0_i32_4192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4191 : BitVec 32 := 1#32
  let v3750 : BitVec 32 := Scalar.muli v13 c1_i32_4191
  let v3751 : BitVec 32 := Scalar.addi c0_i32_4192 v3750
  v3751.toNat
def k0_dev165 (d0 : Dev nD) : Nat :=
  let c0_i32_4233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4232 : BitVec 32 := 1#32
  let v3789 : BitVec 32 := Scalar.muli v25 c1_i32_4232
  let v3790 : BitVec 32 := Scalar.addi c0_i32_4233 v3789
  v3790.toNat
def k0_dev166 (d0 : Dev nD) : Nat :=
  let c0_i32_4241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4240 : BitVec 32 := 1#32
  let v3791 : BitVec 32 := Scalar.muli v13 c1_i32_4240
  let v3792 : BitVec 32 := Scalar.addi c0_i32_4241 v3791
  v3792.toNat
def k0_dev167 (d0 : Dev nD) : Nat :=
  let c0_i32_4297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4296 : BitVec 32 := 1#32
  let v3852 : BitVec 32 := Scalar.muli v25 c1_i32_4296
  let v3853 : BitVec 32 := Scalar.addi c0_i32_4297 v3852
  v3853.toNat
def k0_dev168 (d0 : Dev nD) : Nat :=
  let c0_i32_4305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4304 : BitVec 32 := 1#32
  let v3854 : BitVec 32 := Scalar.muli v13 c1_i32_4304
  let v3855 : BitVec 32 := Scalar.addi c0_i32_4305 v3854
  v3855.toNat
def k0_dev169 (d0 : Dev nD) : Nat :=
  let c0_i32_4346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4345 : BitVec 32 := 1#32
  let v3893 : BitVec 32 := Scalar.muli v25 c1_i32_4345
  let v3894 : BitVec 32 := Scalar.addi c0_i32_4346 v3893
  v3894.toNat
def k0_dev170 (d0 : Dev nD) : Nat :=
  let c0_i32_4354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4353 : BitVec 32 := 1#32
  let v3895 : BitVec 32 := Scalar.muli v13 c1_i32_4353
  let v3896 : BitVec 32 := Scalar.addi c0_i32_4354 v3895
  v3896.toNat
def k0_dev171 (d0 : Dev nD) : Nat :=
  let c0_i32_4395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4394 : BitVec 32 := 1#32
  let v3934 : BitVec 32 := Scalar.muli v25 c1_i32_4394
  let v3935 : BitVec 32 := Scalar.addi c0_i32_4395 v3934
  v3935.toNat
def k0_dev172 (d0 : Dev nD) : Nat :=
  let c0_i32_4403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4402 : BitVec 32 := 1#32
  let v3936 : BitVec 32 := Scalar.muli v13 c1_i32_4402
  let v3937 : BitVec 32 := Scalar.addi c0_i32_4403 v3936
  v3937.toNat
def k0_dev173 (d0 : Dev nD) : Nat :=
  let c0_i32_4444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4443 : BitVec 32 := 1#32
  let v3975 : BitVec 32 := Scalar.muli v25 c1_i32_4443
  let v3976 : BitVec 32 := Scalar.addi c0_i32_4444 v3975
  v3976.toNat
def k0_dev174 (d0 : Dev nD) : Nat :=
  let c0_i32_4452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4451 : BitVec 32 := 1#32
  let v3977 : BitVec 32 := Scalar.muli v13 c1_i32_4451
  let v3978 : BitVec 32 := Scalar.addi c0_i32_4452 v3977
  v3978.toNat
def k0_dev175 (d0 : Dev nD) : Nat :=
  let c0_i32_4508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4507 : BitVec 32 := 1#32
  let v4038 : BitVec 32 := Scalar.muli v25 c1_i32_4507
  let v4039 : BitVec 32 := Scalar.addi c0_i32_4508 v4038
  v4039.toNat
def k0_dev176 (d0 : Dev nD) : Nat :=
  let c0_i32_4516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4515 : BitVec 32 := 1#32
  let v4040 : BitVec 32 := Scalar.muli v13 c1_i32_4515
  let v4041 : BitVec 32 := Scalar.addi c0_i32_4516 v4040
  v4041.toNat
def k0_dev177 (d0 : Dev nD) : Nat :=
  let c0_i32_4557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4556 : BitVec 32 := 1#32
  let v4079 : BitVec 32 := Scalar.muli v25 c1_i32_4556
  let v4080 : BitVec 32 := Scalar.addi c0_i32_4557 v4079
  v4080.toNat
def k0_dev178 (d0 : Dev nD) : Nat :=
  let c0_i32_4565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4564 : BitVec 32 := 1#32
  let v4081 : BitVec 32 := Scalar.muli v13 c1_i32_4564
  let v4082 : BitVec 32 := Scalar.addi c0_i32_4565 v4081
  v4082.toNat
def k0_dev179 (d0 : Dev nD) : Nat :=
  let c0_i32_4606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4605 : BitVec 32 := 1#32
  let v4120 : BitVec 32 := Scalar.muli v25 c1_i32_4605
  let v4121 : BitVec 32 := Scalar.addi c0_i32_4606 v4120
  v4121.toNat
def k0_dev180 (d0 : Dev nD) : Nat :=
  let c0_i32_4614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4613 : BitVec 32 := 1#32
  let v4122 : BitVec 32 := Scalar.muli v13 c1_i32_4613
  let v4123 : BitVec 32 := Scalar.addi c0_i32_4614 v4122
  v4123.toNat
def k0_dev181 (d0 : Dev nD) : Nat :=
  let c0_i32_4655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4654 : BitVec 32 := 1#32
  let v4161 : BitVec 32 := Scalar.muli v25 c1_i32_4654
  let v4162 : BitVec 32 := Scalar.addi c0_i32_4655 v4161
  v4162.toNat
def k0_dev182 (d0 : Dev nD) : Nat :=
  let c0_i32_4663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4662 : BitVec 32 := 1#32
  let v4163 : BitVec 32 := Scalar.muli v13 c1_i32_4662
  let v4164 : BitVec 32 := Scalar.addi c0_i32_4663 v4163
  v4164.toNat
def k0_dev183 (d0 : Dev nD) : Nat :=
  let c0_i32_4719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4718 : BitVec 32 := 1#32
  let v4224 : BitVec 32 := Scalar.muli v25 c1_i32_4718
  let v4225 : BitVec 32 := Scalar.addi c0_i32_4719 v4224
  v4225.toNat
def k0_dev184 (d0 : Dev nD) : Nat :=
  let c0_i32_4727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4726 : BitVec 32 := 1#32
  let v4226 : BitVec 32 := Scalar.muli v13 c1_i32_4726
  let v4227 : BitVec 32 := Scalar.addi c0_i32_4727 v4226
  v4227.toNat
def k0_dev185 (d0 : Dev nD) : Nat :=
  let c0_i32_4768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4767 : BitVec 32 := 1#32
  let v4265 : BitVec 32 := Scalar.muli v25 c1_i32_4767
  let v4266 : BitVec 32 := Scalar.addi c0_i32_4768 v4265
  v4266.toNat
def k0_dev186 (d0 : Dev nD) : Nat :=
  let c0_i32_4776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4775 : BitVec 32 := 1#32
  let v4267 : BitVec 32 := Scalar.muli v13 c1_i32_4775
  let v4268 : BitVec 32 := Scalar.addi c0_i32_4776 v4267
  v4268.toNat
def k0_dev187 (d0 : Dev nD) : Nat :=
  let c0_i32_4817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4816 : BitVec 32 := 1#32
  let v4306 : BitVec 32 := Scalar.muli v25 c1_i32_4816
  let v4307 : BitVec 32 := Scalar.addi c0_i32_4817 v4306
  v4307.toNat
def k0_dev188 (d0 : Dev nD) : Nat :=
  let c0_i32_4825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4824 : BitVec 32 := 1#32
  let v4308 : BitVec 32 := Scalar.muli v13 c1_i32_4824
  let v4309 : BitVec 32 := Scalar.addi c0_i32_4825 v4308
  v4309.toNat
def k0_dev189 (d0 : Dev nD) : Nat :=
  let c0_i32_4866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4865 : BitVec 32 := 1#32
  let v4347 : BitVec 32 := Scalar.muli v25 c1_i32_4865
  let v4348 : BitVec 32 := Scalar.addi c0_i32_4866 v4347
  v4348.toNat
def k0_dev190 (d0 : Dev nD) : Nat :=
  let c0_i32_4874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4873 : BitVec 32 := 1#32
  let v4349 : BitVec 32 := Scalar.muli v13 c1_i32_4873
  let v4350 : BitVec 32 := Scalar.addi c0_i32_4874 v4349
  v4350.toNat
def k0_dev191 (d0 : Dev nD) : Nat :=
  let c0_i32_4930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4929 : BitVec 32 := 1#32
  let v4410 : BitVec 32 := Scalar.muli v25 c1_i32_4929
  let v4411 : BitVec 32 := Scalar.addi c0_i32_4930 v4410
  v4411.toNat
def k0_dev192 (d0 : Dev nD) : Nat :=
  let c0_i32_4938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4937 : BitVec 32 := 1#32
  let v4412 : BitVec 32 := Scalar.muli v13 c1_i32_4937
  let v4413 : BitVec 32 := Scalar.addi c0_i32_4938 v4412
  v4413.toNat
def k0_dev193 (d0 : Dev nD) : Nat :=
  let c0_i32_4979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4978 : BitVec 32 := 1#32
  let v4451 : BitVec 32 := Scalar.muli v25 c1_i32_4978
  let v4452 : BitVec 32 := Scalar.addi c0_i32_4979 v4451
  v4452.toNat
def k0_dev194 (d0 : Dev nD) : Nat :=
  let c0_i32_4987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4986 : BitVec 32 := 1#32
  let v4453 : BitVec 32 := Scalar.muli v13 c1_i32_4986
  let v4454 : BitVec 32 := Scalar.addi c0_i32_4987 v4453
  v4454.toNat
def k0_dev195 (d0 : Dev nD) : Nat :=
  let c0_i32_5028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5027 : BitVec 32 := 1#32
  let v4492 : BitVec 32 := Scalar.muli v25 c1_i32_5027
  let v4493 : BitVec 32 := Scalar.addi c0_i32_5028 v4492
  v4493.toNat
def k0_dev196 (d0 : Dev nD) : Nat :=
  let c0_i32_5036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5035 : BitVec 32 := 1#32
  let v4494 : BitVec 32 := Scalar.muli v13 c1_i32_5035
  let v4495 : BitVec 32 := Scalar.addi c0_i32_5036 v4494
  v4495.toNat
def k0_dev197 (d0 : Dev nD) : Nat :=
  let c0_i32_5077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5076 : BitVec 32 := 1#32
  let v4533 : BitVec 32 := Scalar.muli v25 c1_i32_5076
  let v4534 : BitVec 32 := Scalar.addi c0_i32_5077 v4533
  v4534.toNat
def k0_dev198 (d0 : Dev nD) : Nat :=
  let c0_i32_5085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5084 : BitVec 32 := 1#32
  let v4535 : BitVec 32 := Scalar.muli v13 c1_i32_5084
  let v4536 : BitVec 32 := Scalar.addi c0_i32_5085 v4535
  v4536.toNat
def k0_dev199 (d0 : Dev nD) : Nat :=
  let c0_i32_5141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5140 : BitVec 32 := 1#32
  let v4596 : BitVec 32 := Scalar.muli v25 c1_i32_5140
  let v4597 : BitVec 32 := Scalar.addi c0_i32_5141 v4596
  v4597.toNat
def k0_dev200 (d0 : Dev nD) : Nat :=
  let c0_i32_5149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5148 : BitVec 32 := 1#32
  let v4598 : BitVec 32 := Scalar.muli v13 c1_i32_5148
  let v4599 : BitVec 32 := Scalar.addi c0_i32_5149 v4598
  v4599.toNat
def k0_dev201 (d0 : Dev nD) : Nat :=
  let c0_i32_5190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5189 : BitVec 32 := 1#32
  let v4637 : BitVec 32 := Scalar.muli v25 c1_i32_5189
  let v4638 : BitVec 32 := Scalar.addi c0_i32_5190 v4637
  v4638.toNat
def k0_dev202 (d0 : Dev nD) : Nat :=
  let c0_i32_5198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5197 : BitVec 32 := 1#32
  let v4639 : BitVec 32 := Scalar.muli v13 c1_i32_5197
  let v4640 : BitVec 32 := Scalar.addi c0_i32_5198 v4639
  v4640.toNat
def k0_dev203 (d0 : Dev nD) : Nat :=
  let c0_i32_5239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5238 : BitVec 32 := 1#32
  let v4678 : BitVec 32 := Scalar.muli v25 c1_i32_5238
  let v4679 : BitVec 32 := Scalar.addi c0_i32_5239 v4678
  v4679.toNat
def k0_dev204 (d0 : Dev nD) : Nat :=
  let c0_i32_5247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5246 : BitVec 32 := 1#32
  let v4680 : BitVec 32 := Scalar.muli v13 c1_i32_5246
  let v4681 : BitVec 32 := Scalar.addi c0_i32_5247 v4680
  v4681.toNat
def k0_dev205 (d0 : Dev nD) : Nat :=
  let c0_i32_5288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5287 : BitVec 32 := 1#32
  let v4719 : BitVec 32 := Scalar.muli v25 c1_i32_5287
  let v4720 : BitVec 32 := Scalar.addi c0_i32_5288 v4719
  v4720.toNat
def k0_dev206 (d0 : Dev nD) : Nat :=
  let c0_i32_5296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5295 : BitVec 32 := 1#32
  let v4721 : BitVec 32 := Scalar.muli v13 c1_i32_5295
  let v4722 : BitVec 32 := Scalar.addi c0_i32_5296 v4721
  v4722.toNat
def k0_dev207 (d0 : Dev nD) : Nat :=
  let c0_i32_5352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5351 : BitVec 32 := 1#32
  let v4782 : BitVec 32 := Scalar.muli v25 c1_i32_5351
  let v4783 : BitVec 32 := Scalar.addi c0_i32_5352 v4782
  v4783.toNat
def k0_dev208 (d0 : Dev nD) : Nat :=
  let c0_i32_5360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5359 : BitVec 32 := 1#32
  let v4784 : BitVec 32 := Scalar.muli v13 c1_i32_5359
  let v4785 : BitVec 32 := Scalar.addi c0_i32_5360 v4784
  v4785.toNat
def k0_dev209 (d0 : Dev nD) : Nat :=
  let c0_i32_5401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5400 : BitVec 32 := 1#32
  let v4823 : BitVec 32 := Scalar.muli v25 c1_i32_5400
  let v4824 : BitVec 32 := Scalar.addi c0_i32_5401 v4823
  v4824.toNat
def k0_dev210 (d0 : Dev nD) : Nat :=
  let c0_i32_5409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5408 : BitVec 32 := 1#32
  let v4825 : BitVec 32 := Scalar.muli v13 c1_i32_5408
  let v4826 : BitVec 32 := Scalar.addi c0_i32_5409 v4825
  v4826.toNat
def k0_dev211 (d0 : Dev nD) : Nat :=
  let c0_i32_5450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5449 : BitVec 32 := 1#32
  let v4864 : BitVec 32 := Scalar.muli v25 c1_i32_5449
  let v4865 : BitVec 32 := Scalar.addi c0_i32_5450 v4864
  v4865.toNat
def k0_dev212 (d0 : Dev nD) : Nat :=
  let c0_i32_5458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5457 : BitVec 32 := 1#32
  let v4866 : BitVec 32 := Scalar.muli v13 c1_i32_5457
  let v4867 : BitVec 32 := Scalar.addi c0_i32_5458 v4866
  v4867.toNat
def k0_dev213 (d0 : Dev nD) : Nat :=
  let c0_i32_5499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5498 : BitVec 32 := 1#32
  let v4905 : BitVec 32 := Scalar.muli v25 c1_i32_5498
  let v4906 : BitVec 32 := Scalar.addi c0_i32_5499 v4905
  v4906.toNat
def k0_dev214 (d0 : Dev nD) : Nat :=
  let c0_i32_5507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5506 : BitVec 32 := 1#32
  let v4907 : BitVec 32 := Scalar.muli v13 c1_i32_5506
  let v4908 : BitVec 32 := Scalar.addi c0_i32_5507 v4907
  v4908.toNat
def k0_dev215 (d0 : Dev nD) : Nat :=
  let c0_i32_5563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5562 : BitVec 32 := 1#32
  let v4968 : BitVec 32 := Scalar.muli v25 c1_i32_5562
  let v4969 : BitVec 32 := Scalar.addi c0_i32_5563 v4968
  v4969.toNat
def k0_dev216 (d0 : Dev nD) : Nat :=
  let c0_i32_5571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5570 : BitVec 32 := 1#32
  let v4970 : BitVec 32 := Scalar.muli v13 c1_i32_5570
  let v4971 : BitVec 32 := Scalar.addi c0_i32_5571 v4970
  v4971.toNat
def k0_dev217 (d0 : Dev nD) : Nat :=
  let c0_i32_5612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5611 : BitVec 32 := 1#32
  let v5009 : BitVec 32 := Scalar.muli v25 c1_i32_5611
  let v5010 : BitVec 32 := Scalar.addi c0_i32_5612 v5009
  v5010.toNat
def k0_dev218 (d0 : Dev nD) : Nat :=
  let c0_i32_5620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5619 : BitVec 32 := 1#32
  let v5011 : BitVec 32 := Scalar.muli v13 c1_i32_5619
  let v5012 : BitVec 32 := Scalar.addi c0_i32_5620 v5011
  v5012.toNat
def k0_dev219 (d0 : Dev nD) : Nat :=
  let c0_i32_5661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5660 : BitVec 32 := 1#32
  let v5050 : BitVec 32 := Scalar.muli v25 c1_i32_5660
  let v5051 : BitVec 32 := Scalar.addi c0_i32_5661 v5050
  v5051.toNat
def k0_dev220 (d0 : Dev nD) : Nat :=
  let c0_i32_5669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5668 : BitVec 32 := 1#32
  let v5052 : BitVec 32 := Scalar.muli v13 c1_i32_5668
  let v5053 : BitVec 32 := Scalar.addi c0_i32_5669 v5052
  v5053.toNat
def k0_dev221 (d0 : Dev nD) : Nat :=
  let c0_i32_5710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5709 : BitVec 32 := 1#32
  let v5091 : BitVec 32 := Scalar.muli v25 c1_i32_5709
  let v5092 : BitVec 32 := Scalar.addi c0_i32_5710 v5091
  v5092.toNat
def k0_dev222 (d0 : Dev nD) : Nat :=
  let c0_i32_5718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5717 : BitVec 32 := 1#32
  let v5093 : BitVec 32 := Scalar.muli v13 c1_i32_5717
  let v5094 : BitVec 32 := Scalar.addi c0_i32_5718 v5093
  v5094.toNat
def k0_dev223 (d0 : Dev nD) : Nat :=
  let c0_i32_5779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5778 : BitVec 32 := 1#32
  let v5154 : BitVec 32 := Scalar.muli v13 c1_i32_5778
  let v5155 : BitVec 32 := Scalar.addi c0_i32_5779 v5154
  v5155.toNat
def k0_dev224 (d0 : Dev nD) : Nat :=
  let c0_i32_5825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5824 : BitVec 32 := 1#32
  let v5193 : BitVec 32 := Scalar.muli v13 c1_i32_5824
  let v5194 : BitVec 32 := Scalar.addi c0_i32_5825 v5193
  v5194.toNat
def k0_dev225 (d0 : Dev nD) : Nat :=
  let c0_i32_5871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5870 : BitVec 32 := 1#32
  let v5232 : BitVec 32 := Scalar.muli v13 c1_i32_5870
  let v5233 : BitVec 32 := Scalar.addi c0_i32_5871 v5232
  v5233.toNat
def k0_dev226 (d0 : Dev nD) : Nat :=
  let c0_i32_5917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5916 : BitVec 32 := 1#32
  let v5271 : BitVec 32 := Scalar.muli v13 c1_i32_5916
  let v5272 : BitVec 32 := Scalar.addi c0_i32_5917 v5271
  v5272.toNat
def k0_dev227 (d0 : Dev nD) : Nat :=
  let c0_i32_5978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5977 : BitVec 32 := 1#32
  let v5332 : BitVec 32 := Scalar.muli v13 c1_i32_5977
  let v5333 : BitVec 32 := Scalar.addi c0_i32_5978 v5332
  v5333.toNat
def k0_dev228 (d0 : Dev nD) : Nat :=
  let c0_i32_6024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6023 : BitVec 32 := 1#32
  let v5371 : BitVec 32 := Scalar.muli v13 c1_i32_6023
  let v5372 : BitVec 32 := Scalar.addi c0_i32_6024 v5371
  v5372.toNat
def k0_dev229 (d0 : Dev nD) : Nat :=
  let c0_i32_6070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6069 : BitVec 32 := 1#32
  let v5410 : BitVec 32 := Scalar.muli v13 c1_i32_6069
  let v5411 : BitVec 32 := Scalar.addi c0_i32_6070 v5410
  v5411.toNat
def k0_dev230 (d0 : Dev nD) : Nat :=
  let c0_i32_6116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6115 : BitVec 32 := 1#32
  let v5449 : BitVec 32 := Scalar.muli v13 c1_i32_6115
  let v5450 : BitVec 32 := Scalar.addi c0_i32_6116 v5449
  v5450.toNat
def k0_dev231 (d0 : Dev nD) : Nat :=
  let c0_i32_6177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6176 : BitVec 32 := 1#32
  let v5510 : BitVec 32 := Scalar.muli v13 c1_i32_6176
  let v5511 : BitVec 32 := Scalar.addi c0_i32_6177 v5510
  v5511.toNat
def k0_dev232 (d0 : Dev nD) : Nat :=
  let c0_i32_6223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6222 : BitVec 32 := 1#32
  let v5549 : BitVec 32 := Scalar.muli v13 c1_i32_6222
  let v5550 : BitVec 32 := Scalar.addi c0_i32_6223 v5549
  v5550.toNat
def k0_dev233 (d0 : Dev nD) : Nat :=
  let c0_i32_6269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6268 : BitVec 32 := 1#32
  let v5588 : BitVec 32 := Scalar.muli v13 c1_i32_6268
  let v5589 : BitVec 32 := Scalar.addi c0_i32_6269 v5588
  v5589.toNat
def k0_dev234 (d0 : Dev nD) : Nat :=
  let c0_i32_6315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6314 : BitVec 32 := 1#32
  let v5627 : BitVec 32 := Scalar.muli v13 c1_i32_6314
  let v5628 : BitVec 32 := Scalar.addi c0_i32_6315 v5627
  v5628.toNat
def k0_dev235 (d0 : Dev nD) : Nat :=
  let c0_i32_6520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6514 : BitVec 32 := 1#32
  let v5811 : BitVec 32 := Scalar.xori v2 c1_i32_6514
  let c1_i32_6519 : BitVec 32 := 1#32
  let v5812 : BitVec 32 := Scalar.muli v5811 c1_i32_6519
  let v5813 : BitVec 32 := Scalar.addi c0_i32_6520 v5812
  v5813.toNat
def k0_dev236 (d0 : Dev nD) : Nat :=
  let c0_i32_6559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_6553 : BitVec 32 := 2#32
  let v5844 : BitVec 32 := Scalar.xori v2 c2_i32_6553
  let c1_i32_6558 : BitVec 32 := 1#32
  let v5845 : BitVec 32 := Scalar.muli v5844 c1_i32_6558
  let v5846 : BitVec 32 := Scalar.addi c0_i32_6559 v5845
  v5846.toNat
def k0_dev237 (d0 : Dev nD) : Nat :=
  let c0_i32_6598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_6592 : BitVec 32 := 4#32
  let v5877 : BitVec 32 := Scalar.xori v2 c4_i32_6592
  let c1_i32_6597 : BitVec 32 := 1#32
  let v5878 : BitVec 32 := Scalar.muli v5877 c1_i32_6597
  let v5879 : BitVec 32 := Scalar.addi c0_i32_6598 v5878
  v5879.toNat
def k0_dev238 (d0 : Dev nD) : Nat :=
  let c0_i32_6637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_6631 : BitVec 32 := 8#32
  let v5910 : BitVec 32 := Scalar.xori v2 c8_i32_6631
  let c1_i32_6636 : BitVec 32 := 1#32
  let v5911 : BitVec 32 := Scalar.muli v5910 c1_i32_6636
  let v5912 : BitVec 32 := Scalar.addi c0_i32_6637 v5911
  v5912.toNat
def k0_dev239 (d0 : Dev nD) : Nat :=
  let c0_i32_6676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_6670 : BitVec 32 := 16#32
  let v5943 : BitVec 32 := Scalar.xori v2 c16_i32_6670
  let c1_i32_6675 : BitVec 32 := 1#32
  let v5944 : BitVec 32 := Scalar.muli v5943 c1_i32_6675
  let v5945 : BitVec 32 := Scalar.addi c0_i32_6676 v5944
  v5945.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6714 : BitVec 32 := 1#32
  let v5986 : BitVec 32 := Scalar.addi v2 c1_i32_6714
  let c32_i32_6715 : BitVec 32 := 32#32
  let c0_i32_6716 : BitVec 32 := 0#32
  let v5987 : BitVec 1 := Scalar.cmpi .eq c32_i32_6715 c0_i32_6716
  let c1_i32_6717 : BitVec 32 := 1#32
  let v5988 : BitVec 32 := Scalar.select v5987 c1_i32_6717 c32_i32_6715
  let v5989 : BitVec 32 := Scalar.remsi v5986 v5988
  let c0_i32_6719 : BitVec 32 := 0#32
  let v5991 : BitVec 1 := Scalar.cmpi .slt v5989 c0_i32_6719
  let c0_i32_6720 : BitVec 32 := 0#32
  let v5992 : BitVec 1 := Scalar.cmpi .slt v5988 c0_i32_6720
  let v5993 : BitVec 1 := Scalar.xori v5991 v5992
  let c0_i32_6718 : BitVec 32 := 0#32
  let v5990 : BitVec 1 := Scalar.cmpi .ne v5989 c0_i32_6718
  let v5994 : BitVec 1 := Scalar.andi v5993 v5990
  let v5995 : BitVec 32 := Scalar.addi v5989 v5988
  let v5996 : BitVec 32 := Scalar.select v5994 v5995 v5989
  let c128_i32_6736 : BitVec 32 := 128#32
  let v6022 : BitVec 32 := Scalar.muli v5996 c128_i32_6736
  let c0_i32_6739 : BitVec 32 := 0#32
  ![v6022.toNat, 0]
def k0_dev240 (d0 : Dev nD) : Nat :=
  let c0_i32_6747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6746 : BitVec 32 := 1#32
  let v6028 : BitVec 32 := Scalar.muli v13 c1_i32_6746
  let v6029 : BitVec 32 := Scalar.addi c0_i32_6747 v6028
  v6029.toNat
def k0_dev241 (d0 : Dev nD) : Nat :=
  let c0_i32_6757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6756 : BitVec 32 := 1#32
  let v6038 : BitVec 32 := Scalar.muli v13 c1_i32_6756
  let v6039 : BitVec 32 := Scalar.addi c0_i32_6757 v6038
  v6039.toNat
def k0_dev242 (d0 : Dev nD) : Nat :=
  let c0_i32_6767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6766 : BitVec 32 := 1#32
  let v6048 : BitVec 32 := Scalar.muli v13 c1_i32_6766
  let v6049 : BitVec 32 := Scalar.addi c0_i32_6767 v6048
  v6049.toNat
def k0_dev243 (d0 : Dev nD) : Nat :=
  let c0_i32_6777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6776 : BitVec 32 := 1#32
  let v6058 : BitVec 32 := Scalar.muli v13 c1_i32_6776
  let v6059 : BitVec 32 := Scalar.addi c0_i32_6777 v6058
  v6059.toNat
def k0_dev244 (d0 : Dev nD) : Nat :=
  let c0_i32_6809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6808 : BitVec 32 := 1#32
  let v6090 : BitVec 32 := Scalar.muli v25 c1_i32_6808
  let v6091 : BitVec 32 := Scalar.addi c0_i32_6809 v6090
  v6091.toNat
def k0_dev245 (d0 : Dev nD) : Nat :=
  let c0_i32_6815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6814 : BitVec 32 := 1#32
  let v6092 : BitVec 32 := Scalar.muli v13 c1_i32_6814
  let v6093 : BitVec 32 := Scalar.addi c0_i32_6815 v6092
  v6093.toNat
def k0_dev246 (d0 : Dev nD) : Nat :=
  let c0_i32_6847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6846 : BitVec 32 := 1#32
  let v6124 : BitVec 32 := Scalar.muli v25 c1_i32_6846
  let v6125 : BitVec 32 := Scalar.addi c0_i32_6847 v6124
  v6125.toNat
def k0_dev247 (d0 : Dev nD) : Nat :=
  let c0_i32_6853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6852 : BitVec 32 := 1#32
  let v6126 : BitVec 32 := Scalar.muli v13 c1_i32_6852
  let v6127 : BitVec 32 := Scalar.addi c0_i32_6853 v6126
  v6127.toNat
def k0_dev248 (d0 : Dev nD) : Nat :=
  let c0_i32_6885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6884 : BitVec 32 := 1#32
  let v6158 : BitVec 32 := Scalar.muli v25 c1_i32_6884
  let v6159 : BitVec 32 := Scalar.addi c0_i32_6885 v6158
  v6159.toNat
def k0_dev249 (d0 : Dev nD) : Nat :=
  let c0_i32_6891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6890 : BitVec 32 := 1#32
  let v6160 : BitVec 32 := Scalar.muli v13 c1_i32_6890
  let v6161 : BitVec 32 := Scalar.addi c0_i32_6891 v6160
  v6161.toNat
def k0_dev250 (d0 : Dev nD) : Nat :=
  let c0_i32_6923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6922 : BitVec 32 := 1#32
  let v6192 : BitVec 32 := Scalar.muli v25 c1_i32_6922
  let v6193 : BitVec 32 := Scalar.addi c0_i32_6923 v6192
  v6193.toNat
def k0_dev251 (d0 : Dev nD) : Nat :=
  let c0_i32_6929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6928 : BitVec 32 := 1#32
  let v6194 : BitVec 32 := Scalar.muli v13 c1_i32_6928
  let v6195 : BitVec 32 := Scalar.addi c0_i32_6929 v6194
  v6195.toNat
def k0_off4 (d0 : Dev nD) (c0_i32_6934 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6204 : BitVec 32 := Scalar.subi v2 c0_i32_6934
  let c32_i32_6935 : BitVec 32 := 32#32
  let c0_i32_6936 : BitVec 32 := 0#32
  let v6205 : BitVec 1 := Scalar.cmpi .eq c32_i32_6935 c0_i32_6936
  let c1_i32_6937 : BitVec 32 := 1#32
  let v6206 : BitVec 32 := Scalar.select v6205 c1_i32_6937 c32_i32_6935
  let v6207 : BitVec 32 := Scalar.remsi v6204 v6206
  let c0_i32_6939 : BitVec 32 := 0#32
  let v6209 : BitVec 1 := Scalar.cmpi .slt v6207 c0_i32_6939
  let c0_i32_6940 : BitVec 32 := 0#32
  let v6210 : BitVec 1 := Scalar.cmpi .slt v6206 c0_i32_6940
  let v6211 : BitVec 1 := Scalar.xori v6209 v6210
  let c0_i32_6938 : BitVec 32 := 0#32
  let v6208 : BitVec 1 := Scalar.cmpi .ne v6207 c0_i32_6938
  let v6212 : BitVec 1 := Scalar.andi v6211 v6208
  let v6213 : BitVec 32 := Scalar.addi v6207 v6206
  let v6214 : BitVec 32 := Scalar.select v6212 v6213 v6207
  let c128_i32_6941 : BitVec 32 := 128#32
  let v6215 : BitVec 32 := Scalar.muli v6214 c128_i32_6941
  let c0_i32_6944 : BitVec 32 := 0#32
  ![v6215.toNat, 0]
def k0_dev252 (d0 : Dev nD) : Nat :=
  let c0_i32_6979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6978 : BitVec 32 := 1#32
  let v6248 : BitVec 32 := Scalar.muli v25 c1_i32_6978
  let v6249 : BitVec 32 := Scalar.addi c0_i32_6979 v6248
  v6249.toNat
def k0_dev253 (d0 : Dev nD) : Nat :=
  let c0_i32_6985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6984 : BitVec 32 := 1#32
  let v6250 : BitVec 32 := Scalar.muli v13 c1_i32_6984
  let v6251 : BitVec 32 := Scalar.addi c0_i32_6985 v6250
  v6251.toNat
def k0_dev254 (d0 : Dev nD) : Nat :=
  let c0_i32_7017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7016 : BitVec 32 := 1#32
  let v6282 : BitVec 32 := Scalar.muli v25 c1_i32_7016
  let v6283 : BitVec 32 := Scalar.addi c0_i32_7017 v6282
  v6283.toNat
def k0_dev255 (d0 : Dev nD) : Nat :=
  let c0_i32_7023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7022 : BitVec 32 := 1#32
  let v6284 : BitVec 32 := Scalar.muli v13 c1_i32_7022
  let v6285 : BitVec 32 := Scalar.addi c0_i32_7023 v6284
  v6285.toNat
def k0_dev256 (d0 : Dev nD) : Nat :=
  let c0_i32_7055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7054 : BitVec 32 := 1#32
  let v6316 : BitVec 32 := Scalar.muli v25 c1_i32_7054
  let v6317 : BitVec 32 := Scalar.addi c0_i32_7055 v6316
  v6317.toNat
def k0_dev257 (d0 : Dev nD) : Nat :=
  let c0_i32_7061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7060 : BitVec 32 := 1#32
  let v6318 : BitVec 32 := Scalar.muli v13 c1_i32_7060
  let v6319 : BitVec 32 := Scalar.addi c0_i32_7061 v6318
  v6319.toNat
def k0_dev258 (d0 : Dev nD) : Nat :=
  let c0_i32_7093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7092 : BitVec 32 := 1#32
  let v6350 : BitVec 32 := Scalar.muli v25 c1_i32_7092
  let v6351 : BitVec 32 := Scalar.addi c0_i32_7093 v6350
  v6351.toNat
def k0_dev259 (d0 : Dev nD) : Nat :=
  let c0_i32_7099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7098 : BitVec 32 := 1#32
  let v6352 : BitVec 32 := Scalar.muli v13 c1_i32_7098
  let v6353 : BitVec 32 := Scalar.addi c0_i32_7099 v6352
  v6353.toNat
def k0_dev260 (d0 : Dev nD) : Nat :=
  let c0_i32_7149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7148 : BitVec 32 := 1#32
  let v6406 : BitVec 32 := Scalar.muli v25 c1_i32_7148
  let v6407 : BitVec 32 := Scalar.addi c0_i32_7149 v6406
  v6407.toNat
def k0_dev261 (d0 : Dev nD) : Nat :=
  let c0_i32_7157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7156 : BitVec 32 := 1#32
  let v6408 : BitVec 32 := Scalar.muli v13 c1_i32_7156
  let v6409 : BitVec 32 := Scalar.addi c0_i32_7157 v6408
  v6409.toNat
def k0_dev262 (d0 : Dev nD) : Nat :=
  let c0_i32_7189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7188 : BitVec 32 := 1#32
  let v6440 : BitVec 32 := Scalar.muli v25 c1_i32_7188
  let v6441 : BitVec 32 := Scalar.addi c0_i32_7189 v6440
  v6441.toNat
def k0_dev263 (d0 : Dev nD) : Nat :=
  let c0_i32_7197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7196 : BitVec 32 := 1#32
  let v6442 : BitVec 32 := Scalar.muli v13 c1_i32_7196
  let v6443 : BitVec 32 := Scalar.addi c0_i32_7197 v6442
  v6443.toNat
def k0_dev264 (d0 : Dev nD) : Nat :=
  let c0_i32_7229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7228 : BitVec 32 := 1#32
  let v6474 : BitVec 32 := Scalar.muli v25 c1_i32_7228
  let v6475 : BitVec 32 := Scalar.addi c0_i32_7229 v6474
  v6475.toNat
def k0_dev265 (d0 : Dev nD) : Nat :=
  let c0_i32_7237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7236 : BitVec 32 := 1#32
  let v6476 : BitVec 32 := Scalar.muli v13 c1_i32_7236
  let v6477 : BitVec 32 := Scalar.addi c0_i32_7237 v6476
  v6477.toNat
def k0_dev266 (d0 : Dev nD) : Nat :=
  let c0_i32_7269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7268 : BitVec 32 := 1#32
  let v6508 : BitVec 32 := Scalar.muli v25 c1_i32_7268
  let v6509 : BitVec 32 := Scalar.addi c0_i32_7269 v6508
  v6509.toNat
def k0_dev267 (d0 : Dev nD) : Nat :=
  let c0_i32_7277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7276 : BitVec 32 := 1#32
  let v6510 : BitVec 32 := Scalar.muli v13 c1_i32_7276
  let v6511 : BitVec 32 := Scalar.addi c0_i32_7277 v6510
  v6511.toNat
def k0_dev268 (d0 : Dev nD) : Nat :=
  let c0_i32_7327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7326 : BitVec 32 := 1#32
  let v6564 : BitVec 32 := Scalar.muli v25 c1_i32_7326
  let v6565 : BitVec 32 := Scalar.addi c0_i32_7327 v6564
  v6565.toNat
def k0_dev269 (d0 : Dev nD) : Nat :=
  let c0_i32_7335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7334 : BitVec 32 := 1#32
  let v6566 : BitVec 32 := Scalar.muli v13 c1_i32_7334
  let v6567 : BitVec 32 := Scalar.addi c0_i32_7335 v6566
  v6567.toNat
def k0_dev270 (d0 : Dev nD) : Nat :=
  let c0_i32_7367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7366 : BitVec 32 := 1#32
  let v6598 : BitVec 32 := Scalar.muli v25 c1_i32_7366
  let v6599 : BitVec 32 := Scalar.addi c0_i32_7367 v6598
  v6599.toNat
def k0_dev271 (d0 : Dev nD) : Nat :=
  let c0_i32_7375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7374 : BitVec 32 := 1#32
  let v6600 : BitVec 32 := Scalar.muli v13 c1_i32_7374
  let v6601 : BitVec 32 := Scalar.addi c0_i32_7375 v6600
  v6601.toNat
def k0_dev272 (d0 : Dev nD) : Nat :=
  let c0_i32_7407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7406 : BitVec 32 := 1#32
  let v6632 : BitVec 32 := Scalar.muli v25 c1_i32_7406
  let v6633 : BitVec 32 := Scalar.addi c0_i32_7407 v6632
  v6633.toNat
def k0_dev273 (d0 : Dev nD) : Nat :=
  let c0_i32_7415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7414 : BitVec 32 := 1#32
  let v6634 : BitVec 32 := Scalar.muli v13 c1_i32_7414
  let v6635 : BitVec 32 := Scalar.addi c0_i32_7415 v6634
  v6635.toNat
def k0_dev274 (d0 : Dev nD) : Nat :=
  let c0_i32_7447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7446 : BitVec 32 := 1#32
  let v6666 : BitVec 32 := Scalar.muli v25 c1_i32_7446
  let v6667 : BitVec 32 := Scalar.addi c0_i32_7447 v6666
  v6667.toNat
def k0_dev275 (d0 : Dev nD) : Nat :=
  let c0_i32_7455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7454 : BitVec 32 := 1#32
  let v6668 : BitVec 32 := Scalar.muli v13 c1_i32_7454
  let v6669 : BitVec 32 := Scalar.addi c0_i32_7455 v6668
  v6669.toNat
def k0_dev276 (d0 : Dev nD) : Nat :=
  let c0_i32_7505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7504 : BitVec 32 := 1#32
  let v6722 : BitVec 32 := Scalar.muli v25 c1_i32_7504
  let v6723 : BitVec 32 := Scalar.addi c0_i32_7505 v6722
  v6723.toNat
def k0_dev277 (d0 : Dev nD) : Nat :=
  let c0_i32_7513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7512 : BitVec 32 := 1#32
  let v6724 : BitVec 32 := Scalar.muli v13 c1_i32_7512
  let v6725 : BitVec 32 := Scalar.addi c0_i32_7513 v6724
  v6725.toNat
def k0_dev278 (d0 : Dev nD) : Nat :=
  let c0_i32_7545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7544 : BitVec 32 := 1#32
  let v6756 : BitVec 32 := Scalar.muli v25 c1_i32_7544
  let v6757 : BitVec 32 := Scalar.addi c0_i32_7545 v6756
  v6757.toNat
def k0_dev279 (d0 : Dev nD) : Nat :=
  let c0_i32_7553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7552 : BitVec 32 := 1#32
  let v6758 : BitVec 32 := Scalar.muli v13 c1_i32_7552
  let v6759 : BitVec 32 := Scalar.addi c0_i32_7553 v6758
  v6759.toNat
def k0_dev280 (d0 : Dev nD) : Nat :=
  let c0_i32_7585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7584 : BitVec 32 := 1#32
  let v6790 : BitVec 32 := Scalar.muli v25 c1_i32_7584
  let v6791 : BitVec 32 := Scalar.addi c0_i32_7585 v6790
  v6791.toNat
def k0_dev281 (d0 : Dev nD) : Nat :=
  let c0_i32_7593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7592 : BitVec 32 := 1#32
  let v6792 : BitVec 32 := Scalar.muli v13 c1_i32_7592
  let v6793 : BitVec 32 := Scalar.addi c0_i32_7593 v6792
  v6793.toNat
def k0_dev282 (d0 : Dev nD) : Nat :=
  let c0_i32_7625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7624 : BitVec 32 := 1#32
  let v6824 : BitVec 32 := Scalar.muli v25 c1_i32_7624
  let v6825 : BitVec 32 := Scalar.addi c0_i32_7625 v6824
  v6825.toNat
def k0_dev283 (d0 : Dev nD) : Nat :=
  let c0_i32_7633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7632 : BitVec 32 := 1#32
  let v6826 : BitVec 32 := Scalar.muli v13 c1_i32_7632
  let v6827 : BitVec 32 := Scalar.addi c0_i32_7633 v6826
  v6827.toNat
def k0_dev284 (d0 : Dev nD) : Nat :=
  let c0_i32_7683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7682 : BitVec 32 := 1#32
  let v6880 : BitVec 32 := Scalar.muli v25 c1_i32_7682
  let v6881 : BitVec 32 := Scalar.addi c0_i32_7683 v6880
  v6881.toNat
def k0_dev285 (d0 : Dev nD) : Nat :=
  let c0_i32_7691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7690 : BitVec 32 := 1#32
  let v6882 : BitVec 32 := Scalar.muli v13 c1_i32_7690
  let v6883 : BitVec 32 := Scalar.addi c0_i32_7691 v6882
  v6883.toNat
def k0_dev286 (d0 : Dev nD) : Nat :=
  let c0_i32_7723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7722 : BitVec 32 := 1#32
  let v6914 : BitVec 32 := Scalar.muli v25 c1_i32_7722
  let v6915 : BitVec 32 := Scalar.addi c0_i32_7723 v6914
  v6915.toNat
def k0_dev287 (d0 : Dev nD) : Nat :=
  let c0_i32_7731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7730 : BitVec 32 := 1#32
  let v6916 : BitVec 32 := Scalar.muli v13 c1_i32_7730
  let v6917 : BitVec 32 := Scalar.addi c0_i32_7731 v6916
  v6917.toNat
def k0_dev288 (d0 : Dev nD) : Nat :=
  let c0_i32_7763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7762 : BitVec 32 := 1#32
  let v6948 : BitVec 32 := Scalar.muli v25 c1_i32_7762
  let v6949 : BitVec 32 := Scalar.addi c0_i32_7763 v6948
  v6949.toNat
def k0_dev289 (d0 : Dev nD) : Nat :=
  let c0_i32_7771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7770 : BitVec 32 := 1#32
  let v6950 : BitVec 32 := Scalar.muli v13 c1_i32_7770
  let v6951 : BitVec 32 := Scalar.addi c0_i32_7771 v6950
  v6951.toNat
def k0_dev290 (d0 : Dev nD) : Nat :=
  let c0_i32_7803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7802 : BitVec 32 := 1#32
  let v6982 : BitVec 32 := Scalar.muli v25 c1_i32_7802
  let v6983 : BitVec 32 := Scalar.addi c0_i32_7803 v6982
  v6983.toNat
def k0_dev291 (d0 : Dev nD) : Nat :=
  let c0_i32_7811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7810 : BitVec 32 := 1#32
  let v6984 : BitVec 32 := Scalar.muli v13 c1_i32_7810
  let v6985 : BitVec 32 := Scalar.addi c0_i32_7811 v6984
  v6985.toNat
def k0_dev292 (d0 : Dev nD) : Nat :=
  let c0_i32_7861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7860 : BitVec 32 := 1#32
  let v7038 : BitVec 32 := Scalar.muli v25 c1_i32_7860
  let v7039 : BitVec 32 := Scalar.addi c0_i32_7861 v7038
  v7039.toNat
def k0_dev293 (d0 : Dev nD) : Nat :=
  let c0_i32_7869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7868 : BitVec 32 := 1#32
  let v7040 : BitVec 32 := Scalar.muli v13 c1_i32_7868
  let v7041 : BitVec 32 := Scalar.addi c0_i32_7869 v7040
  v7041.toNat
def k0_dev294 (d0 : Dev nD) : Nat :=
  let c0_i32_7901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7900 : BitVec 32 := 1#32
  let v7072 : BitVec 32 := Scalar.muli v25 c1_i32_7900
  let v7073 : BitVec 32 := Scalar.addi c0_i32_7901 v7072
  v7073.toNat
def k0_dev295 (d0 : Dev nD) : Nat :=
  let c0_i32_7909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7908 : BitVec 32 := 1#32
  let v7074 : BitVec 32 := Scalar.muli v13 c1_i32_7908
  let v7075 : BitVec 32 := Scalar.addi c0_i32_7909 v7074
  v7075.toNat
def k0_dev296 (d0 : Dev nD) : Nat :=
  let c0_i32_7941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7940 : BitVec 32 := 1#32
  let v7106 : BitVec 32 := Scalar.muli v25 c1_i32_7940
  let v7107 : BitVec 32 := Scalar.addi c0_i32_7941 v7106
  v7107.toNat
def k0_dev297 (d0 : Dev nD) : Nat :=
  let c0_i32_7949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7948 : BitVec 32 := 1#32
  let v7108 : BitVec 32 := Scalar.muli v13 c1_i32_7948
  let v7109 : BitVec 32 := Scalar.addi c0_i32_7949 v7108
  v7109.toNat
def k0_dev298 (d0 : Dev nD) : Nat :=
  let c0_i32_7981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7980 : BitVec 32 := 1#32
  let v7140 : BitVec 32 := Scalar.muli v25 c1_i32_7980
  let v7141 : BitVec 32 := Scalar.addi c0_i32_7981 v7140
  v7141.toNat
def k0_dev299 (d0 : Dev nD) : Nat :=
  let c0_i32_7989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7988 : BitVec 32 := 1#32
  let v7142 : BitVec 32 := Scalar.muli v13 c1_i32_7988
  let v7143 : BitVec 32 := Scalar.addi c0_i32_7989 v7142
  v7143.toNat
def k0_dev300 (d0 : Dev nD) : Nat :=
  let c0_i32_8039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8038 : BitVec 32 := 1#32
  let v7196 : BitVec 32 := Scalar.muli v25 c1_i32_8038
  let v7197 : BitVec 32 := Scalar.addi c0_i32_8039 v7196
  v7197.toNat
def k0_dev301 (d0 : Dev nD) : Nat :=
  let c0_i32_8047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8046 : BitVec 32 := 1#32
  let v7198 : BitVec 32 := Scalar.muli v13 c1_i32_8046
  let v7199 : BitVec 32 := Scalar.addi c0_i32_8047 v7198
  v7199.toNat
def k0_dev302 (d0 : Dev nD) : Nat :=
  let c0_i32_8079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8078 : BitVec 32 := 1#32
  let v7230 : BitVec 32 := Scalar.muli v25 c1_i32_8078
  let v7231 : BitVec 32 := Scalar.addi c0_i32_8079 v7230
  v7231.toNat
def k0_dev303 (d0 : Dev nD) : Nat :=
  let c0_i32_8087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8086 : BitVec 32 := 1#32
  let v7232 : BitVec 32 := Scalar.muli v13 c1_i32_8086
  let v7233 : BitVec 32 := Scalar.addi c0_i32_8087 v7232
  v7233.toNat
def k0_dev304 (d0 : Dev nD) : Nat :=
  let c0_i32_8119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8118 : BitVec 32 := 1#32
  let v7264 : BitVec 32 := Scalar.muli v25 c1_i32_8118
  let v7265 : BitVec 32 := Scalar.addi c0_i32_8119 v7264
  v7265.toNat
def k0_dev305 (d0 : Dev nD) : Nat :=
  let c0_i32_8127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8126 : BitVec 32 := 1#32
  let v7266 : BitVec 32 := Scalar.muli v13 c1_i32_8126
  let v7267 : BitVec 32 := Scalar.addi c0_i32_8127 v7266
  v7267.toNat
def k0_dev306 (d0 : Dev nD) : Nat :=
  let c0_i32_8159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8158 : BitVec 32 := 1#32
  let v7298 : BitVec 32 := Scalar.muli v25 c1_i32_8158
  let v7299 : BitVec 32 := Scalar.addi c0_i32_8159 v7298
  v7299.toNat
def k0_dev307 (d0 : Dev nD) : Nat :=
  let c0_i32_8167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8166 : BitVec 32 := 1#32
  let v7300 : BitVec 32 := Scalar.muli v13 c1_i32_8166
  let v7301 : BitVec 32 := Scalar.addi c0_i32_8167 v7300
  v7301.toNat
def k0_dev308 (d0 : Dev nD) : Nat :=
  let c0_i32_8217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8216 : BitVec 32 := 1#32
  let v7354 : BitVec 32 := Scalar.muli v25 c1_i32_8216
  let v7355 : BitVec 32 := Scalar.addi c0_i32_8217 v7354
  v7355.toNat
def k0_dev309 (d0 : Dev nD) : Nat :=
  let c0_i32_8225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8224 : BitVec 32 := 1#32
  let v7356 : BitVec 32 := Scalar.muli v13 c1_i32_8224
  let v7357 : BitVec 32 := Scalar.addi c0_i32_8225 v7356
  v7357.toNat
def k0_dev310 (d0 : Dev nD) : Nat :=
  let c0_i32_8257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8256 : BitVec 32 := 1#32
  let v7388 : BitVec 32 := Scalar.muli v25 c1_i32_8256
  let v7389 : BitVec 32 := Scalar.addi c0_i32_8257 v7388
  v7389.toNat
def k0_dev311 (d0 : Dev nD) : Nat :=
  let c0_i32_8265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8264 : BitVec 32 := 1#32
  let v7390 : BitVec 32 := Scalar.muli v13 c1_i32_8264
  let v7391 : BitVec 32 := Scalar.addi c0_i32_8265 v7390
  v7391.toNat
def k0_dev312 (d0 : Dev nD) : Nat :=
  let c0_i32_8297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8296 : BitVec 32 := 1#32
  let v7422 : BitVec 32 := Scalar.muli v25 c1_i32_8296
  let v7423 : BitVec 32 := Scalar.addi c0_i32_8297 v7422
  v7423.toNat
def k0_dev313 (d0 : Dev nD) : Nat :=
  let c0_i32_8305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8304 : BitVec 32 := 1#32
  let v7424 : BitVec 32 := Scalar.muli v13 c1_i32_8304
  let v7425 : BitVec 32 := Scalar.addi c0_i32_8305 v7424
  v7425.toNat
def k0_dev314 (d0 : Dev nD) : Nat :=
  let c0_i32_8337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8336 : BitVec 32 := 1#32
  let v7456 : BitVec 32 := Scalar.muli v25 c1_i32_8336
  let v7457 : BitVec 32 := Scalar.addi c0_i32_8337 v7456
  v7457.toNat
def k0_dev315 (d0 : Dev nD) : Nat :=
  let c0_i32_8345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8344 : BitVec 32 := 1#32
  let v7458 : BitVec 32 := Scalar.muli v13 c1_i32_8344
  let v7459 : BitVec 32 := Scalar.addi c0_i32_8345 v7458
  v7459.toNat
def k0_dev316 (d0 : Dev nD) : Nat :=
  let c0_i32_8395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8394 : BitVec 32 := 1#32
  let v7512 : BitVec 32 := Scalar.muli v25 c1_i32_8394
  let v7513 : BitVec 32 := Scalar.addi c0_i32_8395 v7512
  v7513.toNat
def k0_dev317 (d0 : Dev nD) : Nat :=
  let c0_i32_8403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8402 : BitVec 32 := 1#32
  let v7514 : BitVec 32 := Scalar.muli v13 c1_i32_8402
  let v7515 : BitVec 32 := Scalar.addi c0_i32_8403 v7514
  v7515.toNat
def k0_dev318 (d0 : Dev nD) : Nat :=
  let c0_i32_8435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8434 : BitVec 32 := 1#32
  let v7546 : BitVec 32 := Scalar.muli v25 c1_i32_8434
  let v7547 : BitVec 32 := Scalar.addi c0_i32_8435 v7546
  v7547.toNat
def k0_dev319 (d0 : Dev nD) : Nat :=
  let c0_i32_8443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8442 : BitVec 32 := 1#32
  let v7548 : BitVec 32 := Scalar.muli v13 c1_i32_8442
  let v7549 : BitVec 32 := Scalar.addi c0_i32_8443 v7548
  v7549.toNat
def k0_dev320 (d0 : Dev nD) : Nat :=
  let c0_i32_8475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8474 : BitVec 32 := 1#32
  let v7580 : BitVec 32 := Scalar.muli v25 c1_i32_8474
  let v7581 : BitVec 32 := Scalar.addi c0_i32_8475 v7580
  v7581.toNat
def k0_dev321 (d0 : Dev nD) : Nat :=
  let c0_i32_8483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8482 : BitVec 32 := 1#32
  let v7582 : BitVec 32 := Scalar.muli v13 c1_i32_8482
  let v7583 : BitVec 32 := Scalar.addi c0_i32_8483 v7582
  v7583.toNat
def k0_dev322 (d0 : Dev nD) : Nat :=
  let c0_i32_8515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8514 : BitVec 32 := 1#32
  let v7614 : BitVec 32 := Scalar.muli v25 c1_i32_8514
  let v7615 : BitVec 32 := Scalar.addi c0_i32_8515 v7614
  v7615.toNat
def k0_dev323 (d0 : Dev nD) : Nat :=
  let c0_i32_8523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8522 : BitVec 32 := 1#32
  let v7616 : BitVec 32 := Scalar.muli v13 c1_i32_8522
  let v7617 : BitVec 32 := Scalar.addi c0_i32_8523 v7616
  v7617.toNat
def k0_dev324 (d0 : Dev nD) : Nat :=
  let c0_i32_8573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8572 : BitVec 32 := 1#32
  let v7670 : BitVec 32 := Scalar.muli v25 c1_i32_8572
  let v7671 : BitVec 32 := Scalar.addi c0_i32_8573 v7670
  v7671.toNat
def k0_dev325 (d0 : Dev nD) : Nat :=
  let c0_i32_8581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8580 : BitVec 32 := 1#32
  let v7672 : BitVec 32 := Scalar.muli v13 c1_i32_8580
  let v7673 : BitVec 32 := Scalar.addi c0_i32_8581 v7672
  v7673.toNat
def k0_dev326 (d0 : Dev nD) : Nat :=
  let c0_i32_8613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8612 : BitVec 32 := 1#32
  let v7704 : BitVec 32 := Scalar.muli v25 c1_i32_8612
  let v7705 : BitVec 32 := Scalar.addi c0_i32_8613 v7704
  v7705.toNat
def k0_dev327 (d0 : Dev nD) : Nat :=
  let c0_i32_8621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8620 : BitVec 32 := 1#32
  let v7706 : BitVec 32 := Scalar.muli v13 c1_i32_8620
  let v7707 : BitVec 32 := Scalar.addi c0_i32_8621 v7706
  v7707.toNat
def k0_dev328 (d0 : Dev nD) : Nat :=
  let c0_i32_8653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8652 : BitVec 32 := 1#32
  let v7738 : BitVec 32 := Scalar.muli v25 c1_i32_8652
  let v7739 : BitVec 32 := Scalar.addi c0_i32_8653 v7738
  v7739.toNat
def k0_dev329 (d0 : Dev nD) : Nat :=
  let c0_i32_8661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8660 : BitVec 32 := 1#32
  let v7740 : BitVec 32 := Scalar.muli v13 c1_i32_8660
  let v7741 : BitVec 32 := Scalar.addi c0_i32_8661 v7740
  v7741.toNat
def k0_dev330 (d0 : Dev nD) : Nat :=
  let c0_i32_8693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8692 : BitVec 32 := 1#32
  let v7772 : BitVec 32 := Scalar.muli v25 c1_i32_8692
  let v7773 : BitVec 32 := Scalar.addi c0_i32_8693 v7772
  v7773.toNat
def k0_dev331 (d0 : Dev nD) : Nat :=
  let c0_i32_8701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8700 : BitVec 32 := 1#32
  let v7774 : BitVec 32 := Scalar.muli v13 c1_i32_8700
  let v7775 : BitVec 32 := Scalar.addi c0_i32_8701 v7774
  v7775.toNat
def k0_dev332 (d0 : Dev nD) : Nat :=
  let c0_i32_8751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8750 : BitVec 32 := 1#32
  let v7828 : BitVec 32 := Scalar.muli v25 c1_i32_8750
  let v7829 : BitVec 32 := Scalar.addi c0_i32_8751 v7828
  v7829.toNat
def k0_dev333 (d0 : Dev nD) : Nat :=
  let c0_i32_8759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8758 : BitVec 32 := 1#32
  let v7830 : BitVec 32 := Scalar.muli v13 c1_i32_8758
  let v7831 : BitVec 32 := Scalar.addi c0_i32_8759 v7830
  v7831.toNat
def k0_dev334 (d0 : Dev nD) : Nat :=
  let c0_i32_8791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8790 : BitVec 32 := 1#32
  let v7862 : BitVec 32 := Scalar.muli v25 c1_i32_8790
  let v7863 : BitVec 32 := Scalar.addi c0_i32_8791 v7862
  v7863.toNat
def k0_dev335 (d0 : Dev nD) : Nat :=
  let c0_i32_8799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8798 : BitVec 32 := 1#32
  let v7864 : BitVec 32 := Scalar.muli v13 c1_i32_8798
  let v7865 : BitVec 32 := Scalar.addi c0_i32_8799 v7864
  v7865.toNat
def k0_dev336 (d0 : Dev nD) : Nat :=
  let c0_i32_8831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8830 : BitVec 32 := 1#32
  let v7896 : BitVec 32 := Scalar.muli v25 c1_i32_8830
  let v7897 : BitVec 32 := Scalar.addi c0_i32_8831 v7896
  v7897.toNat
def k0_dev337 (d0 : Dev nD) : Nat :=
  let c0_i32_8839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8838 : BitVec 32 := 1#32
  let v7898 : BitVec 32 := Scalar.muli v13 c1_i32_8838
  let v7899 : BitVec 32 := Scalar.addi c0_i32_8839 v7898
  v7899.toNat
def k0_dev338 (d0 : Dev nD) : Nat :=
  let c0_i32_8871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8870 : BitVec 32 := 1#32
  let v7930 : BitVec 32 := Scalar.muli v25 c1_i32_8870
  let v7931 : BitVec 32 := Scalar.addi c0_i32_8871 v7930
  v7931.toNat
def k0_dev339 (d0 : Dev nD) : Nat :=
  let c0_i32_8879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8878 : BitVec 32 := 1#32
  let v7932 : BitVec 32 := Scalar.muli v13 c1_i32_8878
  let v7933 : BitVec 32 := Scalar.addi c0_i32_8879 v7932
  v7933.toNat
def k0_dev340 (d0 : Dev nD) : Nat :=
  let c0_i32_8929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8928 : BitVec 32 := 1#32
  let v7986 : BitVec 32 := Scalar.muli v25 c1_i32_8928
  let v7987 : BitVec 32 := Scalar.addi c0_i32_8929 v7986
  v7987.toNat
def k0_dev341 (d0 : Dev nD) : Nat :=
  let c0_i32_8937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8936 : BitVec 32 := 1#32
  let v7988 : BitVec 32 := Scalar.muli v13 c1_i32_8936
  let v7989 : BitVec 32 := Scalar.addi c0_i32_8937 v7988
  v7989.toNat
def k0_dev342 (d0 : Dev nD) : Nat :=
  let c0_i32_8969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8968 : BitVec 32 := 1#32
  let v8020 : BitVec 32 := Scalar.muli v25 c1_i32_8968
  let v8021 : BitVec 32 := Scalar.addi c0_i32_8969 v8020
  v8021.toNat
def k0_dev343 (d0 : Dev nD) : Nat :=
  let c0_i32_8977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8976 : BitVec 32 := 1#32
  let v8022 : BitVec 32 := Scalar.muli v13 c1_i32_8976
  let v8023 : BitVec 32 := Scalar.addi c0_i32_8977 v8022
  v8023.toNat
def k0_dev344 (d0 : Dev nD) : Nat :=
  let c0_i32_9009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9008 : BitVec 32 := 1#32
  let v8054 : BitVec 32 := Scalar.muli v25 c1_i32_9008
  let v8055 : BitVec 32 := Scalar.addi c0_i32_9009 v8054
  v8055.toNat
def k0_dev345 (d0 : Dev nD) : Nat :=
  let c0_i32_9017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9016 : BitVec 32 := 1#32
  let v8056 : BitVec 32 := Scalar.muli v13 c1_i32_9016
  let v8057 : BitVec 32 := Scalar.addi c0_i32_9017 v8056
  v8057.toNat
def k0_dev346 (d0 : Dev nD) : Nat :=
  let c0_i32_9049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9048 : BitVec 32 := 1#32
  let v8088 : BitVec 32 := Scalar.muli v25 c1_i32_9048
  let v8089 : BitVec 32 := Scalar.addi c0_i32_9049 v8088
  v8089.toNat
def k0_dev347 (d0 : Dev nD) : Nat :=
  let c0_i32_9057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9056 : BitVec 32 := 1#32
  let v8090 : BitVec 32 := Scalar.muli v13 c1_i32_9056
  let v8091 : BitVec 32 := Scalar.addi c0_i32_9057 v8090
  v8091.toNat
def k0_dev348 (d0 : Dev nD) : Nat :=
  let c0_i32_9107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9106 : BitVec 32 := 1#32
  let v8144 : BitVec 32 := Scalar.muli v25 c1_i32_9106
  let v8145 : BitVec 32 := Scalar.addi c0_i32_9107 v8144
  v8145.toNat
def k0_dev349 (d0 : Dev nD) : Nat :=
  let c0_i32_9115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9114 : BitVec 32 := 1#32
  let v8146 : BitVec 32 := Scalar.muli v13 c1_i32_9114
  let v8147 : BitVec 32 := Scalar.addi c0_i32_9115 v8146
  v8147.toNat
def k0_dev350 (d0 : Dev nD) : Nat :=
  let c0_i32_9147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9146 : BitVec 32 := 1#32
  let v8178 : BitVec 32 := Scalar.muli v25 c1_i32_9146
  let v8179 : BitVec 32 := Scalar.addi c0_i32_9147 v8178
  v8179.toNat
def k0_dev351 (d0 : Dev nD) : Nat :=
  let c0_i32_9155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9154 : BitVec 32 := 1#32
  let v8180 : BitVec 32 := Scalar.muli v13 c1_i32_9154
  let v8181 : BitVec 32 := Scalar.addi c0_i32_9155 v8180
  v8181.toNat
def k0_dev352 (d0 : Dev nD) : Nat :=
  let c0_i32_9187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9186 : BitVec 32 := 1#32
  let v8212 : BitVec 32 := Scalar.muli v25 c1_i32_9186
  let v8213 : BitVec 32 := Scalar.addi c0_i32_9187 v8212
  v8213.toNat
def k0_dev353 (d0 : Dev nD) : Nat :=
  let c0_i32_9195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9194 : BitVec 32 := 1#32
  let v8214 : BitVec 32 := Scalar.muli v13 c1_i32_9194
  let v8215 : BitVec 32 := Scalar.addi c0_i32_9195 v8214
  v8215.toNat
def k0_dev354 (d0 : Dev nD) : Nat :=
  let c0_i32_9227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9226 : BitVec 32 := 1#32
  let v8246 : BitVec 32 := Scalar.muli v25 c1_i32_9226
  let v8247 : BitVec 32 := Scalar.addi c0_i32_9227 v8246
  v8247.toNat
def k0_dev355 (d0 : Dev nD) : Nat :=
  let c0_i32_9235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9234 : BitVec 32 := 1#32
  let v8248 : BitVec 32 := Scalar.muli v13 c1_i32_9234
  let v8249 : BitVec 32 := Scalar.addi c0_i32_9235 v8248
  v8249.toNat
def k0_dev356 (d0 : Dev nD) : Nat :=
  let c0_i32_9285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9284 : BitVec 32 := 1#32
  let v8302 : BitVec 32 := Scalar.muli v25 c1_i32_9284
  let v8303 : BitVec 32 := Scalar.addi c0_i32_9285 v8302
  v8303.toNat
def k0_dev357 (d0 : Dev nD) : Nat :=
  let c0_i32_9293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9292 : BitVec 32 := 1#32
  let v8304 : BitVec 32 := Scalar.muli v13 c1_i32_9292
  let v8305 : BitVec 32 := Scalar.addi c0_i32_9293 v8304
  v8305.toNat
def k0_dev358 (d0 : Dev nD) : Nat :=
  let c0_i32_9325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9324 : BitVec 32 := 1#32
  let v8336 : BitVec 32 := Scalar.muli v25 c1_i32_9324
  let v8337 : BitVec 32 := Scalar.addi c0_i32_9325 v8336
  v8337.toNat
def k0_dev359 (d0 : Dev nD) : Nat :=
  let c0_i32_9333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9332 : BitVec 32 := 1#32
  let v8338 : BitVec 32 := Scalar.muli v13 c1_i32_9332
  let v8339 : BitVec 32 := Scalar.addi c0_i32_9333 v8338
  v8339.toNat
def k0_dev360 (d0 : Dev nD) : Nat :=
  let c0_i32_9365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9364 : BitVec 32 := 1#32
  let v8370 : BitVec 32 := Scalar.muli v25 c1_i32_9364
  let v8371 : BitVec 32 := Scalar.addi c0_i32_9365 v8370
  v8371.toNat
def k0_dev361 (d0 : Dev nD) : Nat :=
  let c0_i32_9373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9372 : BitVec 32 := 1#32
  let v8372 : BitVec 32 := Scalar.muli v13 c1_i32_9372
  let v8373 : BitVec 32 := Scalar.addi c0_i32_9373 v8372
  v8373.toNat
def k0_dev362 (d0 : Dev nD) : Nat :=
  let c0_i32_9405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9404 : BitVec 32 := 1#32
  let v8404 : BitVec 32 := Scalar.muli v25 c1_i32_9404
  let v8405 : BitVec 32 := Scalar.addi c0_i32_9405 v8404
  v8405.toNat
def k0_dev363 (d0 : Dev nD) : Nat :=
  let c0_i32_9413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9412 : BitVec 32 := 1#32
  let v8406 : BitVec 32 := Scalar.muli v13 c1_i32_9412
  let v8407 : BitVec 32 := Scalar.addi c0_i32_9413 v8406
  v8407.toNat
def k0_dev364 (d0 : Dev nD) : Nat :=
  let c0_i32_9463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9462 : BitVec 32 := 1#32
  let v8460 : BitVec 32 := Scalar.muli v25 c1_i32_9462
  let v8461 : BitVec 32 := Scalar.addi c0_i32_9463 v8460
  v8461.toNat
def k0_dev365 (d0 : Dev nD) : Nat :=
  let c0_i32_9471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9470 : BitVec 32 := 1#32
  let v8462 : BitVec 32 := Scalar.muli v13 c1_i32_9470
  let v8463 : BitVec 32 := Scalar.addi c0_i32_9471 v8462
  v8463.toNat
def k0_dev366 (d0 : Dev nD) : Nat :=
  let c0_i32_9503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9502 : BitVec 32 := 1#32
  let v8494 : BitVec 32 := Scalar.muli v25 c1_i32_9502
  let v8495 : BitVec 32 := Scalar.addi c0_i32_9503 v8494
  v8495.toNat
def k0_dev367 (d0 : Dev nD) : Nat :=
  let c0_i32_9511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9510 : BitVec 32 := 1#32
  let v8496 : BitVec 32 := Scalar.muli v13 c1_i32_9510
  let v8497 : BitVec 32 := Scalar.addi c0_i32_9511 v8496
  v8497.toNat
def k0_dev368 (d0 : Dev nD) : Nat :=
  let c0_i32_9543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9542 : BitVec 32 := 1#32
  let v8528 : BitVec 32 := Scalar.muli v25 c1_i32_9542
  let v8529 : BitVec 32 := Scalar.addi c0_i32_9543 v8528
  v8529.toNat
def k0_dev369 (d0 : Dev nD) : Nat :=
  let c0_i32_9551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9550 : BitVec 32 := 1#32
  let v8530 : BitVec 32 := Scalar.muli v13 c1_i32_9550
  let v8531 : BitVec 32 := Scalar.addi c0_i32_9551 v8530
  v8531.toNat
def k0_dev370 (d0 : Dev nD) : Nat :=
  let c0_i32_9583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9582 : BitVec 32 := 1#32
  let v8562 : BitVec 32 := Scalar.muli v25 c1_i32_9582
  let v8563 : BitVec 32 := Scalar.addi c0_i32_9583 v8562
  v8563.toNat
def k0_dev371 (d0 : Dev nD) : Nat :=
  let c0_i32_9591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9590 : BitVec 32 := 1#32
  let v8564 : BitVec 32 := Scalar.muli v13 c1_i32_9590
  let v8565 : BitVec 32 := Scalar.addi c0_i32_9591 v8564
  v8565.toNat
def k0_dev372 (d0 : Dev nD) : Nat :=
  let c0_i32_9641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9640 : BitVec 32 := 1#32
  let v8618 : BitVec 32 := Scalar.muli v25 c1_i32_9640
  let v8619 : BitVec 32 := Scalar.addi c0_i32_9641 v8618
  v8619.toNat
def k0_dev373 (d0 : Dev nD) : Nat :=
  let c0_i32_9649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9648 : BitVec 32 := 1#32
  let v8620 : BitVec 32 := Scalar.muli v13 c1_i32_9648
  let v8621 : BitVec 32 := Scalar.addi c0_i32_9649 v8620
  v8621.toNat
def k0_dev374 (d0 : Dev nD) : Nat :=
  let c0_i32_9681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9680 : BitVec 32 := 1#32
  let v8652 : BitVec 32 := Scalar.muli v25 c1_i32_9680
  let v8653 : BitVec 32 := Scalar.addi c0_i32_9681 v8652
  v8653.toNat
def k0_dev375 (d0 : Dev nD) : Nat :=
  let c0_i32_9689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9688 : BitVec 32 := 1#32
  let v8654 : BitVec 32 := Scalar.muli v13 c1_i32_9688
  let v8655 : BitVec 32 := Scalar.addi c0_i32_9689 v8654
  v8655.toNat
def k0_dev376 (d0 : Dev nD) : Nat :=
  let c0_i32_9721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9720 : BitVec 32 := 1#32
  let v8686 : BitVec 32 := Scalar.muli v25 c1_i32_9720
  let v8687 : BitVec 32 := Scalar.addi c0_i32_9721 v8686
  v8687.toNat
def k0_dev377 (d0 : Dev nD) : Nat :=
  let c0_i32_9729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9728 : BitVec 32 := 1#32
  let v8688 : BitVec 32 := Scalar.muli v13 c1_i32_9728
  let v8689 : BitVec 32 := Scalar.addi c0_i32_9729 v8688
  v8689.toNat
def k0_dev378 (d0 : Dev nD) : Nat :=
  let c0_i32_9761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9760 : BitVec 32 := 1#32
  let v8720 : BitVec 32 := Scalar.muli v25 c1_i32_9760
  let v8721 : BitVec 32 := Scalar.addi c0_i32_9761 v8720
  v8721.toNat
def k0_dev379 (d0 : Dev nD) : Nat :=
  let c0_i32_9769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9768 : BitVec 32 := 1#32
  let v8722 : BitVec 32 := Scalar.muli v13 c1_i32_9768
  let v8723 : BitVec 32 := Scalar.addi c0_i32_9769 v8722
  v8723.toNat
def k0_dev380 (d0 : Dev nD) : Nat :=
  let c0_i32_9819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9818 : BitVec 32 := 1#32
  let v8776 : BitVec 32 := Scalar.muli v25 c1_i32_9818
  let v8777 : BitVec 32 := Scalar.addi c0_i32_9819 v8776
  v8777.toNat
def k0_dev381 (d0 : Dev nD) : Nat :=
  let c0_i32_9827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9826 : BitVec 32 := 1#32
  let v8778 : BitVec 32 := Scalar.muli v13 c1_i32_9826
  let v8779 : BitVec 32 := Scalar.addi c0_i32_9827 v8778
  v8779.toNat
def k0_dev382 (d0 : Dev nD) : Nat :=
  let c0_i32_9859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9858 : BitVec 32 := 1#32
  let v8810 : BitVec 32 := Scalar.muli v25 c1_i32_9858
  let v8811 : BitVec 32 := Scalar.addi c0_i32_9859 v8810
  v8811.toNat
def k0_dev383 (d0 : Dev nD) : Nat :=
  let c0_i32_9867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9866 : BitVec 32 := 1#32
  let v8812 : BitVec 32 := Scalar.muli v13 c1_i32_9866
  let v8813 : BitVec 32 := Scalar.addi c0_i32_9867 v8812
  v8813.toNat
def k0_dev384 (d0 : Dev nD) : Nat :=
  let c0_i32_9899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9898 : BitVec 32 := 1#32
  let v8844 : BitVec 32 := Scalar.muli v25 c1_i32_9898
  let v8845 : BitVec 32 := Scalar.addi c0_i32_9899 v8844
  v8845.toNat
def k0_dev385 (d0 : Dev nD) : Nat :=
  let c0_i32_9907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9906 : BitVec 32 := 1#32
  let v8846 : BitVec 32 := Scalar.muli v13 c1_i32_9906
  let v8847 : BitVec 32 := Scalar.addi c0_i32_9907 v8846
  v8847.toNat
def k0_dev386 (d0 : Dev nD) : Nat :=
  let c0_i32_9939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9938 : BitVec 32 := 1#32
  let v8878 : BitVec 32 := Scalar.muli v25 c1_i32_9938
  let v8879 : BitVec 32 := Scalar.addi c0_i32_9939 v8878
  v8879.toNat
def k0_dev387 (d0 : Dev nD) : Nat :=
  let c0_i32_9947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9946 : BitVec 32 := 1#32
  let v8880 : BitVec 32 := Scalar.muli v13 c1_i32_9946
  let v8881 : BitVec 32 := Scalar.addi c0_i32_9947 v8880
  v8881.toNat
def k0_dev388 (d0 : Dev nD) : Nat :=
  let c0_i32_9997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9996 : BitVec 32 := 1#32
  let v8934 : BitVec 32 := Scalar.muli v25 c1_i32_9996
  let v8935 : BitVec 32 := Scalar.addi c0_i32_9997 v8934
  v8935.toNat
def k0_dev389 (d0 : Dev nD) : Nat :=
  let c0_i32_10005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10004 : BitVec 32 := 1#32
  let v8936 : BitVec 32 := Scalar.muli v13 c1_i32_10004
  let v8937 : BitVec 32 := Scalar.addi c0_i32_10005 v8936
  v8937.toNat
def k0_dev390 (d0 : Dev nD) : Nat :=
  let c0_i32_10037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10036 : BitVec 32 := 1#32
  let v8968 : BitVec 32 := Scalar.muli v25 c1_i32_10036
  let v8969 : BitVec 32 := Scalar.addi c0_i32_10037 v8968
  v8969.toNat
def k0_dev391 (d0 : Dev nD) : Nat :=
  let c0_i32_10045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10044 : BitVec 32 := 1#32
  let v8970 : BitVec 32 := Scalar.muli v13 c1_i32_10044
  let v8971 : BitVec 32 := Scalar.addi c0_i32_10045 v8970
  v8971.toNat
def k0_dev392 (d0 : Dev nD) : Nat :=
  let c0_i32_10077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10076 : BitVec 32 := 1#32
  let v9002 : BitVec 32 := Scalar.muli v25 c1_i32_10076
  let v9003 : BitVec 32 := Scalar.addi c0_i32_10077 v9002
  v9003.toNat
def k0_dev393 (d0 : Dev nD) : Nat :=
  let c0_i32_10085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10084 : BitVec 32 := 1#32
  let v9004 : BitVec 32 := Scalar.muli v13 c1_i32_10084
  let v9005 : BitVec 32 := Scalar.addi c0_i32_10085 v9004
  v9005.toNat
def k0_dev394 (d0 : Dev nD) : Nat :=
  let c0_i32_10117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10116 : BitVec 32 := 1#32
  let v9036 : BitVec 32 := Scalar.muli v25 c1_i32_10116
  let v9037 : BitVec 32 := Scalar.addi c0_i32_10117 v9036
  v9037.toNat
def k0_dev395 (d0 : Dev nD) : Nat :=
  let c0_i32_10125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10124 : BitVec 32 := 1#32
  let v9038 : BitVec 32 := Scalar.muli v13 c1_i32_10124
  let v9039 : BitVec 32 := Scalar.addi c0_i32_10125 v9038
  v9039.toNat
def k0_dev396 (d0 : Dev nD) : Nat :=
  let c0_i32_10175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10174 : BitVec 32 := 1#32
  let v9092 : BitVec 32 := Scalar.muli v25 c1_i32_10174
  let v9093 : BitVec 32 := Scalar.addi c0_i32_10175 v9092
  v9093.toNat
def k0_dev397 (d0 : Dev nD) : Nat :=
  let c0_i32_10183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10182 : BitVec 32 := 1#32
  let v9094 : BitVec 32 := Scalar.muli v13 c1_i32_10182
  let v9095 : BitVec 32 := Scalar.addi c0_i32_10183 v9094
  v9095.toNat
def k0_dev398 (d0 : Dev nD) : Nat :=
  let c0_i32_10215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10214 : BitVec 32 := 1#32
  let v9126 : BitVec 32 := Scalar.muli v25 c1_i32_10214
  let v9127 : BitVec 32 := Scalar.addi c0_i32_10215 v9126
  v9127.toNat
def k0_dev399 (d0 : Dev nD) : Nat :=
  let c0_i32_10223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10222 : BitVec 32 := 1#32
  let v9128 : BitVec 32 := Scalar.muli v13 c1_i32_10222
  let v9129 : BitVec 32 := Scalar.addi c0_i32_10223 v9128
  v9129.toNat
def k0_dev400 (d0 : Dev nD) : Nat :=
  let c0_i32_10255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10254 : BitVec 32 := 1#32
  let v9160 : BitVec 32 := Scalar.muli v25 c1_i32_10254
  let v9161 : BitVec 32 := Scalar.addi c0_i32_10255 v9160
  v9161.toNat
def k0_dev401 (d0 : Dev nD) : Nat :=
  let c0_i32_10263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10262 : BitVec 32 := 1#32
  let v9162 : BitVec 32 := Scalar.muli v13 c1_i32_10262
  let v9163 : BitVec 32 := Scalar.addi c0_i32_10263 v9162
  v9163.toNat
def k0_dev402 (d0 : Dev nD) : Nat :=
  let c0_i32_10295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10294 : BitVec 32 := 1#32
  let v9194 : BitVec 32 := Scalar.muli v25 c1_i32_10294
  let v9195 : BitVec 32 := Scalar.addi c0_i32_10295 v9194
  v9195.toNat
def k0_dev403 (d0 : Dev nD) : Nat :=
  let c0_i32_10303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10302 : BitVec 32 := 1#32
  let v9196 : BitVec 32 := Scalar.muli v13 c1_i32_10302
  let v9197 : BitVec 32 := Scalar.addi c0_i32_10303 v9196
  v9197.toNat
def k0_dev404 (d0 : Dev nD) : Nat :=
  let c0_i32_10353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10352 : BitVec 32 := 1#32
  let v9250 : BitVec 32 := Scalar.muli v25 c1_i32_10352
  let v9251 : BitVec 32 := Scalar.addi c0_i32_10353 v9250
  v9251.toNat
def k0_dev405 (d0 : Dev nD) : Nat :=
  let c0_i32_10361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10360 : BitVec 32 := 1#32
  let v9252 : BitVec 32 := Scalar.muli v13 c1_i32_10360
  let v9253 : BitVec 32 := Scalar.addi c0_i32_10361 v9252
  v9253.toNat
def k0_dev406 (d0 : Dev nD) : Nat :=
  let c0_i32_10393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10392 : BitVec 32 := 1#32
  let v9284 : BitVec 32 := Scalar.muli v25 c1_i32_10392
  let v9285 : BitVec 32 := Scalar.addi c0_i32_10393 v9284
  v9285.toNat
def k0_dev407 (d0 : Dev nD) : Nat :=
  let c0_i32_10401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10400 : BitVec 32 := 1#32
  let v9286 : BitVec 32 := Scalar.muli v13 c1_i32_10400
  let v9287 : BitVec 32 := Scalar.addi c0_i32_10401 v9286
  v9287.toNat
def k0_dev408 (d0 : Dev nD) : Nat :=
  let c0_i32_10433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10432 : BitVec 32 := 1#32
  let v9318 : BitVec 32 := Scalar.muli v25 c1_i32_10432
  let v9319 : BitVec 32 := Scalar.addi c0_i32_10433 v9318
  v9319.toNat
def k0_dev409 (d0 : Dev nD) : Nat :=
  let c0_i32_10441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10440 : BitVec 32 := 1#32
  let v9320 : BitVec 32 := Scalar.muli v13 c1_i32_10440
  let v9321 : BitVec 32 := Scalar.addi c0_i32_10441 v9320
  v9321.toNat
def k0_dev410 (d0 : Dev nD) : Nat :=
  let c0_i32_10473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10472 : BitVec 32 := 1#32
  let v9352 : BitVec 32 := Scalar.muli v25 c1_i32_10472
  let v9353 : BitVec 32 := Scalar.addi c0_i32_10473 v9352
  v9353.toNat
def k0_dev411 (d0 : Dev nD) : Nat :=
  let c0_i32_10481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10480 : BitVec 32 := 1#32
  let v9354 : BitVec 32 := Scalar.muli v13 c1_i32_10480
  let v9355 : BitVec 32 := Scalar.addi c0_i32_10481 v9354
  v9355.toNat
def k0_dev412 (d0 : Dev nD) : Nat :=
  let c0_i32_10531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10530 : BitVec 32 := 1#32
  let v9408 : BitVec 32 := Scalar.muli v25 c1_i32_10530
  let v9409 : BitVec 32 := Scalar.addi c0_i32_10531 v9408
  v9409.toNat
def k0_dev413 (d0 : Dev nD) : Nat :=
  let c0_i32_10539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10538 : BitVec 32 := 1#32
  let v9410 : BitVec 32 := Scalar.muli v13 c1_i32_10538
  let v9411 : BitVec 32 := Scalar.addi c0_i32_10539 v9410
  v9411.toNat
def k0_dev414 (d0 : Dev nD) : Nat :=
  let c0_i32_10571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10570 : BitVec 32 := 1#32
  let v9442 : BitVec 32 := Scalar.muli v25 c1_i32_10570
  let v9443 : BitVec 32 := Scalar.addi c0_i32_10571 v9442
  v9443.toNat
def k0_dev415 (d0 : Dev nD) : Nat :=
  let c0_i32_10579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10578 : BitVec 32 := 1#32
  let v9444 : BitVec 32 := Scalar.muli v13 c1_i32_10578
  let v9445 : BitVec 32 := Scalar.addi c0_i32_10579 v9444
  v9445.toNat
def k0_dev416 (d0 : Dev nD) : Nat :=
  let c0_i32_10611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10610 : BitVec 32 := 1#32
  let v9476 : BitVec 32 := Scalar.muli v25 c1_i32_10610
  let v9477 : BitVec 32 := Scalar.addi c0_i32_10611 v9476
  v9477.toNat
def k0_dev417 (d0 : Dev nD) : Nat :=
  let c0_i32_10619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10618 : BitVec 32 := 1#32
  let v9478 : BitVec 32 := Scalar.muli v13 c1_i32_10618
  let v9479 : BitVec 32 := Scalar.addi c0_i32_10619 v9478
  v9479.toNat
def k0_dev418 (d0 : Dev nD) : Nat :=
  let c0_i32_10651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10650 : BitVec 32 := 1#32
  let v9510 : BitVec 32 := Scalar.muli v25 c1_i32_10650
  let v9511 : BitVec 32 := Scalar.addi c0_i32_10651 v9510
  v9511.toNat
def k0_dev419 (d0 : Dev nD) : Nat :=
  let c0_i32_10659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10658 : BitVec 32 := 1#32
  let v9512 : BitVec 32 := Scalar.muli v13 c1_i32_10658
  let v9513 : BitVec 32 := Scalar.addi c0_i32_10659 v9512
  v9513.toNat
def k0_dev420 (d0 : Dev nD) : Nat :=
  let c0_i32_10709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10708 : BitVec 32 := 1#32
  let v9566 : BitVec 32 := Scalar.muli v25 c1_i32_10708
  let v9567 : BitVec 32 := Scalar.addi c0_i32_10709 v9566
  v9567.toNat
def k0_dev421 (d0 : Dev nD) : Nat :=
  let c0_i32_10717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10716 : BitVec 32 := 1#32
  let v9568 : BitVec 32 := Scalar.muli v13 c1_i32_10716
  let v9569 : BitVec 32 := Scalar.addi c0_i32_10717 v9568
  v9569.toNat
def k0_dev422 (d0 : Dev nD) : Nat :=
  let c0_i32_10749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10748 : BitVec 32 := 1#32
  let v9600 : BitVec 32 := Scalar.muli v25 c1_i32_10748
  let v9601 : BitVec 32 := Scalar.addi c0_i32_10749 v9600
  v9601.toNat
def k0_dev423 (d0 : Dev nD) : Nat :=
  let c0_i32_10757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10756 : BitVec 32 := 1#32
  let v9602 : BitVec 32 := Scalar.muli v13 c1_i32_10756
  let v9603 : BitVec 32 := Scalar.addi c0_i32_10757 v9602
  v9603.toNat
def k0_dev424 (d0 : Dev nD) : Nat :=
  let c0_i32_10789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10788 : BitVec 32 := 1#32
  let v9634 : BitVec 32 := Scalar.muli v25 c1_i32_10788
  let v9635 : BitVec 32 := Scalar.addi c0_i32_10789 v9634
  v9635.toNat
def k0_dev425 (d0 : Dev nD) : Nat :=
  let c0_i32_10797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10796 : BitVec 32 := 1#32
  let v9636 : BitVec 32 := Scalar.muli v13 c1_i32_10796
  let v9637 : BitVec 32 := Scalar.addi c0_i32_10797 v9636
  v9637.toNat
def k0_dev426 (d0 : Dev nD) : Nat :=
  let c0_i32_10829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10828 : BitVec 32 := 1#32
  let v9668 : BitVec 32 := Scalar.muli v25 c1_i32_10828
  let v9669 : BitVec 32 := Scalar.addi c0_i32_10829 v9668
  v9669.toNat
def k0_dev427 (d0 : Dev nD) : Nat :=
  let c0_i32_10837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10836 : BitVec 32 := 1#32
  let v9670 : BitVec 32 := Scalar.muli v13 c1_i32_10836
  let v9671 : BitVec 32 := Scalar.addi c0_i32_10837 v9670
  v9671.toNat
def k0_dev428 (d0 : Dev nD) : Nat :=
  let c0_i32_10887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10886 : BitVec 32 := 1#32
  let v9724 : BitVec 32 := Scalar.muli v25 c1_i32_10886
  let v9725 : BitVec 32 := Scalar.addi c0_i32_10887 v9724
  v9725.toNat
def k0_dev429 (d0 : Dev nD) : Nat :=
  let c0_i32_10895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10894 : BitVec 32 := 1#32
  let v9726 : BitVec 32 := Scalar.muli v13 c1_i32_10894
  let v9727 : BitVec 32 := Scalar.addi c0_i32_10895 v9726
  v9727.toNat
def k0_dev430 (d0 : Dev nD) : Nat :=
  let c0_i32_10927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10926 : BitVec 32 := 1#32
  let v9758 : BitVec 32 := Scalar.muli v25 c1_i32_10926
  let v9759 : BitVec 32 := Scalar.addi c0_i32_10927 v9758
  v9759.toNat
def k0_dev431 (d0 : Dev nD) : Nat :=
  let c0_i32_10935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10934 : BitVec 32 := 1#32
  let v9760 : BitVec 32 := Scalar.muli v13 c1_i32_10934
  let v9761 : BitVec 32 := Scalar.addi c0_i32_10935 v9760
  v9761.toNat
def k0_dev432 (d0 : Dev nD) : Nat :=
  let c0_i32_10967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_10966 : BitVec 32 := 1#32
  let v9792 : BitVec 32 := Scalar.muli v25 c1_i32_10966
  let v9793 : BitVec 32 := Scalar.addi c0_i32_10967 v9792
  v9793.toNat
def k0_dev433 (d0 : Dev nD) : Nat :=
  let c0_i32_10975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10974 : BitVec 32 := 1#32
  let v9794 : BitVec 32 := Scalar.muli v13 c1_i32_10974
  let v9795 : BitVec 32 := Scalar.addi c0_i32_10975 v9794
  v9795.toNat
def k0_dev434 (d0 : Dev nD) : Nat :=
  let c0_i32_11007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11006 : BitVec 32 := 1#32
  let v9826 : BitVec 32 := Scalar.muli v25 c1_i32_11006
  let v9827 : BitVec 32 := Scalar.addi c0_i32_11007 v9826
  v9827.toNat
def k0_dev435 (d0 : Dev nD) : Nat :=
  let c0_i32_11015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11014 : BitVec 32 := 1#32
  let v9828 : BitVec 32 := Scalar.muli v13 c1_i32_11014
  let v9829 : BitVec 32 := Scalar.addi c0_i32_11015 v9828
  v9829.toNat
def k0_dev436 (d0 : Dev nD) : Nat :=
  let c0_i32_11065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11064 : BitVec 32 := 1#32
  let v9882 : BitVec 32 := Scalar.muli v25 c1_i32_11064
  let v9883 : BitVec 32 := Scalar.addi c0_i32_11065 v9882
  v9883.toNat
def k0_dev437 (d0 : Dev nD) : Nat :=
  let c0_i32_11073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11072 : BitVec 32 := 1#32
  let v9884 : BitVec 32 := Scalar.muli v13 c1_i32_11072
  let v9885 : BitVec 32 := Scalar.addi c0_i32_11073 v9884
  v9885.toNat
def k0_dev438 (d0 : Dev nD) : Nat :=
  let c0_i32_11105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11104 : BitVec 32 := 1#32
  let v9916 : BitVec 32 := Scalar.muli v25 c1_i32_11104
  let v9917 : BitVec 32 := Scalar.addi c0_i32_11105 v9916
  v9917.toNat
def k0_dev439 (d0 : Dev nD) : Nat :=
  let c0_i32_11113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11112 : BitVec 32 := 1#32
  let v9918 : BitVec 32 := Scalar.muli v13 c1_i32_11112
  let v9919 : BitVec 32 := Scalar.addi c0_i32_11113 v9918
  v9919.toNat
def k0_dev440 (d0 : Dev nD) : Nat :=
  let c0_i32_11145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11144 : BitVec 32 := 1#32
  let v9950 : BitVec 32 := Scalar.muli v25 c1_i32_11144
  let v9951 : BitVec 32 := Scalar.addi c0_i32_11145 v9950
  v9951.toNat
def k0_dev441 (d0 : Dev nD) : Nat :=
  let c0_i32_11153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11152 : BitVec 32 := 1#32
  let v9952 : BitVec 32 := Scalar.muli v13 c1_i32_11152
  let v9953 : BitVec 32 := Scalar.addi c0_i32_11153 v9952
  v9953.toNat
def k0_dev442 (d0 : Dev nD) : Nat :=
  let c0_i32_11185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11184 : BitVec 32 := 1#32
  let v9984 : BitVec 32 := Scalar.muli v25 c1_i32_11184
  let v9985 : BitVec 32 := Scalar.addi c0_i32_11185 v9984
  v9985.toNat
def k0_dev443 (d0 : Dev nD) : Nat :=
  let c0_i32_11193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11192 : BitVec 32 := 1#32
  let v9986 : BitVec 32 := Scalar.muli v13 c1_i32_11192
  let v9987 : BitVec 32 := Scalar.addi c0_i32_11193 v9986
  v9987.toNat
def k0_dev444 (d0 : Dev nD) : Nat :=
  let c0_i32_11243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11242 : BitVec 32 := 1#32
  let v10040 : BitVec 32 := Scalar.muli v25 c1_i32_11242
  let v10041 : BitVec 32 := Scalar.addi c0_i32_11243 v10040
  v10041.toNat
def k0_dev445 (d0 : Dev nD) : Nat :=
  let c0_i32_11251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11250 : BitVec 32 := 1#32
  let v10042 : BitVec 32 := Scalar.muli v13 c1_i32_11250
  let v10043 : BitVec 32 := Scalar.addi c0_i32_11251 v10042
  v10043.toNat
def k0_dev446 (d0 : Dev nD) : Nat :=
  let c0_i32_11283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11282 : BitVec 32 := 1#32
  let v10074 : BitVec 32 := Scalar.muli v25 c1_i32_11282
  let v10075 : BitVec 32 := Scalar.addi c0_i32_11283 v10074
  v10075.toNat
def k0_dev447 (d0 : Dev nD) : Nat :=
  let c0_i32_11291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11290 : BitVec 32 := 1#32
  let v10076 : BitVec 32 := Scalar.muli v13 c1_i32_11290
  let v10077 : BitVec 32 := Scalar.addi c0_i32_11291 v10076
  v10077.toNat
def k0_dev448 (d0 : Dev nD) : Nat :=
  let c0_i32_11323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11322 : BitVec 32 := 1#32
  let v10108 : BitVec 32 := Scalar.muli v25 c1_i32_11322
  let v10109 : BitVec 32 := Scalar.addi c0_i32_11323 v10108
  v10109.toNat
def k0_dev449 (d0 : Dev nD) : Nat :=
  let c0_i32_11331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11330 : BitVec 32 := 1#32
  let v10110 : BitVec 32 := Scalar.muli v13 c1_i32_11330
  let v10111 : BitVec 32 := Scalar.addi c0_i32_11331 v10110
  v10111.toNat
def k0_dev450 (d0 : Dev nD) : Nat :=
  let c0_i32_11363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11362 : BitVec 32 := 1#32
  let v10142 : BitVec 32 := Scalar.muli v25 c1_i32_11362
  let v10143 : BitVec 32 := Scalar.addi c0_i32_11363 v10142
  v10143.toNat
def k0_dev451 (d0 : Dev nD) : Nat :=
  let c0_i32_11371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11370 : BitVec 32 := 1#32
  let v10144 : BitVec 32 := Scalar.muli v13 c1_i32_11370
  let v10145 : BitVec 32 := Scalar.addi c0_i32_11371 v10144
  v10145.toNat
def k0_dev452 (d0 : Dev nD) : Nat :=
  let c0_i32_11421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11420 : BitVec 32 := 1#32
  let v10198 : BitVec 32 := Scalar.muli v25 c1_i32_11420
  let v10199 : BitVec 32 := Scalar.addi c0_i32_11421 v10198
  v10199.toNat
def k0_dev453 (d0 : Dev nD) : Nat :=
  let c0_i32_11429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11428 : BitVec 32 := 1#32
  let v10200 : BitVec 32 := Scalar.muli v13 c1_i32_11428
  let v10201 : BitVec 32 := Scalar.addi c0_i32_11429 v10200
  v10201.toNat
def k0_dev454 (d0 : Dev nD) : Nat :=
  let c0_i32_11461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11460 : BitVec 32 := 1#32
  let v10232 : BitVec 32 := Scalar.muli v25 c1_i32_11460
  let v10233 : BitVec 32 := Scalar.addi c0_i32_11461 v10232
  v10233.toNat
def k0_dev455 (d0 : Dev nD) : Nat :=
  let c0_i32_11469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11468 : BitVec 32 := 1#32
  let v10234 : BitVec 32 := Scalar.muli v13 c1_i32_11468
  let v10235 : BitVec 32 := Scalar.addi c0_i32_11469 v10234
  v10235.toNat
def k0_dev456 (d0 : Dev nD) : Nat :=
  let c0_i32_11501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11500 : BitVec 32 := 1#32
  let v10266 : BitVec 32 := Scalar.muli v25 c1_i32_11500
  let v10267 : BitVec 32 := Scalar.addi c0_i32_11501 v10266
  v10267.toNat
def k0_dev457 (d0 : Dev nD) : Nat :=
  let c0_i32_11509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11508 : BitVec 32 := 1#32
  let v10268 : BitVec 32 := Scalar.muli v13 c1_i32_11508
  let v10269 : BitVec 32 := Scalar.addi c0_i32_11509 v10268
  v10269.toNat
def k0_dev458 (d0 : Dev nD) : Nat :=
  let c0_i32_11541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11540 : BitVec 32 := 1#32
  let v10300 : BitVec 32 := Scalar.muli v25 c1_i32_11540
  let v10301 : BitVec 32 := Scalar.addi c0_i32_11541 v10300
  v10301.toNat
def k0_dev459 (d0 : Dev nD) : Nat :=
  let c0_i32_11549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11548 : BitVec 32 := 1#32
  let v10302 : BitVec 32 := Scalar.muli v13 c1_i32_11548
  let v10303 : BitVec 32 := Scalar.addi c0_i32_11549 v10302
  v10303.toNat
def k0_dev460 (d0 : Dev nD) : Nat :=
  let c0_i32_11599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11598 : BitVec 32 := 1#32
  let v10356 : BitVec 32 := Scalar.muli v25 c1_i32_11598
  let v10357 : BitVec 32 := Scalar.addi c0_i32_11599 v10356
  v10357.toNat
def k0_dev461 (d0 : Dev nD) : Nat :=
  let c0_i32_11607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11606 : BitVec 32 := 1#32
  let v10358 : BitVec 32 := Scalar.muli v13 c1_i32_11606
  let v10359 : BitVec 32 := Scalar.addi c0_i32_11607 v10358
  v10359.toNat
def k0_dev462 (d0 : Dev nD) : Nat :=
  let c0_i32_11639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11638 : BitVec 32 := 1#32
  let v10390 : BitVec 32 := Scalar.muli v25 c1_i32_11638
  let v10391 : BitVec 32 := Scalar.addi c0_i32_11639 v10390
  v10391.toNat
def k0_dev463 (d0 : Dev nD) : Nat :=
  let c0_i32_11647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11646 : BitVec 32 := 1#32
  let v10392 : BitVec 32 := Scalar.muli v13 c1_i32_11646
  let v10393 : BitVec 32 := Scalar.addi c0_i32_11647 v10392
  v10393.toNat
def k0_dev464 (d0 : Dev nD) : Nat :=
  let c0_i32_11679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11678 : BitVec 32 := 1#32
  let v10424 : BitVec 32 := Scalar.muli v25 c1_i32_11678
  let v10425 : BitVec 32 := Scalar.addi c0_i32_11679 v10424
  v10425.toNat
def k0_dev465 (d0 : Dev nD) : Nat :=
  let c0_i32_11687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11686 : BitVec 32 := 1#32
  let v10426 : BitVec 32 := Scalar.muli v13 c1_i32_11686
  let v10427 : BitVec 32 := Scalar.addi c0_i32_11687 v10426
  v10427.toNat
def k0_dev466 (d0 : Dev nD) : Nat :=
  let c0_i32_11719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.subi v2 c1_i32_6
  let c32_i32_7 : BitVec 32 := 32#32
  let v15 : BitVec 32 := Scalar.addi v14 c32_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_11718 : BitVec 32 := 1#32
  let v10458 : BitVec 32 := Scalar.muli v25 c1_i32_11718
  let v10459 : BitVec 32 := Scalar.addi c0_i32_11719 v10458
  v10459.toNat
def k0_dev467 (d0 : Dev nD) : Nat :=
  let c0_i32_11727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11726 : BitVec 32 := 1#32
  let v10460 : BitVec 32 := Scalar.muli v13 c1_i32_11726
  let v10461 : BitVec 32 := Scalar.addi c0_i32_11727 v10460
  v10461.toNat
def k0_dev468 (d0 : Dev nD) : Nat :=
  let c0_i32_11782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11781 : BitVec 32 := 1#32
  let v10514 : BitVec 32 := Scalar.muli v13 c1_i32_11781
  let v10515 : BitVec 32 := Scalar.addi c0_i32_11782 v10514
  v10515.toNat
def k0_dev469 (d0 : Dev nD) : Nat :=
  let c0_i32_11819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11818 : BitVec 32 := 1#32
  let v10546 : BitVec 32 := Scalar.muli v13 c1_i32_11818
  let v10547 : BitVec 32 := Scalar.addi c0_i32_11819 v10546
  v10547.toNat
def k0_dev470 (d0 : Dev nD) : Nat :=
  let c0_i32_11856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11855 : BitVec 32 := 1#32
  let v10578 : BitVec 32 := Scalar.muli v13 c1_i32_11855
  let v10579 : BitVec 32 := Scalar.addi c0_i32_11856 v10578
  v10579.toNat
def k0_dev471 (d0 : Dev nD) : Nat :=
  let c0_i32_11893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11892 : BitVec 32 := 1#32
  let v10610 : BitVec 32 := Scalar.muli v13 c1_i32_11892
  let v10611 : BitVec 32 := Scalar.addi c0_i32_11893 v10610
  v10611.toNat
def k0_dev472 (d0 : Dev nD) : Nat :=
  let c0_i32_11948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11947 : BitVec 32 := 1#32
  let v10664 : BitVec 32 := Scalar.muli v13 c1_i32_11947
  let v10665 : BitVec 32 := Scalar.addi c0_i32_11948 v10664
  v10665.toNat
def k0_dev473 (d0 : Dev nD) : Nat :=
  let c0_i32_11985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11984 : BitVec 32 := 1#32
  let v10696 : BitVec 32 := Scalar.muli v13 c1_i32_11984
  let v10697 : BitVec 32 := Scalar.addi c0_i32_11985 v10696
  v10697.toNat
def k0_dev474 (d0 : Dev nD) : Nat :=
  let c0_i32_12022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12021 : BitVec 32 := 1#32
  let v10728 : BitVec 32 := Scalar.muli v13 c1_i32_12021
  let v10729 : BitVec 32 := Scalar.addi c0_i32_12022 v10728
  v10729.toNat
def k0_dev475 (d0 : Dev nD) : Nat :=
  let c0_i32_12059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12058 : BitVec 32 := 1#32
  let v10760 : BitVec 32 := Scalar.muli v13 c1_i32_12058
  let v10761 : BitVec 32 := Scalar.addi c0_i32_12059 v10760
  v10761.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Pieces.lean ====
module
public import proofs.«01_k».proof.Proof.Gen.KernelIdeal.Points
public import proofs.«01_k».proof.Proof.Gen.KernelIdeal.Launch
public import proofs.«01_k».proof.Proof.Gen.KernelIdeal.Skeleton

/-! The kernel's body, written once more as a short program: one piece per operation group of
    the source text, at a ring `r` and a slot, and the three phases as sequences of such steps. -/

@[expose] public section
noncomputable section

namespace Cert.Proof
open Cert.KernelIdeal Cert.KernelIdeal.Gen

open Idealize.ShloMosaic Idealize.ShloMosaic.TcCoe
open Idealize.SL Idealize.SL.Sem

variable {F : FTy → Type} [FloatOps F]

/-- Programs of the kernel's own core; every piece below takes the rest of the program as its last argument. -/
abbrev Bd (F : FTy → Type) [FloatOps F] : Type → Type _ := Prog (TpuEff nD τ sig (Elt F) Λ₀ .tc)

/-! ## The buffers and semaphores of ring `r` -/

def curM : Memref sig .tc .vmem S2x128x8192 .f32 := Memref.whole cc0_scratch0
def amaxM : Memref sig .tc .vmem S8x8x128 .f32 := Memref.whole cc0_scratch13
def outM : Memref sig .tc .hbm S4096x8192 .f32 := Memref.whole main_v1

/-- The two outgoing bf16 slots of ring `r`. -/
def wireM (r : Fin 4) : Memref sig .tc .vmem S2x32x8192 .bf16 :=
  match r with
  | 0 => Memref.whole cc0_scratch1 | 1 => Memref.whole cc0_scratch2
  | 2 => Memref.whole cc0_scratch3 | 3 => Memref.whole cc0_scratch4
/-- The four incoming bf16 slots of ring `r`. -/
def commM (r : Fin 4) : Memref sig .tc .vmem S4x32x8192 .bf16 :=
  match r with
  | 0 => Memref.whole cc0_scratch5 | 1 => Memref.whole cc0_scratch6
  | 2 => Memref.whole cc0_scratch7 | 3 => Memref.whole cc0_scratch8
/-- The four int8 slots of ring `r`. -/
def agM (r : Fin 4) : Memref sig .tc .vmem S4x32x8192 .i8 :=
  match r with
  | 0 => Memref.whole cc0_scratch9 | 1 => Memref.whole cc0_scratch10
  | 2 => Memref.whole cc0_scratch11 | 3 => Memref.whole cc0_scratch12
def sendA (r : Fin 4) : DmaSems sig S4 :=
  match r with
  | 0 => cc0_scratch14 | 1 => cc0_scratch15 | 2 => cc0_scratch16 | 3 => cc0_scratch17
def recvA (r : Fin 4) : DmaSems sig S4 :=
  match r with
  | 0 => cc0_scratch18 | 1 => cc0_scratch19 | 2 => cc0_scratch20 | 3 => cc0_scratch21
def creditA (r : Fin 4) : Sems sig S_ :=
  match r with
  | 0 => cc0_scratch25 | 1 => cc0_scratch26 | 2 => cc0_scratch27 | 3 => cc0_scratch28

theorem wireM_whole (r : Fin 4) : (wireM r).IsWhole := by
  fin_cases r <;> exact Memref.isWhole_whole _
theorem commM_whole (r : Fin 4) : (commM r).IsWhole := by
  fin_cases r <;> exact Memref.isWhole_whole _
theorem agM_whole (r : Fin 4) : (agM r).IsWhole := by
  fin_cases r <;> exact Memref.isWhole_whole _

/-! ## Rectangles -/

theorem inbCurRow (b : Fin 2) (r : Fin 4) : ∀ a, (![b.val, 32 * r.val, 0] : Fin 3 → Nat) a + S1x32x8192.size a ≤ S2x128x8192.size a := by
  revert b r; decide
theorem inbCur (b : Fin 2) : ∀ a, (![b.val, 0, 0] : Fin 3 → Nat) a + S1x128x8192.size a ≤ S2x128x8192.size a := by
  revert b; decide
theorem inb2 (b : Fin 2) : ∀ a, (![b.val, 0, 0] : Fin 3 → Nat) a + S1x32x8192.size a ≤ S2x32x8192.size a := by
  revert b; decide
theorem inb4 (b : Fin 4) : ∀ a, (![b.val, 0, 0] : Fin 3 → Nat) a + S1x32x8192.size a ≤ S4x32x8192.size a := by
  revert b; decide
theorem inbA (k : Fin 8) : ∀ a, (![k.val, 0, 0] : Fin 3 → Nat) a + S1x8x128.size a ≤ S8x8x128.size a := by
  revert k; decide
theorem inbS4 (b : Fin 4) : ∀ a, (![b.val] : Fin 1 → Nat) a + S1.size a ≤ S4.size a := by
  revert b; decide
theorem inbS5 (b : Fin 5) : ∀ a, (![b.val] : Fin 1 → Nat) a + S1.size a ≤ S5.size a := by
  revert b; decide
theorem inbS2 (b : Fin 2) : ∀ a, (![b.val] : Fin 1 → Nat) a + S1.size a ≤ S2.size a := by
  revert b; decide

abbrev curRowR (b : Fin 2) (r : Fin 4) : Rect S2x128x8192 := Rect.unit (s := S2x128x8192) ![b.val, 32 * r.val, 0] S1x32x8192.size (inbCurRow b r)
abbrev curR (b : Fin 2) : Rect S2x128x8192 := Rect.unit (s := S2x128x8192) ![b.val, 0, 0] S1x128x8192.size (inbCur b)
abbrev slot2 (b : Fin 2) : Rect S2x32x8192 := Rect.unit (s := S2x32x8192) ![b.val, 0, 0] S1x32x8192.size (inb2 b)
abbrev slot4 (b : Fin 4) : Rect S4x32x8192 := Rect.unit (s := S4x32x8192) ![b.val, 0, 0] S1x32x8192.size (inb4 b)
abbrev amaxR (k : Fin 8) : Rect S8x8x128 := Rect.unit (s := S8x8x128) ![k.val, 0, 0] S1x8x128.size (inbA k)

theorem packed2 (b : Fin 2) : (slot2 b).PackedRows (EltTy.packing .bf16) := by
  fin_cases b
  · exact packedbf16_S2x32x8192_S1x32x8192_0_0_0
  · exact packedbf16_S2x32x8192_S1x32x8192_1_0_0
theorem words2 (b : Fin 2) : (slot2 b).WholeWords (EltTy.packing .bf16) := by
  fin_cases b
  · exact wordsbf16_S2x32x8192_S1x32x8192_0_0_0
  · exact wordsbf16_S2x32x8192_S1x32x8192_1_0_0
theorem words4 (b : Fin 4) : (slot4 b).WholeWords (EltTy.packing .bf16) := by
  fin_cases b
  · exact wordsbf16_S4x32x8192_S1x32x8192_0_0_0
  · exact wordsbf16_S4x32x8192_S1x32x8192_1_0_0
  · exact wordsbf16_S4x32x8192_S1x32x8192_2_0_0
  · exact wordsbf16_S4x32x8192_S1x32x8192_3_0_0
theorem wordsAg (b : Fin 4) : (slot4 b).WholeWords (EltTy.packing .i8) := by
  fin_cases b
  · exact wordsi8_S4x32x8192_S1x32x8192_0_0_0
  · exact wordsi8_S4x32x8192_S1x32x8192_1_0_0
  · exact wordsi8_S4x32x8192_S1x32x8192_2_0_0
  · exact wordsi8_S4x32x8192_S1x32x8192_3_0_0

/-! ## Slots as transfer ends, and semaphores -/

abbrev wireV (r : Fin 4) (b : Fin 2) : Memref sig .tc .vmem S32x8192 .bf16 :=
  ((wireM r).slice (slot2 b) (fun _ => rfl)).squeeze S32x8192 squeezes_S1x32x8192_S32x8192
abbrev commV (r : Fin 4) (σ : Fin 4) : Memref sig .tc .vmem S32x8192 .bf16 :=
  ((commM r).slice (slot4 σ) (fun _ => rfl)).squeeze S32x8192 squeezes_S1x32x8192_S32x8192
abbrev agV (r : Fin 4) (σ : Fin 4) : Memref sig .tc .vmem S32x8192 .i8 :=
  ((agM r).slice (slot4 σ) (fun _ => rfl)).squeeze S32x8192 squeezes_S1x32x8192_S32x8192
abbrev amaxV (k : Fin 8) : Memref sig .tc .vmem S8x128 .f32 :=
  (amaxM.slice (amaxR k) (fun _ => rfl)).squeeze S8x128 squeezes_S1x8x128_S8x128
abbrev curV (b : Fin 2) : Memref sig .tc .vmem S128x8192 .f32 :=
  (curM.slice (curR b) (fun _ => rfl)).squeeze S128x8192 squeezes_S1x128x8192_S128x8192

def sendS (r σ : Fin 4) : DmaSem sig :=
  (((sendA r).slice (Rect.unit (s := S4) ![σ.val] S1.size (inbS4 σ))).squeeze S_ squeezes_S1_S_).sem
def recvS (r σ : Fin 4) : DmaSem sig :=
  (((recvA r).slice (Rect.unit (s := S4) ![σ.val] S1.size (inbS4 σ))).squeeze S_ squeezes_S1_S_).sem
def axsS (k : Fin 5) : DmaSem sig :=
  ((cc0_scratch22.slice (Rect.unit (s := S5) ![k.val] S1.size (inbS5 k))).squeeze S_ squeezes_S1_S_).sem
def axrS (k : Fin 5) : DmaSem sig :=
  ((cc0_scratch23.slice (Rect.unit (s := S5) ![k.val] S1.size (inbS5 k))).squeeze S_ squeezes_S1_S_).sem
def storeS (b : Fin 2) : DmaSem sig :=
  ((cc0_scratch24.slice (Rect.unit (s := S2) ![b.val] S1.size (inbS2 b))).squeeze S_ squeezes_S1_S_).sem
def creditS (r : Fin 4) : Sem sig := (creditA r).sem
def barA : Sems sig S_ := SemArray.scalar (sig.barrier 0 rfl)
def barS : Sem sig := barA.sem

def leftD (d : Dev nD) : Dev nD := ⟨k0_dev1 d, k0_dev1_lt d⟩
def rightD (d : Dev nD) : Dev nD := ⟨k0_dev3 d, k0_dev3_lt d⟩
/-- The partner of round `k` of the maximum exchange. -/
def partner (k : Fin 5) (d : Dev nD) : Dev nD :=
  match k with
  | 0 => ⟨k0_dev235 d, k0_dev235_lt d⟩ | 1 => ⟨k0_dev236 d, k0_dev236_lt d⟩
  | 2 => ⟨k0_dev237 d, k0_dev237_lt d⟩ | 3 => ⟨k0_dev238 d, k0_dev238_lt d⟩
  | 4 => ⟨k0_dev239 d, k0_dev239_lt d⟩

/-- `n` modulo 2 and modulo 4, as slots. -/
abbrev m2 (n : ℕ) : Fin 2 := ⟨n % 2, Nat.mod_lt _ (by decide)⟩
abbrev m4 (n : ℕ) : Fin 4 := ⟨n % 4, Nat.mod_lt _ (by decide)⟩

/-! ## Sequences -/

/-- Do `p` if `c`. -/
def whenB (c : Bool) (p : Bd F PUnit → Bd F PUnit) (K : Bd F PUnit) : Bd F PUnit := match c with | true => p K | false => K

/-- The steps `f n, f (n+1), …`, `k` of them. -/
def seqFrom (f : ℕ → Bd F PUnit → Bd F PUnit) : ℕ → ℕ → Bd F PUnit → Bd F PUnit
  | 0, _, K => K
  | k + 1, n, K => f n (seqFrom f k (n + 1) K)

/-! ## Reduce-scatter -/

/-- One chunk's product into half `b` of the accumulator. -/
def gemmOp (xM : Memref sig .tc .vmem S4096x128 .f32) (wM : Memref sig .tc .vmem S128x8192 .f32) (b : Fin 2)
    (off : Fin 2 → Nat) (hoff : ∀ a, off a + S128x128.size a ≤ S4096x128.size a) (K : Bd F PUnit) : Bd F PUnit :=
  .op (.load xM (Rect.unit (s := S4096x128) off S128x128.size hoff).toLoadRect (View.loadsAt_vmem h_S128x128)) fun v33 =>
  .op (.load wM (Rect.unit (s := S128x8192) ![0, 0] S128x8192.size inb_S128x8192_S128x8192_0_0).toLoadRect (View.loadsAt_vmem h_S128x8192)) fun v35 =>
  .op (.load curM (curR b).toLoadRect (View.loadsAt_vmem h_S1x128x8192)) fun _ =>
  .op (.store curM (curR b) (k0_pay1 v33 v35) Finset.univ (View.stores_vmem_bits_univ h_S1x128x8192 rfl) (.inl rfl)) fun _ => K

/-- Pack the accumulator's rows of ring `r` into the outgoing slot `b`. -/
def packOp (r : Fin 4) (b : Fin 2) (K : Bd F PUnit) : Bd F PUnit :=
  .op (.load curM (curRowR b r).toLoadRect (View.loadsAt_vmem h_S1x32x8192)) fun v =>
  .op (.load (wireM r) (slot2 b).toLoadRect (View.loadsAt_vmem h_S1x32x8192)) fun _ =>
  .op (.store (wireM r) (slot2 b) (k0_pay2 v) Finset.univ (View.stores_vmem h_S1x32x8192 ((wireM_whole r).storeExact_slice rfl _ (packed2 b)) (fun _ => rfl)) (.inl rfl)) fun _ => K

/-- Add the arrived slot `σ` to the accumulator's rows. -/
def addOp (r : Fin 4) (b : Fin 2) (σ : Fin 4) (K : Bd F PUnit) : Bd F PUnit :=
  .op (.load curM (curRowR b r).toLoadRect (View.loadsAt_vmem h_S1x32x8192)) fun v =>
  .op (.load (commM r) (slot4 σ).toLoadRect (View.loadsAt_vmem h_S1x32x8192)) fun w =>
  .op (.load curM (curRowR b r).toLoadRect (View.loadsAt_vmem h_S1x32x8192)) fun _ =>
  .op (.store curM (curRowR b r) (k0_pay7 v w) Finset.univ (View.stores_vmem_bits_univ h_S1x32x8192 rfl) (.inl rfl)) fun _ => K

/-- Send outgoing slot `b` to the right neighbour's slot `σ`. -/
def rsSendOp (d : Dev nD) (r : Fin 4) (b : Fin 2) (σs σ : Fin 4) (K : Bd F PUnit) : Bd F PUnit :=
  .op (.enqueueDma (wireV r b) (.remote (Dev.tc (rightD d)) (commV r σ) (.dma (sendS r σs))) (.dma (recvS r σ))
    (((wireM_whole r).wordExact_slice rfl _ (words2 b)).reshape _ _) (((commM_whole r).wordExact_slice rfl _ (words4 σ)).reshape _ _) ⟨⟨rfl, Or.inl rfl⟩, trivial⟩) fun _ => K
/-- Wait for slot `σ` to arrive. -/
def rsRecvOp (r : Fin 4) (b : Fin 2) (σ : Fin 4) (K : Bd F PUnit) : Bd F PUnit :=
  .op (.waitDma2 (recvS r σ) (wireV r b) (commV r σ)
    (((wireM_whole r).wordExact_slice rfl _ (words2 b)).reshape _ _) (((commM_whole r).wordExact_slice rfl _ (words4 σ)).reshape _ _)) fun _ => K
/-- Wait for the send of slot `b` to have left. -/
def rsSentOp (r : Fin 4) (b : Fin 2) (σs σ : Fin 4) (K : Bd F PUnit) : Bd F PUnit :=
  .op (.waitDma2 (sendS r σs) (commV r σ) (wireV r b)
    (((commM_whole r).wordExact_slice rfl _ (words4 σ)).reshape _ _) (((wireM_whole r).wordExact_slice rfl _ (words2 b)).reshape _ _)) fun _ => K
/-- Give the left neighbour a credit. -/
def creditOp (d : Dev nD) (r : Fin 4) (K : Bd F PUnit) : Bd F PUnit := .op (.semSignal (leftD d, .tc) (creditS r) (1#32).toInt) fun _ => K
/-- Take a credit. -/
def creditWaitOp (r : Fin 4) (K : Bd F PUnit) : Bd F PUnit := .op (.semWait (creditS r) (1#32).toInt) fun _ => K

/-- Step `s` of ring `r` of the reduce-scatter. -/
def rsRing (d : Dev nD) (s : ℕ) (r : Fin 4) (K : Bd F PUnit) : Bd F PUnit :=
  rsRecvOp r (m2 s) (m4 s) <|
  addOp r (m2 (s + 1)) (m4 s) <|
  whenB (Nat.ble 1 s) (rsSentOp r (m2 (s + 1)) ⟨(s + 1) % 2, by omega⟩ (m4 (s + 3))) <|
  packOp r (m2 (s + 1)) <|
  whenB (Nat.ble s 26) (creditOp d r) <|
  whenB (Nat.ble 3 s && Nat.ble s 29) (creditWaitOp r) <|
  whenB (Nat.ble s 29) (rsSendOp d r (m2 (s + 1)) ⟨(s + 1) % 2, by omega⟩ (m4 (s + 1))) K

theorem off2_inb (d : Dev nD) (s : ℕ) : ∀ a, (k0_off2 d (BitVec.ofNat 32 (s % 31))) a + S128x128.size a ≤ S4096x128.size a :=
  k0_off2_inb d ⟨s % 31, Nat.mod_lt _ (by decide)⟩

/-- Step `s` of the reduce-scatter. -/
def rsStep (xM : Memref sig .tc .vmem S4096x128 .f32) (wM : Memref sig .tc .vmem S128x8192 .f32) (d : Dev nD) (s : ℕ) (K : Bd F PUnit) : Bd F PUnit :=
  gemmOp xM wM (m2 (s + 1)) (k0_off2 d (BitVec.ofNat 32 (s % 31))) (off2_inb d s) <|
  rsRing d s 0 <| rsRing d s 1 <| rsRing d s 2 <| rsRing d s 3 K

/-- The greeting of the neighbours. -/
def greet (d : Dev nD) (K : Bd F PUnit) : Bd F PUnit :=
  .op (.semSignal (leftD d, .tc) barS (1#32).toInt) fun _ =>
  .op (.semSignal (rightD d, .tc) barS (1#32).toInt) fun _ =>
  .op (.semWait barS (2#32).toInt) fun _ => K

/-- The first chunk and the first sends. -/
def prologue (xM : Memref sig .tc .vmem S4096x128 .f32) (wM : Memref sig .tc .vmem S128x8192 .f32) (d : Dev nD) (K : Bd F PUnit) : Bd F PUnit :=
  gemmOp xM wM 0 (k0_off1 d) (k0_off1_inb d) <|
  packOp 0 0 <| packOp 1 0 <| packOp 2 0 <| packOp 3 0 <|
  rsSendOp d 0 0 0 0 <| rsSendOp d 1 0 0 0 <| rsSendOp d 2 0 0 0 <| rsSendOp d 3 0 0 0 K

/-! ## The maximum exchange -/

def amaxInit (v : Vec F S1x128x8192 .f32) (K : Bd F PUnit) : Bd F PUnit :=
  .op (.load amaxM (amaxR 5).toLoadRect (View.loadsAt_vmem h_S1x8x128)) fun _ =>
  .op (.store amaxM (amaxR 5) (k0_pay340 v) Finset.univ (View.stores_vmem_bits_univ h_S1x8x128 rfl) (.inl rfl)) fun _ => K

/-- The slot of exchange round `k`. -/
abbrev k8 (k : Fin 5) : Fin 8 := ⟨k.val, by omega⟩

/-- Round `k` of the maximum exchange: swap with the partner, keep the larger. -/
def amaxStep (d : Dev nD) (k : Fin 5) (K : Bd F PUnit) : Bd F PUnit :=
  .op (.enqueueDma (amaxV 5) (.remote (Dev.tc (partner k d)) (amaxV (k8 k)) (.dma (axsS k))) (.dma (axrS k))
    ((View.wordExact_bits rfl).reshape _ _) ((View.wordExact_bits rfl).reshape _ _) ⟨⟨rfl, Or.inl rfl⟩, trivial⟩) fun _ =>
  .op (.waitDma2 (axsS k) (amaxV (k8 k)) (amaxV 5) ((View.wordExact_bits rfl).reshape _ _) ((View.wordExact_bits rfl).reshape _ _)) fun _ =>
  .op (.waitDma2 (axrS k) (amaxV 5) (amaxV (k8 k)) ((View.wordExact_bits rfl).reshape _ _) ((View.wordExact_bits rfl).reshape _ _)) fun _ =>
  .op (.load amaxM (amaxR 5).toLoadRect (View.loadsAt_vmem h_S1x8x128)) fun v =>
  .op (.load amaxM (amaxR (k8 k)).toLoadRect (View.loadsAt_vmem h_S1x8x128)) fun w =>
  .op (.load amaxM (amaxR 5).toLoadRect (View.loadsAt_vmem h_S1x8x128)) fun _ =>
  .op (.store amaxM (amaxR 5) (k0_pay341 v w) Finset.univ (View.stores_vmem_bits_univ h_S1x8x128 rfl) (.inl rfl)) fun _ => K

/-! ## Quantise and gather -/

theorem packedAg0 : (slot4 0).PackedRows (EltTy.packing .i8) := packedi8_S4x32x8192_S1x32x8192_0_0_0

/-- The quantised rows of ring `r`. -/
def quantV (r : Fin 4) (v : FVec F S128x8192 .f32) (m : Vec F S1x1x1 .f32) : Vec F S1x32x8192 .i8 :=
  match r with
  | 0 => k0_pay349 v m | 1 => k0_pay350 v m | 2 => k0_pay352 (k0_pay351 v m) | 3 => k0_pay353 (k0_pay348 v m)

def quantOp (r : Fin 4) (v : FVec F S128x8192 .f32) (m : Vec F S1x1x1 .f32) (K : Bd F PUnit) : Bd F PUnit :=
  .op (.load (agM r) (slot4 0).toLoadRect (View.loadsAt_vmem h_S1x32x8192)) fun _ =>
  .op (.store (agM r) (slot4 0) (quantV r v m) Finset.univ (View.stores_vmem h_S1x32x8192 ((agM_whole r).storeExact_slice rfl _ packedAg0) (fun _ => rfl)) (.inl rfl)) fun _ => K

/-- Where in the result the `n`-th stored chunk goes: the device's own chunk first. -/
def outOff (d : Dev nD) (n : ℕ) : Fin 2 → Nat :=
  match n with
  | 0 => k0_off3 d
  | j + 1 => k0_off4 d (BitVec.ofNat 32 (j % 31))

theorem outOff_inb (d : Dev nD) (n : ℕ) : ∀ a, outOff d n a + S128x8192.size a ≤ S4096x8192.size a := by
  cases n with
  | zero => exact k0_off3_inb d
  | succ j => exact k0_off4_inb d ⟨j % 31, Nat.mod_lt _ (by decide)⟩

abbrev outR (d : Dev nD) (n : ℕ) : Rect S4096x8192 := Rect.unit (s := S4096x8192) (outOff d n) S128x8192.size (outOff_inb d n)
abbrev outV (d : Dev nD) (n : ℕ) : Memref sig .tc .hbm S128x8192 .f32 := outM.slice (outR d n) (fun _ => rfl)

/-- Start the copy of chunk `n`, staged in half `n % 2`, to the result. -/
def storeOp (d : Dev nD) (n : ℕ) (K : Bd F PUnit) : Bd F PUnit :=
  .op (.enqueueDma (curV (m2 n)) (.here (outV d n)) (.dma (storeS (m2 n))) ((View.wordExact_bits rfl).reshape _ _) (View.wordExact_bits rfl) ⟨Or.inl rfl, trivial⟩) fun _ => K
def storedOp (d : Dev nD) (n : ℕ) (K : Bd F PUnit) : Bd F PUnit :=
  .op (.waitDma2 (storeS (m2 n)) (curV (m2 n)) (outV d n) ((View.wordExact_bits rfl).reshape _ _) (View.wordExact_bits rfl)) fun _ => K

def ownOp (m : Vec F S1x1x1 .f32) (v : FVec F S128x8192 .f32) (K : Bd F PUnit) : Bd F PUnit :=
  .op (.load curM (curR 0).toLoadRect (View.loadsAt_vmem h_S1x128x8192)) fun _ =>
  .op (.store curM (curR 0) (k0_pay354 (k0_pay347 m) (k0_pay348 v m)) Finset.univ (View.stores_vmem_bits_univ h_S1x128x8192 rfl) (.inl rfl)) fun _ => K

/-- Send number `j` of ring `r` of the gather: slot `j` to the right neighbour's slot `j + 1`. -/
def agSendOp (d : Dev nD) (r : Fin 4) (j : ℕ) (K : Bd F PUnit) : Bd F PUnit :=
  .op (.enqueueDma (agV r (m4 j)) (.remote (Dev.tc (rightD d)) (agV r (m4 (j + 1))) (.dma (sendS r (m4 j)))) (.dma (recvS r (m4 (j + 1))))
    (((agM_whole r).wordExact_slice rfl _ (wordsAg (m4 j))).reshape _ _) (((agM_whole r).wordExact_slice rfl _ (wordsAg (m4 (j + 1)))).reshape _ _) ⟨⟨rfl, Or.inl rfl⟩, trivial⟩) fun _ => K
def agRecvOp (r : Fin 4) (j : ℕ) (K : Bd F PUnit) : Bd F PUnit :=
  .op (.waitDma2 (recvS r (m4 (j + 1))) (agV r (m4 j)) (agV r (m4 (j + 1)))
    (((agM_whole r).wordExact_slice rfl _ (wordsAg (m4 j))).reshape _ _) (((agM_whole r).wordExact_slice rfl _ (wordsAg (m4 (j + 1)))).reshape _ _)) fun _ => K
def agSentOp (r : Fin 4) (j : ℕ) (K : Bd F PUnit) : Bd F PUnit :=
  .op (.waitDma2 (sendS r (m4 j)) (agV r (m4 (j + 1))) (agV r (m4 j))
    (((agM_whole r).wordExact_slice rfl _ (wordsAg (m4 (j + 1)))).reshape _ _) (((agM_whole r).wordExact_slice rfl _ (wordsAg (m4 j))).reshape _ _)) fun _ => K
/-- Scale the arrived slot back into the rows of half `b`. -/
def dequantOp (r : Fin 4) (b : Fin 2) (σ : Fin 4) (q : F .f32) (K : Bd F PUnit) : Bd F PUnit :=
  .op (.load (agM r) (slot4 σ).toLoadRect (View.loadsAt_vmem h_S1x32x8192)) fun w =>
  .op (.load curM (curRowR b r).toLoadRect (View.loadsAt_vmem h_S1x32x8192)) fun _ =>
  .op (.store curM (curRowR b r) (k0_pay355 q w) Finset.univ (View.stores_vmem_bits_univ h_S1x32x8192 rfl) (.inl rfl)) fun _ => K

/-- Step `g` of ring `r` of the gather. -/
def agRing (d : Dev nD) (q : F .f32) (g : ℕ) (r : Fin 4) (K : Bd F PUnit) : Bd F PUnit :=
  agRecvOp r g <|
  agSentOp r g <|
  dequantOp r (m2 (g + 1)) (m4 (g + 1)) q <|
  whenB (Nat.ble g 27) (creditOp d r) <|
  whenB (Nat.ble 2 g && Nat.ble g 29) (creditWaitOp r) <|
  whenB (Nat.ble g 29) (agSendOp d r (g + 1)) K

/-- Step `g` of the gather. -/
def agStep (d : Dev nD) (q : F .f32) (g : ℕ) (K : Bd F PUnit) : Bd F PUnit :=
  whenB (Nat.ble 1 g) (storedOp d (g - 1)) <|
  agRing d q g 0 <| agRing d q g 1 <| agRing d q g 2 <| agRing d q g 3 <|
  storeOp d (g + 1) K

/-! ## The whole body -/

/-- The gather from the exchanged maximum on. -/
def gatherProg (d : Dev nD) (v : FVec F S128x8192 .f32) (m : Vec F S1x1x1 .f32) (K : Bd F PUnit) : Bd F PUnit :=
  quantOp 0 v m <| quantOp 1 v m <| quantOp 2 v m <| quantOp 3 v m <|
  ownOp m v <| storeOp d 0 <|
  agSendOp d 0 0 <| agSendOp d 1 0 <| agSendOp d 2 0 <| agSendOp d 3 0 <|
  seqFrom (agStep d (k0_pay347 m)) 31 0 <|
  storedOp d 30 <| storedOp d 31 K

/-- The maximum exchange, then the gather. -/
def amaxProg (d : Dev nD) (v : Vec F S1x128x8192 .f32) (K : Bd F PUnit) : Bd F PUnit :=
  amaxInit v <|
  amaxStep d 0 <| amaxStep d 1 <| amaxStep d 2 <| amaxStep d 3 <| amaxStep d 4 <|
  .op (.load amaxM (Rect.unit (s := S8x8x128) ![5, 0, 0] S1x1x1.size inb_S8x8x128_S1x1x1_5_0_0).toLoadRect (View.loadsAt_vmem h_S1x1x1)) fun m =>
  gatherProg d (k0_pay339 v) m K

def mainProg (xM : Memref sig .tc .vmem S4096x128 .f32) (wM : Memref sig .tc .vmem S128x8192 .f32) : Bd F PUnit :=
  .op .deviceId fun d =>
  greet d <| prologue xM wM d <|
  seqFrom (rsStep xM wM d) 31 0 <|
  rsSentOp 0 0 0 2 <| rsSentOp 1 0 0 2 <| rsSentOp 2 0 0 2 <| rsSentOp 3 0 0 2 <|
  .op (.load curM (curR 1).toLoadRect (View.loadsAt_vmem h_S1x128x8192)) fun v =>
  amaxProg d v (.ret ⟨⟩)

end Cert.Proof
-- ==== Proof.Holds.lean ====
module
public import proofs.«01_k».proof.Proof.Pieces
public import Idealize.ShloMosaic.Lib.Release
public import Idealize.ShloMosaic.Lib.Pipeline.Launch
public import Idealize.ShloMosaic.Lib.Pipeline.Kit
public import Idealize.ShloMosaic.Lib.Tactic
public import Idealize.ShloMosaic.Lib.ViewIndex

/-! Holding a rectangle of a buffer at given contents, and the memory operations over it: loads,
    stores and transfers of whole rectangles. -/

@[expose] public section
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A landing slot of a device: a slot of ring `r` (`false`: reduce-scatter, `true`: gather), or one of the five
    landing slots of the maximum exchange. -/
abbrev SlotK : Type := (Bool × Fin 4 × Fin 4) ⊕ Fin 5
abbrev Key : Type := Dev nD × SlotK

abbrev UB : Type := URounds (GSem nD τ sig) ℕ
abbrev UU : Type := UR sig nD τ × (UB × Release.USlots Key)

variable {F : FTy → Type} [FloatOps F]

local notation "𝕄" => MT nD τ sig ℕ (Elt F) ℕ UU ℕ

abbrev EP : Emb (UR sig nD τ) 𝕄 := embL
/-- The rounds of the kernel's own semaphores. -/
abbrev ER : Emb UB 𝕄 := (Emb.inl : Emb UB (UB × Release.USlots Key)).trans embR
/-- The landing slots' releases. -/
abbrev ES : Emb (Release.USlots Key) 𝕄 := (Emb.inr : Emb (Release.USlots Key) (UB × Release.USlots Key)).trans embR

instance ER_lands : (ER (F := F)).LandsIn (upEmb : UEmb _ 𝕄) := by unfold ER; infer_instance
instance ES_lands : (ES (F := F)).LandsIn (upEmb : UEmb _ 𝕄) := by unfold ES; infer_instance

abbrev 𝒱₀ : Variants := Variants.none

/-- The weakest precondition of a program on device `d`'s core. -/
abbrev wpD (d : Dev nD) (p : Bd F PUnit) (Q : PUnit → sProp 𝕄) : sProp 𝕄 :=
  wp frame (wpE (defs₀ (F := F)) 𝒱₀ (d : Thread nD τ) none) Set.univ p Q

omit [FloatOps F] in
theorem bigSep_mono' {I : Type} {S : Finset I} {Φ Ψ : I → sProp 𝕄} (h : ∀ i ∈ S, Φ i ⊢ Ψ i) : bigSep S Φ ⊢ bigSep S Ψ := bigSep_mono h

section Rect
variable {sp : Space} {s : Shape} {e : EltTy}

/-- Device `d` holds the rectangle `R` of `m`'s buffer, which reads `w`. -/
def holds {sp : Space} (m : Memref sig .tc sp s e) (R : Rect s) (d : Dev nD) (w : R.shape.Idx → Elt F e) : sProp 𝕄 :=
  iprop(∃ f : Buf (Elt F) ((m.access R).loc (d : Thread nD τ)), ⌜(m.access R).read (Elt F) f = w⌝
    ∗ ((m.access R).loc (d : Thread nD τ) ↦[(m.access R).set]{fullShare} f))

/-- Device `d` holds the rectangle, whatever it reads. -/
def holdsAny {sp : Space} (m : Memref sig .tc sp s e) (R : Rect s) (d : Dev nD) : sProp 𝕄 :=
  iprop(∃ w : R.shape.Idx → Elt F e, holds m R d w)

variable {m : Memref sig .tc sp s e} {R : Rect s} {d : Dev nD}

instance holds_storable (w : R.shape.Idx → Elt F e) : BI.Storable (upEmb : UEmb _ 𝕄) (holds m R d w) := by
  unfold holds; infer_instance
instance holdsAny_storable : BI.Storable (upEmb : UEmb _ 𝕄) (holdsAny (F := F) m R d) := by
  unfold holdsAny; infer_instance

theorem holds_any (w : R.shape.Idx → Elt F e) : holds m R d w ⊢ holdsAny m R d := by
  unfold holdsAny; iintro H; iexists w; iexact H

/-- Elements at contents that read `w` are held at `w`. -/
theorem holds_intro {w : R.shape.Idx → Elt F e} (f : Buf (Elt F) ((m.access R).loc (d : Thread nD τ))) (hf : (m.access R).read (Elt F) f = w) :
    ((m.access R).loc (d : Thread nD τ) ↦[(m.access R).set]{fullShare} f : sProp 𝕄) ⊢ holds m R d w := by
  unfold holds
  iintro H; iexists f; isplitr; · ipureintro; exact hf
  iexact H

/-- The two ways of saying it: at some contents of the elements. -/
theorem holdsAny_eq : (holdsAny (F := F) m R d) ⊣⊢ Release.slot (((m.access R).loc (d : Thread nD τ))) (m.access R).set := by
  constructor
  · unfold holdsAny holds Release.slot
    iintro ⟨%w, %f, -, H⟩
    iexists f; iexact H
  · unfold holdsAny holds Release.slot
    iintro ⟨%f, H⟩
    iexists ((m.access R).read (Elt F) f)
    iexists f
    isplitr; · ipureintro; rfl
    iexact H

/-- A rectangle is not held twice. -/
theorem holdsAny_twice (h : R.set.Nonempty) : iprop(holdsAny (F := F) m R d ∗ holdsAny m R d) ⊢ (False : sProp 𝕄) := by
  iintro ⟨H1, H2⟩
  ihave H1 := (holdsAny_eq (F := F) (m := m) (R := R) (d := d)).1 $$ H1
  ihave H2 := (holdsAny_eq (F := F) (m := m) (R := R) (d := d)).1 $$ H2
  iapply (Release.slot_slot_false (ℓ := (m.access R).loc (d : Thread nD τ)) (I := (m.access R).set) (by
    show (View.slice _ _).set.Nonempty
    rw [View.set_slice]; exact h.map))
  isplitl [H1] <;> iassumption

/-- What a rectangle of a memref reads is what the memref reads there. -/
theorem read_access (f : m.view.ty.Contents (Elt F)) (x : R.shape.Idx) : (m.access R).read (Elt F) f x = m.view.read (Elt F) f (R.emb x) := rfl

section Parts
variable {T : Type} [Fintype T] [Inhabited T] [DecidableEq T] (P : T → Rect s)

/-- Elements that are the disjoint rectangles `P t`: held all together at one valuation, or rectangle by rectangle. -/
theorem parts_iff (S : Finset s.Idx) (hcov : S = Finset.univ.biUnion fun t => (P t).set)
    (hdis : ∀ t t', t ≠ t' → Disjoint (P t).set (P t').set) (w : ∀ t, (P t).shape.Idx → Elt F e) :
    (iprop(∃ f : Buf (Elt F) (m.view.loc (d : Thread nD τ)), ⌜∀ t x, m.view.read (Elt F) f ((P t).emb x) = w t x⌝
        ∗ (m.view.loc (d : Thread nD τ) ↦[S.map m.view.emb]{fullShare} f)) : sProp 𝕄)
      ⊣⊢ bigSep Finset.univ fun t => holds m (P t) d (w t) := by
  have hS : S.map m.view.emb = Finset.univ.biUnion fun t => (m.access (P t)).set := by
    rw [hcov]
    ext i
    simp only [Finset.mem_map, Finset.mem_biUnion, Finset.mem_univ, true_and]
    constructor
    · rintro ⟨x, ⟨t, hx⟩, rfl⟩
      refine ⟨t, ?_⟩
      rw [show (m.access (P t)).set = (P t).set.map m.view.emb from View.set_slice m.view (P t)]
      exact Finset.mem_map_of_mem _ hx
    · rintro ⟨t, hi⟩
      rw [show (m.access (P t)).set = (P t).set.map m.view.emb from View.set_slice m.view (P t)] at hi
      obtain ⟨x, hx, rfl⟩ := Finset.mem_map.mp hi
      exact ⟨x, ⟨t, hx⟩, rfl⟩
  have hd : ∀ t ∈ (Finset.univ : Finset T), ∀ t' ∈ (Finset.univ : Finset T), t ≠ t' → Disjoint (m.access (P t)).set (m.access (P t')).set :=
    fun t _ t' _ h => View.disjoint_slice (hdis t t' h)
  constructor
  · rw [hS]
    iintro ⟨%f, %hf, H⟩
    have key : ∀ t, (m.access (P t)).read (Elt F) f = w t := fun t => funext fun x => hf t x
    have hm : ∀ t ∈ (Finset.univ : Finset T), (((m.access (P t)).loc (d : Thread nD τ) ↦[(m.access (P t)).set]{fullShare} f : sProp 𝕄)) ⊢ holds m (P t) d (w t) :=
      fun t _ => holds_intro (m := m) (R := P t) (d := d) (w := w t) f (key t)
    ihave H := (show ((m.view.loc (d : Thread nD τ) ↦[Finset.univ.biUnion fun t => (m.access (P t)).set]{fullShare} f : sProp 𝕄))
      ⊢ bigSep Finset.univ fun t => holds m (P t) d (w t) from (BIBase.Entails.trans (Entails.of_eq (pointsTo_biUnion _ _ hd)) (bigSep_mono' hm))) $$ H
    iexact H
  · unfold holds
    refine BIBase.Entails.trans (bigSep_exists_pi Finset.univ (fun (t : T) (f : Buf (Elt F) (m.view.loc (d : Thread nD τ))) =>
      iprop(⌜(m.access (P t)).read (Elt F) f = w t⌝ ∗ ((m.access (P t)).loc (d : Thread nD τ) ↦[(m.access (P t)).set]{fullShare} f)))) ?_
    iintro ⟨%fs, H⟩
    ihave H := (bigSep_pure_sep (Finset.univ : Finset T) _ _) $$ H
    icases H with ⟨%hfs, H⟩
    ihave H := (pointsTo_biUnion_join Finset.univ _ fs (fs default) hd) $$ H
    icases H with ⟨%g, %hg, H⟩
    iexists g
    isplitr
    · ipureintro
      intro t x
      refine Eq.trans ?_ (congrFun (hfs t (Finset.mem_univ t)) x)
      have := hg t (Finset.mem_univ t) (m.view.emb ((P t).emb x)) (Finset.mem_map_of_mem _ (Finset.mem_univ x))
      rw [View.read_apply, read_access, View.read_apply, this]
    · rw [hS]; iexact H

/-- A held rectangle is its disjoint parts held, each at its own values. -/
theorem holds_parts (sub : ∀ t, (P t).shape.Idx → R.shape.Idx) (hsub : ∀ t x, R.emb (sub t x) = (P t).emb x)
    (hcov : R.set = Finset.univ.biUnion fun t => (P t).set) (hdis : ∀ t t', t ≠ t' → Disjoint (P t).set (P t').set)
    (w : R.shape.Idx → Elt F e) :
    holds m R d w ⊣⊢ bigSep Finset.univ fun t => holds m (P t) d (fun x => w (sub t x)) := by
  have h := parts_iff (F := F) (m := m) (d := d) P R.set hcov hdis (fun t x => w (sub t x))
  have hset : (m.access R).set = R.set.map m.view.emb := View.set_slice m.view R
  constructor
  · refine BIBase.Entails.trans ?_ h.1
    unfold holds
    iintro ⟨%f, %hf, H⟩
    iexists f
    isplitr
    · ipureintro; intro t x; rw [← hsub, ← hf]; rfl
    · rw [hset]; iexact H
  · refine h.2.trans ?_
    iintro ⟨%f, %hf, H⟩
    rw [← hset]
    iapply (holds_intro (m := m) (R := R) (d := d) (w := w) f ?_) $$ H
    funext y
    have hy : R.emb y ∈ Finset.univ.biUnion fun t => (P t).set := by
      rw [← hcov, ← R.map_emb_univ]; exact Finset.mem_map_of_mem _ (Finset.mem_univ y)
    obtain ⟨t, -, ht⟩ := Finset.mem_biUnion.mp hy
    rw [← (P t).map_emb_univ] at ht
    obtain ⟨x, -, hx⟩ := Finset.mem_map.mp ht
    have : sub t x = y := R.emb.injective ((hsub t x).trans hx)
    rw [← this, ← hf t x, ← hsub]; rfl

/-- A whole buffer, whatever it holds, is its disjoint parts held. -/
theorem whole_parts (hu : m.view.set = Finset.univ) (hcov : (Finset.univ : Finset s.Idx) = Finset.univ.biUnion fun t => (P t).set)
    (hdis : ∀ t t', t ≠ t' → Disjoint (P t).set (P t').set) :
    (iprop(∃ f : Buf (Elt F) (m.view.loc (d : Thread nD τ)), (m.view.loc (d : Thread nD τ)) ↦{fullShare} f) : sProp 𝕄)
      ⊣⊢ bigSep Finset.univ fun t => holdsAny m (P t) d := by
  have hu : (Finset.univ : Finset s.Idx).map m.view.emb = Finset.univ := hu
  constructor
  · iintro ⟨%f, H⟩
    ihave H := (parts_iff (F := F) (m := m) (d := d) P Finset.univ hcov hdis (fun t x => m.view.read (Elt F) f ((P t).emb x))).1 $$ [H]
    · iexists f
      isplitr; · ipureintro; exact fun _ _ => rfl
      rw [hu]; iexact H
    iapply (bigSep_mono' (fun t _ => holds_any (F := F) _)) $$ H
  · unfold holdsAny
    refine BIBase.Entails.trans (bigSep_exists_pi Finset.univ (fun (t : T) (w : (P t).shape.Idx → Elt F e) => holds m (P t) d w)) ?_
    iintro ⟨%w, H⟩
    ihave H := (parts_iff (F := F) (m := m) (d := d) P Finset.univ hcov hdis w).2 $$ H
    icases H with ⟨%f, -, H⟩
    iexists f
    rw [hu]; iexact H
end Parts

/-- A load of a held rectangle gives its value. -/
theorem wp_load_holds {cs : CoreSpace} {m : Memref sig .tc cs s e} {hl : m.view.LoadsAt R} {k : (R.shape.Idx → Elt F e) → Bd F PUnit} {Q : PUnit → sProp 𝕄} (w : R.shape.Idx → Elt F e) :
    holds m R d w ⊢ iprop((holds m R d w -∗ wpD d (k w) Q) -∗ wpD d (.op (.load m R hl) k) Q) := by
  unfold holds
  iintro ⟨%f, %hf, H⟩ Hk
  iapply (wp_load_rect 𝒱₀ (d : Thread nD τ) none Set.univ (m := m) (r := R) (Finset.Subset.refl _)) $$ H
  iintro H
  rw [hf]
  iapply Hk
  iexists f
  isplitr; · ipureintro; exact hf
  iexact H

/-- A store of a whole held rectangle makes it hold the value stored. -/
theorem wp_store_holds {cs : CoreSpace} {m : Memref sig .tc cs s e} {w : R.shape.Idx → Elt F e} {hx : (m.access R).Stores Finset.univ} {hm : Finset.univ = Finset.univ ∨ ∀ a, R.stride a = 1}
    {k : PUnit → Bd F PUnit} {Q : PUnit → sProp 𝕄} (w₀ : R.shape.Idx → Elt F e) :
    holds m R d w₀ ⊢ iprop((holds m R d w -∗ wpD d (k ⟨⟩) Q) -∗ wpD d (.op (.store m R w Finset.univ hx hm) k) Q) := by
  unfold holds
  iintro ⟨%f, -, H⟩ Hk
  iapply (wp_store 𝒱₀ (d : Thread nD τ) none Set.univ (m := m) (r := R) (Mk := Finset.univ) (S := (m.access R).set)
    (by rw [View.setOn_univ])) $$ H
  iintro H
  iapply Hk
  iexists _
  isplitr; swap; · iexact H
  ipureintro; exact View.read_write_univ _ _

end Rect

/-! ## Transfers -/

section Dma
variable {e : EltTy} {s₁ s₂ s' : Shape} {cs₁ cs₂ : CoreSpace} {d d' : Dev nD}
  {m₁ : Memref sig .tc cs₁ s₁ e} {R₁ : Rect s₁} {h₁ : ∀ a, R₁.stride a = 1} {q₁ : R₁.shape.Squeezes s'}
  {m₂ : Memref sig .tc cs₂ s₂ e} {R₂ : Rect s₂} {h₂ : ∀ a, R₂.stride a = 1} {q₂ : R₂.shape.Squeezes s'}

/-- A copy between two rectangles seen at one shape: the destination reads what the source read. -/
theorem read_copied (fs : m₁.view.ty.Contents (Elt F)) (fd : m₂.view.ty.Contents (Elt F))
    (w₁ : R₁.shape.Idx → Elt F e) (w₂ : R₂.shape.Idx → Elt F e) (hf : (m₁.access R₁).read (Elt F) fs = w₁)
    (hw : ∀ x : s'.Idx, w₁ (Shape.reshapeEquiv q₁.numel_eq x) = w₂ (Shape.reshapeEquiv q₂.numel_eq x)) :
    (m₂.access R₂).read (Elt F) (((m₂.slice R₂ h₂).squeeze s' q₂).view.write (Elt F) fd
      (((m₁.slice R₁ h₁).squeeze s' q₁).view.read (Elt F) fs) Finset.univ) = w₂ := by
  funext y
  obtain ⟨x, rfl⟩ := (Shape.reshapeEquiv q₂.numel_eq).surjective y
  refine (View.read_write_reshape (m₂.access R₂) q₂.numel_eq fd _ x).trans ?_
  rw [← hw x, ← hf]
  rfl

variable {Rd : Rounds.Schedule (GSem nD τ sig) ℕ (MT nD τ sig ℕ (Elt F) ℕ UU ℕ)} [∀ g r t, BI.Storable (upEmb : UEmb _ (MT nD τ sig ℕ (Elt F) ℕ UU ℕ)) (Rd.payload g r t)]

/-- A transfer of a held rectangle into a held rectangle of device `d'`: its send payload is the source again, its
    arrival payload the destination at the source's value, with whatever is sent along (`X`). -/
theorem wp_send_holds {sS sR : DmaSem sig} {hsc : ((m₂.slice R₂ h₂).squeeze s' q₂).view.ref.isScScratch = false}
    {hsrc : ((m₁.slice R₁ h₁).squeeze s' q₁).view.WordExact} {hdst : ((m₂.slice R₂ h₂).squeeze s' q₂).view.WordExact}
    {hsem : DmaTarget.Typed cs₁ (.dma sR) (.remote (Dev.tc d' : Thread nD τ) ((m₂.slice R₂ h₂).squeeze s' q₂) (.dma sS) hsc)}
    {k : PUnit → Bd F PUnit} {Q : PUnit → sProp 𝕄} {X : sProp 𝕄} {ρ₁ ρ₂ t₁ t₂ : ℕ} {κ₁ κ₂ : ℕ}
    (hd₁ : t₁ ∈ Rd.duties ((d : Thread nD τ), .dma sS) ρ₁) (hd₂ : t₂ ∈ Rd.duties ((d' : Thread nD τ), .dma sR) ρ₂)
    (ι ι' N : ℕ) (hN : ((m₂.slice R₂ h₂).squeeze s' q₂).view.dmaCredit = N)
    (hk₁ : Rd.amount ((d : Thread nD τ), .dma sS) ρ₁ t₁ = N) (hk₂ : Rd.amount ((d' : Thread nD τ), .dma sR) ρ₂ t₂ = N)
    {O₀ : CellTallies nD τ sig ℕ} (O : CellTallies nD τ sig ℕ) (hO : O₀ = O + tallyAt ((d' : Thread nD τ), .dma sR) ι N) {W : Waits sig ℕ}
    (w₁ : R₁.shape.Idx → Elt F e) (w₂ : R₂.shape.Idx → Elt F e)
    (hw : ∀ x : s'.Idx, w₁ (Shape.reshapeEquiv q₁.numel_eq x) = w₂ (Shape.reshapeEquiv q₂.numel_eq x))
    (hpay₁ : holds m₁ R₁ d w₁ ⊢ Rd.payload ((d : Thread nD τ), .dma sS) ρ₁ t₁)
    (hpay₂ : iprop(holds m₂ R₂ d' w₂ ∗ X) ⊢ Rd.payload ((d' : Thread nD τ), .dma sR) ρ₂ t₂) :
    iprop(cellInv ER Rd κ₁ ((d : Thread nD τ), .dma sS) ∗ cellInv ER Rd κ₂ ((d' : Thread nD τ), .dma sR)
        ∗ holds m₁ R₁ d w₁ ∗ holdsAny m₂ R₂ d' ∗ X ∗ owes (d : Thread nD τ) O₀ W
        ∗ dutyTok ER ((d : Thread nD τ), .dma sS) ρ₁ t₁ ∗ reached ER ((d : Thread nD τ), .dma sS) ρ₁
        ∗ dutyTok ER ((d' : Thread nD τ), .dma sR) ρ₂ t₂ ∗ reached ER ((d' : Thread nD τ), .dma sR) ρ₂)
      ⊢ iprop(((cred (tallyAt ((d : Thread nD τ), .dma sS) ι' N) ∗ owes (d : Thread nD τ) O W) -∗ wpD d (k ⟨⟩) Q)
        -∗ wpD d (.op (.enqueueDma ((m₁.slice R₁ h₁).squeeze s' q₁) (.remote (Dev.tc d' : Thread nD τ) ((m₂.slice R₂ h₂).squeeze s' q₂) (.dma sS) hsc)
            (.dma sR) hsrc hdst hsem) k) Q) := by
  have e₁ : ((m₁.slice R₁ h₁).squeeze s' q₁).view.set = (m₁.access R₁).set := View.set_reshape _ _
  have e₂ : ((m₂.slice R₂ h₂).squeeze s' q₂).view.set = (m₂.access R₂).set := View.set_reshape _ _
  have p₁ : ∀ fs : Buf (Elt F) ((m₁.access R₁).loc (d : Thread nD τ)), (m₁.access R₁).read (Elt F) fs = w₁ →
      ((((m₁.slice R₁ h₁).squeeze s' q₁).view.loc (d : Thread nD τ) ↦[((m₁.slice R₁ h₁).squeeze s' q₁).view.set]{fullShare} fs) : sProp 𝕄)
        ⊢ Rd.payload ((d : Thread nD τ), .dma sS) ρ₁ t₁ := fun fs hfs => by
    rw [e₁]; exact (holds_intro fs hfs).trans hpay₁
  have p₂ : ∀ (fs : Buf (Elt F) ((m₁.access R₁).loc (d : Thread nD τ))) (fd : Buf (Elt F) ((m₂.access R₂).loc (d' : Thread nD τ))),
      (m₁.access R₁).read (Elt F) fs = w₁ →
      (iprop((((m₂.slice R₂ h₂).squeeze s' q₂).view.loc (d' : Thread nD τ) ↦[((m₂.slice R₂ h₂).squeeze s' q₂).view.set]{fullShare}
        (((m₂.slice R₂ h₂).squeeze s' q₂).view.write (Elt F) fd (((m₁.slice R₁ h₁).squeeze s' q₁).view.read (Elt F) fs) Finset.univ)) ∗ X) : sProp 𝕄)
        ⊢ Rd.payload ((d' : Thread nD τ), .dma sR) ρ₂ t₂ := fun fs fd hfs => by
    rw [e₂]; exact (sep_mono_left (holds_intro _ (read_copied fs fd w₁ w₂ hfs hw))).trans hpay₂
  unfold holdsAny
  unfold holds at *
  iintro ⟨HI₁, HI₂, ⟨%fs, %hfs, Hs⟩, ⟨%wd, %fd, -, Hd⟩, HX, Ho, Ht₁, Hr₁, Ht₂, Hr₂⟩
  iapply (Rounds.wp_send_pointsTo_with 𝒱₀ ER Rd (d : Thread nD τ) none (c' := (d' : Thread nD τ))
    (src := (m₁.slice R₁ h₁).squeeze s' q₁) (dst := (m₂.slice R₂ h₂).squeeze s' q₂) (q := fullShare) (F := X) (κ₁ := κ₁) (κ₂ := κ₂)
    hd₁ hd₂ ι ι' N hN hk₁ hk₂ O hO (fs := fs) (fd := fd) (W := W)
    (p₁ fs hfs) (p₂ fs fd hfs))
  isplitl [HI₁]; · iexact HI₁
  isplitl [HI₂]; · iexact HI₂
  isplitl [Hs]
  · rw [e₁]; iexact Hs
  isplitl [Hd HX]
  · isplitl [Hd]
    · rw [e₂]; iexact Hd
    · iexact HX
  isplitl [Ho]; · iexact Ho
  isplitl [Ht₁]; · iexact Ht₁
  isplitl [Hr₁]; · iexact Hr₁
  isplitl [Ht₂]; · iexact Ht₂
  iexact Hr₂

/-- A copy of a held rectangle into a held rectangle of the same device, the destination unsqueezed. -/
theorem wp_copy_holds {sp₂ : Space} {m₂ : Memref sig .tc sp₂ s₂ e} {q₃ : R₁.shape.Squeezes R₂.shape} {sR : DmaSem sig} {hsrc : ((m₁.slice R₁ h₁).squeeze R₂.shape q₃).view.WordExact} {hdst : (m₂.slice R₂ h₂).view.WordExact}
    {hsem : DmaTarget.Typed (nD := nD) cs₁ (.dma sR) (DmaTarget.here (p := (d : Thread nD τ).2) (m₂.slice R₂ h₂))}
    {k : PUnit → Bd F PUnit} {Q : PUnit → sProp 𝕄} {ρ t κ : ℕ}
    (hd : t ∈ Rd.duties ((d : Thread nD τ), .dma sR) ρ) (ι N : ℕ) (hN : (m₂.slice R₂ h₂).view.dmaCredit = N)
    (hk : Rd.amount ((d : Thread nD τ), .dma sR) ρ t = N)
    (w₁ : R₁.shape.Idx → Elt F e) (w₂ : R₂.shape.Idx → Elt F e) (hw : ∀ x : R₂.shape.Idx, w₁ (Shape.reshapeEquiv q₃.numel_eq x) = w₂ x)
    (hpay : iprop(holds m₂ R₂ d w₂ ∗ holds m₁ R₁ d w₁) ⊢ Rd.payload ((d : Thread nD τ), .dma sR) ρ t) :
    iprop(cellInv ER Rd κ ((d : Thread nD τ), .dma sR) ∗ holds m₁ R₁ d w₁ ∗ holdsAny m₂ R₂ d
        ∗ dutyTok ER ((d : Thread nD τ), .dma sR) ρ t ∗ reached ER ((d : Thread nD τ), .dma sR) ρ)
      ⊢ iprop((cred (tallyAt ((d : Thread nD τ), .dma sR) ι N) -∗ wpD d (k ⟨⟩) Q)
        -∗ wpD d (.op (.enqueueDma ((m₁.slice R₁ h₁).squeeze R₂.shape q₃) (.here (m₂.slice R₂ h₂)) (.dma sR) hsrc hdst hsem) k) Q) := by
  have e₁ : ((m₁.slice R₁ h₁).squeeze R₂.shape q₃).view.set = (m₁.access R₁).set := View.set_reshape _ _
  have p₁ : ∀ (fs : Buf (Elt F) ((m₁.access R₁).loc (d : Thread nD τ))) (fd : Buf (Elt F) ((m₂.access R₂).loc (d : Thread nD τ))),
      (m₁.access R₁).read (Elt F) fs = w₁ →
      (iprop(((m₂.slice R₂ h₂).view.loc (d : Thread nD τ) ↦[(m₂.slice R₂ h₂).view.set]{fullShare}
        ((m₂.slice R₂ h₂).view.write (Elt F) fd (((m₁.slice R₁ h₁).squeeze R₂.shape q₃).view.read (Elt F) fs) Finset.univ))
        ∗ (((m₁.slice R₁ h₁).squeeze R₂.shape q₃).view.loc (d : Thread nD τ) ↦[((m₁.slice R₁ h₁).squeeze R₂.shape q₃).view.set]{fullShare} fs)) : sProp 𝕄)
        ⊢ Rd.payload ((d : Thread nD τ), .dma sR) ρ t := fun fs fd hfs => by
    have r₂ : (m₂.access R₂).read (Elt F) ((m₂.slice R₂ h₂).view.write (Elt F) fd (((m₁.slice R₁ h₁).squeeze R₂.shape q₃).view.read (Elt F) fs) Finset.univ) = w₂ := by
      refine (View.read_write_univ _ _).trans ?_
      funext x; rw [← hw x, ← hfs]; rfl
    rw [e₁]
    exact (BIClass.sep_mono (holds_intro _ r₂) (holds_intro fs hfs)).trans hpay
  unfold holdsAny
  unfold holds at *
  iintro ⟨HI, ⟨%fs, %hfs, Hs⟩, ⟨%wd, %fd, -, Hd⟩, Ht, Hr⟩
  iapply (Rounds.wp_copy_pointsTo 𝒱₀ ER Rd (d : Thread nD τ) none
    (src := (m₁.slice R₁ h₁).squeeze R₂.shape q₃) (dst := m₂.slice R₂ h₂) (q := fullShare) (κ := κ)
    hd ι N hN hk (fs := fs) (fd := fd)
    (p₁ fs fd hfs))
  isplitl [HI]; · iexact HI
  isplitl [Hs]
  · rw [e₁]; iexact Hs
  isplitl [Hd]; · iexact Hd
  isplitl [Ht]; · iexact Ht
  iexact Hr

end Dma

end Cert.Proof
-- ==== Proof.Values.lean ====
module
public import proofs.«01_k».proof.Proof.Holds
public import Idealize.ShloMosaic.Lib.Pipeline.ValueKit.Geometry

/-! What the kernel computes, device by device, from the blocks of `x` and `w`. -/

@[expose] public section
noncomputable section

namespace Cert.Proof
open Cert.KernelIdeal Cert.KernelIdeal.Gen
open Idealize.ShloMosaic Idealize.ShloMosaic.TcCoe
open Idealize.SL Idealize.SL.Sem

variable {F : FTy → Type} [FloatOps F]

theorem inbRow (r : Fin 4) : ∀ a, (![0, 32 * r.val, 0] : Fin 3 → Nat) a + S1x32x8192.size a ≤ S1x128x8192.size a := by
  revert r; decide
/-- The rows of ring `r` in a chunk. -/
abbrev rowR (r : Fin 4) : Rect S1x128x8192 := Rect.unit (s := S1x128x8192) ![0, 32 * r.val, 0] S1x32x8192.size (inbRow r)

/-- Row `x` of ring `r`, as an index of the chunk. -/
def rowIx (r : Fin 4) (x : S1x32x8192.Idx) : S1x128x8192.Idx := (rowR r).emb x

theorem rowIx_val (r : Fin 4) (x : S1x32x8192.Idx) (a : Fin 3) :
    (rowIx r x a).val = (![0, 32 * r.val, 0] : Fin 3 → Nat) a + (x a).val := by
  unfold rowIx; exact ValueKit.rect_emb_unit_val _ _ _ _ _

theorem rowIx_bij : Function.Bijective (fun p : Fin 4 × S1x32x8192.Idx => rowIx p.1 p.2) := by
  constructor
  · rintro ⟨r, x⟩ ⟨r', x'⟩ h
    have h' : ∀ a, (rowIx r x a).val = (rowIx r' x' a).val := fun a => congrArg (fun i : S1x128x8192.Idx => (i a).val) h
    have h1 := h' (1 : Fin 3)
    rw [rowIx_val, rowIx_val] at h1
    have b1 : (x (1 : Fin 3)).val < 32 := (x (1 : Fin 3)).isLt
    have b2 : (x' (1 : Fin 3)).val < 32 := (x' (1 : Fin 3)).isLt
    have h1' : 32 * r.val + (x (1 : Fin 3)).val = 32 * r'.val + (x' (1 : Fin 3)).val := h1
    have hr : r = r' := Fin.ext (by omega)
    subst hr
    refine Prod.ext rfl (funext fun a => Fin.ext ?_)
    have := h' a
    rw [rowIx_val, rowIx_val] at this
    exact Nat.add_left_cancel this
  · intro i
    have b : (i (1 : Fin 3)).val < 128 := (i (1 : Fin 3)).isLt
    have b0 : (i (0 : Fin 3)).val < 1 := (i (0 : Fin 3)).isLt
    have b2 : (i (2 : Fin 3)).val < 8192 := (i (2 : Fin 3)).isLt
    let x : S1x32x8192.Idx := fun a => match a with
      | ⟨0, _⟩ => ⟨(i (0 : Fin 3)).val, b0⟩
      | ⟨1, _⟩ => ⟨(i (1 : Fin 3)).val % 32, Nat.mod_lt _ (by decide)⟩
      | ⟨2, _⟩ => ⟨(i (2 : Fin 3)).val, b2⟩
      | ⟨_ + 3, h⟩ => absurd h (by show ¬ _ < 3; omega)
    refine ⟨(⟨(i (1 : Fin 3)).val / 32, by omega⟩, x), ?_⟩
    funext a
    refine Fin.ext ?_
    rw [rowIx_val]
    match a with
    | ⟨0, _⟩ => exact Nat.zero_add _
    | ⟨1, _⟩ => exact Nat.div_add_mod _ 32
    | ⟨2, _⟩ => exact Nat.zero_add _
    | ⟨_ + 3, h⟩ => exact absurd h (by show ¬ _ < 3; omega)

/-- A chunk is four rings of rows. -/
def rowEq : Fin 4 × S1x32x8192.Idx ≃ S1x128x8192.Idx := Equiv.ofBijective _ rowIx_bij

/-- The rows of ring `r` of a chunk. -/
def rows {α : Type} (r : Fin 4) (v : S1x128x8192.Idx → α) : S1x32x8192.Idx → α := fun x => v (rowIx r x)
/-- The chunk with given rows. -/
def glue {α : Type} (f : Fin 4 → S1x32x8192.Idx → α) : S1x128x8192.Idx → α := fun i => f (rowEq.symm i).1 (rowEq.symm i).2

theorem rows_glue {α : Type} (f : Fin 4 → S1x32x8192.Idx → α) (r : Fin 4) : rows r (glue f) = f r := by
  funext x
  unfold rows glue
  have : rowEq.symm (rowIx r x) = (r, x) := rowEq.symm_apply_eq.mpr rfl
  rw [this]

theorem glue_rows {α : Type} (v : S1x128x8192.Idx → α) : glue (fun r => rows r v) = v := by
  funext i
  unfold rows glue
  exact congrArg v (rowEq.apply_symm_apply i)

section Run
variable (X : Dev nD → (cc0_stg0_0 : Ref sig .tc).ty.Contents (Elt F)) (Wt : Dev nD → (cc0_stg1_0 : Ref sig .tc).ty.Contents (Elt F))

/-- The chunk of device `d`'s product at row offset `off`. -/
def gemmV (d : Dev nD) (off : Fin 2 → Nat) (hoff : ∀ a, off a + S128x128.size a ≤ S4096x128.size a) : S1x128x8192.Idx → Elt F .f32 :=
  k0_pay1 (((Memref.whole cc0_stg0_0).access (Rect.unit (s := S4096x128) off S128x128.size hoff)).read (Elt F) (X d))
    (((Memref.whole cc0_stg1_0).access (Rect.unit (s := S128x8192) ![0, 0] S128x8192.size inb_S128x8192_S128x8192_0_0)).read (Elt F) (Wt d))

/-- Ring `r`'s running sum on device `d` after `t` steps. -/
def accV (r : Fin 4) : ℕ → Dev nD → S1x32x8192.Idx → Elt F .f32
  | 0, d => rows r (gemmV X Wt d (k0_off1 d) (k0_off1_inb d))
  | t + 1, d => k0_pay7 (rows r (gemmV X Wt d (k0_off2 d (BitVec.ofNat 32 (t % 31))) (off2_inb d t))) (k0_pay2 (accV r t (leftD d)))

/-- Message `t` of ring `r` from device `d`: its running sum packed. -/
def wireW (r : Fin 4) (t : ℕ) (d : Dev nD) : S1x32x8192.Idx → Elt F .bf16 := k0_pay2 (accV X Wt r t d)

/-- The running chunk after `t` steps. -/
def totV (t : ℕ) (d : Dev nD) : S1x128x8192.Idx → Elt F .f32 := glue fun r => accV X Wt r t d

abbrev k5 (k : ℕ) : Fin 5 := ⟨k % 5, Nat.mod_lt _ (by decide)⟩

/-- The maximum known to device `d` after `k` rounds of the exchange. -/
def mxV : ℕ → Dev nD → S1x8x128.Idx → Elt F .f32
  | 0, d => k0_pay340 (totV X Wt 31 d)
  | k + 1, d => k0_pay341 (mxV k d) (mxV k (partner (k5 k) d))

theorem inbOne : ∀ a, (![0, 0, 0] : Fin 3 → Nat) a + S1x1x1.size a ≤ S1x8x128.size a := by decide
/-- The entry of the exchanged block that is read. -/
def oneIx (x : S1x1x1.Idx) : S1x8x128.Idx := (Rect.unit (s := S1x8x128) ![0, 0, 0] S1x1x1.size inbOne).emb x

/-- The maximum device `d` scales by. -/
def maxV (d : Dev nD) : S1x1x1.Idx → Elt F .f32 := fun x => mxV X Wt 5 d (oneIx x)

/-- Ring `r`'s quantised rows on device `d`. -/
def qV (r : Fin 4) (d : Dev nD) : S1x32x8192.Idx → Elt F .i8 := quantV r (k0_pay339 (totV X Wt 31 d)) (maxV X Wt d)

/-- The device `n` steps back around the ring. -/
def back : ℕ → Dev nD → Dev nD
  | 0, d => d
  | n + 1, d => back n (leftD d)

/-- The `n`-th chunk device `d` stores. -/
def chunkV (d : Dev nD) : ℕ → S1x128x8192.Idx → Elt F .f32
  | 0 => k0_pay354 (k0_pay347 (maxV X Wt d)) (k0_pay348 (k0_pay339 (totV X Wt 31 d)) (maxV X Wt d))
  | g + 1 => glue fun r => k0_pay355 (k0_pay347 (maxV X Wt d)) (qV X Wt r (back g (leftD d)))

/-- The same, at the shape of the result's rows. -/
def outVal (d : Dev nD) (n : ℕ) : S128x8192.Idx → Elt F .f32 :=
  fun x => chunkV X Wt d n (Shape.reshapeEquiv squeezes_S1x128x8192_S128x8192.numel_eq x)

end Run

/-! ## Rows of a half of the accumulator -/

theorem cur_hsub (b : Fin 2) (r : Fin 4) (x : S1x32x8192.Idx) : (curR b).emb (rowIx r x) = (curRowR b r).emb x := by
  funext a
  refine Fin.ext ?_
  have e1 := ValueKit.rect_emb_unit_val (s := S2x128x8192) ![b.val, 0, 0] S1x128x8192.size (inbCur b) (rowIx r x) a
  have e2 := ValueKit.rect_emb_unit_val (s := S2x128x8192) ![b.val, 32 * r.val, 0] S1x32x8192.size (inbCurRow b r) x a
  refine e1.trans (Eq.trans ?_ e2.symm)
  rw [rowIx_val]
  match a with
  | ⟨0, _⟩ => show b.val + (0 + _) = b.val + _; omega
  | ⟨1, _⟩ => show 0 + (32 * r.val + _) = 32 * r.val + _; omega
  | ⟨2, _⟩ => show 0 + (0 + _) = 0 + _; omega
  | ⟨_ + 3, h⟩ => exact absurd h (by show ¬ _ < 3; omega)

theorem cur_cov (b : Fin 2) : (curR b).set = Finset.univ.biUnion fun r => (curRowR b r).set := by
  ext i
  rw [← (curR b).map_emb_univ]
  simp only [Finset.mem_map, Finset.mem_univ, true_and, Finset.mem_biUnion]
  constructor
  · rintro ⟨y, rfl⟩
    obtain ⟨⟨r, x⟩, rfl⟩ := rowIx_bij.2 y
    refine ⟨r, ?_⟩
    rw [cur_hsub, ← (curRowR b r).map_emb_univ]
    exact Finset.mem_map_of_mem _ (Finset.mem_univ x)
  · rintro ⟨r, hi⟩
    rw [← (curRowR b r).map_emb_univ] at hi
    obtain ⟨x, -, rfl⟩ := Finset.mem_map.mp hi
    exact ⟨rowIx r x, cur_hsub b r x⟩

theorem cur_dis (b : Fin 2) (r r' : Fin 4) (h : r ≠ r') : Disjoint (curRowR b r).set (curRowR b r').set := by
  rw [Finset.disjoint_left]
  intro i hi hi'
  rw [← (curRowR b r).map_emb_univ] at hi
  rw [← (curRowR b r').map_emb_univ] at hi'
  obtain ⟨x, -, rfl⟩ := Finset.mem_map.mp hi
  obtain ⟨x', -, e⟩ := Finset.mem_map.mp hi'
  rw [← cur_hsub, ← cur_hsub] at e
  exact h (congrArg Prod.fst (rowIx_bij.1 (a₁ := (r, x)) (a₂ := (r', x')) ((curR b).emb.injective e.symm)))

end Cert.Proof
-- ==== Proof.Protocol.lean ====
module
public import proofs.«01_k».proof.Proof.Values

/-! The kernel's semaphores, what is due on each of them, and what each unit hands over. -/

@[expose] public section
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The semaphores -/

/-- The kernel's own semaphores: the send (`false`) and receive (`true`) semaphores of ring `r`, slot `σ`; the same two
    of round `k` of the maximum exchange; the store semaphores; the credits of the four rings. -/
abbrev CK : Type := (Bool × Fin 4 × Fin 4) ⊕ (Bool × Fin 5) ⊕ Fin 2 ⊕ Fin 4
/-- Those and the barrier's. -/
abbrev Knd : Type := CK ⊕ Unit

abbrev kSend (r σ : Fin 4) : Knd := .inl (.inl (false, r, σ))
abbrev kRecv (r σ : Fin 4) : Knd := .inl (.inl (true, r, σ))
abbrev kAxs (k : Fin 5) : Knd := .inl (.inr (.inl (false, k)))
abbrev kAxr (k : Fin 5) : Knd := .inl (.inr (.inl (true, k)))
abbrev kStore (b : Fin 2) : Knd := .inl (.inr (.inr (.inl b)))
abbrev kCredit (r : Fin 4) : Knd := .inl (.inr (.inr (.inr r)))
abbrev kBar : Knd := .inr ()

def osem : CK → SemLoc sig
  | .inl (false, r, σ) => .dma (sendS r σ)
  | .inl (true, r, σ) => .dma (recvS r σ)
  | .inr (.inl (false, k)) => .dma (axsS k)
  | .inr (.inl (true, k)) => .dma (axrS k)
  | .inr (.inr (.inl b)) => .dma (storeS b)
  | .inr (.inr (.inr r)) => .reg (creditS r)

def semOf : Knd → SemLoc sig
  | .inl k => osem k
  | .inr _ => .reg barS

instance : Fintype CK := inferInstanceAs (Fintype ((Bool × Fin 4 × Fin 4) ⊕ ((Bool × Fin 5) ⊕ (Fin 2 ⊕ Fin 4))))
instance : DecidableEq CK := inferInstanceAs (DecidableEq ((Bool × Fin 4 × Fin 4) ⊕ ((Bool × Fin 5) ⊕ (Fin 2 ⊕ Fin 4))))

set_option maxRecDepth 20000 in
set_option synthInstance.maxHeartbeats 200000 in
theorem semOf_inj : ∀ k k' : Knd, semOf k = semOf k' → k = k' := by decide +kernel

/-- Semaphore `k` of device `d`. -/
abbrev cell (d : Dev nD) (k : Knd) : GSem nD τ sig := ((d : Thread nD τ), semOf k)

theorem cell_inj {d d' : Dev nD} {k k' : Knd} (h : cell d k = cell d' k') : d = d' ∧ k = k' :=
  ⟨congrArg (fun g : GSem nD τ sig => g.1.1) h, semOf_inj _ _ (congrArg Prod.snd h)⟩

/-- Which of the semaphores a cell is. -/
def kndOf (s : SemLoc sig) : Option Knd := open Classical in if h : ∃ k, semOf k = s then some h.choose else none

theorem kndOf_semOf (k : Knd) : kndOf (semOf k) = some k := by
  unfold kndOf
  have h : ∃ k', semOf k' = semOf k := ⟨k, rfl⟩
  rw [dif_pos h]
  exact congrArg some (semOf_inj _ _ h.choose_spec)

/-! ## Messages -/

/-- Receive slot of message `t` of a ring: 31 of the reduce-scatter, then 31 of the gather. -/
def rslot (t : ℕ) : Fin 4 := if t < 31 then m4 t else m4 (t - 31 + 1)
def sslot (t : ℕ) : Fin 4 := if t < 31 then ⟨t % 2, by omega⟩ else m4 (t - 31)
/-- The landing slot of message `t`. -/
def mk (t : ℕ) : Bool × Fin 4 := (decide (31 ≤ t), rslot t)
def mkey (d : Dev nD) (r : Fin 4) (t : ℕ) : Key := (d, .inl ((mk t).1, r, (mk t).2))
/-- How often the landing slot of message `t` has been released when `t` may be sent. -/
def mcnt (t : ℕ) : ℕ := if t < 31 then t / 4 + 1 else (t - 31) / 4 + 1
/-- The message that credit `m` permits. -/
def credMsg (m : ℕ) : ℕ := if m < 27 then m + 4 else m + 7
/-- How often landing slot `κ` of a ring has been released after `c` credits were given. -/
def rc (c : ℕ) (κ : Bool × Fin 4) : ℕ :=
  (if κ = (true, 0) then 0 else 1) + ((Finset.range c).filter fun m => mk (credMsg m) = κ).card

def names : Knd → Finset ℕ
  | .inl (.inl (false, _, σ)) => (Finset.range 62).filter fun t => sslot t = σ
  | .inl (.inl (true, _, σ)) => (Finset.range 62).filter fun t => rslot t = σ
  | .inl (.inr (.inl _)) => {0}
  | .inl (.inr (.inr (.inl b))) => (Finset.range 32).filter fun n => m2 n = b
  | .inl (.inr (.inr (.inr _))) => Finset.range 55
  | .inr _ => Finset.range 2

/-- Whether all of the semaphore's units belong to one round. -/
def flat : Knd → Bool
  | .inl (.inr (.inr (.inr _))) => true
  | .inr _ => true
  | _ => false

/-- The units of `k` before the `n`-th message. -/
def cnt (k : Knd) (n : ℕ) : ℕ := ((names k).filter (· < n)).card
def rnd (k : Knd) (t : ℕ) : ℕ := if flat k then 0 else cnt k t
def lastRnd (k : Knd) : ℕ := if flat k then 1 else (names k).card

theorem cnt_mono (k : Knd) {n n' : ℕ} (h : n ≤ n') : cnt k n ≤ cnt k n' :=
  Finset.card_le_card fun x hx => by
    rw [Finset.mem_filter] at hx ⊢; exact ⟨hx.1, lt_of_lt_of_le hx.2 h⟩
theorem cnt_succ (k : Knd) {t : ℕ} (h : t ∈ names k) : cnt k (t + 1) = cnt k t + 1 := by
  have e : (names k).filter (· < t + 1) = insert t ((names k).filter (· < t)) := by
    ext x; simp only [Finset.mem_filter, Finset.mem_insert]
    constructor
    · rintro ⟨hx, hl⟩
      rcases Nat.lt_succ_iff_lt_or_eq.mp hl with h1 | h1
      · exact .inr ⟨hx, h1⟩
      · exact .inl h1
    · rintro (rfl | ⟨hx, hl⟩)
      · exact ⟨h, Nat.lt_succ_self _⟩
      · exact ⟨hx, Nat.lt_succ_of_lt hl⟩
  unfold cnt
  rw [e, Finset.card_insert_of_notMem (by simp)]
theorem cnt_succ_ne (k : Knd) {t : ℕ} (h : t ∉ names k) : cnt k (t + 1) = cnt k t := by
  unfold cnt
  congr 1
  ext x; simp only [Finset.mem_filter]
  constructor
  · rintro ⟨hx, hl⟩
    rcases Nat.lt_succ_iff_lt_or_eq.mp hl with h1 | h1
    · exact ⟨hx, h1⟩
    · exact absurd (h1 ▸ hx) h
  · rintro ⟨hx, hl⟩; exact ⟨hx, Nat.lt_succ_of_lt hl⟩
theorem cnt_lt (k : Knd) {t : ℕ} (h : t ∈ names k) : cnt k t < (names k).card :=
  Finset.card_lt_card ⟨Finset.filter_subset _ _, fun hs => by
    have := Finset.mem_filter.mp (hs h); exact lt_irrefl _ this.2⟩
theorem cnt_inj (k : Knd) {t t' : ℕ} (h : t ∈ names k) (h' : t' ∈ names k) (e : cnt k t = cnt k t') : t = t' := by
  rcases lt_trichotomy t t' with hl | rfl | hl
  · have := cnt_mono k (Nat.succ_le_of_lt hl); rw [Nat.succ_eq_add_one, cnt_succ k h] at this; omega
  · rfl
  · have := cnt_mono k (Nat.succ_le_of_lt hl); rw [Nat.succ_eq_add_one, cnt_succ k h'] at this; omega

/-- The bytes of a reduce-scatter slot, a gather slot, a block of the exchange and a stored chunk. -/
@[irreducible] def NB : ℕ := (commV 0 0).view.dmaCredit
@[irreducible] def NA : ℕ := (agV 0 0).view.dmaCredit
@[irreducible] def NX : ℕ := (amaxV 0).view.dmaCredit
@[irreducible] def NS : ℕ := (outM.slice (Rect.unit (s := S4096x8192) ![0, 0] S128x8192.size (by decide)) (fun _ => rfl)).view.dmaCredit

def amt : Knd → ℕ → ℕ
  | .inl (.inl _), t => if t < 31 then NB else NA
  | .inl (.inr (.inl _)), _ => NX
  | .inl (.inr (.inr (.inl _))), _ => NS
  | _, _ => 1

theorem amt_pos (k : Knd) (t : ℕ) : 0 < amt k t := by
  rcases k with (_ | _ | _ | _) | _
  · show 0 < if t < 31 then NB else NA
    split
    · unfold NB; exact View.dmaCredit_pos _ (by decide)
    · unfold NA; exact View.dmaCredit_pos _ (by decide)
  · show 0 < NX
    unfold NX; exact View.dmaCredit_pos (amaxV 0).view (by decide)
  · show 0 < NS
    unfold NS; exact View.dmaCredit_pos (outM.slice (Rect.unit (s := S4096x8192) ![0, 0] S128x8192.size (by decide)) (fun _ => rfl)).view (by decide)
  · exact Nat.one_pos
  · exact Nat.one_pos

/-! ## Levels -/

def lvK : Knd → ℕ → ℕ
  | .inl (.inl (false, _, _)), _ => 0
  | .inl (.inl (true, r, _)), t => if t < 31 then 8 * t + 2 * r.val + 8 else 8 * (t - 31) + 2 * r.val + 400
  | .inl (.inr (.inl (false, _))), _ => 0
  | .inl (.inr (.inl (true, k))), _ => 300 + k.val
  | .inl (.inr (.inr (.inl _))), _ => 0
  | .inl (.inr (.inr (.inr r))), m => if m < 27 then 8 * m + 2 * r.val + 9 else 8 * (m - 27) + 2 * r.val + 401
  | .inr _, _ => 1

/-- The names that may be owed on a cell: those of the semaphore, and `0` elsewhere (the staging copies). -/
def L (g : GSem nD τ sig) : Finset ℕ := if g.1.2 = .tc then (match kndOf g.2 with | some k => names k | none => {0}) else ∅
def lv (g : GSem nD τ sig) (u : ℕ) : ℕ := match kndOf g.2 with | some k => lvK k u | none => 0

theorem L_cell (d : Dev nD) (k : Knd) : L (cell d k) = names k := by
  unfold L; rw [if_pos rfl, kndOf_semOf]
theorem lv_cell (d : Dev nD) (k : Knd) (u : ℕ) : lv (cell d k) u = lvK k u := by
  unfold lv; rw [kndOf_semOf]
theorem L_of_ne (g : GSem nD τ sig) (h : g.1.2 ≠ .tc) : L g = ∅ := if_neg h

/-- Everything in `O` may be owed, and lies above level `ℓ`. -/
def Above (ℓ : ℕ) (O : CellTallies nD τ sig ℕ) : Prop := ∀ g u, 0 < O g u → u ∈ L g ∧ ℓ < lv g u

theorem Above.zero (ℓ : ℕ) : Above ℓ 0 := fun g u h => absurd h (Nat.lt_irrefl 0)
theorem Above.add {ℓ : ℕ} {O O' : CellTallies nD τ sig ℕ} (h : Above ℓ O) (h' : Above ℓ O') : Above ℓ (O + O') := fun g u hp => by
  rw [Pi.add_apply, Finsupp.add_apply] at hp
  rcases Nat.eq_zero_or_pos (O g u) with h0 | h0
  · exact h' g u (by omega)
  · exact h g u h0
theorem Above.mono {ℓ ℓ' : ℕ} {O : CellTallies nD τ sig ℕ} (h : Above ℓ O) (hl : ℓ' ≤ ℓ) : Above ℓ' O :=
  fun g u hp => ⟨(h g u hp).1, lt_of_le_of_lt hl (h g u hp).2⟩
theorem Above.tally {ℓ : ℕ} (d : Dev nD) (k : Knd) (u n : ℕ) (hu : u ∈ names k) (hl : ℓ < lvK k u) :
    Above ℓ (tallyAt (cell d k) u n) := fun g v hp => by
  rw [tallyAt_apply] at hp
  by_cases h : g = cell d k ∧ v = u
  · obtain ⟨rfl, rfl⟩ := h
    exact ⟨by rw [L_cell]; exact hu, by rw [lv_cell]; exact hl⟩
  · rw [if_neg h] at hp; exact absurd hp (Nat.lt_irrefl 0)
theorem Above.sum {ℓ : ℕ} (S : Finset ℕ) (f : ℕ → CellTallies nD τ sig ℕ) (h : ∀ t ∈ S, Above ℓ (f t)) : Above ℓ (∑ t ∈ S, f t) := by
  induction S using Finset.induction_on with
  | empty => rw [Finset.sum_empty]; exact Above.zero ℓ
  | insert a S ha ih =>
    rw [Finset.sum_insert ha]
    exact (h a (Finset.mem_insert_self _ _)).add (ih fun t ht => h t (Finset.mem_insert_of_mem ht))

omit [FloatOps F] in
theorem mayWait (d : Dev nD) (k : Knd) (u : ℕ) (hu : u ∈ names k) {O : CellTallies nD τ sig ℕ} (hO : Above (lvK k u) O) :
    (levAts L lv : sProp 𝕄) ⊢ MayWait (d : Thread nD τ) (semOf k) u O :=
  MayOwe.of_cut (L := L) (lev := lv) (lvK k u) (fun p hp => by rw [Finset.mem_singleton.mp hp]; show u ∈ L (cell d k); rw [L_cell]; exact hu)
    (fun g u hg => (hO g u hg).1)
    (fun p hp => by rw [Finset.mem_singleton.mp hp]; show lv (cell d k) u ≤ _; rw [lv_cell])
    (fun g u hg => (hO g u hg).2)

/-! ## Payloads -/

section Pay
variable (X : Dev nD → (cc0_stg0_0 : Ref sig .tc).ty.Contents (Elt F)) (Wt : Dev nD → (cc0_stg1_0 : Ref sig .tc).ty.Contents (Elt F))

/-- Device `e` has released its five landing slots of the maximum exchange. -/
def dep (e : Dev nD) : sProp 𝕄 := bigSep Finset.univ fun k : Fin 5 => Release.released ES ((e, .inr k) : Key) 1
/-- Device `e` has received the whole reduce-scatter. -/
def done (e : Dev nD) : sProp 𝕄 := bigSep Finset.univ fun p : Fin 4 × Fin 4 => reached ER (cell e (kRecv p.1 p.2)) (cnt (kRecv p.1 p.2) 31)
/-- Message `t` of ring `r` may be sent to device `e`. -/
def perm (e : Dev nD) (r : Fin 4) (t : ℕ) : sProp 𝕄 :=
  iprop(Release.released ES (mkey e r t) (mcnt t) ∗ reached ER (cell e (kRecv r (rslot t))) (cnt (kRecv r (rslot t)) t))

/-- The messages that need no credit. -/
def firstMsgs : Finset ℕ := {0, 1, 2, 3, 31, 32, 33}
def greetOf (e : Dev nD) : sProp 𝕄 := bigSep Finset.univ fun r : Fin 4 => bigSep firstMsgs fun t => Release.released ES (mkey e r t) 1

/-- The devices that `d`'s maximum covers after `k` rounds of the exchange. -/
def grp (k : ℕ) (d : Dev nD) : Finset (Dev nD) := Finset.univ.filter fun e => e.val / 2 ^ k = d.val / 2 ^ k

def pay (d : Dev nD) : Knd → ℕ → sProp 𝕄
  | .inl (.inl (false, r, _)), t => if t < 31 then holdsAny (F := F) (wireM r) (slot2 (m2 t)) d else holdsAny (F := F) (agM r) (slot4 (sslot t)) d
  | .inl (.inl (true, r, _)), t =>
      if t < 31 then iprop(holds (commM r) (slot4 (rslot t)) d (wireW X Wt r t (leftD d)) ∗ bigSep (Finset.range (t + 1)) fun i => dep (back i (leftD d)))
      else holds (agM r) (slot4 (rslot t)) d (qV X Wt r (back (t - 31) (leftD d)))
  | .inl (.inr (.inl (false, k))), _ => holds amaxM (amaxR 5) d (mxV X Wt k.val d)
  | .inl (.inr (.inl (true, k))), _ =>
      iprop(holds amaxM (amaxR (k8 k)) d (mxV X Wt k.val (partner k d)) ∗ bigSep (grp k.val (partner k d)) fun e => done e)
  | .inl (.inr (.inr (.inl b))), n => iprop(holds outM (outR d n) d (outVal X Wt d n) ∗ holdsAny (F := F) curM (curR b) d)
  | .inl (.inr (.inr (.inr r))), m => bigSep (Finset.range (m + 1)) fun i => perm (rightD d) r (credMsg i)
  | .inr _, t => if t = 1 then greetOf (rightD d) else iprop(emp)

instance dep_storable (e : Dev nD) : BI.Storable (upEmb : UEmb _ 𝕄) (dep (F := F) e) := by unfold dep; infer_instance
instance done_storable (e : Dev nD) : BI.Storable (upEmb : UEmb _ 𝕄) (done (F := F) e) := by unfold done; infer_instance
instance perm_storable (e : Dev nD) (r : Fin 4) (t : ℕ) : BI.Storable (upEmb : UEmb _ 𝕄) (perm (F := F) e r t) := by unfold perm; infer_instance
instance greetOf_storable (e : Dev nD) : BI.Storable (upEmb : UEmb _ 𝕄) (greetOf (F := F) e) := by unfold greetOf; infer_instance
instance dep_persistent (e : Dev nD) : BI.Persistent (dep (F := F) e) := by unfold dep; infer_instance
instance done_persistent (e : Dev nD) : BI.Persistent (done (F := F) e) := by unfold done; infer_instance
instance perm_persistent (e : Dev nD) (r : Fin 4) (t : ℕ) : BI.Persistent (perm (F := F) e r t) := by unfold perm; infer_instance
instance greetOf_persistent (e : Dev nD) : BI.Persistent (greetOf (F := F) e) := by unfold greetOf; infer_instance

instance pay_storable (d : Dev nD) (k : Knd) (t : ℕ) : BI.Storable (upEmb : UEmb _ 𝕄) (pay X Wt d k t) := by
  unfold pay
  split <;> (try split) <;> infer_instance

/-- The kernel's schedule. -/
def Rd : Rounds.Schedule (GSem nD τ sig) ℕ 𝕄 where
  duties g ρ := if g.1.2 = .tc then (match kndOf g.2 with | some k => (names k).filter (fun t => rnd k t = ρ) | none => ∅) else ∅
  amount g _ t := match kndOf g.2 with | some k => amt k t | none => 1
  payload g _ t := match kndOf g.2 with | some k => pay X Wt g.1.1 k t | none => iprop(emp)
  amount_pos g _ t _ := by
    cases h : kndOf g.2 with
    | none => exact Nat.one_pos
    | some k => exact amt_pos k t
  unitless _ := False

instance Rd_storable (g : GSem nD τ sig) (ρ : ℕ) (t : ℕ) : BI.Storable (upEmb : UEmb _ 𝕄) ((Rd X Wt).payload g ρ t) := by
  show BI.Storable _ (match kndOf g.2 with | some k => pay X Wt g.1.1 k t | none => iprop(emp))
  split <;> infer_instance

theorem Rd_duties (d : Dev nD) (k : Knd) (ρ : ℕ) : (Rd X Wt).duties (cell d k) ρ = (names k).filter (fun t => rnd k t = ρ) := by
  show (if (cell d k).1.2 = .tc then (match kndOf (semOf k) with | some k => (names k).filter (fun t => rnd k t = ρ) | none => ∅) else ∅) = _
  rw [if_pos rfl, kndOf_semOf]
theorem Rd_amount (d : Dev nD) (k : Knd) (ρ t : ℕ) : (Rd X Wt).amount (cell d k) ρ t = amt k t := by
  show (match kndOf (semOf k) with | some k => amt k t | none => 1) = _
  rw [kndOf_semOf]
theorem Rd_payload (d : Dev nD) (k : Knd) (ρ t : ℕ) : (Rd X Wt).payload (cell d k) ρ t = pay X Wt d k t := by
  show (match kndOf (semOf k) with | some k => pay X Wt d k t | none => iprop(emp)) = _
  rw [kndOf_semOf]

theorem mem_duties (d : Dev nD) (k : Knd) {t : ℕ} (h : t ∈ names k) : t ∈ (Rd X Wt).duties (cell d k) (rnd k t) := by
  rw [Rd_duties, Finset.mem_filter]; exact ⟨h, rfl⟩

theorem Rd_duties_one (d : Dev nD) (k : Knd) (hk : flat k = false) {t : ℕ} (h : t ∈ names k) :
    (Rd X Wt).duties (cell d k) (cnt k t) = {t} := by
  rw [Rd_duties]
  ext x
  rw [Finset.mem_filter, Finset.mem_singleton]
  unfold rnd
  rw [hk]
  constructor
  · rintro ⟨hx, e⟩; exact cnt_inj k hx h e
  · rintro rfl; exact ⟨h, rfl⟩

theorem Rd_expect_one (d : Dev nD) (k : Knd) (hk : flat k = false) {t : ℕ} (h : t ∈ names k) :
    (Rd X Wt).expect (cell d k) (cnt k t) = amt k t := by
  unfold Schedule.expect Schedule.amountOf
  rw [Rd_duties_one X Wt d k hk h, Finset.sum_singleton, Rd_amount]

theorem Rd_later (d : Dev nD) (k : Knd) (ρ : ℕ) (h : lastRnd k ≤ ρ) : (Rd X Wt).duties (cell d k) ρ = ∅ := by
  rw [Rd_duties, Finset.filter_eq_empty_iff]
  intro t ht e
  unfold lastRnd at h
  unfold rnd at e
  cases hk : flat k with
  | true => rw [hk] at h e; simp at h e; omega
  | false => rw [hk] at h e; simp at h e; have := cnt_lt k ht; omega

end Pay

end Cert.Proof
-- ==== Proof.Ghost.lean ====
module
public import proofs.«01_k».proof.Proof.Protocol

/-! What a device keeps of each ring between operations, and how the operations move it on. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The neighbours -/

theorem right_left : ∀ d : Dev nD, rightD (leftD d) = d := by decide +kernel
theorem left_right : ∀ d : Dev nD, leftD (rightD d) = d := by decide +kernel
theorem partner_partner : ∀ (k : Fin 5) (d : Dev nD), partner k (partner k d) = d := by decide +kernel

/-- A landing slot's elements, whatever they hold. -/
def slotA (k : Key) : sProp 𝕄 := match k.2 with
  | .inl (false, r, σ) => holdsAny (F := F) (commM r) (slot4 σ) k.1
  | .inl (true, r, σ) => holdsAny (F := F) (agM r) (slot4 σ) k.1
  | .inr j => holdsAny (F := F) amaxM (amaxR (k8 j)) k.1

instance slotA_storable (k : Key) : BI.Storable (upEmb : UEmb _ 𝕄) (slotA (F := F) k) := by
  unfold slotA; split <;> infer_instance

theorem pos_slot : ∀ a : Fin 3, 0 < S1x32x8192.size a := by decide
theorem pos_amax : ∀ a : Fin 3, 0 < S1x8x128.size a := by decide

theorem slot4_nonempty (σ : Fin 4) : (slot4 σ).set.Nonempty := by
  rw [← Rect.map_emb_univ]
  exact (Finset.univ_nonempty_iff.mpr ⟨fun a => ⟨0, pos_slot a⟩⟩).map
theorem amaxR_nonempty (k : Fin 8) : (amaxR k).set.Nonempty := by
  rw [← Rect.map_emb_univ]
  exact (Finset.univ_nonempty_iff.mpr ⟨fun a => ⟨0, pos_amax a⟩⟩).map

theorem slotA_twice (k : Key) : iprop(slotA (F := F) k ∗ slotA k) ⊢ (False : sProp 𝕄) := by
  unfold slotA
  split
  · exact holdsAny_twice (slot4_nonempty _)
  · exact holdsAny_twice (slot4_nonempty _)
  · exact holdsAny_twice (amaxR_nonempty _)

section Run
variable (X : Dev nD → (cc0_stg0_0 : Ref sig .tc).ty.Contents (Elt F)) (Wt : Dev nD → (cc0_stg1_0 : Ref sig .tc).ty.Contents (Elt F))
variable (K : Dev nD × Knd → ℕ) (J : Key → ℕ)

/-- What every device knows throughout: the semaphores' invariants, that their first round is reached, the landing
    slots' invariants, and the levels. -/
def Ctx : sProp 𝕄 :=
  iprop((bigSep Finset.univ fun p : Dev nD × Knd => cellInv ER (Rd X Wt) (K p) (cell p.1 p.2))
    ∗ (bigSep Finset.univ fun p : Dev nD × Knd => reached ER (cell p.1 p.2) 0)
    ∗ (bigSep Finset.univ fun k : Key => Release.slotInv ES (J k) k (slotA (F := F) k))
    ∗ levAts L lv)

instance Ctx_persistent : BI.Persistent (Ctx X Wt K J) := by unfold Ctx; infer_instance

variable {X Wt K J}

theorem ctx_cell (d : Dev nD) (k : Knd) : Ctx X Wt K J ⊢ cellInv ER (Rd X Wt) (K (d, k)) (cell d k) := by
  unfold Ctx; iintro ⟨H, -⟩
  iapply (show (bigSep Finset.univ fun p : Dev nD × Knd => cellInv ER (Rd X Wt) (K p) (cell p.1 p.2) : sProp 𝕄) ⊢ cellInv ER (Rd X Wt) (K (d, k)) (cell d k)
    from bigSep_elim (Finset.mem_univ (d, k))) $$ H
theorem ctx_zero (d : Dev nD) (k : Knd) : Ctx X Wt K J ⊢ reached ER (cell d k) 0 := by
  unfold Ctx; iintro ⟨-, H, -⟩
  iapply (show (bigSep Finset.univ fun p : Dev nD × Knd => reached ER (cell p.1 p.2) 0 : sProp 𝕄) ⊢ reached ER (cell d k) 0
    from bigSep_elim (Finset.mem_univ (d, k))) $$ H
theorem ctx_slot (k : Key) : Ctx X Wt K J ⊢ Release.slotInv ES (J k) k (slotA (F := F) k) := by
  unfold Ctx; iintro ⟨-, -, H, -⟩
  iapply (show (bigSep Finset.univ fun k : Key => Release.slotInv ES (J k) k (slotA (F := F) k) : sProp 𝕄) ⊢ Release.slotInv ES (J k) k (slotA (F := F) k)
    from bigSep_elim (Finset.mem_univ k)) $$ H
theorem ctx_lev : Ctx X Wt K J ⊢ (levAts L lv : sProp 𝕄) := by
  unfold Ctx; iintro ⟨-, -, -, H⟩; iexact H

theorem ctx_wait (d : Dev nD) (k : Knd) {t : ℕ} (ht : t ∈ names k) {O : CellTallies nD τ sig ℕ} (hO : Above (lvK k t) O) :
    Ctx X Wt K J ⊢ (MayWait (d : Thread nD τ) (semOf k) t O : sProp 𝕄) :=
  BIBase.Entails.trans (ctx_lev (X := X) (Wt := Wt) (K := K) (J := J)) (mayWait (F := F) d k t ht hO)

/-- Device `d` owes `O`. -/
def ow (d : Dev nD) (O : CellTallies nD τ sig ℕ) : sProp 𝕄 := iprop(∃ W, owes (d : Thread nD τ) O W)

/-! ## One wait for one duty -/

/-- A wait that takes the one duty `t` of its semaphore's round. -/
theorem wait_one (d : Dev nD) (k : Knd) (hk : flat k = false) {t : ℕ} (ht : t ∈ names k) {O : CellTallies nD τ sig ℕ} (hO : Above (lvK k t) O)
    {w : TpuEff nD τ sig (Elt F) Λ₀ .tc PUnit} {kont : PUnit → Bd F PUnit} {Q : PUnit → sProp 𝕄}
    (hw : ∀ P : PUnit → sProp 𝕄, wpE (defs₀ (F := F)) 𝒱₀ (d : Thread nD τ) none Set.univ w P = waitSpec (d : Thread nD τ) Set.univ (semOf k) (amt k t) P) :
    iprop(Ctx X Wt K J ∗ cred (tallyAt (cell d k) t (amt k t)) ∗ ow d O ∗ atPos ER (cell d k) (cnt k t) ∅ 0)
      ⊢ iprop(((ow d O ∗ atPos ER (cell d k) (cnt k (t + 1)) ∅ 0 ∗ reached ER (cell d k) (cnt k (t + 1)) ∗ pay X Wt d k t) -∗ wpD d (kont ⟨⟩) Q)
        -∗ wpD d (.op w kont) Q) := by
  unfold ow
  iintro ⟨#HC, Hc, ⟨%W, Ho⟩, Hat⟩ Hk
  iapply (Rounds.wp_wait_rest_token 𝒱₀ ER (Rd X Wt) (d : Thread nD τ) none (κ := K (d, k)) (sm := semOf k)
      hw (Set.mem_univ _) t (O := O) (W := W) (R := cnt k t) (m := 0) (T := ∅)
      (by rw [Nat.zero_add]; exact (Rd_expect_one X Wt d k hk ht).symm)) $$ [Hc Ho Hat]
  · isplitr; · iapply (ctx_cell (X := X) (Wt := Wt) (K := K) (J := J) d k); iexact HC
    isplitl [Hc]; · iexact Hc
    isplitl [Ho]; · iexact Ho
    isplitr; · iapply (ctx_wait (X := X) (Wt := Wt) (K := K) (J := J) d k ht hO); iexact HC
    iexact Hat
  iintro ⟨Ho, Hat, Hr, Hp⟩
  iapply Hk
  isplitl [Ho]; · iexists _; iexact Ho
  rw [cnt_succ k ht]
  isplitl [Hat]; · iexact Hat
  isplitl [Hr]; · iexact Hr
  iapply (Entails.of_eq (show bigSep ((Rd X Wt).duties (cell d k) (cnt k t) \ ∅) (fun u => (Rd X Wt).payload (cell d k) (cnt k t) u) = pay X Wt d k t by
    rw [Finset.sdiff_empty, Rd_duties_one X Wt d k hk ht, bigSep_singleton, Rd_payload])) $$ Hp

/-! ## A ring's state -/

/-- The positions on some semaphores of device `d` once the messages before `n` are through. -/
def posAll {T : Type} [Fintype T] (d : Dev nD) (ks : T → Knd) (n : ℕ) : sProp 𝕄 :=
  bigSep Finset.univ fun σ => iprop(atPos ER (cell d (ks σ)) (cnt (ks σ) n) ∅ 0 ∗ reached ER (cell d (ks σ)) (cnt (ks σ) n))

theorem posAll_step {T : Type} [Fintype T] [DecidableEq T] (d : Dev nD) (ks : T → Knd) (n : ℕ) (σ₀ : T) (h : ∀ σ, σ ≠ σ₀ → n ∉ names (ks σ)) :
    posAll (F := F) d ks n ⊢ iprop((atPos ER (cell d (ks σ₀)) (cnt (ks σ₀) n) ∅ 0 ∗ reached ER (cell d (ks σ₀)) (cnt (ks σ₀) n))
      ∗ ((atPos ER (cell d (ks σ₀)) (cnt (ks σ₀) (n + 1)) ∅ 0 ∗ reached ER (cell d (ks σ₀)) (cnt (ks σ₀) (n + 1))) -∗ posAll d ks (n + 1))) := by
  unfold posAll
  rw [bigSep_univ_at _ σ₀, bigSep_univ_at (fun σ => iprop(atPos ER (cell d (ks σ)) (cnt (ks σ) (n + 1)) ∅ 0 ∗ reached ER (cell d (ks σ)) (cnt (ks σ) (n + 1)))) σ₀]
  iintro ⟨H, Hr⟩
  isplitl [H]; · iexact H
  iintro H
  isplitl [H]; · iexact H
  iapply (Entails.of_eq (bigSep_congr (fun σ hσ => by rw [cnt_succ_ne (ks σ) (h σ (Finset.ne_of_mem_erase hσ))]))) $$ Hr

theorem posAll_reached {T : Type} [Fintype T] [DecidableEq T] (d : Dev nD) (ks : T → Knd) (n : ℕ) (σ : T) :
    posAll (F := F) d ks n ⊢ reached ER (cell d (ks σ)) (cnt (ks σ) n) := by
  unfold posAll
  refine BIBase.Entails.trans (show _ ⊢ iprop(atPos ER (cell d (ks σ)) (cnt (ks σ) n) ∅ 0 ∗ reached ER (cell d (ks σ)) (cnt (ks σ) n)) from bigSep_elim (Finset.mem_univ σ)) ?_
  iintro ⟨-, H⟩; iexact H

theorem mem_recv {r : Fin 4} {t : ℕ} (h : t < 62) : t ∈ names (kRecv r (rslot t)) := Finset.mem_filter.mpr ⟨Finset.mem_range.mpr h, rfl⟩
theorem not_mem_recv {r σ : Fin 4} {t : ℕ} (h : σ ≠ rslot t) : t ∉ names (kRecv r σ) := fun hm => h (Finset.mem_filter.mp hm).2.symm
theorem mem_send {r : Fin 4} {t : ℕ} (h : t < 62) : t ∈ names (kSend r (sslot t)) := Finset.mem_filter.mpr ⟨Finset.mem_range.mpr h, rfl⟩
theorem not_mem_send {r σ : Fin 4} {t : ℕ} (h : σ ≠ sslot t) : t ∉ names (kSend r σ) := fun hm => h (Finset.mem_filter.mp hm).2.symm

/-- Bytes of message `t`. -/
abbrev amtM (t : ℕ) : ℕ := if t < 31 then NB else NA

/-- Ring `r`'s receiving side once the messages before `n` have arrived. -/
def rxSt (d : Dev nD) (r : Fin 4) (n : ℕ) : sProp 𝕄 :=
  iprop(posAll d (kRecv r) n ∗ bigSep (Finset.Ico n 62) fun t => cred (tallyAt (cell d (kRecv r (rslot t))) t (amtM t)))

/-- Ring `r`'s sending side once the messages before `nm` are sent and those before `ns` have left. -/
def txSt (d : Dev nD) (r : Fin 4) (ns nm : ℕ) : sProp 𝕄 :=
  iprop(posAll d (kSend r) ns
    ∗ (bigSep (Finset.Ico ns nm) fun t => cred (tallyAt (cell d (kSend r (sslot t))) t (amtM t)))
    ∗ bigSep (Finset.Ico nm 62) fun t => iprop(Release.writeTok ES (mkey (rightD d) r t) (mcnt t)
        ∗ dutyTok ER (cell d (kSend r (sslot t))) (cnt (kSend r (sslot t)) t) t
        ∗ dutyTok ER (cell (rightD d) (kRecv r (rslot t))) (cnt (kRecv r (rslot t)) t) t))

/-- Ring `r`'s credits to the left: `c` given. -/
def crOut (d : Dev nD) (r : Fin 4) (c : ℕ) : sProp 𝕄 :=
  iprop((bigSep Finset.univ fun κ : Bool × Fin 4 => Release.readerAt ES ((d, .inl (κ.1, r, κ.2)) : Key) (rc c κ))
    ∗ (bigSep (Finset.Ico c 55) fun m => dutyTok ER (cell (leftD d) (kCredit r)) 0 m)
    ∗ bigSep (Finset.range c) fun i => perm d r (credMsg i))

/-- Ring `r`'s credits from the right: `c` taken. -/
def crIn (X : Dev nD → (cc0_stg0_0 : Ref sig .tc).ty.Contents (Elt F)) (Wt : Dev nD → (cc0_stg1_0 : Ref sig .tc).ty.Contents (Elt F)) (d : Dev nD) (r : Fin 4) (c : ℕ) : sProp 𝕄 :=
  iprop((∃ S : Finset ℕ, ⌜S ⊆ Finset.range 55 ∧ c ≤ S.card⌝ ∗ atPos ER (cell d (kCredit r)) 0 S c ∗ bigSep S fun m => pay X Wt d (kCredit r) m)
    ∗ bigSep (Finset.Ico c 55) fun m => cred (tallyAt (cell d (kCredit r)) m 1))

omit [FloatOps F] in
theorem Ico_head {Φ : ℕ → sProp 𝕄} {a b : ℕ} (h : a < b) : bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, bigSep_insert (by simp)]
  rfl
omit [FloatOps F] in
theorem Ico_last {Φ : ℕ → sProp 𝕄} {a b : ℕ} (h : a ≤ b) : bigSep (Finset.Ico a (b + 1)) Φ = iprop(Φ b ∗ bigSep (Finset.Ico a b) Φ) := by
  have e : Finset.Ico a (b + 1) = insert b (Finset.Ico a b) := by
    ext x; simp only [Finset.mem_insert, Finset.mem_Ico]; omega
  rw [e, bigSep_insert (by simp)]
  rfl

/-- Message `t` arrives. -/
theorem rx_wait (d : Dev nD) (r : Fin 4) {t : ℕ} (ht : t < 62) {O : CellTallies nD τ sig ℕ} (hO : Above (lvK (kRecv r (rslot t)) t) O)
    {w : TpuEff nD τ sig (Elt F) Λ₀ .tc PUnit} {kont : PUnit → Bd F PUnit} {Q : PUnit → sProp 𝕄}
    (hw : ∀ P : PUnit → sProp 𝕄, wpE (defs₀ (F := F)) 𝒱₀ (d : Thread nD τ) none Set.univ w P = waitSpec (d : Thread nD τ) Set.univ (semOf (kRecv r (rslot t))) (amtM t) P) :
    iprop(Ctx X Wt K J ∗ rxSt d r t ∗ ow d O)
      ⊢ iprop(((rxSt d r (t + 1) ∗ ow d O ∗ pay X Wt d (kRecv r (rslot t)) t) -∗ wpD d (kont ⟨⟩) Q) -∗ wpD d (.op w kont) Q) := by
  unfold rxSt
  rw [Ico_head ht]
  iintro ⟨#HC, ⟨Hp, Hc, Hcs⟩, Ho⟩ Hk
  ihave Hp := (posAll_step d (kRecv r) t (rslot t) fun σ h => not_mem_recv h) $$ Hp
  icases Hp with ⟨⟨Hat, -⟩, Hp⟩
  iapply (wait_one (X := X) (Wt := Wt) (K := K) (J := J) d (kRecv r (rslot t)) rfl (mem_recv ht) hO hw) $$ [Hc Ho Hat]
  · isplitr; · iexact HC
    isplitl [Hc]; · iexact Hc
    isplitl [Ho]; · iexact Ho
    iexact Hat
  iintro ⟨Ho, Hat, Hr, Hpay⟩
  iapply Hk
  isplitl [Hp Hat Hr Hcs]
  · isplitl [Hp Hat Hr]
    · iapply Hp; isplitl [Hat]; · iexact Hat
      iexact Hr
    iexact Hcs
  isplitl [Ho]; · iexact Ho
  iexact Hpay

/-- Message `ns` has left. -/
theorem tx_wait (d : Dev nD) (r : Fin 4) {ns nm : ℕ} (h : ns < nm) (hm : nm ≤ 62) {O : CellTallies nD τ sig ℕ} (hO : Above 0 O)
    {w : TpuEff nD τ sig (Elt F) Λ₀ .tc PUnit} {kont : PUnit → Bd F PUnit} {Q : PUnit → sProp 𝕄}
    (hw : ∀ P : PUnit → sProp 𝕄, wpE (defs₀ (F := F)) 𝒱₀ (d : Thread nD τ) none Set.univ w P = waitSpec (d : Thread nD τ) Set.univ (semOf (kSend r (sslot ns))) (amtM ns) P) :
    iprop(Ctx X Wt K J ∗ txSt d r ns nm ∗ ow d O)
      ⊢ iprop(((txSt d r (ns + 1) nm ∗ ow d O ∗ pay X Wt d (kSend r (sslot ns)) ns) -∗ wpD d (kont ⟨⟩) Q) -∗ wpD d (.op w kont) Q) := by
  unfold txSt
  rw [Ico_head h]
  iintro ⟨#HC, ⟨Hp, ⟨Hc, Hcs⟩, Ht⟩, Ho⟩ Hk
  ihave Hp := (posAll_step d (kSend r) ns (sslot ns) fun σ h => not_mem_send h) $$ Hp
  icases Hp with ⟨⟨Hat, -⟩, Hp⟩
  iapply (wait_one (X := X) (Wt := Wt) (K := K) (J := J) d (kSend r (sslot ns)) rfl (mem_send (by omega)) hO hw) $$ [Hc Ho Hat]
  · isplitr; · iexact HC
    isplitl [Hc]; · iexact Hc
    isplitl [Ho]; · iexact Ho
    iexact Hat
  iintro ⟨Ho, Hat, Hr, Hpay⟩
  iapply Hk
  isplitl [Hp Hat Hr Hcs Ht]
  · isplitl [Hp Hat Hr]
    · iapply Hp; isplitl [Hat]; · iexact Hat
      iexact Hr
    isplitl [Hcs]; · iexact Hcs
    iexact Ht
  isplitl [Ho]; · iexact Ho
  iexact Hpay

/-- What sending message `nm` takes: the landing slot and the tokens. -/
theorem tx_prep (d : Dev nD) (r : Fin 4) {ns nm : ℕ} (h : nm < 62) (hns : ns ≤ nm)
    (hc : cnt (kSend r (sslot nm)) ns = cnt (kSend r (sslot nm)) nm) :
    iprop(Ctx X Wt K J ∗ txSt d r ns nm ∗ perm (rightD d) r nm)
      ⊢ (|={Set.univ}=> iprop(slotA (F := F) (mkey (rightD d) r nm)
          ∗ dutyTok ER (cell d (kSend r (sslot nm))) (rnd (kSend r (sslot nm)) nm) nm ∗ reached ER (cell d (kSend r (sslot nm))) (rnd (kSend r (sslot nm)) nm)
          ∗ dutyTok ER (cell (rightD d) (kRecv r (rslot nm))) (rnd (kRecv r (rslot nm)) nm) nm ∗ reached ER (cell (rightD d) (kRecv r (rslot nm))) (rnd (kRecv r (rslot nm)) nm)
          ∗ (cred (tallyAt (cell d (kSend r (sslot nm))) nm (amtM nm)) -∗ txSt d r ns (nm + 1))) : sProp 𝕄) := by
  unfold txSt perm
  rw [Ico_head h]
  iintro ⟨#HC, ⟨Hp, Hcs, ⟨Hw, Hd1, Hd2⟩, Ht⟩, #Hrel, #Hrea⟩
  ihave #Hr1 := (posAll_reached d (kSend r) ns (sslot nm)) $$ Hp
  imod (Release.slot_take ES (k := mkey (rightD d) r nm) (S := slotA (F := F) (mkey (rightD d) r nm)) (ι := J (mkey (rightD d) r nm)) (Set.mem_univ _) (mcnt nm)) $$ [Hw] with HS
  · isplitr; · iapply (ctx_slot (X := X) (Wt := Wt) (K := K) (J := J) (mkey (rightD d) r nm)); iexact HC
    isplitr; · iexact Hrel
    iexact Hw
  imodintro
  isplitl [HS]; · iexact HS
  isplitl [Hd1]; · iexact Hd1
  isplitr; · rw [hc]; iexact Hr1
  isplitl [Hd2]; · iexact Hd2
  isplitr; · iexact Hrea
  iintro Hc
  isplitl [Hp]; · iexact Hp
  isplitl [Hcs Hc]
  · rw [Ico_last hns]; isplitl [Hc]; · iexact Hc
    iexact Hcs
  iexact Ht

end Run

end Cert.Proof
-- ==== Proof.Ops.lean ====
module
public import proofs.«01_k».proof.Proof.Ghost

/-! The rings' operations: sends, arrivals, credits, over the state a device keeps of its rings. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What is owed to the neighbours -/

/-- Ring `r`'s messages from `nm` on, to the right, and its credits from `cg` on, to the left. -/
def dues (d : Dev nD) (r : Fin 4) (nm cg : ℕ) : CellTallies nD τ sig ℕ :=
  (∑ t ∈ Finset.Ico nm 62, tallyAt (cell (rightD d) (kRecv r (rslot t))) t (amtM t))
    + ∑ m ∈ Finset.Ico cg 55, tallyAt (cell (leftD d) (kCredit r)) m 1

theorem mem_credit {r : Fin 4} {m : ℕ} (h : m < 55) : m ∈ names (kCredit r) := Finset.mem_range.mpr h

theorem lv_recv (r σ : Fin 4) (t : ℕ) : lvK (kRecv r σ) t = if t < 31 then 8 * t + 2 * r.val + 8 else 8 * (t - 31) + 2 * r.val + 400 := rfl
theorem lv_credit (r : Fin 4) (m : ℕ) : lvK (kCredit r) m = if m < 27 then 8 * m + 2 * r.val + 9 else 8 * (m - 27) + 2 * r.val + 401 := rfl

theorem dues_above {ℓ : ℕ} (d : Dev nD) (r : Fin 4) (nm cg : ℕ)
    (h₁ : nm < 62 → ℓ < if nm < 31 then 8 * nm + 2 * r.val + 8 else 8 * (nm - 31) + 2 * r.val + 400)
    (h₂ : cg < 55 → ℓ < if cg < 27 then 8 * cg + 2 * r.val + 9 else 8 * (cg - 27) + 2 * r.val + 401) :
    Above ℓ (dues d r nm cg) := by
  unfold dues
  refine (Above.sum _ _ fun t ht => ?_).add (Above.sum _ _ fun m hm => ?_)
  · rw [Finset.mem_Ico] at ht
    refine Above.tally _ _ _ _ (mem_recv ht.2) ?_
    rw [lv_recv]
    have h := h₁ (by omega)
    split at h <;> split <;> omega
  · rw [Finset.mem_Ico] at hm
    refine Above.tally _ _ _ _ (mem_credit hm.2) ?_
    rw [lv_credit]
    have h := h₂ (by omega)
    split at h <;> split <;> omega

theorem sum_head (f : ℕ → CellTallies nD τ sig ℕ) {a b : ℕ} (h : a < b) : ∑ t ∈ Finset.Ico a b, f t = f a + ∑ t ∈ Finset.Ico (a + 1) b, f t := by
  have e : Finset.Ico a b = insert a (Finset.Ico (a + 1) b) := by
    ext x; simp only [Finset.mem_insert, Finset.mem_Ico]; omega
  rw [e, Finset.sum_insert (by simp)]

theorem dues_send (d : Dev nD) (r : Fin 4) {nm : ℕ} (cg : ℕ) (h : nm < 62) :
    dues d r nm cg = dues d r (nm + 1) cg + tallyAt (cell (rightD d) (kRecv r (rslot nm))) nm (amtM nm) := by
  unfold dues; rw [sum_head _ h]; ac_rfl
theorem dues_credit (d : Dev nD) (r : Fin 4) (nm : ℕ) {cg : ℕ} (h : cg < 55) :
    dues d r nm cg = dues d r nm (cg + 1) + tallyAt (cell (leftD d) (kCredit r)) cg 1 := by
  unfold dues; rw [sum_head _ h]; ac_rfl

omit [FloatOps F] in
theorem range_last (Φ : ℕ → sProp 𝕄) (m : ℕ) : bigSep (Finset.range (m + 1)) Φ = iprop(Φ m ∗ bigSep (Finset.range m) Φ) := by
  rw [Finset.range_add_one, bigSep_insert (by simp)]; rfl

/-! ## Arithmetic of slots -/

theorem rslot_rs {t : ℕ} (h : t < 31) : rslot t = m4 t := if_pos h
theorem sslot_rs {t : ℕ} (h : t < 31) : sslot t = ⟨t % 2, by omega⟩ := if_pos h
theorem rslot_ag (j : ℕ) : rslot (31 + j) = m4 (j + 1) := by
  unfold rslot; rw [if_neg (by omega), show 31 + j - 31 + 1 = j + 1 by omega]
theorem sslot_ag (j : ℕ) : sslot (31 + j) = m4 j := by
  unfold sslot; rw [if_neg (by omega), show 31 + j - 31 = j by omega]
theorem mkey_rs (d : Dev nD) (r : Fin 4) {t : ℕ} (h : t < 31) : mkey d r t = (d, .inl (false, r, m4 t)) := by
  unfold mkey mk; rw [rslot_rs h]; simp only [decide_eq_false (show ¬ 31 ≤ t by omega)]
theorem mkey_ag (d : Dev nD) (r : Fin 4) (j : ℕ) : mkey d r (31 + j) = (d, .inl (true, r, m4 (j + 1))) := by
  unfold mkey mk; rw [rslot_ag]; simp only [decide_eq_true (show 31 ≤ 31 + j by omega)]

/-- The arrivals on the slot that credit `m` frees, when it is given. -/
theorem credit_cnt : ∀ m < 55, ∀ r : Fin 4, cnt (kRecv r (rslot (credMsg m))) (if m < 27 then m + 1 else m + 5) = cnt (kRecv r (rslot (credMsg m))) (credMsg m) := by decide +kernel
theorem credit_rel : ∀ m < 55, rc m (mk (credMsg m)) + 1 = mcnt (credMsg m) := by decide +kernel
theorem credit_rc (m : ℕ) (κ : Bool × Fin 4) : rc (m + 1) κ = rc m κ + if mk (credMsg m) = κ then 1 else 0 := by
  unfold rc
  rw [Finset.range_add_one, Finset.filter_insert]
  by_cases h : mk (credMsg m) = κ
  · rw [if_pos h, if_pos h, Finset.card_insert_of_notMem (by simp)]; omega
  · rw [if_neg h, if_neg h]; rfl
/-- A send semaphore is free when it is used again. -/
theorem send_cnt_rs : ∀ t < 31, ∀ r : Fin 4, cnt (kSend r (sslot t)) (t - 1) = cnt (kSend r (sslot t)) t := by decide +kernel

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

/-! ## Credits -/

/-- Giving credit `m`: the slot that its message lands in is released. -/
theorem credit_op (d : Dev nD) (r : Fin 4) {m nr : ℕ} (hm : m < 55) (hnr : nr = if m < 27 then m + 1 else m + 5) {kont : Bd F PUnit} {Q : PUnit → sProp 𝕄}
    (O : CellTallies nD τ sig ℕ) (nm : ℕ) :
    iprop(Ctx X Wt K J ∗ crOut d r m ∗ rxSt d r nr ∗ slotA (F := F) (mkey d r (credMsg m)) ∗ ow d (O + dues d r nm m))
      ⊢ iprop(((crOut d r (m + 1) ∗ rxSt d r nr ∗ ow d (O + dues d r nm (m + 1))) -∗ wpD d kont Q) -∗ wpD d (creditOp d r kont) Q) := by
  unfold crOut rxSt ow creditOp
  rw [Ico_head hm, dues_credit d r nm hm]
  iintro ⟨#HC, ⟨Hra, ⟨Ht, Hts⟩, #Hps⟩, ⟨Hp, Hcs⟩, HS, ⟨%W, Ho⟩⟩ Hk
  ihave #Hre := (posAll_reached d (kRecv r) nr (rslot (credMsg m))) $$ Hp
  ihave Hra := (Entails.of_eq (bigSep_univ_at (fun κ : Bool × Fin 4 => (Release.readerAt ES ((d, .inl (κ.1, r, κ.2)) : Key) (rc m κ) : sProp 𝕄)) (mk (credMsg m)))) $$ Hra
  icases Hra with ⟨Hr1, Hra⟩
  iapply fupd_wp
  imod (Release.slot_release ES (k := mkey d r (credMsg m)) (S := slotA (F := F) (mkey d r (credMsg m))) (ι := J (mkey d r (credMsg m))) (Set.mem_univ _) (slotA_twice _) (rc m (mk (credMsg m)))) $$ [Hr1 HS] with ⟨Hr1, #Hrel⟩
  · isplitr; · iapply (ctx_slot (X := X) (Wt := Wt) (K := K) (J := J) (mkey d r (credMsg m))); iexact HC
    isplitl [Hr1]; · iexact Hr1
    iexact HS
  imodintro
  have hperm : (iprop(Release.released ES (mkey d r (credMsg m)) (rc m (mk (credMsg m)) + 1) ∗ reached ER (cell d (kRecv r (rslot (credMsg m)))) (cnt (kRecv r (rslot (credMsg m))) nr)) : sProp 𝕄) ⊢ perm d r (credMsg m) := by
    unfold perm; rw [credit_rel m hm, hnr, credit_cnt m hm r]
  ihave #Hperm := hperm $$ []
  · isplitr; · iexact Hrel
    iexact Hre
  iapply (Rounds.wp_signal 𝒱₀ ER (Rd X Wt) (d : Thread nD τ) none (dst := (leftD d : Thread nD τ)) (κ := K (leftD d, kCredit r))
      (d := m) (r := 0) (k' := 1) (mem_duties X Wt (leftD d) (kCredit r) (mem_credit hm)) (Rd_amount X Wt (leftD d) (kCredit r) 0 m) m
      (O + dues d r nm (m + 1)) (by rw [add_assoc])) $$ [Ho Ht]
  · isplitr; · iapply (ctx_cell (X := X) (Wt := Wt) (K := K) (J := J) (leftD d) (kCredit r)); iexact HC
    isplitl [Ho]; · iexact Ho
    isplitl [Ht]; · iexact Ht
    isplitr
    · iapply (Entails.of_eq (show pay X Wt (leftD d) (kCredit r) m = (Rd X Wt).payload ((leftD d : Thread nD τ), .reg (creditS r)) 0 m from (Rd_payload X Wt (leftD d) (kCredit r) 0 m).symm))
      iapply (Entails.of_eq (show iprop(perm (F := F) d r (credMsg m) ∗ bigSep (Finset.range m) fun i => perm d r (credMsg i)) = pay X Wt (leftD d) (kCredit r) m by
        show _ = bigSep (Finset.range (m + 1)) fun i => perm (rightD (leftD d)) r (credMsg i)
        rw [right_left, range_last]))
      isplitr; · iexact Hperm
      iexact Hps
    iapply (ctx_zero (X := X) (Wt := Wt) (K := K) (J := J) (leftD d) (kCredit r)); iexact HC
  iintro Ho
  iapply Hk
  isplitl [Hr1 Hra Hts]
  · isplitl [Hr1 Hra]
    · rw [bigSep_univ_at (fun κ : Bool × Fin 4 => (Release.readerAt ES ((d, .inl (κ.1, r, κ.2)) : Key) (rc (m + 1) κ) : sProp 𝕄)) (mk (credMsg m))]
      isplitl [Hr1]
      · rw [credit_rc, if_pos rfl]; iexact Hr1
      iapply (Entails.of_eq (bigSep_congr (fun κ hκ => by rw [credit_rc, if_neg (Finset.ne_of_mem_erase hκ).symm]; rfl))) $$ Hra
    isplitl [Hts]; · iexact Hts
    rw [range_last]
    isplitr; · iexact Hperm
    iexact Hps
  isplitl [Hp Hcs]
  · isplitl [Hp]; · iexact Hp
    iexact Hcs
  iexists W; iexact Ho

/-- Taking credit `c`. -/
theorem creditWait_op (d : Dev nD) (r : Fin 4) {c : ℕ} (hc : c < 55) {O : CellTallies nD τ sig ℕ} (hO : Above (lvK (kCredit r) c) O)
    {kont : Bd F PUnit} {Q : PUnit → sProp 𝕄} :
    iprop(Ctx X Wt K J ∗ crIn X Wt d r c ∗ ow d O)
      ⊢ iprop(((crIn X Wt d r (c + 1) ∗ ow d O) -∗ wpD d kont Q) -∗ wpD d (creditWaitOp r kont) Q) := by
  unfold crIn ow creditWaitOp
  rw [Ico_head hc]
  iintro ⟨#HC, ⟨⟨%T, %hT, Hat, Hps⟩, ⟨Hc, Hcs⟩⟩, ⟨%W, Ho⟩⟩ Hk
  iapply (Rounds.wp_wait 𝒱₀ ER (Rd X Wt) (d : Thread nD τ) none (κ := K (d, kCredit r)) (sm := semOf (kCredit r)) (k' := 1)
      (wpE_semWait_eq 𝒱₀ (d : Thread nD τ) none Set.univ) (Set.mem_univ _) (cr := Finsupp.single c 1) (O := O) (W := W) {(semOf (kCredit r), c)} (R := 0) (m := c) (T := T)
      (by rw [Idealize.SL.Util.total_single]) (by
        intro p hp
        obtain ⟨x, hx, rfl⟩ := Finset.mem_image.mp hp
        have := Finsupp.support_single_subset hx
        rw [Finset.mem_singleton] at this; subst this; exact Finset.mem_singleton_self _)) $$ [Hc Ho Hat]
  · isplitr; · iapply (ctx_cell (X := X) (Wt := Wt) (K := K) (J := J) d (kCredit r)); iexact HC
    isplitl [Hc]; · iexact Hc
    isplitl [Ho]; · iexact Ho
    isplitr; · iapply (ctx_wait (X := X) (Wt := Wt) (K := K) (J := J) d (kCredit r) (mem_credit hc) hO); iexact HC
    iexact Hat
  iintro %S ⟨%hS, Ho, Hat, Hp⟩
  iapply Hk
  have hdut : (Rd X Wt).duties ((d : Thread nD τ), semOf (kCredit r)) 0 = Finset.range 55 := by
    refine (Rd_duties X Wt d (kCredit r) 0).trans ?_
    exact Finset.filter_true_of_mem fun t _ => rfl
  have hexp : (Rd X Wt).expect ((d : Thread nD τ), semOf (kCredit r)) 0 = 55 := by
    unfold Schedule.expect Schedule.amountOf
    rw [hdut]
    refine (Finset.sum_congr rfl fun t _ => Rd_amount X Wt d (kCredit r) 0 t).trans ?_
    show ∑ t ∈ Finset.range 55, 1 = 55
    simp
  rw [hdut, hexp] at hS
  obtain ⟨hTS, hSd, hcard⟩ := hS
  have hcs : (Finset.range 55 \ S).card = 55 - S.card := by rw [Finset.card_sdiff_of_subset hSd, Finset.card_range]
  have hle : S.card ≤ 55 := (Finset.card_le_card hSd).trans (by rw [Finset.card_range])
  isplitr [Ho]
  · isplitr [Hcs]
    · iexists S
      isplitr; · ipureintro; exact ⟨hSd, by omega⟩
      isplitl [Hat]; · iexact Hat
      iapply (Entails.of_eq (show iprop((bigSep T fun m => pay X Wt d (kCredit r) m) ∗ bigSep (S \ T) fun m => (Rd X Wt).payload (cell d (kCredit r)) 0 m) = bigSep S fun m => pay X Wt d (kCredit r) m by
        rw [show (fun m => (Rd X Wt).payload (cell d (kCredit r)) 0 m) = fun m => pay X Wt d (kCredit r) m from funext fun m => Rd_payload X Wt d (kCredit r) 0 m]
        refine (bigSep_union (Finset.disjoint_sdiff)).symm.trans ?_
        rw [Finset.union_sdiff_of_subset hTS]))
      isplitl [Hps]; · iexact Hps
      iexact Hp
    iexact Hcs
  iexists _; iexact Ho

instance credit_persistent (d : Dev nD) (r : Fin 4) (m : ℕ) : BI.Persistent (pay X Wt d (kCredit r) m) := by
  show BI.Persistent (bigSep (Finset.range (m + 1)) fun i => perm (F := F) (rightD d) r (credMsg i)); infer_instance

/-- The credits taken permit the messages. -/
theorem crIn_perm (d : Dev nD) (r : Fin 4) {c i : ℕ} (hi : i < c) :
    crIn X Wt d r c ⊢ iprop(crIn X Wt d r c ∗ perm (rightD d) r (credMsg i)) := by
  unfold crIn
  iintro ⟨⟨%S, %hS, Hat, #Hps⟩, Hcs⟩
  obtain ⟨m, hm, hmi⟩ : ∃ m ∈ S, i ≤ m := by
    by_contra h
    push Not at h
    have : S ⊆ Finset.range i := fun x hx => Finset.mem_range.mpr (h x hx)
    have := Finset.card_le_card this
    rw [Finset.card_range] at this; omega
  isplitl [Hat Hcs]
  · isplitl [Hat]
    · iexists S; isplitr; · ipureintro; exact hS
      isplitl [Hat]; · iexact Hat
      iexact Hps
    iexact Hcs
  iapply (show (bigSep S fun m => pay X Wt d (kCredit r) m) ⊢ perm (rightD d) r (credMsg i) from
    BIBase.Entails.trans (show _ ⊢ pay X Wt d (kCredit r) m from bigSep_elim hm)
      (show (bigSep (Finset.range (m + 1)) fun i => perm (rightD d) r (credMsg i)) ⊢ _ from bigSep_elim (Finset.mem_range.mpr (by omega)))) $$ Hps

end Run

end Cert.Proof
-- ==== Proof.Local.lean ====
module
public import proofs.«01_k».proof.Proof.Ops

/-! The body's pieces one by one: local computation over held rectangles, and each kind of transfer. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

/-! ## Local computation -/

/-- Device `d` holds its two operands' staging buffers. -/
def stgs (X : Dev nD → (cc0_stg0_0 : Ref sig .tc).ty.Contents (Elt F)) (Wt : Dev nD → (cc0_stg1_0 : Ref sig .tc).ty.Contents (Elt F)) (d : Dev nD) : sProp 𝕄 :=
  iprop(((d : Thread nD τ).loc cc0_stg0_0 ↦{fullShare} X d) ∗ ((d : Thread nD τ).loc cc0_stg1_0 ↦{fullShare} Wt d))

theorem gemm_op (d : Dev nD) (b : Fin 2) (off : Fin 2 → Nat) (hoff : ∀ a, off a + S128x128.size a ≤ S4096x128.size a) {kont : Bd F PUnit} {Q : PUnit → sProp 𝕄} :
    iprop(stgs X Wt d ∗ holdsAny (F := F) curM (curR b) d)
      ⊢ iprop(((stgs X Wt d ∗ holds curM (curR b) d (gemmV X Wt d off hoff)) -∗ wpD d kont Q)
        -∗ wpD d (gemmOp (Memref.whole cc0_stg0_0) (Memref.whole cc0_stg1_0) b off hoff kont) Q) := by
  unfold stgs gemmOp holdsAny
  iintro ⟨⟨Hx, Hw⟩, ⟨%w₀, Hc⟩⟩ Hk
  iapply (wp_load_rect 𝒱₀ (d : Thread nD τ) none Set.univ (m := (Memref.whole cc0_stg0_0 : Memref sig .tc .vmem S4096x128 .f32)) (r := Rect.unit (s := S4096x128) off S128x128.size hoff) (S := Finset.univ) (q := fullShare) (f := X d) (Finset.subset_univ _)) $$ [Hx]
  · iexact Hx
  iintro Hx
  iapply (wp_load_rect 𝒱₀ (d : Thread nD τ) none Set.univ (m := (Memref.whole cc0_stg1_0 : Memref sig .tc .vmem S128x8192 .f32)) (r := Rect.unit (s := S128x8192) ![0, 0] S128x8192.size inb_S128x8192_S128x8192_0_0) (S := Finset.univ) (q := fullShare) (f := Wt d) (Finset.subset_univ _)) $$ [Hw]
  · iexact Hw
  iintro Hw
  iapply (wp_load_holds (m := curM) (R := curR b) (d := d) w₀) $$ Hc
  iintro Hc
  iapply (wp_store_holds (m := curM) (R := curR b) (d := d) w₀) $$ Hc
  iintro Hc
  iapply Hk
  isplitr [Hc]
  · isplitl [Hx]; · iexact Hx
    iexact Hw
  iexact Hc

theorem pack_op (d : Dev nD) (r : Fin 4) (b : Fin 2) (v : S1x32x8192.Idx → Elt F .f32) {kont : Bd F PUnit} {Q : PUnit → sProp 𝕄} :
    iprop(holds curM (curRowR b r) d v ∗ holdsAny (F := F) (wireM r) (slot2 b) d)
      ⊢ iprop(((holds curM (curRowR b r) d v ∗ holds (wireM r) (slot2 b) d (k0_pay2 v)) -∗ wpD d kont Q) -∗ wpD d (packOp r b kont) Q) := by
  unfold packOp holdsAny
  iintro ⟨Hc, ⟨%w₀, Hw⟩⟩ Hk
  iapply (wp_load_holds (m := curM) (R := curRowR b r) (d := d) v) $$ Hc
  iintro Hc
  iapply (wp_load_holds (m := wireM r) (R := slot2 b) (d := d) w₀) $$ Hw
  iintro Hw
  iapply (wp_store_holds (m := wireM r) (R := slot2 b) (d := d) w₀) $$ Hw
  iintro Hw
  iapply Hk
  isplitl [Hc]; · iexact Hc
  iexact Hw

theorem add_op (d : Dev nD) (r : Fin 4) (b : Fin 2) (σ : Fin 4) (v : S1x32x8192.Idx → Elt F .f32) (w : S1x32x8192.Idx → Elt F .bf16) {kont : Bd F PUnit} {Q : PUnit → sProp 𝕄} :
    iprop(holds curM (curRowR b r) d v ∗ holds (commM r) (slot4 σ) d w)
      ⊢ iprop(((holds curM (curRowR b r) d (k0_pay7 v w) ∗ holds (commM r) (slot4 σ) d w) -∗ wpD d kont Q) -∗ wpD d (addOp r b σ kont) Q) := by
  unfold addOp
  iintro ⟨Hc, Hw⟩ Hk
  iapply (wp_load_holds (m := curM) (R := curRowR b r) (d := d) v) $$ Hc
  iintro Hc
  iapply (wp_load_holds (m := commM r) (R := slot4 σ) (d := d) w) $$ Hw
  iintro Hw
  iapply (wp_load_holds (m := curM) (R := curRowR b r) (d := d) v) $$ Hc
  iintro Hc
  iapply (wp_store_holds (m := curM) (R := curRowR b r) (d := d) v) $$ Hc
  iintro Hc
  iapply Hk
  isplitl [Hc]; · iexact Hc
  iexact Hw

theorem quant_op (d : Dev nD) (r : Fin 4) (v : FVec F S128x8192 .f32) (m : Vec F S1x1x1 .f32) {kont : Bd F PUnit} {Q : PUnit → sProp 𝕄} :
    holdsAny (F := F) (agM r) (slot4 0) d
      ⊢ iprop((holds (agM r) (slot4 0) d (quantV r v m) -∗ wpD d kont Q) -∗ wpD d (quantOp r v m kont) Q) := by
  unfold quantOp holdsAny
  iintro ⟨%w₀, Hw⟩ Hk
  iapply (wp_load_holds (m := agM r) (R := slot4 0) (d := d) w₀) $$ Hw
  iintro Hw
  iapply (wp_store_holds (m := agM r) (R := slot4 0) (d := d) w₀) $$ Hw
  iexact Hk

theorem dequant_op (d : Dev nD) (r : Fin 4) (b : Fin 2) (σ : Fin 4) (q : F .f32) (w : S1x32x8192.Idx → Elt F .i8) {kont : Bd F PUnit} {Q : PUnit → sProp 𝕄} :
    iprop(holdsAny (F := F) curM (curRowR b r) d ∗ holds (agM r) (slot4 σ) d w)
      ⊢ iprop(((holds curM (curRowR b r) d (k0_pay355 q w) ∗ holds (agM r) (slot4 σ) d w) -∗ wpD d kont Q) -∗ wpD d (dequantOp r b σ q kont) Q) := by
  unfold dequantOp holdsAny
  iintro ⟨⟨%v, Hc⟩, Hw⟩ Hk
  iapply (wp_load_holds (m := agM r) (R := slot4 σ) (d := d) w) $$ Hw
  iintro Hw
  iapply (wp_load_holds (m := curM) (R := curRowR b r) (d := d) v) $$ Hc
  iintro Hc
  iapply (wp_store_holds (m := curM) (R := curRowR b r) (d := d) v) $$ Hc
  iintro Hc
  iapply Hk
  isplitl [Hc]; · iexact Hc
  iexact Hw

theorem own_op (d : Dev nD) (m : Vec F S1x1x1 .f32) (v : FVec F S128x8192 .f32) {kont : Bd F PUnit} {Q : PUnit → sProp 𝕄} :
    holdsAny (F := F) curM (curR 0) d
      ⊢ iprop((holds curM (curR 0) d (k0_pay354 (k0_pay347 m) (k0_pay348 v m)) -∗ wpD d kont Q) -∗ wpD d (ownOp m v kont) Q) := by
  unfold ownOp holdsAny
  iintro ⟨%w₀, Hc⟩ Hk
  iapply (wp_load_holds (m := curM) (R := curR 0) (d := d) w₀) $$ Hc
  iintro Hc
  iapply (wp_store_holds (m := curM) (R := curR 0) (d := d) w₀) $$ Hc
  iexact Hk

/-! ## Transfers -/

theorem credit_wire (r : Fin 4) (b : Fin 2) : (wireV r b).view.dmaCredit = NB := by unfold NB; fin_cases r <;> rfl
theorem credit_comm (r σ : Fin 4) : (commV r σ).view.dmaCredit = NB := by unfold NB; fin_cases r <;> rfl
theorem credit_ag (r σ : Fin 4) : (agV r σ).view.dmaCredit = NA := by unfold NA; fin_cases r <;> rfl

/-- The devices from `d` back, `n` of them, have released their landing slots of the exchange. -/
def deps (n : ℕ) (d : Dev nD) : sProp 𝕄 := bigSep (Finset.range n) fun i => dep (F := F) (back i d)
instance deps_persistent (n : ℕ) (d : Dev nD) : BI.Persistent (deps (F := F) n d) := by unfold deps; infer_instance

/-- Sending message `t` of the reduce-scatter. -/
theorem rs_send (d : Dev nD) (r : Fin 4) {t ns cg : ℕ} (ht : t < 31) (hns : ns = t - 1) {b : Fin 2} {σs σ : Fin 4} (hb : b = m2 t) (hs : σs = sslot t) (hσ : σ = m4 t)
    (O : CellTallies nD τ sig ℕ) {kont : Bd F PUnit} {Q : PUnit → sProp 𝕄} :
    iprop(Ctx X Wt K J ∗ txSt d r ns t ∗ perm (rightD d) r t ∗ holds (wireM r) (slot2 b) d (wireW X Wt r t d) ∗ deps (t + 1) d ∗ ow d (O + dues d r t cg))
      ⊢ iprop(((txSt d r ns (t + 1) ∗ ow d (O + dues d r (t + 1) cg)) -∗ wpD d kont Q) -∗ wpD d (rsSendOp d r b σs σ kont) Q) := by
  subst hns hs
  have hslot : slotA (F := F) (mkey (rightD d) r t) = holdsAny (commM r) (slot4 σ) (rightD d) := by rw [mkey_rs _ _ ht, hσ]; rfl
  have ham : amtM t = NB := if_pos ht
  have hσr : rslot t = σ := by rw [rslot_rs ht, hσ]
  have hprep := tx_prep (X := X) (Wt := Wt) (K := K) (J := J) d r (by omega : t < 62) (by omega : t - 1 ≤ t) (send_cnt_rs t ht r)
  rw [hslot, hσr, ham] at hprep
  unfold rsSendOp ow deps
  rw [dues_send d r cg (by omega : t < 62), hσr, ham]
  iintro ⟨#HC, Htx, #Hperm, Hs, Hdep, ⟨%W, Ho⟩⟩ Hk
  iapply fupd_wp
  imod hprep $$ [Htx] with ⟨HS, Hd1, #Hr1, Hd2, #Hr2, Htx⟩
  · isplitr; · iexact HC
    isplitl [Htx]; · iexact Htx
    iexact Hperm
  imodintro
  iapply (wp_send_holds (Rd := Rd X Wt) (d := d) (d' := rightD d) (m₁ := wireM r) (R₁ := slot2 b) (m₂ := commM r) (R₂ := slot4 σ) (X := bigSep (Finset.range (t + 1)) fun i => dep (back i d))
      (κ₁ := K (d, kSend r (sslot t))) (κ₂ := K (rightD d, kRecv r σ))
      (mem_duties X Wt d (kSend r (sslot t)) (mem_send (by omega : t < 62)))
      (show t ∈ (Rd X Wt).duties (cell (rightD d) (kRecv r σ)) (rnd (kRecv r σ) t) from mem_duties X Wt (rightD d) (kRecv r σ) (hσr ▸ mem_recv (by omega : t < 62)))
      t t NB (credit_comm r σ) ((Rd_amount X Wt d (kSend r (sslot t)) _ t).trans ham) ((Rd_amount X Wt (rightD d) (kRecv r σ) _ t).trans ham)
      (O + dues d r (t + 1) cg) (by rw [add_assoc]) (wireW X Wt r t d) (wireW X Wt r t d) (fun x => rfl)
      (by
        rw [show (Rd X Wt).payload ((d : Thread nD τ), .dma (sendS r (sslot t))) (rnd (kSend r (sslot t)) t) t = pay X Wt d (kSend r (sslot t)) t from Rd_payload X Wt d (kSend r (sslot t)) _ t]
        show _ ⊢ if t < 31 then holdsAny (F := F) (wireM r) (slot2 (m2 t)) d else _
        rw [if_pos ht, ← hb]; exact holds_any _)
      (by
        rw [show (Rd X Wt).payload ((rightD d : Thread nD τ), .dma (recvS r σ)) (rnd (kRecv r σ) t) t = pay X Wt (rightD d) (kRecv r σ) t from Rd_payload X Wt (rightD d) (kRecv r σ) _ t]
        show _ ⊢ if t < 31 then iprop(holds (commM r) (slot4 (rslot t)) (rightD d) (wireW X Wt r t (leftD (rightD d))) ∗ bigSep (Finset.range (t + 1)) fun i => dep (back i (leftD (rightD d)))) else _
        rw [if_pos ht, left_right, hσr])) $$ [Hs HS Hdep Ho Hd1 Hd2]
  · isplitr; · iapply (ctx_cell (X := X) (Wt := Wt) (K := K) (J := J) d (kSend r (sslot t))); iexact HC
    isplitr; · iapply (ctx_cell (X := X) (Wt := Wt) (K := K) (J := J) (rightD d) (kRecv r σ)); iexact HC
    isplitl [Hs]; · iexact Hs
    isplitl [HS]; · iexact HS
    isplitl [Hdep]; · iexact Hdep
    isplitl [Ho]; · iexact Ho
    isplitl [Hd1]; · iexact Hd1
    isplitr; · iexact Hr1
    isplitl [Hd2]; · iexact Hd2
    iexact Hr2
  iintro ⟨Hc, Ho⟩
  iapply Hk
  isplitl [Htx Hc]; · iapply Htx; iexact Hc
  iexists W; iexact Ho

/-- Message `t` of the reduce-scatter arrives. -/
theorem rs_recv (d : Dev nD) (r : Fin 4) {t : ℕ} (ht : t < 31) {b : Fin 2} {σ : Fin 4} (hσ : σ = m4 t) {O : CellTallies nD τ sig ℕ}
    (hO : Above (8 * t + 2 * r.val + 8) O) {kont : Bd F PUnit} {Q : PUnit → sProp 𝕄} :
    iprop(Ctx X Wt K J ∗ rxSt d r t ∗ ow d O)
      ⊢ iprop(((rxSt d r (t + 1) ∗ ow d O ∗ holds (commM r) (slot4 σ) d (wireW X Wt r t (leftD d)) ∗ deps (t + 1) (leftD d)) -∗ wpD d kont Q)
        -∗ wpD d (rsRecvOp r b σ kont) Q) := by
  have hσr : σ = rslot t := by rw [rslot_rs ht, hσ]
  subst hσr
  unfold rsRecvOp
  iintro H Hk
  iapply (rx_wait (X := X) (Wt := Wt) (K := K) (J := J) d r (by omega : t < 62) (by rw [lv_recv, if_pos ht]; exact hO)
    (fun P => (wpE_waitDma2_eq 𝒱₀ (d : Thread nD τ) none Set.univ P).trans (by rw [credit_comm, show amtM t = NB from if_pos ht]; rfl))) $$ H
  iintro ⟨Hrx, Ho, Hp⟩
  iapply Hk
  isplitl [Hrx]; · iexact Hrx
  isplitl [Ho]; · iexact Ho
  iapply (Entails.of_eq (show pay X Wt d (kRecv r (rslot t)) t = iprop(holds (commM r) (slot4 (rslot t)) d (wireW X Wt r t (leftD d)) ∗ deps (t + 1) (leftD d)) from if_pos ht)) $$ Hp

/-- Message `t` of the reduce-scatter has left. -/
theorem rs_sent (d : Dev nD) (r : Fin 4) {t nm : ℕ} (ht : t < 31) (hnm : t < nm) (hm : nm ≤ 62) {b : Fin 2} {σs σ : Fin 4} (hb : b = m2 t) (hs : σs = sslot t)
    {O : CellTallies nD τ sig ℕ} (hO : Above 0 O) {kont : Bd F PUnit} {Q : PUnit → sProp 𝕄} :
    iprop(Ctx X Wt K J ∗ txSt d r t nm ∗ ow d O)
      ⊢ iprop(((txSt d r (t + 1) nm ∗ ow d O ∗ holdsAny (F := F) (wireM r) (slot2 b) d) -∗ wpD d kont Q) -∗ wpD d (rsSentOp r b σs σ kont) Q) := by
  subst hs hb
  unfold rsSentOp
  iintro H Hk
  iapply (tx_wait (X := X) (Wt := Wt) (K := K) (J := J) d r hnm hm hO
    (fun P => (wpE_waitDma2_eq 𝒱₀ (d : Thread nD τ) none Set.univ P).trans (by rw [credit_wire, show amtM t = NB from if_pos ht]; rfl))) $$ H
  iintro ⟨Htx, Ho, Hp⟩
  iapply Hk
  isplitl [Htx]; · iexact Htx
  isplitl [Ho]; · iexact Ho
  iapply (Entails.of_eq (show pay X Wt d (kSend r (sslot t)) t = holdsAny (F := F) (wireM r) (slot2 (m2 t)) d from if_pos ht)) $$ Hp

/-- Sending number `j` of the gather. -/
theorem ag_send (d : Dev nD) (r : Fin 4) {j ns nm cg : ℕ} (hj : j < 31) (hnm : nm = 31 + j) (hns : ns = nm) (O : CellTallies nD τ sig ℕ) {kont : Bd F PUnit} {Q : PUnit → sProp 𝕄} :
    iprop(Ctx X Wt K J ∗ txSt d r ns nm ∗ perm (rightD d) r nm ∗ holds (agM r) (slot4 (m4 j)) d (qV X Wt r (back j d)) ∗ ow d (O + dues d r nm cg))
      ⊢ iprop(((txSt d r ns (nm + 1) ∗ ow d (O + dues d r (nm + 1) cg)) -∗ wpD d kont Q) -∗ wpD d (agSendOp d r j kont) Q) := by
  subst hns hnm
  have hslot : slotA (F := F) (mkey (rightD d) r (31 + j)) = holdsAny (agM r) (slot4 (m4 (j + 1))) (rightD d) := by rw [mkey_ag]; rfl
  have ham : amtM (31 + j) = NA := if_neg (by omega)
  have e1 := rslot_ag j
  have e2 := sslot_ag j
  have e3 : 31 + j - 31 = j := by omega
  have hprep := tx_prep (X := X) (Wt := Wt) (K := K) (J := J) d r (by omega : 31 + j < 62) (le_refl (31 + j)) rfl
  rw [hslot, e1, e2, ham] at hprep
  unfold agSendOp ow
  rw [dues_send d r cg (by omega : 31 + j < 62), e1, ham]
  iintro ⟨#HC, Htx, #Hperm, Hs, ⟨%W, Ho⟩⟩ Hk
  iapply fupd_wp
  imod hprep $$ [Htx] with ⟨HS, Hd1, #Hr1, Hd2, #Hr2, Htx⟩
  · isplitr; · iexact HC
    isplitl [Htx]; · iexact Htx
    iexact Hperm
  imodintro
  iapply (wp_send_holds (Rd := Rd X Wt) (d := d) (d' := rightD d) (m₁ := agM r) (R₁ := slot4 (m4 j)) (m₂ := agM r) (R₂ := slot4 (m4 (j + 1))) (X := iprop(emp))
      (κ₁ := K (d, kSend r (m4 j))) (κ₂ := K (rightD d, kRecv r (m4 (j + 1))))
      (show 31 + j ∈ (Rd X Wt).duties (cell d (kSend r (m4 j))) (rnd (kSend r (m4 j)) (31 + j)) from mem_duties X Wt d (kSend r (m4 j)) (e2 ▸ mem_send (by omega : 31 + j < 62)))
      (show 31 + j ∈ (Rd X Wt).duties (cell (rightD d) (kRecv r (m4 (j + 1)))) (rnd (kRecv r (m4 (j + 1))) (31 + j)) from mem_duties X Wt (rightD d) (kRecv r (m4 (j + 1))) (e1 ▸ mem_recv (by omega : 31 + j < 62)))
      (31 + j) (31 + j) NA (credit_ag r (m4 (j + 1))) ((Rd_amount X Wt d (kSend r (m4 j)) _ (31 + j)).trans ham) ((Rd_amount X Wt (rightD d) (kRecv r (m4 (j + 1))) _ (31 + j)).trans ham)
      (O + dues d r (31 + j + 1) cg) (by rw [add_assoc]) (qV X Wt r (back j d)) (qV X Wt r (back j d)) (fun x => rfl)
      (by
        rw [show (Rd X Wt).payload ((d : Thread nD τ), .dma (sendS r (m4 j))) (rnd (kSend r (m4 j)) (31 + j)) (31 + j) = pay X Wt d (kSend r (m4 j)) (31 + j) from Rd_payload X Wt d (kSend r (m4 j)) _ (31 + j)]
        show _ ⊢ if 31 + j < 31 then _ else holdsAny (F := F) (agM r) (slot4 (sslot (31 + j))) d
        rw [if_neg (by omega), e2]; exact holds_any _)
      (by
        rw [show (Rd X Wt).payload ((rightD d : Thread nD τ), .dma (recvS r (m4 (j + 1)))) (rnd (kRecv r (m4 (j + 1))) (31 + j)) (31 + j) = pay X Wt (rightD d) (kRecv r (m4 (j + 1))) (31 + j) from Rd_payload X Wt (rightD d) (kRecv r (m4 (j + 1))) _ (31 + j)]
        show _ ⊢ if 31 + j < 31 then _ else holds (agM r) (slot4 (rslot (31 + j))) (rightD d) (qV X Wt r (back (31 + j - 31) (leftD (rightD d))))
        rw [if_neg (by omega), left_right, e1, e3]
        iintro ⟨H, -⟩; iexact H)) $$ [Hs HS Ho Hd1 Hd2]
  · isplitr; · iapply (ctx_cell (X := X) (Wt := Wt) (K := K) (J := J) d (kSend r (m4 j))); iexact HC
    isplitr; · iapply (ctx_cell (X := X) (Wt := Wt) (K := K) (J := J) (rightD d) (kRecv r (m4 (j + 1)))); iexact HC
    isplitl [Hs]; · iexact Hs
    isplitl [HS]; · iexact HS
    isplitr; · iempintro
    isplitl [Ho]; · iexact Ho
    isplitl [Hd1]; · iexact Hd1
    isplitr; · iexact Hr1
    isplitl [Hd2]; · iexact Hd2
    iexact Hr2
  iintro ⟨Hc, Ho⟩
  iapply Hk
  isplitl [Htx Hc]; · iapply Htx; iexact Hc
  iexists W; iexact Ho

/-- Number `j` of the gather arrives. -/
theorem ag_recv (d : Dev nD) (r : Fin 4) {j n : ℕ} (hj : j < 31) (hn : n = 31 + j) {O : CellTallies nD τ sig ℕ}
    (hO : Above (8 * j + 2 * r.val + 400) O) {kont : Bd F PUnit} {Q : PUnit → sProp 𝕄} :
    iprop(Ctx X Wt K J ∗ rxSt d r n ∗ ow d O)
      ⊢ iprop(((rxSt d r (n + 1) ∗ ow d O ∗ holds (agM r) (slot4 (m4 (j + 1))) d (qV X Wt r (back j (leftD d)))) -∗ wpD d kont Q)
        -∗ wpD d (agRecvOp r j kont) Q) := by
  subst hn
  have e1 := rslot_ag j
  have ham : amtM (31 + j) = NA := if_neg (by omega)
  unfold agRecvOp
  iintro H Hk
  iapply (rx_wait (X := X) (Wt := Wt) (K := K) (J := J) d r (by omega : 31 + j < 62) (by rw [lv_recv, if_neg (by omega), show 31 + j - 31 = j by omega]; exact hO)
    (fun P => (wpE_waitDma2_eq 𝒱₀ (d : Thread nD τ) none Set.univ P).trans (by rw [credit_ag, ham, e1]; rfl))) $$ H
  iintro ⟨Hrx, Ho, Hp⟩
  iapply Hk
  isplitl [Hrx]; · iexact Hrx
  isplitl [Ho]; · iexact Ho
  iapply (Entails.of_eq (show pay X Wt d (kRecv r (rslot (31 + j))) (31 + j) = holds (agM r) (slot4 (m4 (j + 1))) d (qV X Wt r (back j (leftD d))) by
    show (if 31 + j < 31 then _ else holds (agM r) (slot4 (rslot (31 + j))) d (qV X Wt r (back (31 + j - 31) (leftD d)))) = _
    rw [if_neg (by omega), e1, show 31 + j - 31 = j by omega])) $$ Hp

/-- Number `j` of the gather has left. -/
theorem ag_sent (d : Dev nD) (r : Fin 4) {j n nm : ℕ} (hj : j < 31) (hn : n = 31 + j) (hnm : n < nm) (hm : nm ≤ 62)
    {O : CellTallies nD τ sig ℕ} (hO : Above 0 O) {kont : Bd F PUnit} {Q : PUnit → sProp 𝕄} :
    iprop(Ctx X Wt K J ∗ txSt d r n nm ∗ ow d O)
      ⊢ iprop(((txSt d r (n + 1) nm ∗ ow d O ∗ holdsAny (F := F) (agM r) (slot4 (m4 j)) d) -∗ wpD d kont Q) -∗ wpD d (agSentOp r j kont) Q) := by
  subst hn
  have e2 := sslot_ag j
  have ham : amtM (31 + j) = NA := if_neg (by omega)
  unfold agSentOp
  iintro H Hk
  iapply (tx_wait (X := X) (Wt := Wt) (K := K) (J := J) d r hnm hm hO
    (fun P => (wpE_waitDma2_eq 𝒱₀ (d : Thread nD τ) none Set.univ P).trans (by rw [credit_ag, ham, e2]; rfl))) $$ H
  iintro ⟨Htx, Ho, Hp⟩
  iapply Hk
  isplitl [Htx]; · iexact Htx
  isplitl [Ho]; · iexact Ho
  iapply (Entails.of_eq (show pay X Wt d (kSend r (sslot (31 + j))) (31 + j) = holdsAny (F := F) (agM r) (slot4 (m4 j)) d by
    show (if 31 + j < 31 then _ else holdsAny (F := F) (agM r) (slot4 (sslot (31 + j))) d) = _
    rw [if_neg (by omega), e2])) $$ Hp

end Run

end Cert.Proof
-- ==== Proof.Rs.lean ====
module
public import proofs.«01_k».proof.Proof.Local

/-! The reduce-scatter: one ring's step, one step of the four rings, and all thirty-one. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

theorem deps_cons (n : ℕ) (d : Dev nD) : iprop(dep (F := F) d ∗ deps n (leftD d)) ⊢ deps (n + 1) d := by
  unfold deps
  induction n with
  | zero =>
    rw [range_last, Finset.range_zero, bigSep_empty, bigSep_empty]
    iintro ⟨H, H'⟩
    isplitl [H]; · iexact H
    iexact H'
  | succ n ih =>
    rw [range_last _ (n + 1), range_last _ n]
    iintro ⟨H, ⟨H1, H'⟩⟩
    isplitl [H1]; · iexact H1
    iapply ih
    isplitl [H]; · iexact H
    iexact H'

theorem first_mcnt : ∀ t < 34, t < 4 ∨ 31 ≤ t → mcnt t = 1 := by decide +kernel
theorem first_cnt_rs : ∀ t < 4, ∀ r : Fin 4, cnt (kRecv r (rslot t)) t = 0 := by decide +kernel
theorem first_cnt_ag : ∀ j < 3, ∀ r : Fin 4, cnt (kRecv r (rslot (31 + j))) (31 + j) = cnt (kRecv r (rslot (31 + j))) 31 := by decide +kernel

/-- The first messages are permitted by the greeting. -/
theorem first_perm_rs (e : Dev nD) (r : Fin 4) {t : ℕ} (ht : t < 4) : iprop(Ctx X Wt K J ∗ greetOf (F := F) e) ⊢ perm e r t := by
  have hm : t ∈ firstMsgs := by unfold firstMsgs; simp only [Finset.mem_insert, Finset.mem_singleton]; omega
  have h1 := first_mcnt t (by omega) (by omega)
  have h2 := first_cnt_rs t ht r
  unfold greetOf perm
  rw [h1, h2]
  iintro ⟨#HC, #HG⟩
  isplitr
  · iapply (show (bigSep Finset.univ fun r : Fin 4 => bigSep firstMsgs fun t => (Release.released ES (mkey e r t) 1 : sProp 𝕄)) ⊢ Release.released ES (mkey e r t) 1 from
      BIBase.Entails.trans (show _ ⊢ bigSep firstMsgs fun t => (Release.released ES (mkey e r t) 1 : sProp 𝕄) from bigSep_elim (Finset.mem_univ r)) (bigSep_elim hm))
    iexact HG
  · iapply (ctx_zero (X := X) (Wt := Wt) (K := K) (J := J) e (kRecv r (rslot t))); iexact HC

theorem first_perm_ag (e : Dev nD) (r : Fin 4) {t : ℕ} (h : 31 ≤ t) (ht : t < 34) : iprop(done (F := F) e ∗ greetOf (F := F) e) ⊢ perm e r t := by
  have hm : t ∈ firstMsgs := by unfold firstMsgs; simp only [Finset.mem_insert, Finset.mem_singleton]; omega
  have h1 := first_mcnt t (by omega) (by omega)
  have h2 := first_cnt_ag (t - 31) (by omega) r
  rw [show 31 + (t - 31) = t by omega] at h2
  unfold greetOf perm done
  rw [h1, h2]
  iintro ⟨#HC, #HG⟩
  isplitr
  · iapply (show (bigSep Finset.univ fun r : Fin 4 => bigSep firstMsgs fun t => (Release.released ES (mkey e r t) 1 : sProp 𝕄)) ⊢ Release.released ES (mkey e r t) 1 from
      BIBase.Entails.trans (show _ ⊢ bigSep firstMsgs fun t => (Release.released ES (mkey e r t) 1 : sProp 𝕄) from bigSep_elim (Finset.mem_univ r)) (bigSep_elim hm))
    iexact HG
  · iapply (show (bigSep Finset.univ fun p : Fin 4 × Fin 4 => (reached ER (cell e (kRecv p.1 p.2)) (cnt (kRecv p.1 p.2) 31) : sProp 𝕄)) ⊢ reached ER (cell e (kRecv r (rslot t))) (cnt (kRecv r (rslot t)) 31) from
      bigSep_elim (Finset.mem_univ (r, rslot t)))
    iexact HC

/-- The outgoing slot that is at rest before step `s`. -/
def wireFree (d : Dev nD) (r : Fin 4) (s : ℕ) : sProp 𝕄 := if s = 0 ∨ s = 31 then holdsAny (F := F) (wireM r) (slot2 1) d else iprop(emp)

/-- Ring `r` before step `s` of the reduce-scatter. -/
def rsSt (X : Dev nD → (cc0_stg0_0 : Ref sig .tc).ty.Contents (Elt F)) (Wt : Dev nD → (cc0_stg1_0 : Ref sig .tc).ty.Contents (Elt F)) (d : Dev nD) (s : ℕ) (r : Fin 4) : sProp 𝕄 :=
  iprop(rxSt d r s ∗ txSt d r (s - 1) (min (s + 1) 31) ∗ crOut d r (min s 27) ∗ crIn X Wt d r (min (s - 3) 27) ∗ wireFree d r s
    ∗ bigSep (Finset.Ico 27 s) fun t => holdsAny (F := F) (commM r) (slot4 (m4 t)) d)
/-- What ring `r` owes then. -/
def rsDues (d : Dev nD) (s : ℕ) (r : Fin 4) : CellTallies nD τ sig ℕ := dues d r (min (s + 1) 31) (min s 27)

theorem rs_sent_opt (d : Dev nD) (s : ℕ) (hs : s < 31) (r : Fin 4) {O : CellTallies nD τ sig ℕ} (hO : Above 0 O) {kont : Bd F PUnit} {Q : PUnit → sProp 𝕄} :
    iprop(Ctx X Wt K J ∗ txSt d r (s - 1) (min (s + 1) 31) ∗ wireFree d r s ∗ ow d O)
      ⊢ iprop(((txSt d r s (min (s + 1) 31) ∗ ow d O ∗ holdsAny (F := F) (wireM r) (slot2 (m2 (s + 1))) d) -∗ wpD d kont Q)
        -∗ wpD d (whenB (Nat.ble 1 s) (rsSentOp r (m2 (s + 1)) ⟨(s + 1) % 2, by omega⟩ (m4 (s + 3))) kont) Q) := by
  unfold wireFree
  cases s with
  | zero =>
    rw [if_pos (.inl rfl)]
    show _ ⊢ iprop(_ -∗ wpD d kont Q)
    iintro ⟨-, Htx, Hw, Ho⟩ Hk
    iapply Hk
    isplitl [Htx]; · iexact Htx
    isplitl [Ho]; · iexact Ho
    iexact Hw
  | succ s =>
    rw [if_neg (by omega)]
    have e : m2 (s + 1 + 1) = m2 s := Fin.ext (by show (s + 1 + 1) % 2 = s % 2; omega)
    have e2 : (⟨(s + 1 + 1) % 2, by omega⟩ : Fin 4) = sslot s := by rw [sslot_rs (by omega)]; exact Fin.ext (by show (s + 1 + 1) % 2 = s % 2; omega)
    show _ ⊢ iprop(_ -∗ wpD d (rsSentOp r (m2 (s + 1 + 1)) ⟨(s + 1 + 1) % 2, _⟩ (m4 (s + 1 + 3)) kont) Q)
    iintro ⟨HC, Htx, -, Ho⟩ Hk
    iapply (rs_sent (X := X) (Wt := Wt) (K := K) (J := J) d r (t := s) (nm := min (s + 1 + 1) 31) (by omega) (by omega) (by omega) e e2 hO) $$ [HC Htx Ho]
    · isplitl [HC]; · iexact HC
      isplitl [Htx]; · iexact Htx
      iexact Ho
    iexact Hk

theorem rs_credit_opt (d : Dev nD) (s : ℕ) (hs : s < 31) (r : Fin 4) (nm : ℕ) (O : CellTallies nD τ sig ℕ) {kont : Bd F PUnit} {Q : PUnit → sProp 𝕄} :
    iprop(Ctx X Wt K J ∗ rxSt d r (s + 1) ∗ crOut d r (min s 27) ∗ holdsAny (F := F) (commM r) (slot4 (m4 s)) d
        ∗ (bigSep (Finset.Ico 27 s) fun t => holdsAny (F := F) (commM r) (slot4 (m4 t)) d) ∗ ow d (O + dues d r nm (min s 27)))
      ⊢ iprop(((rxSt d r (s + 1) ∗ crOut d r (min (s + 1) 27) ∗ (bigSep (Finset.Ico 27 (s + 1)) fun t => holdsAny (F := F) (commM r) (slot4 (m4 t)) d)
          ∗ ow d (O + dues d r nm (min (s + 1) 27))) -∗ wpD d kont Q)
        -∗ wpD d (whenB (Nat.ble s 26) (creditOp d r) kont) Q) := by
  by_cases h : s ≤ 26
  · rw [Nat.ble_eq_true_of_le h, min_eq_left (by omega : s ≤ 27), min_eq_left (by omega : s + 1 ≤ 27), Finset.Ico_eq_empty_of_le (by omega : s ≤ 27), Finset.Ico_eq_empty_of_le (by omega : s + 1 ≤ 27)]
    show _ ⊢ iprop(_ -∗ wpD d (creditOp d r kont) Q)
    have hk : mkey d r (credMsg s) = (d, .inl (false, r, m4 s)) := by
      unfold credMsg; rw [if_pos (by omega), mkey_rs _ _ (by omega)]
      rw [show m4 (s + 4) = m4 s from Fin.ext (by show (s + 4) % 4 = s % 4; omega)]
    have hslot : slotA (F := F) (mkey d r (credMsg s)) = holdsAny (commM r) (slot4 (m4 s)) d := by rw [hk]; rfl
    have hop := credit_op (X := X) (Wt := Wt) (K := K) (J := J) d r (m := s) (nr := s + 1) (by omega) (by rw [if_pos (by omega)]) (kont := kont) (Q := Q) O nm
    rw [hslot] at hop
    iintro ⟨HC, Hrx, Hcr, Hs, He, Ho⟩ Hk
    iapply hop $$ [HC Hrx Hcr Hs Ho]
    · isplitl [HC]; · iexact HC
      isplitl [Hcr]; · iexact Hcr
      isplitl [Hrx]; · iexact Hrx
      isplitl [Hs]; · iexact Hs
      iexact Ho
    iintro ⟨Hcr, Hrx, Ho⟩
    iapply Hk
    isplitl [Hrx]; · iexact Hrx
    isplitl [Hcr]; · iexact Hcr
    isplitl [He]; · iexact He
    iexact Ho
  · have hb : Nat.ble s 26 = false := by
      cases hb : Nat.ble s 26 with
      | false => rfl
      | true => exact absurd (Nat.le_of_ble_eq_true hb) h
    rw [hb, min_eq_right (by omega : 27 ≤ s), min_eq_right (by omega : 27 ≤ s + 1), Ico_last (by omega : 27 ≤ s)]
    show _ ⊢ iprop(_ -∗ wpD d kont Q)
    iintro ⟨-, Hrx, Hcr, Hs, He, Ho⟩ Hk
    iapply Hk
    isplitl [Hrx]; · iexact Hrx
    isplitl [Hcr]; · iexact Hcr
    isplitl [Hs He]
    · isplitl [Hs]; · iexact Hs
      iexact He
    iexact Ho

theorem rs_cwait_opt (d : Dev nD) (s : ℕ) (hs : s < 31) (r : Fin 4) {O : CellTallies nD τ sig ℕ} (hO : Above (8 * s + 2 * r.val + 8) O) {kont : Bd F PUnit} {Q : PUnit → sProp 𝕄} :
    iprop(Ctx X Wt K J ∗ crIn X Wt d r (min (s - 3) 27) ∗ ow d O)
      ⊢ iprop(((crIn X Wt d r (min (s + 1 - 3) 27) ∗ ow d O) -∗ wpD d kont Q)
        -∗ wpD d (whenB (Nat.ble 3 s && Nat.ble s 29) (creditWaitOp r) kont) Q) := by
  by_cases h : 3 ≤ s ∧ s ≤ 29
  · rw [Nat.ble_eq_true_of_le h.1, Nat.ble_eq_true_of_le h.2, min_eq_left (by omega : s - 3 ≤ 27), min_eq_left (by omega : s + 1 - 3 ≤ 27), show s + 1 - 3 = s - 3 + 1 by omega]
    show _ ⊢ iprop(_ -∗ wpD d (creditWaitOp r kont) Q)
    refine creditWait_op (X := X) (Wt := Wt) (K := K) (J := J) d r (c := s - 3) (by omega) (hO.mono ?_)
    rw [lv_credit, if_pos (by omega)]; omega
  · have hb : (Nat.ble 3 s && Nat.ble s 29) = false := by
      cases hb : (Nat.ble 3 s && Nat.ble s 29) with
      | false => rfl
      | true =>
        rw [Bool.and_eq_true] at hb
        exact absurd ⟨Nat.le_of_ble_eq_true hb.1, Nat.le_of_ble_eq_true hb.2⟩ h
    rw [hb, show min (s + 1 - 3) 27 = min (s - 3) 27 by omega]
    show _ ⊢ iprop(_ -∗ wpD d kont Q)
    iintro ⟨-, Hcr, Ho⟩ Hk
    iapply Hk
    isplitl [Hcr]; · iexact Hcr
    iexact Ho

theorem rs_send_opt (d : Dev nD) (s : ℕ) (hs : s < 31) (r : Fin 4) (cg : ℕ) (O : CellTallies nD τ sig ℕ) {kont : Bd F PUnit} {Q : PUnit → sProp 𝕄} :
    iprop(Ctx X Wt K J ∗ greetOf (F := F) (rightD d) ∗ txSt d r s (min (s + 1) 31) ∗ crIn X Wt d r (min (s + 1 - 3) 27)
        ∗ holds (wireM r) (slot2 (m2 (s + 1))) d (wireW X Wt r (s + 1) d) ∗ deps (s + 2) d ∗ ow d (O + dues d r (min (s + 1) 31) cg))
      ⊢ iprop(((txSt d r (s + 1 - 1) (min (s + 1 + 1) 31) ∗ crIn X Wt d r (min (s + 1 - 3) 27) ∗ wireFree d r (s + 1) ∗ ow d (O + dues d r (min (s + 1 + 1) 31) cg)) -∗ wpD d kont Q)
        -∗ wpD d (whenB (Nat.ble s 29) (rsSendOp d r (m2 (s + 1)) ⟨(s + 1) % 2, by omega⟩ (m4 (s + 1))) kont) Q) := by
  unfold wireFree
  by_cases h : s ≤ 29
  · have hperm : iprop(Ctx X Wt K J ∗ greetOf (F := F) (rightD d) ∗ crIn X Wt d r (min (s + 1 - 3) 27)) ⊢ iprop(crIn X Wt d r (min (s + 1 - 3) 27) ∗ perm (rightD d) r (s + 1)) := by
      by_cases h3 : s < 3
      · iintro ⟨#HC, #HG, Hcr⟩
        isplitl [Hcr]; · iexact Hcr
        iapply (first_perm_rs (X := X) (Wt := Wt) (K := K) (J := J) (rightD d) r (by omega : s + 1 < 4))
        isplitr; · iexact HC
        iexact HG
      · have := crIn_perm (X := X) (Wt := Wt) d r (c := min (s + 1 - 3) 27) (i := s - 3) (by omega)
        rw [show credMsg (s - 3) = s + 1 by unfold credMsg; rw [if_pos (by omega)]; omega] at this
        iintro ⟨-, -, Hcr⟩
        iapply this; iexact Hcr
    rw [Nat.ble_eq_true_of_le h, min_eq_left (by omega : s + 1 ≤ 31), min_eq_left (by omega : s + 1 + 1 ≤ 31), if_neg (by omega : ¬ (s + 1 = 0 ∨ s + 1 = 31))]
    show _ ⊢ iprop(_ -∗ wpD d (rsSendOp d r (m2 (s + 1)) ⟨(s + 1) % 2, _⟩ (m4 (s + 1)) kont) Q)
    iintro ⟨#HC, HG, Htx, Hcr, Hw, Hd, Ho⟩ Hk
    ihave Hp := hperm $$ [HG Hcr]
    · isplitr; · iexact HC
      isplitl [HG]; · iexact HG
      iexact Hcr
    icases Hp with ⟨Hcr, Hp⟩
    iapply (rs_send (X := X) (Wt := Wt) (K := K) (J := J) d r (t := s + 1) (ns := s) (cg := cg) (by omega) (by omega) rfl (by rw [sslot_rs (by omega)]) rfl O) $$ [Htx Hp Hw Hd Ho]
    · isplitr; · iexact HC
      isplitl [Htx]; · iexact Htx
      isplitl [Hp]; · iexact Hp
      isplitl [Hw]; · iexact Hw
      isplitl [Hd]; · iexact Hd
      iexact Ho
    iintro ⟨Htx, Ho⟩
    iapply Hk
    isplitl [Htx]; · iexact Htx
    isplitl [Hcr]; · iexact Hcr
    isplitr; · iempintro
    iexact Ho
  · obtain rfl : s = 30 := by omega
    have hw : ∀ b : Fin 2, b = 1 → ∀ w, holds (wireM r) (slot2 b) d w ⊢ holdsAny (F := F) (wireM r) (slot2 1) d := by
      rintro _ rfl w; exact holds_any w
    rw [if_pos (.inr rfl)]
    show _ ⊢ iprop(_ -∗ wpD d kont Q)
    iintro ⟨-, -, Htx, Hcr, Hw, -, Ho⟩ Hk
    iapply Hk
    isplitl [Htx]; · iexact Htx
    isplitl [Hcr]; · iexact Hcr
    isplitl [Hw]
    · iapply (hw (m2 (30 + 1)) rfl (wireW X Wt r (30 + 1) d)) $$ Hw
    iexact Ho

/-- Step `s` of ring `r`. -/
theorem rs_ring (d : Dev nD) (s : ℕ) (hs : s < 31) (r : Fin 4) {O : CellTallies nD τ sig ℕ} (hO : Above (8 * s + 2 * r.val + 8) O) {kont : Bd F PUnit} {Q : PUnit → sProp 𝕄} :
    iprop(Ctx X Wt K J ∗ greetOf (F := F) (rightD d) ∗ dep (F := F) d ∗ rsSt X Wt d s r
        ∗ holds curM (curRowR (m2 (s + 1)) r) d (rows r (gemmV X Wt d (k0_off2 d (BitVec.ofNat 32 (s % 31))) (off2_inb d s))) ∗ ow d (O + rsDues d s r))
      ⊢ iprop(((rsSt X Wt d (s + 1) r ∗ holds curM (curRowR (m2 (s + 1)) r) d (accV X Wt r (s + 1) d) ∗ deps (s + 1) (leftD d) ∗ ow d (O + rsDues d (s + 1) r)) -∗ wpD d kont Q)
        -∗ wpD d (rsRing d s r kont) Q) := by
  have hd : ∀ nm cg, s + 1 ≤ nm ∨ nm = 31 → s ≤ cg ∨ cg = 27 → Above (8 * s + 2 * r.val + 8) (dues d r nm cg) := fun nm cg h1 h2 =>
    dues_above d r nm cg (fun h => by split <;> omega) (fun h => by split <;> omega)
  unfold rsSt rsDues rsRing
  iintro ⟨#HC, #HG, #Hdep, ⟨Hrx, Htx, Hco, Hci, Hwf, Hkeep⟩, Hc, Ho⟩ Hk
  iapply (rs_recv (X := X) (Wt := Wt) (K := K) (J := J) d r hs (b := m2 s) (σ := m4 s) rfl
    (hO.add (hd (min (s + 1) 31) (min s 27) (by omega) (by omega)))) $$ [Hrx Ho]
  · isplitr; · iexact HC
    isplitl [Hrx]; · iexact Hrx
    iexact Ho
  iintro ⟨Hrx, Ho, Hw, #Hdeps⟩
  iapply (add_op d r (m2 (s + 1)) (m4 s) _ (wireW X Wt r s (leftD d))) $$ [Hc Hw]
  · isplitl [Hc]; · iexact Hc
    iexact Hw
  iintro ⟨Hc, Hw⟩
  iapply (rs_sent_opt (X := X) (Wt := Wt) (K := K) (J := J) d s hs r
    ((hO.add (hd (min (s + 1) 31) (min s 27) (by omega) (by omega))).mono (Nat.zero_le _))) $$ [Htx Hwf Ho]
  · isplitr; · iexact HC
    isplitl [Htx]; · iexact Htx
    isplitl [Hwf]; · iexact Hwf
    iexact Ho
  iintro ⟨Htx, Ho, Hwf⟩
  iapply (pack_op d r (m2 (s + 1)) (accV X Wt r (s + 1) d)) $$ [Hc Hwf]
  · isplitl [Hc]; · iexact Hc
    iexact Hwf
  iintro ⟨Hc, Hwf⟩
  iapply (rs_credit_opt (X := X) (Wt := Wt) (K := K) (J := J) d s hs r (min (s + 1) 31) O) $$ [Hrx Hco Hw Hkeep Ho]
  · isplitr; · iexact HC
    isplitl [Hrx]; · iexact Hrx
    isplitl [Hco]; · iexact Hco
    isplitl [Hw]; · iapply (holds_any (m := commM r) (R := slot4 (m4 s)) (d := d) (wireW X Wt r s (leftD d))) $$ Hw
    isplitl [Hkeep]; · iexact Hkeep
    iexact Ho
  iintro ⟨Hrx, Hco, Hkeep, Ho⟩
  iapply (rs_cwait_opt (X := X) (Wt := Wt) (K := K) (J := J) d s hs r
    (hO.add (hd (min (s + 1) 31) (min (s + 1) 27) (by omega) (by omega)))) $$ [Hci Ho]
  · isplitr; · iexact HC
    isplitl [Hci]; · iexact Hci
    iexact Ho
  iintro ⟨Hci, Ho⟩
  iapply (rs_send_opt (X := X) (Wt := Wt) (K := K) (J := J) d s hs r (min (s + 1) 27) O) $$ [Htx Hci Hwf Ho]
  · isplitr; · iexact HC
    isplitr; · iexact HG
    isplitl [Htx]; · iexact Htx
    isplitl [Hci]; · iexact Hci
    isplitl [Hwf]; · iexact Hwf
    isplitr
    · iapply (deps_cons (F := F) (s + 1) d)
      isplitr; · iexact Hdep
      iexact Hdeps
    iexact Ho
  iintro ⟨Htx, Hci, Hwf, Ho⟩
  iapply Hk
  isplitl [Hrx Htx Hco Hci Hwf Hkeep]
  · isplitl [Hrx]; · iexact Hrx
    isplitl [Htx]; · iexact Htx
    isplitl [Hco]; · iexact Hco
    isplitl [Hci]; · iexact Hci
    isplitl [Hwf]; · iexact Hwf
    iexact Hkeep
  isplitl [Hc]; · iexact Hc
  isplitr; · iexact Hdeps
  iexact Ho

end Run

end Cert.Proof
-- ==== Proof.RsAll.lean ====
module
public import proofs.«01_k».proof.Proof.Rs

/-! A step of the reduce-scatter over the four rings, and the thirty-one of them. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

omit [FloatOps F] in
theorem four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide, bigSep_insert (by decide), bigSep_insert (by decide), bigSep_insert (by decide), bigSep_singleton]
  rfl

/-- Steps that each move a state on. -/
theorem seq_wp (d : Dev nD) (f : ℕ → Bd F PUnit → Bd F PUnit) (P : ℕ → sProp 𝕄) (N : ℕ)
    (h : ∀ n < N, ∀ (kont : Bd F PUnit) (Q : PUnit → sProp 𝕄), P n ⊢ iprop((P (n + 1) -∗ wpD d kont Q) -∗ wpD d (f n kont) Q))
    (k : ℕ) : ∀ n, n + k ≤ N → ∀ (kont : Bd F PUnit) (Q : PUnit → sProp 𝕄), P n ⊢ iprop((P (n + k) -∗ wpD d kont Q) -∗ wpD d (seqFrom f k n kont) Q) := by
  induction k with
  | zero =>
    intro n _ kont Q
    show P n ⊢ iprop((P n -∗ wpD d kont Q) -∗ wpD d kont Q)
    iintro H Hk
    iapply Hk; iexact H
  | succ k ih =>
    intro n hn kont Q
    show P n ⊢ iprop((P (n + (k + 1)) -∗ wpD d kont Q) -∗ wpD d (f n (seqFrom f k (n + 1) kont)) Q)
    rw [show n + (k + 1) = n + 1 + k by omega]
    iintro H Hk
    iapply (h n (by omega) (seqFrom f k (n + 1) kont) Q) $$ H
    iintro H
    iapply (ih (n + 1) (by omega) kont Q) $$ H
    iexact Hk

/-- A half of the accumulator, as the four rings' rows. -/
theorem cur_rows (d : Dev nD) (b : Fin 2) (w : S1x128x8192.Idx → Elt F .f32) :
    holds curM (curR b) d w ⊣⊢ bigSep Finset.univ fun r : Fin 4 => holds curM (curRowR b r) d (rows r w) :=
  holds_parts (m := curM) (R := curR b) (d := d) (fun r : Fin 4 => curRowR b r) (fun r => rowIx r) (fun r x => cur_hsub b r x) (cur_cov b) (fun r r' h => cur_dis b r r' h) w

/-- Everything that is owed in the reduce-scatter before step `s`, with `A` besides. -/
def rsOwed (A : CellTallies nD τ sig ℕ) (d : Dev nD) (n : Fin 4 → ℕ) : CellTallies nD τ sig ℕ :=
  A + (rsDues d (n 0) 0 + rsDues d (n 1) 1 + rsDues d (n 2) 2 + rsDues d (n 3) 3)

theorem rsDues_above (d : Dev nD) {s s' : ℕ} (r r' : Fin 4) (hs : s < 31) (h : s' = s ∧ r.val ≤ r'.val ∨ s' = s + 1) : Above (8 * s + 2 * r.val + 8) (rsDues d s' r') := by
  unfold rsDues
  refine dues_above d r' _ _ (fun h => ?_) (fun h => ?_)
  · have := r.isLt; have := r'.isLt; split <;> omega
  · have := r.isLt; have := r'.isLt; split <;> omega

/-- The state before step `s` of the reduce-scatter. -/
def rsAll (X : Dev nD → (cc0_stg0_0 : Ref sig .tc).ty.Contents (Elt F)) (Wt : Dev nD → (cc0_stg1_0 : Ref sig .tc).ty.Contents (Elt F)) (K : Dev nD × Knd → ℕ) (J : Key → ℕ)
    (A : CellTallies nD τ sig ℕ) (d : Dev nD) (s : ℕ) : sProp 𝕄 :=
  iprop(Ctx X Wt K J ∗ greetOf (F := F) (rightD d) ∗ dep (F := F) d ∗ deps (F := F) s (leftD d) ∗ stgs X Wt d
    ∗ (rsSt X Wt d s 0 ∗ rsSt X Wt d s 1 ∗ rsSt X Wt d s 2 ∗ rsSt X Wt d s 3)
    ∗ holds curM (curR (m2 s)) d (totV X Wt s d) ∗ holdsAny (F := F) curM (curR (m2 (s + 1))) d
    ∗ ow d (rsOwed A d fun _ => s))

theorem rs_step (A : CellTallies nD τ sig ℕ) (hA : Above 254 A) (d : Dev nD) (s : ℕ) (hs : s < 31) (kont : Bd F PUnit) (Q : PUnit → sProp 𝕄) :
    rsAll X Wt K J A d s ⊢ iprop((rsAll X Wt K J A d (s + 1) -∗ wpD d kont Q) -∗ wpD d (rsStep (Memref.whole cc0_stg0_0) (Memref.whole cc0_stg1_0) d s kont) Q) := by
  have hup : ∀ (r a b c : Fin 4) (x y z : ℕ), (x = s ∧ r.val ≤ a.val ∨ x = s + 1) → (y = s ∧ r.val ≤ b.val ∨ y = s + 1) → (z = s ∧ r.val ≤ c.val ∨ z = s + 1) →
      Above (8 * s + 2 * r.val + 8) (A + (rsDues d x a + rsDues d y b + rsDues d z c)) := fun r a b c x y z hx hy hz =>
    (hA.mono (by have := r.isLt; omega)).add (((rsDues_above d r a hs hx).add (rsDues_above d r b hs hy)).add (rsDues_above d r c hs hz))
  unfold rsAll rsStep rsOwed
  rw [show m2 (s + 1 + 1) = m2 s from Fin.ext (by show (s + 1 + 1) % 2 = s % 2; omega)]
  iintro ⟨#HC, #HG, #Hdep, -, Hst, ⟨H0, H1, H2, H3⟩, Hcur, Hnew, Ho⟩ Hk
  iapply (gemm_op (X := X) (Wt := Wt) d (m2 (s + 1)) (k0_off2 d (BitVec.ofNat 32 (s % 31))) (off2_inb d s)) $$ [Hst Hnew]
  · isplitl [Hst]; · iexact Hst
    iexact Hnew
  iintro ⟨Hst, Hnew⟩
  ihave Hnew := ((cur_rows d (m2 (s + 1)) _).1.trans (Entails.of_eq (four _))) $$ Hnew
  icases Hnew with ⟨C0, C1, C2, C3⟩
  -- ring 0
  ihave Ho := (Entails.of_eq (congrArg (ow (F := F) d) (show A + (rsDues d s 0 + rsDues d s 1 + rsDues d s 2 + rsDues d s 3) = (A + (rsDues d s 1 + rsDues d s 2 + rsDues d s 3)) + rsDues d s 0 by ac_rfl))) $$ Ho
  iapply (rs_ring (X := X) (Wt := Wt) (K := K) (J := J) d s hs 0 (hup 0 1 2 3 s s s (.inl ⟨rfl, by decide⟩) (.inl ⟨rfl, by decide⟩) (.inl ⟨rfl, by decide⟩))) $$ [H0 C0 Ho]
  · isplitr; · iexact HC
    isplitr; · iexact HG
    isplitr; · iexact Hdep
    isplitl [H0]; · iexact H0
    isplitl [C0]; · iexact C0
    iexact Ho
  iintro ⟨H0, C0, #Hdeps, Ho⟩
  -- ring 1
  ihave Ho := (Entails.of_eq (congrArg (ow (F := F) d) (show (A + (rsDues d s 1 + rsDues d s 2 + rsDues d s 3)) + rsDues d (s + 1) 0 = (A + (rsDues d (s + 1) 0 + rsDues d s 2 + rsDues d s 3)) + rsDues d s 1 by ac_rfl))) $$ Ho
  iapply (rs_ring (X := X) (Wt := Wt) (K := K) (J := J) d s hs 1 (hup 1 0 2 3 (s + 1) s s (.inr rfl) (.inl ⟨rfl, by decide⟩) (.inl ⟨rfl, by decide⟩))) $$ [H1 C1 Ho]
  · isplitr; · iexact HC
    isplitr; · iexact HG
    isplitr; · iexact Hdep
    isplitl [H1]; · iexact H1
    isplitl [C1]; · iexact C1
    iexact Ho
  iintro ⟨H1, C1, -, Ho⟩
  -- ring 2
  ihave Ho := (Entails.of_eq (congrArg (ow (F := F) d) (show (A + (rsDues d (s + 1) 0 + rsDues d s 2 + rsDues d s 3)) + rsDues d (s + 1) 1 = (A + (rsDues d (s + 1) 0 + rsDues d (s + 1) 1 + rsDues d s 3)) + rsDues d s 2 by ac_rfl))) $$ Ho
  iapply (rs_ring (X := X) (Wt := Wt) (K := K) (J := J) d s hs 2 (hup 2 0 1 3 (s + 1) (s + 1) s (.inr rfl) (.inr rfl) (.inl ⟨rfl, by decide⟩))) $$ [H2 C2 Ho]
  · isplitr; · iexact HC
    isplitr; · iexact HG
    isplitr; · iexact Hdep
    isplitl [H2]; · iexact H2
    isplitl [C2]; · iexact C2
    iexact Ho
  iintro ⟨H2, C2, -, Ho⟩
  -- ring 3
  ihave Ho := (Entails.of_eq (congrArg (ow (F := F) d) (show (A + (rsDues d (s + 1) 0 + rsDues d (s + 1) 1 + rsDues d s 3)) + rsDues d (s + 1) 2 = (A + (rsDues d (s + 1) 0 + rsDues d (s + 1) 1 + rsDues d (s + 1) 2)) + rsDues d s 3 by ac_rfl))) $$ Ho
  iapply (rs_ring (X := X) (Wt := Wt) (K := K) (J := J) d s hs 3 (hup 3 0 1 2 (s + 1) (s + 1) (s + 1) (.inr rfl) (.inr rfl) (.inr rfl))) $$ [H3 C3 Ho]
  · isplitr; · iexact HC
    isplitr; · iexact HG
    isplitr; · iexact Hdep
    isplitl [H3]; · iexact H3
    isplitl [C3]; · iexact C3
    iexact Ho
  iintro ⟨H3, C3, -, Ho⟩
  iapply Hk
  isplitr; · iexact HC
  isplitr; · iexact HG
  isplitr; · iexact Hdep
  isplitr; · iexact Hdeps
  isplitl [Hst]; · iexact Hst
  isplitl [H0 H1 H2 H3]
  · isplitl [H0]; · iexact H0
    isplitl [H1]; · iexact H1
    isplitl [H2]; · iexact H2
    iexact H3
  isplitl [C0 C1 C2 C3]
  · iapply (show iprop(holds curM (curRowR (m2 (s + 1)) 0) d (accV X Wt 0 (s + 1) d) ∗ holds curM (curRowR (m2 (s + 1)) 1) d (accV X Wt 1 (s + 1) d)
        ∗ holds curM (curRowR (m2 (s + 1)) 2) d (accV X Wt 2 (s + 1) d) ∗ holds curM (curRowR (m2 (s + 1)) 3) d (accV X Wt 3 (s + 1) d))
        ⊢ holds curM (curR (m2 (s + 1))) d (totV X Wt (s + 1) d) from by
      refine BIBase.Entails.trans ?_ (cur_rows d (m2 (s + 1)) (totV X Wt (s + 1) d)).2
      rw [four]
      unfold totV
      rw [rows_glue, rows_glue, rows_glue, rows_glue])
    isplitl [C0]; · iexact C0
    isplitl [C1]; · iexact C1
    isplitl [C2]; · iexact C2
    iexact C3
  isplitl [Hcur]; · iapply (holds_any (m := curM) (R := curR (m2 s)) (d := d) (totV X Wt s d)) $$ Hcur
  iapply (Entails.of_eq (congrArg (ow (F := F) d) (show (A + (rsDues d (s + 1) 0 + rsDues d (s + 1) 1 + rsDues d (s + 1) 2)) + rsDues d (s + 1) 3 = A + (rsDues d (s + 1) 0 + rsDues d (s + 1) 1 + rsDues d (s + 1) 2 + rsDues d (s + 1) 3) by ac_rfl))) $$ Ho

/-- The whole reduce-scatter. -/
theorem rs_all (A : CellTallies nD τ sig ℕ) (hA : Above 254 A) (d : Dev nD) (kont : Bd F PUnit) (Q : PUnit → sProp 𝕄) :
    rsAll X Wt K J A d 0 ⊢ iprop((rsAll X Wt K J A d 31 -∗ wpD d kont Q) -∗ wpD d (seqFrom (rsStep (Memref.whole cc0_stg0_0) (Memref.whole cc0_stg1_0) d) 31 0 kont) Q) :=
  seq_wp d _ (rsAll X Wt K J A d) 31 (fun n hn kont Q => rs_step A hA d n hn kont Q) 31 0 (by omega) kont Q

end Run

end Cert.Proof
-- ==== Proof.Ag.lean ====
module
public import proofs.«01_k».proof.Proof.RsAll

/-! The gather: the stores of finished chunks, and one ring's step. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

/-! ## Stores -/

theorem mem_store {n : ℕ} (h : n < 32) : n ∈ names (kStore (m2 n)) := Finset.mem_filter.mpr ⟨Finset.mem_range.mpr h, rfl⟩
theorem not_mem_store {b : Fin 2} {n : ℕ} (h : b ≠ m2 n) : n ∉ names (kStore b) := fun hm => h (Finset.mem_filter.mp hm).2.symm
theorem store_cnt : ∀ n < 32, cnt (kStore (m2 n)) (n - 1) = cnt (kStore (m2 n)) n := by decide +kernel
theorem credit_out (d : Dev nD) (n : ℕ) : (outV d n).view.dmaCredit = NS := by unfold NS; rfl
theorem amt_store (b : Fin 2) (n : ℕ) : amt (kStore b) n = NS := rfl
theorem credit_amt (d : Dev nD) (n : ℕ) : (outV d n).view.dmaCredit = amt (kStore (m2 n)) n := (credit_out d n).trans (amt_store (m2 n) n).symm
theorem pay_store (d : Dev nD) (n : ℕ) : pay X Wt d (kStore (m2 n)) n = iprop(holds outM (outR d n) d (outVal X Wt d n) ∗ holdsAny (F := F) curM (curR (m2 n)) d) := rfl

/-- The stores of device `d`: those before `nm` are started, those before `ns` are through. -/
def stSt (X : Dev nD → (cc0_stg0_0 : Ref sig .tc).ty.Contents (Elt F)) (Wt : Dev nD → (cc0_stg1_0 : Ref sig .tc).ty.Contents (Elt F)) (d : Dev nD) (ns nm : ℕ) : sProp 𝕄 :=
  iprop(posAll d kStore ns
    ∗ (bigSep (Finset.Ico ns nm) fun n => cred (tallyAt (cell d (kStore (m2 n))) n (amt (kStore (m2 n)) n)))
    ∗ (bigSep (Finset.Ico nm 32) fun n => iprop(dutyTok ER (cell d (kStore (m2 n))) (cnt (kStore (m2 n)) n) n ∗ holdsAny (F := F) outM (outR d n) d))
    ∗ bigSep (Finset.range ns) fun n => holds outM (outR d n) d (outVal X Wt d n))

theorem store_op (d : Dev nD) {n ns : ℕ} (hn : n < 32) (hns : ns = n - 1) {kont : Bd F PUnit} {Q : PUnit → sProp 𝕄} :
    iprop(Ctx X Wt K J ∗ stSt X Wt d ns n ∗ holds curM (curR (m2 n)) d (chunkV X Wt d n))
      ⊢ iprop((stSt X Wt d ns (n + 1) -∗ wpD d kont Q) -∗ wpD d (storeOp d n kont) Q) := by
  subst hns
  unfold stSt storeOp
  rw [Ico_head hn, Ico_last (by omega : n - 1 ≤ n)]
  iintro ⟨#HC, ⟨Hp, Hcs, ⟨⟨Hd, Hout⟩, Hds⟩, Hdone⟩, Hc⟩ Hk
  ihave #Hr := (posAll_reached d kStore (n - 1) (m2 n)) $$ Hp
  iapply (wp_copy_holds (Rd := Rd X Wt) (d := d) (m₁ := curM) (R₁ := curR (m2 n)) (m₂ := outM) (R₂ := outR d n) (κ := K (d, kStore (m2 n)))
      (mem_duties X Wt d (kStore (m2 n)) (mem_store hn)) n (amt (kStore (m2 n)) n) (credit_amt d n) (Rd_amount X Wt d (kStore (m2 n)) _ n)
      (chunkV X Wt d n) (outVal X Wt d n) (fun x => rfl)
      (by
        rw [show (Rd X Wt).payload ((d : Thread nD τ), .dma (storeS (m2 n))) (rnd (kStore (m2 n)) n) n = pay X Wt d (kStore (m2 n)) n from Rd_payload X Wt d (kStore (m2 n)) _ n, pay_store]
        exact sep_mono_right (holds_any _))) $$ [Hc Hout Hd]
  · isplitr; · iapply (ctx_cell (X := X) (Wt := Wt) (K := K) (J := J) d (kStore (m2 n))); iexact HC
    isplitl [Hc]; · iexact Hc
    isplitl [Hout]; · iexact Hout
    isplitl [Hd]; · iexact Hd
    iapply (Entails.of_eq (show (reached ER (cell d (kStore (m2 n))) (cnt (kStore (m2 n)) (n - 1)) : sProp 𝕄) = reached ER (cell d (kStore (m2 n))) (rnd (kStore (m2 n)) n) by rw [store_cnt n hn]; rfl))
    iexact Hr
  iintro Hcr
  iapply Hk
  isplitl [Hp]; · iexact Hp
  isplitl [Hcr Hcs]
  · isplitl [Hcr]; · iexact Hcr
    iexact Hcs
  isplitl [Hds]; · iexact Hds
  iexact Hdone

theorem stored_op (d : Dev nD) {n nm : ℕ} (hn : n < nm) (hm : nm ≤ 32) {O : CellTallies nD τ sig ℕ} (hO : Above 0 O) {kont : Bd F PUnit} {Q : PUnit → sProp 𝕄} :
    iprop(Ctx X Wt K J ∗ stSt X Wt d n nm ∗ ow d O)
      ⊢ iprop(((stSt X Wt d (n + 1) nm ∗ ow d O ∗ holdsAny (F := F) curM (curR (m2 n)) d) -∗ wpD d kont Q) -∗ wpD d (storedOp d n kont) Q) := by
  unfold stSt storedOp
  rw [Ico_head hn, range_last]
  iintro ⟨#HC, ⟨Hp, ⟨Hc, Hcs⟩, Hds, Hdone⟩, Ho⟩ Hk
  ihave Hp := (posAll_step d kStore n (m2 n) fun b h => not_mem_store h) $$ Hp
  icases Hp with ⟨⟨Hat, -⟩, Hp⟩
  iapply (wait_one (X := X) (Wt := Wt) (K := K) (J := J) d (kStore (m2 n)) rfl (mem_store (by omega)) hO
    (fun P => (wpE_waitDma2_eq 𝒱₀ (d : Thread nD τ) none Set.univ P).trans (by rw [credit_amt]; rfl))) $$ [Hc Ho Hat]
  · isplitr; · iexact HC
    isplitl [Hc]; · iexact Hc
    isplitl [Ho]; · iexact Ho
    iexact Hat
  iintro ⟨Ho, Hat, Hr, Hpay⟩
  ihave Hpay := (Entails.of_eq (pay_store (X := X) (Wt := Wt) d n)) $$ Hpay
  icases Hpay with ⟨Hout, Hcur⟩
  iapply Hk
  isplitl [Hp Hat Hr Hcs Hds Hdone Hout]
  · isplitl [Hp Hat Hr]
    · iapply Hp; isplitl [Hat]; · iexact Hat
      iexact Hr
    isplitl [Hcs]; · iexact Hcs
    isplitl [Hds]; · iexact Hds
    isplitl [Hout]; · iexact Hout
    iexact Hdone
  isplitl [Ho]; · iexact Ho
  iexact Hcur

/-! ## A ring's step -/

/-- Ring `r` before step `g` of the gather. -/
def agSt (X : Dev nD → (cc0_stg0_0 : Ref sig .tc).ty.Contents (Elt F)) (Wt : Dev nD → (cc0_stg1_0 : Ref sig .tc).ty.Contents (Elt F)) (d : Dev nD) (g : ℕ) (r : Fin 4) : sProp 𝕄 :=
  iprop(rxSt d r (31 + g) ∗ txSt d r (31 + g) (min (31 + (g + 1)) 62) ∗ crOut d r (27 + min g 28) ∗ crIn X Wt d r (27 + min (g - 2) 28)
    ∗ (bigSep (Finset.Ico 28 g) fun t => holdsAny (F := F) (agM r) (slot4 (m4 t)) d)
    ∗ (if g = 31 then holdsAny (F := F) (agM r) (slot4 3) d else iprop(emp)))
/-- What ring `r` owes then. -/
def agDues (d : Dev nD) (g : ℕ) (r : Fin 4) : CellTallies nD τ sig ℕ := dues d r (min (31 + (g + 1)) 62) (27 + min g 28)

theorem ag_credit_opt (d : Dev nD) (g : ℕ) (hg : g < 31) (r : Fin 4) (nm : ℕ) (O : CellTallies nD τ sig ℕ) {kont : Bd F PUnit} {Q : PUnit → sProp 𝕄} :
    iprop(Ctx X Wt K J ∗ rxSt d r (31 + g + 1) ∗ crOut d r (27 + min g 28) ∗ holdsAny (F := F) (agM r) (slot4 (m4 g)) d
        ∗ (bigSep (Finset.Ico 28 g) fun t => holdsAny (F := F) (agM r) (slot4 (m4 t)) d) ∗ ow d (O + dues d r nm (27 + min g 28)))
      ⊢ iprop(((rxSt d r (31 + g + 1) ∗ crOut d r (27 + min (g + 1) 28) ∗ (bigSep (Finset.Ico 28 (g + 1)) fun t => holdsAny (F := F) (agM r) (slot4 (m4 t)) d)
          ∗ ow d (O + dues d r nm (27 + min (g + 1) 28))) -∗ wpD d kont Q)
        -∗ wpD d (whenB (Nat.ble g 27) (creditOp d r) kont) Q) := by
  by_cases h : g ≤ 27
  · rw [Nat.ble_eq_true_of_le h, min_eq_left (by omega : g ≤ 28), min_eq_left (by omega : g + 1 ≤ 28), Finset.Ico_eq_empty_of_le (by omega : g ≤ 28), Finset.Ico_eq_empty_of_le (by omega : g + 1 ≤ 28)]
    show _ ⊢ iprop(_ -∗ wpD d (creditOp d r kont) Q)
    have hk : mkey d r (credMsg (27 + g)) = (d, .inl (true, r, m4 g)) := by
      unfold credMsg; rw [if_neg (by omega), show 27 + g + 7 = 31 + (g + 3) by omega, mkey_ag]
      rw [show m4 (g + 3 + 1) = m4 g from Fin.ext (by show (g + 3 + 1) % 4 = g % 4; omega)]
    have hslot : slotA (F := F) (mkey d r (credMsg (27 + g))) = holdsAny (agM r) (slot4 (m4 g)) d := by rw [hk]; rfl
    have hop := credit_op (X := X) (Wt := Wt) (K := K) (J := J) d r (m := 27 + g) (nr := 31 + g + 1) (by omega) (by rw [if_neg (by omega)]; omega) (kont := kont) (Q := Q) O nm
    rw [hslot] at hop
    rw [show 27 + (g + 1) = 27 + g + 1 by omega]
    iintro ⟨HC, Hrx, Hcr, Hs, He, Ho⟩ Hk
    iapply hop $$ [HC Hrx Hcr Hs Ho]
    · isplitl [HC]; · iexact HC
      isplitl [Hcr]; · iexact Hcr
      isplitl [Hrx]; · iexact Hrx
      isplitl [Hs]; · iexact Hs
      iexact Ho
    iintro ⟨Hcr, Hrx, Ho⟩
    iapply Hk
    isplitl [Hrx]; · iexact Hrx
    isplitl [Hcr]; · iexact Hcr
    isplitl [He]; · iexact He
    iexact Ho
  · have hb : Nat.ble g 27 = false := by
      cases hb : Nat.ble g 27 with
      | false => rfl
      | true => exact absurd (Nat.le_of_ble_eq_true hb) h
    rw [hb, min_eq_right (by omega : 28 ≤ g), min_eq_right (by omega : 28 ≤ g + 1), Ico_last (by omega : 28 ≤ g)]
    show _ ⊢ iprop(_ -∗ wpD d kont Q)
    iintro ⟨-, Hrx, Hcr, Hs, He, Ho⟩ Hk
    iapply Hk
    isplitl [Hrx]; · iexact Hrx
    isplitl [Hcr]; · iexact Hcr
    isplitl [Hs He]
    · isplitl [Hs]; · iexact Hs
      iexact He
    iexact Ho

theorem ag_cwait_opt (d : Dev nD) (g : ℕ) (hg : g < 31) (r : Fin 4) {O : CellTallies nD τ sig ℕ} (hO : Above (8 * g + 2 * r.val + 400) O) {kont : Bd F PUnit} {Q : PUnit → sProp 𝕄} :
    iprop(Ctx X Wt K J ∗ crIn X Wt d r (27 + min (g - 2) 28) ∗ ow d O)
      ⊢ iprop(((crIn X Wt d r (27 + min (g + 1 - 2) 28) ∗ ow d O) -∗ wpD d kont Q)
        -∗ wpD d (whenB (Nat.ble 2 g && Nat.ble g 29) (creditWaitOp r) kont) Q) := by
  by_cases h : 2 ≤ g ∧ g ≤ 29
  · rw [Nat.ble_eq_true_of_le h.1, Nat.ble_eq_true_of_le h.2, min_eq_left (by omega : g - 2 ≤ 28), min_eq_left (by omega : g + 1 - 2 ≤ 28), show 27 + (g + 1 - 2) = 27 + (g - 2) + 1 by omega]
    show _ ⊢ iprop(_ -∗ wpD d (creditWaitOp r kont) Q)
    refine creditWait_op (X := X) (Wt := Wt) (K := K) (J := J) d r (c := 27 + (g - 2)) (by omega) (hO.mono ?_)
    rw [lv_credit, if_neg (by omega)]; omega
  · have hb : (Nat.ble 2 g && Nat.ble g 29) = false := by
      cases hb : (Nat.ble 2 g && Nat.ble g 29) with
      | false => rfl
      | true =>
        rw [Bool.and_eq_true] at hb
        exact absurd ⟨Nat.le_of_ble_eq_true hb.1, Nat.le_of_ble_eq_true hb.2⟩ h
    rw [hb, show min (g + 1 - 2) 28 = min (g - 2) 28 by omega]
    show _ ⊢ iprop(_ -∗ wpD d kont Q)
    iintro ⟨-, Hcr, Ho⟩ Hk
    iapply Hk
    isplitl [Hcr]; · iexact Hcr
    iexact Ho

theorem ag_send_opt (d : Dev nD) (g : ℕ) (hg : g < 31) (r : Fin 4) (cg : ℕ) (O : CellTallies nD τ sig ℕ) {kont : Bd F PUnit} {Q : PUnit → sProp 𝕄} :
    iprop(Ctx X Wt K J ∗ greetOf (F := F) (rightD d) ∗ done (F := F) (rightD d) ∗ txSt d r (31 + g + 1) (min (31 + (g + 1)) 62) ∗ crIn X Wt d r (27 + min (g + 1 - 2) 28)
        ∗ holds (agM r) (slot4 (m4 (g + 1))) d (qV X Wt r (back (g + 1) d)) ∗ ow d (O + dues d r (min (31 + (g + 1)) 62) cg))
      ⊢ iprop(((txSt d r (31 + (g + 1)) (min (31 + (g + 1 + 1)) 62) ∗ crIn X Wt d r (27 + min (g + 1 - 2) 28)
          ∗ (if g + 1 = 31 then holdsAny (F := F) (agM r) (slot4 3) d else iprop(emp)) ∗ ow d (O + dues d r (min (31 + (g + 1 + 1)) 62) cg)) -∗ wpD d kont Q)
        -∗ wpD d (whenB (Nat.ble g 29) (agSendOp d r (g + 1)) kont) Q) := by
  by_cases h : g ≤ 29
  · have hperm : iprop(greetOf (F := F) (rightD d) ∗ done (F := F) (rightD d) ∗ crIn X Wt d r (27 + min (g + 1 - 2) 28)) ⊢ iprop(crIn X Wt d r (27 + min (g + 1 - 2) 28) ∗ perm (rightD d) r (31 + (g + 1))) := by
      by_cases h3 : g < 2
      · iintro ⟨#HG, #HD, Hcr⟩
        isplitl [Hcr]; · iexact Hcr
        iapply (first_perm_ag (F := F) (rightD d) r (by omega : 31 ≤ 31 + (g + 1)) (by omega : 31 + (g + 1) < 34))
        isplitr; · iexact HD
        iexact HG
      · have := crIn_perm (X := X) (Wt := Wt) d r (c := 27 + min (g + 1 - 2) 28) (i := 27 + (g - 2)) (by omega)
        rw [show credMsg (27 + (g - 2)) = 31 + (g + 1) by unfold credMsg; rw [if_neg (by omega)]; omega] at this
        iintro ⟨-, -, Hcr⟩
        iapply this; iexact Hcr
    rw [Nat.ble_eq_true_of_le h, min_eq_left (by omega : 31 + (g + 1) ≤ 62), min_eq_left (by omega : 31 + (g + 1 + 1) ≤ 62), if_neg (by omega : ¬ (g + 1 = 31)), show 31 + g + 1 = 31 + (g + 1) by omega, show 31 + (g + 1 + 1) = 31 + (g + 1) + 1 by omega]
    show _ ⊢ iprop(_ -∗ wpD d (agSendOp d r (g + 1) kont) Q)
    iintro ⟨#HC, HG, HD, Htx, Hcr, Hw, Ho⟩ Hk
    ihave Hp := hperm $$ [HG HD Hcr]
    · isplitl [HG]; · iexact HG
      isplitl [HD]; · iexact HD
      iexact Hcr
    icases Hp with ⟨Hcr, Hp⟩
    iapply (ag_send (X := X) (Wt := Wt) (K := K) (J := J) d r (j := g + 1) (ns := 31 + (g + 1)) (nm := 31 + (g + 1)) (cg := cg) (by omega) rfl rfl O) $$ [Htx Hp Hw Ho]
    · isplitr; · iexact HC
      isplitl [Htx]; · iexact Htx
      isplitl [Hp]; · iexact Hp
      isplitl [Hw]; · iexact Hw
      iexact Ho
    iintro ⟨Htx, Ho⟩
    iapply Hk
    isplitl [Htx]; · iexact Htx
    isplitl [Hcr]; · iexact Hcr
    isplitr; · iempintro
    iexact Ho
  · obtain rfl : g = 30 := by omega
    have hw : ∀ b : Fin 4, b = 3 → ∀ w, holds (agM r) (slot4 b) d w ⊢ holdsAny (F := F) (agM r) (slot4 3) d := by
      rintro _ rfl w; exact holds_any w
    rw [if_pos rfl]
    show _ ⊢ iprop(_ -∗ wpD d kont Q)
    iintro ⟨-, -, -, Htx, Hcr, Hw, Ho⟩ Hk
    iapply Hk
    isplitl [Htx]; · iexact Htx
    isplitl [Hcr]; · iexact Hcr
    isplitl [Hw]
    · iapply (hw (m4 (30 + 1)) rfl (qV X Wt r (back (30 + 1) d))) $$ Hw
    iexact Ho

/-- Step `g` of ring `r` of the gather. -/
theorem ag_ring (d : Dev nD) (q : F .f32) (g : ℕ) (hg : g < 31) (r : Fin 4) {O : CellTallies nD τ sig ℕ} (hO : Above (8 * g + 2 * r.val + 400) O) {kont : Bd F PUnit} {Q : PUnit → sProp 𝕄} :
    iprop(Ctx X Wt K J ∗ greetOf (F := F) (rightD d) ∗ done (F := F) (rightD d) ∗ agSt X Wt d g r
        ∗ holdsAny (F := F) curM (curRowR (m2 (g + 1)) r) d ∗ ow d (O + agDues d g r))
      ⊢ iprop(((agSt X Wt d (g + 1) r ∗ holds curM (curRowR (m2 (g + 1)) r) d (k0_pay355 q (qV X Wt r (back g (leftD d)))) ∗ ow d (O + agDues d (g + 1) r)) -∗ wpD d kont Q)
        -∗ wpD d (agRing d q g r kont) Q) := by
  have hd : ∀ nm cg, 31 + (g + 1) ≤ nm ∨ nm = 62 → 27 + g ≤ cg ∨ cg = 55 → Above (8 * g + 2 * r.val + 400) (dues d r nm cg) := fun nm cg h1 h2 =>
    dues_above d r nm cg (fun h => by split <;> omega) (fun h => by split <;> omega)
  unfold agSt agDues agRing
  iintro ⟨#HC, #HG, #HD, ⟨Hrx, Htx, Hco, Hci, Hkeep, -⟩, Hc, Ho⟩ Hk
  iapply (ag_recv (X := X) (Wt := Wt) (K := K) (J := J) d r hg rfl
    (hO.add (hd (min (31 + (g + 1)) 62) (27 + min g 28) (by omega) (by omega)))) $$ [Hrx Ho]
  · isplitr; · iexact HC
    isplitl [Hrx]; · iexact Hrx
    iexact Ho
  iintro ⟨Hrx, Ho, Hw⟩
  iapply (ag_sent (X := X) (Wt := Wt) (K := K) (J := J) d r hg rfl (by omega : 31 + g < min (31 + (g + 1)) 62) (by omega)
    ((hO.add (hd (min (31 + (g + 1)) 62) (27 + min g 28) (by omega) (by omega))).mono (Nat.zero_le _))) $$ [Htx Ho]
  · isplitr; · iexact HC
    isplitl [Htx]; · iexact Htx
    iexact Ho
  iintro ⟨Htx, Ho, Hs⟩
  iapply (dequant_op d r (m2 (g + 1)) (m4 (g + 1)) q (qV X Wt r (back g (leftD d)))) $$ [Hc Hw]
  · isplitl [Hc]; · iexact Hc
    iexact Hw
  iintro ⟨Hc, Hw⟩
  iapply (ag_credit_opt (X := X) (Wt := Wt) (K := K) (J := J) d g hg r (min (31 + (g + 1)) 62) O) $$ [Hrx Hco Hs Hkeep Ho]
  · isplitr; · iexact HC
    isplitl [Hrx]; · iexact Hrx
    isplitl [Hco]; · iexact Hco
    isplitl [Hs]; · iexact Hs
    isplitl [Hkeep]; · iexact Hkeep
    iexact Ho
  iintro ⟨Hrx, Hco, Hkeep, Ho⟩
  iapply (ag_cwait_opt (X := X) (Wt := Wt) (K := K) (J := J) d g hg r
    (hO.add (hd (min (31 + (g + 1)) 62) (27 + min (g + 1) 28) (by omega) (by omega)))) $$ [Hci Ho]
  · isplitr; · iexact HC
    isplitl [Hci]; · iexact Hci
    iexact Ho
  iintro ⟨Hci, Ho⟩
  iapply (ag_send_opt (X := X) (Wt := Wt) (K := K) (J := J) d g hg r (27 + min (g + 1) 28) O) $$ [Htx Hci Hw Ho]
  · isplitr; · iexact HC
    isplitr; · iexact HG
    isplitr; · iexact HD
    isplitl [Htx]; · iexact Htx
    isplitl [Hci]; · iexact Hci
    isplitl [Hw]; · iexact Hw
    iexact Ho
  iintro ⟨Htx, Hci, Hlast, Ho⟩
  iapply Hk
  isplitl [Hrx Htx Hco Hci Hkeep Hlast]
  · isplitl [Hrx]; · iexact Hrx
    isplitl [Htx]; · iexact Htx
    isplitl [Hco]; · iexact Hco
    isplitl [Hci]; · iexact Hci
    isplitl [Hkeep]; · iexact Hkeep
    iexact Hlast
  isplitl [Hc]; · iexact Hc
  iexact Ho

end Run

end Cert.Proof
-- ==== Proof.AgAll.lean ====
module
public import proofs.«01_k».proof.Proof.Ag

/-! The gather, all rings together. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

/-- A half of the accumulator at any contents, as the four rings' rows at any contents. -/
theorem cur_rows_any (d : Dev nD) (b : Fin 2) :
    holdsAny (F := F) curM (curR b) d ⊢ bigSep Finset.univ fun r : Fin 4 => holdsAny (F := F) curM (curRowR b r) d := by
  iintro H
  ihave H := (Entails.of_eq (show holdsAny (F := F) curM (curR b) d = iprop(∃ w, holds curM (curR b) d w) from rfl)) $$ H
  icases H with ⟨%w, H⟩
  ihave H := (cur_rows d b w).1 $$ H
  iapply (show (bigSep Finset.univ fun r : Fin 4 => holds curM (curRowR b r) d (rows r w) : sProp 𝕄) ⊢ bigSep Finset.univ fun r : Fin 4 => holdsAny (F := F) curM (curRowR b r) d from
    bigSep_mono' fun r _ => holds_any (m := curM) (R := curRowR b r) (d := d) (rows r w)) $$ H

/-- Everything that is owed in the gather. -/
def agOwed (d : Dev nD) (n : Fin 4 → ℕ) : CellTallies nD τ sig ℕ := agDues d (n 0) 0 + agDues d (n 1) 1 + agDues d (n 2) 2 + agDues d (n 3) 3

theorem agDues_above (d : Dev nD) {g g' : ℕ} (r r' : Fin 4) (hg : g < 31) (h : g' = g ∧ r.val ≤ r'.val ∨ g' = g + 1) : Above (8 * g + 2 * r.val + 400) (agDues d g' r') := by
  unfold agDues
  refine dues_above d r' _ _ (fun h => ?_) (fun h => ?_)
  · have := r.isLt; have := r'.isLt; split <;> omega
  · have := r.isLt; have := r'.isLt; split <;> omega

theorem agOwed_above (d : Dev nD) (n : Fin 4 → ℕ) : Above 399 (agOwed d n) := by
  have h : ∀ r, Above 399 (agDues d (n r) r) := fun r => by
    unfold agDues
    refine dues_above d r _ _ (fun h => ?_) (fun h => ?_)
    · split <;> omega
    · split <;> omega
  exact (((h 0).add (h 1)).add (h 2)).add (h 3)

/-- The state before step `g` of the gather. -/
def agAll (X : Dev nD → (cc0_stg0_0 : Ref sig .tc).ty.Contents (Elt F)) (Wt : Dev nD → (cc0_stg1_0 : Ref sig .tc).ty.Contents (Elt F)) (K : Dev nD × Knd → ℕ) (J : Key → ℕ)
    (d : Dev nD) (g : ℕ) : sProp 𝕄 :=
  iprop(Ctx X Wt K J ∗ greetOf (F := F) (rightD d) ∗ done (F := F) (rightD d)
    ∗ (agSt X Wt d g 0 ∗ agSt X Wt d g 1 ∗ agSt X Wt d g 2 ∗ agSt X Wt d g 3)
    ∗ stSt X Wt d (g - 1) (g + 1) ∗ (if g = 0 then holdsAny (F := F) curM (curR 1) d else iprop(emp))
    ∗ ow d (agOwed d fun _ => g))

/-- The half that step `g` fills is free, once the store from it is through. -/
theorem ag_half (d : Dev nD) (g : ℕ) (hg : g < 31) {O : CellTallies nD τ sig ℕ} (hO : Above 0 O) {kont : Bd F PUnit} {Q : PUnit → sProp 𝕄} :
    iprop(Ctx X Wt K J ∗ stSt X Wt d (g - 1) (g + 1) ∗ (if g = 0 then holdsAny (F := F) curM (curR 1) d else iprop(emp)) ∗ ow d O)
      ⊢ iprop(((stSt X Wt d g (g + 1) ∗ holdsAny (F := F) curM (curR (m2 (g + 1))) d ∗ ow d O) -∗ wpD d kont Q)
        -∗ wpD d (whenB (Nat.ble 1 g) (storedOp d (g - 1)) kont) Q) := by
  rcases Nat.eq_zero_or_pos g with rfl | h
  · show _ ⊢ iprop(_ -∗ wpD d kont Q)
    rw [if_pos rfl]
    iintro ⟨-, Hst, Hh, Ho⟩ Hk
    iapply Hk
    isplitl [Hst]; · iexact Hst
    isplitl [Hh]; · iexact Hh
    iexact Ho
  · rw [Nat.ble_eq_true_of_le (by omega : 1 ≤ g), if_neg (by omega : ¬ g = 0)]
    show _ ⊢ iprop(_ -∗ wpD d (storedOp d (g - 1) kont) Q)
    have hst := stored_op (X := X) (Wt := Wt) (K := K) (J := J) d (n := g - 1) (nm := g + 1) (by omega) (by omega) hO (kont := kont) (Q := Q)
    rw [show g - 1 + 1 = g by omega, show m2 (g - 1) = m2 (g + 1) from Fin.ext (by show (g - 1) % 2 = (g + 1) % 2; omega)] at hst
    iintro ⟨HC, Hst, -, Ho⟩ Hk
    iapply hst $$ [HC Hst Ho]
    · isplitl [HC]; · iexact HC
      isplitl [Hst]; · iexact Hst
      iexact Ho
    iintro ⟨Hst, Ho, Hh⟩
    iapply Hk
    isplitl [Hst]; · iexact Hst
    isplitl [Hh]; · iexact Hh
    iexact Ho

theorem ag_step (d : Dev nD) (g : ℕ) (hg : g < 31) (kont : Bd F PUnit) (Q : PUnit → sProp 𝕄) :
    agAll X Wt K J d g ⊢ iprop((agAll X Wt K J d (g + 1) -∗ wpD d kont Q) -∗ wpD d (agStep d (k0_pay347 (maxV X Wt d)) g kont) Q) := by
  have hup : ∀ (r a b c : Fin 4) (x y z : ℕ), (x = g ∧ r.val ≤ a.val ∨ x = g + 1) → (y = g ∧ r.val ≤ b.val ∨ y = g + 1) → (z = g ∧ r.val ≤ c.val ∨ z = g + 1) →
      Above (8 * g + 2 * r.val + 400) (agDues d x a + agDues d y b + agDues d z c) := fun r a b c x y z hx hy hz =>
    ((agDues_above d r a hg hx).add (agDues_above d r b hg hy)).add (agDues_above d r c hg hz)
  have hglue : (bigSep Finset.univ fun r : Fin 4 => holds curM (curRowR (m2 (g + 1)) r) d (k0_pay355 (k0_pay347 (maxV X Wt d)) (qV X Wt r (back g (leftD d)))) : sProp 𝕄)
      ⊢ holds curM (curR (m2 (g + 1))) d (chunkV X Wt d (g + 1)) :=
    (Entails.of_eq (congrArg (bigSep Finset.univ) (funext fun r => by
      rw [← rows_glue (fun r => k0_pay355 (k0_pay347 (maxV X Wt d)) (qV X Wt r (back g (leftD d)))) r]; rfl))).trans
      (cur_rows d (m2 (g + 1)) (chunkV X Wt d (g + 1))).2
  rw [four] at hglue
  unfold agAll agStep
  rw [if_neg (by omega : ¬ g + 1 = 0), show g + 1 - 1 = g by omega]
  iintro ⟨#HC, #HG, #HD, ⟨H0, H1, H2, H3⟩, Hst, Hh, Ho⟩ Hk
  iapply (ag_half (X := X) (Wt := Wt) (K := K) (J := J) d g hg ((agOwed_above d fun _ => g).mono (by omega))) $$ [Hst Hh Ho]
  · isplitr; · iexact HC
    isplitl [Hst]; · iexact Hst
    isplitl [Hh]; · iexact Hh
    iexact Ho
  iintro ⟨Hst, Hh, Ho⟩
  ihave Hh := ((cur_rows_any (F := F) d (m2 (g + 1))).trans (Entails.of_eq (four _))) $$ Hh
  icases Hh with ⟨C0, C1, C2, C3⟩
  -- ring 0
  ihave Ho := (Entails.of_eq (congrArg (ow (F := F) d) (show agOwed d (fun _ => g) = (agDues d g 1 + agDues d g 2 + agDues d g 3) + agDues d g 0 by unfold agOwed; ac_rfl))) $$ Ho
  iapply (ag_ring (X := X) (Wt := Wt) (K := K) (J := J) d (k0_pay347 (maxV X Wt d)) g hg 0 (hup 0 1 2 3 g g g (.inl ⟨rfl, by decide⟩) (.inl ⟨rfl, by decide⟩) (.inl ⟨rfl, by decide⟩))) $$ [H0 C0 Ho]
  · isplitr; · iexact HC
    isplitr; · iexact HG
    isplitr; · iexact HD
    isplitl [H0]; · iexact H0
    isplitl [C0]; · iexact C0
    iexact Ho
  iintro ⟨H0, C0, Ho⟩
  -- ring 1
  ihave Ho := (Entails.of_eq (congrArg (ow (F := F) d) (show (agDues d g 1 + agDues d g 2 + agDues d g 3) + agDues d (g + 1) 0 = (agDues d (g + 1) 0 + agDues d g 2 + agDues d g 3) + agDues d g 1 by ac_rfl))) $$ Ho
  iapply (ag_ring (X := X) (Wt := Wt) (K := K) (J := J) d (k0_pay347 (maxV X Wt d)) g hg 1 (hup 1 0 2 3 (g + 1) g g (.inr rfl) (.inl ⟨rfl, by decide⟩) (.inl ⟨rfl, by decide⟩))) $$ [H1 C1 Ho]
  · isplitr; · iexact HC
    isplitr; · iexact HG
    isplitr; · iexact HD
    isplitl [H1]; · iexact H1
    isplitl [C1]; · iexact C1
    iexact Ho
  iintro ⟨H1, C1, Ho⟩
  -- ring 2
  ihave Ho := (Entails.of_eq (congrArg (ow (F := F) d) (show (agDues d (g + 1) 0 + agDues d g 2 + agDues d g 3) + agDues d (g + 1) 1 = (agDues d (g + 1) 0 + agDues d (g + 1) 1 + agDues d g 3) + agDues d g 2 by ac_rfl))) $$ Ho
  iapply (ag_ring (X := X) (Wt := Wt) (K := K) (J := J) d (k0_pay347 (maxV X Wt d)) g hg 2 (hup 2 0 1 3 (g + 1) (g + 1) g (.inr rfl) (.inr rfl) (.inl ⟨rfl, by decide⟩))) $$ [H2 C2 Ho]
  · isplitr; · iexact HC
    isplitr; · iexact HG
    isplitr; · iexact HD
    isplitl [H2]; · iexact H2
    isplitl [C2]; · iexact C2
    iexact Ho
  iintro ⟨H2, C2, Ho⟩
  -- ring 3
  ihave Ho := (Entails.of_eq (congrArg (ow (F := F) d) (show (agDues d (g + 1) 0 + agDues d (g + 1) 1 + agDues d g 3) + agDues d (g + 1) 2 = (agDues d (g + 1) 0 + agDues d (g + 1) 1 + agDues d (g + 1) 2) + agDues d g 3 by ac_rfl))) $$ Ho
  iapply (ag_ring (X := X) (Wt := Wt) (K := K) (J := J) d (k0_pay347 (maxV X Wt d)) g hg 3 (hup 3 0 1 2 (g + 1) (g + 1) (g + 1) (.inr rfl) (.inr rfl) (.inr rfl))) $$ [H3 C3 Ho]
  · isplitr; · iexact HC
    isplitr; · iexact HG
    isplitr; · iexact HD
    isplitl [H3]; · iexact H3
    isplitl [C3]; · iexact C3
    iexact Ho
  iintro ⟨H3, C3, Ho⟩
  ihave Hc := hglue $$ [C0 C1 C2 C3]
  · isplitl [C0]; · iexact C0
    isplitl [C1]; · iexact C1
    isplitl [C2]; · iexact C2
    iexact C3
  iapply (store_op (X := X) (Wt := Wt) (K := K) (J := J) d (n := g + 1) (ns := g) (by omega) (by omega)) $$ [Hst Hc]
  · isplitr; · iexact HC
    isplitl [Hst]; · iexact Hst
    iexact Hc
  iintro Hst
  iapply Hk
  isplitr; · iexact HC
  isplitr; · iexact HG
  isplitr; · iexact HD
  isplitl [H0 H1 H2 H3]
  · isplitl [H0]; · iexact H0
    isplitl [H1]; · iexact H1
    isplitl [H2]; · iexact H2
    iexact H3
  isplitl [Hst]; · iexact Hst
  isplitr; · iempintro
  iexact Ho

/-- The gather. -/
theorem ag_all (d : Dev nD) (kont : Bd F PUnit) (Q : PUnit → sProp 𝕄) :
    agAll X Wt K J d 0 ⊢ iprop((agAll X Wt K J d 31 -∗ wpD d kont Q) -∗ wpD d (seqFrom (agStep d (k0_pay347 (maxV X Wt d))) 31 0 kont) Q) := by
  have h := seq_wp (F := F) d (agStep d (k0_pay347 (maxV X Wt d))) (fun n => agAll X Wt K J d n) 31 (fun g hg kont Q => ag_step d g hg kont Q) 31 0 (by omega) kont Q
  exact h

/-! ## From the exchanged maximum on -/

/-- A ring's gather slots before the gather: the device has the first. -/
def agPre (X : Dev nD → (cc0_stg0_0 : Ref sig .tc).ty.Contents (Elt F)) (Wt : Dev nD → (cc0_stg1_0 : Ref sig .tc).ty.Contents (Elt F)) (d : Dev nD) (r : Fin 4) : sProp 𝕄 :=
  iprop(rxSt d r 31 ∗ txSt d r 31 31 ∗ crOut d r 27 ∗ crIn X Wt d r 27 ∗ holdsAny (F := F) (agM r) (slot4 0) d)

/-- What is owed before the gather. -/
def gaOwed (d : Dev nD) (n : Fin 4 → ℕ) : CellTallies nD τ sig ℕ := dues d 0 (n 0) 27 + dues d 1 (n 1) 27 + dues d 2 (n 2) 27 + dues d 3 (n 3) 27

theorem ag_first (d : Dev nD) (r : Fin 4) (O : CellTallies nD τ sig ℕ) {kont : Bd F PUnit} {Q : PUnit → sProp 𝕄} :
    iprop(Ctx X Wt K J ∗ greetOf (F := F) (rightD d) ∗ done (F := F) (rightD d) ∗ rxSt d r 31 ∗ txSt d r 31 31 ∗ crOut d r 27 ∗ crIn X Wt d r 27
        ∗ holds (agM r) (slot4 0) d (qV X Wt r d) ∗ ow d (O + dues d r 31 27))
      ⊢ iprop(((agSt X Wt d 0 r ∗ ow d (O + dues d r 32 27)) -∗ wpD d kont Q) -∗ wpD d (agSendOp d r 0 kont) Q) := by
  unfold agSt
  rw [Finset.Ico_eq_empty_of_le (by omega : 0 ≤ 28), if_neg (by omega : ¬ (0 = 31))]
  iintro ⟨#HC, #HG, #HD, Hrx, Htx, Hco, Hci, Hw, Ho⟩ Hk
  iapply (ag_send (X := X) (Wt := Wt) (K := K) (J := J) d r (j := 0) (ns := 31) (nm := 31) (cg := 27) (by omega) rfl rfl O) $$ [Htx Hw Ho]
  · isplitr; · iexact HC
    isplitl [Htx]; · iexact Htx
    isplitr
    · iapply (first_perm_ag (F := F) (rightD d) r (by omega : 31 ≤ 31) (by omega : 31 < 34))
      isplitr; · iexact HD
      iexact HG
    isplitl [Hw]; · iexact Hw
    iexact Ho
  iintro ⟨Htx, Ho⟩
  iapply Hk
  isplitr [Ho]
  · isplitl [Hrx]; · iexact Hrx
    isplitl [Htx]; · iexact Htx
    isplitl [Hco]; · iexact Hco
    isplitl [Hci]; · iexact Hci
    isplitr; · rw [bigSep_empty]; iempintro
    iempintro
  iexact Ho

theorem gather_wp (d : Dev nD) (kont : Bd F PUnit) (Q : PUnit → sProp 𝕄) :
    iprop(Ctx X Wt K J ∗ greetOf (F := F) (rightD d) ∗ done (F := F) (rightD d)
        ∗ (agPre X Wt d 0 ∗ agPre X Wt d 1 ∗ agPre X Wt d 2 ∗ agPre X Wt d 3)
        ∗ stSt X Wt d 0 0 ∗ holdsAny (F := F) curM (curR 0) d ∗ holdsAny (F := F) curM (curR 1) d ∗ ow d (gaOwed d fun _ => 31))
      ⊢ iprop((((agSt X Wt d 31 0 ∗ agSt X Wt d 31 1 ∗ agSt X Wt d 31 2 ∗ agSt X Wt d 31 3)
          ∗ stSt X Wt d 32 32 ∗ holdsAny (F := F) curM (curR 0) d ∗ holdsAny (F := F) curM (curR 1) d ∗ ow d 0) -∗ wpD d kont Q)
        -∗ wpD d (gatherProg d (k0_pay339 (totV X Wt 31 d)) (maxV X Wt d) kont) Q) := by
  have hend : ∀ r, agDues d 31 r = 0 := fun r => by
    unfold agDues dues
    rw [show min (31 + (31 + 1)) 62 = 62 by omega, show 27 + min 31 28 = 55 by omega]
    simp
  have hend : agOwed d (fun _ => 31) = 0 := by unfold agOwed; rw [hend, hend, hend, hend]; simp only [add_zero]
  unfold agPre gatherProg
  iintro ⟨#HC, #HG, #HD, ⟨⟨Hrx0, Htx0, Hco0, Hci0, W0⟩, ⟨Hrx1, Htx1, Hco1, Hci1, W1⟩, ⟨Hrx2, Htx2, Hco2, Hci2, W2⟩, ⟨Hrx3, Htx3, Hco3, Hci3, W3⟩⟩, Hst, Hc0, Hc1, Ho⟩ Hk
  iapply (quant_op d 0 (k0_pay339 (totV X Wt 31 d)) (maxV X Wt d)) $$ W0
  iintro W0
  iapply (quant_op d 1 (k0_pay339 (totV X Wt 31 d)) (maxV X Wt d)) $$ W1
  iintro W1
  iapply (quant_op d 2 (k0_pay339 (totV X Wt 31 d)) (maxV X Wt d)) $$ W2
  iintro W2
  iapply (quant_op d 3 (k0_pay339 (totV X Wt 31 d)) (maxV X Wt d)) $$ W3
  iintro W3
  iapply (own_op d (maxV X Wt d) (k0_pay339 (totV X Wt 31 d))) $$ Hc0
  iintro Hc0
  iapply (store_op (X := X) (Wt := Wt) (K := K) (J := J) d (n := 0) (ns := 0) (by omega) (by omega)) $$ [Hst Hc0]
  · isplitr; · iexact HC
    isplitl [Hst]; · iexact Hst
    iexact Hc0
  iintro Hst
  -- the first sends
  ihave Ho := (Entails.of_eq (congrArg (ow (F := F) d) (show gaOwed d (fun _ => 31) = (dues d 1 31 27 + dues d 2 31 27 + dues d 3 31 27) + dues d 0 31 27 by unfold gaOwed; ac_rfl))) $$ Ho
  iapply (ag_first (X := X) (Wt := Wt) (K := K) (J := J) d 0 (dues d 1 31 27 + dues d 2 31 27 + dues d 3 31 27)) $$ [Hrx0 Htx0 Hco0 Hci0 W0 Ho]
  · isplitr; · iexact HC
    isplitr; · iexact HG
    isplitr; · iexact HD
    isplitl [Hrx0]; · iexact Hrx0
    isplitl [Htx0]; · iexact Htx0
    isplitl [Hco0]; · iexact Hco0
    isplitl [Hci0]; · iexact Hci0
    isplitl [W0]; · iexact W0
    iexact Ho
  iintro ⟨H0, Ho⟩
  ihave Ho := (Entails.of_eq (congrArg (ow (F := F) d) (show (dues d 1 31 27 + dues d 2 31 27 + dues d 3 31 27) + dues d 0 32 27 = (dues d 0 32 27 + dues d 2 31 27 + dues d 3 31 27) + dues d 1 31 27 by ac_rfl))) $$ Ho
  iapply (ag_first (X := X) (Wt := Wt) (K := K) (J := J) d 1 (dues d 0 32 27 + dues d 2 31 27 + dues d 3 31 27)) $$ [Hrx1 Htx1 Hco1 Hci1 W1 Ho]
  · isplitr; · iexact HC
    isplitr; · iexact HG
    isplitr; · iexact HD
    isplitl [Hrx1]; · iexact Hrx1
    isplitl [Htx1]; · iexact Htx1
    isplitl [Hco1]; · iexact Hco1
    isplitl [Hci1]; · iexact Hci1
    isplitl [W1]; · iexact W1
    iexact Ho
  iintro ⟨H1, Ho⟩
  ihave Ho := (Entails.of_eq (congrArg (ow (F := F) d) (show (dues d 0 32 27 + dues d 2 31 27 + dues d 3 31 27) + dues d 1 32 27 = (dues d 0 32 27 + dues d 1 32 27 + dues d 3 31 27) + dues d 2 31 27 by ac_rfl))) $$ Ho
  iapply (ag_first (X := X) (Wt := Wt) (K := K) (J := J) d 2 (dues d 0 32 27 + dues d 1 32 27 + dues d 3 31 27)) $$ [Hrx2 Htx2 Hco2 Hci2 W2 Ho]
  · isplitr; · iexact HC
    isplitr; · iexact HG
    isplitr; · iexact HD
    isplitl [Hrx2]; · iexact Hrx2
    isplitl [Htx2]; · iexact Htx2
    isplitl [Hco2]; · iexact Hco2
    isplitl [Hci2]; · iexact Hci2
    isplitl [W2]; · iexact W2
    iexact Ho
  iintro ⟨H2, Ho⟩
  ihave Ho := (Entails.of_eq (congrArg (ow (F := F) d) (show (dues d 0 32 27 + dues d 1 32 27 + dues d 3 31 27) + dues d 2 32 27 = (dues d 0 32 27 + dues d 1 32 27 + dues d 2 32 27) + dues d 3 31 27 by ac_rfl))) $$ Ho
  iapply (ag_first (X := X) (Wt := Wt) (K := K) (J := J) d 3 (dues d 0 32 27 + dues d 1 32 27 + dues d 2 32 27)) $$ [Hrx3 Htx3 Hco3 Hci3 W3 Ho]
  · isplitr; · iexact HC
    isplitr; · iexact HG
    isplitr; · iexact HD
    isplitl [Hrx3]; · iexact Hrx3
    isplitl [Htx3]; · iexact Htx3
    isplitl [Hco3]; · iexact Hco3
    isplitl [Hci3]; · iexact Hci3
    isplitl [W3]; · iexact W3
    iexact Ho
  iintro ⟨H3, Ho⟩
  iapply (ag_all (X := X) (Wt := Wt) (K := K) (J := J) d) $$ [H0 H1 H2 H3 Hst Hc1 Ho]
  · unfold agAll
    isplitr; · iexact HC
    isplitr; · iexact HG
    isplitr; · iexact HD
    isplitl [H0 H1 H2 H3]
    · isplitl [H0]; · iexact H0
      isplitl [H1]; · iexact H1
      isplitl [H2]; · iexact H2
      iexact H3
    isplitl [Hst]; · iexact Hst
    isplitl [Hc1]
    · rw [if_pos rfl]; iexact Hc1
    iexact Ho
  unfold agAll
  iintro ⟨-, -, -, H, Hst, -, Ho⟩
  ihave Ho := (Entails.of_eq (congrArg (ow (F := F) d) hend)) $$ Ho
  iapply (stored_op (X := X) (Wt := Wt) (K := K) (J := J) d (n := 30) (nm := 32) (by omega) (by omega) (Above.zero 0)) $$ [Hst Ho]
  · isplitr; · iexact HC
    isplitl [Hst]; · iexact Hst
    iexact Ho
  iintro ⟨Hst, Ho, Hc0⟩
  iapply (stored_op (X := X) (Wt := Wt) (K := K) (J := J) d (n := 31) (nm := 32) (by omega) (by omega) (Above.zero 0)) $$ [Hst Ho]
  · isplitr; · iexact HC
    isplitl [Hst]; · iexact Hst
    iexact Ho
  iintro ⟨Hst, Ho, Hc1⟩
  iapply Hk
  isplitl [H]; · iexact H
  isplitl [Hst]; · iexact Hst
  isplitl [Hc0]; · iexact Hc0
  isplitl [Hc1]; · iexact Hc1
  iexact Ho

end Run

end Cert.Proof
-- ==== Proof.Amax.lean ====
module
public import proofs.«01_k».proof.Proof.RsAll

/-! The exchange of the maximum. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

theorem k5_val (k : Fin 5) : k5 k.val = k := Fin.ext (Nat.mod_eq_of_lt k.isLt)
theorem mem_axs (k : Fin 5) : 0 ∈ names (kAxs k) := Finset.mem_singleton.mpr rfl
theorem mem_axr (k : Fin 5) : 0 ∈ names (kAxr k) := Finset.mem_singleton.mpr rfl
theorem cnt_axs : ∀ k : Fin 5, cnt (kAxs k) 0 = 0 ∧ cnt (kAxs k) (0 + 1) = 1 := by decide +kernel
theorem cnt_axr : ∀ k : Fin 5, cnt (kAxr k) 0 = 0 ∧ cnt (kAxr k) (0 + 1) = 1 := by decide +kernel
theorem credit_amax (k : Fin 8) : (amaxV k).view.dmaCredit = NX := by unfold NX; rfl
theorem amt_axs (k : Fin 5) : amt (kAxs k) 0 = NX := rfl
theorem amt_axr (k : Fin 5) : amt (kAxr k) 0 = NX := rfl
theorem pay_axs (d : Dev nD) (k : Fin 5) : pay X Wt d (kAxs k) 0 = holds amaxM (amaxR 5) d (mxV X Wt k.val d) := rfl
theorem pay_axr (d : Dev nD) (k : Fin 5) : pay X Wt d (kAxr k) 0
    = iprop(holds amaxM (amaxR (k8 k)) d (mxV X Wt k.val (partner k d)) ∗ bigSep (grp k.val (partner k d)) fun e => done e) := rfl
theorem mx_succ (d : Dev nD) (k : Fin 5) : mxV X Wt (k.val + 1) d = k0_pay341 (mxV X Wt k.val d) (mxV X Wt k.val (partner k d)) := by
  have h : mxV X Wt (k.val + 1) d = k0_pay341 (mxV X Wt k.val d) (mxV X Wt k.val (partner (k5 k.val) d)) := rfl
  rw [h, k5_val]

theorem grp_zero : ∀ d : Dev nD, grp 0 d = {d} := by decide +kernel
theorem grp_five : ∀ d : Dev nD, grp 5 d = Finset.univ := by decide +kernel
theorem grp_succ : ∀ (k : Fin 5) (d : Dev nD), grp (k.val + 1) d = grp k.val d ∪ grp k.val (partner k d) := by decide +kernel
theorem grp_dis : ∀ (k : Fin 5) (d : Dev nD), Disjoint (grp k.val d) (grp k.val (partner k d)) := by decide +kernel
theorem partner_back : ∀ (k : Fin 5) (d : Dev nD), ∃ i ∈ Finset.range 31, back i (leftD d) = partner k d := by decide +kernel

theorem partner_dep (k : Fin 5) (d : Dev nD) : deps (F := F) 31 (leftD d) ⊢ Release.released ES ((partner k d, .inr k) : Key) 1 := by
  obtain ⟨i, hi, e⟩ := partner_back k d
  have h1 : deps (F := F) 31 (leftD d) ⊢ dep (F := F) (back i (leftD d)) := by
    unfold deps; exact bigSep_elim (Φ := fun i => dep (F := F) (back i (leftD d))) hi
  rw [e] at h1
  refine h1.trans ?_
  unfold dep
  exact bigSep_elim (Φ := fun k : Fin 5 => (Release.released ES ((partner _ d, .inr k) : Key) 1 : sProp 𝕄)) (Finset.mem_univ k)

theorem done_union {s t : Finset (Dev nD)} (h : Disjoint s t) :
    (bigSep (s ∪ t) fun e => done (F := F) e) = iprop((bigSep s fun e => done e) ∗ bigSep t fun e => done e) := bigSep_union h

/-- The signal of round `k` of the exchange that device `d` owes its partner. -/
def axDue (d : Dev nD) (k : Fin 5) : CellTallies nD τ sig ℕ := tallyAt (cell (partner k d) (kAxr k)) 0 NX
theorem axDue_above (d : Dev nD) (k : Fin 5) {ℓ : ℕ} (h : ℓ < 300 + k.val) : Above ℓ (axDue d k) := Above.tally _ _ _ _ (mem_axr k) h

/-- What round `k` needs, and what it leaves. -/
def axPre (d : Dev nD) (k : Fin 5) : sProp 𝕄 :=
  iprop(atPos ER (cell d (kAxs k)) 0 ∅ 0 ∗ atPos ER (cell d (kAxr k)) 0 ∅ 0
    ∗ dutyTok ER (cell d (kAxs k)) 0 0 ∗ dutyTok ER (cell (partner k d) (kAxr k)) 0 0
    ∗ Release.writeTok ES ((partner k d, .inr k) : Key) 1 ∗ cred (tallyAt (cell d (kAxr k)) 0 NX))
def axPost (d : Dev nD) (k : Fin 5) : sProp 𝕄 :=
  iprop(atPos ER (cell d (kAxs k)) 1 ∅ 0 ∗ atPos ER (cell d (kAxr k)) 1 ∅ 0 ∗ holdsAny (F := F) amaxM (amaxR (k8 k)) d)

theorem amax_init (d : Dev nD) (v : S1x128x8192.Idx → Elt F .f32) {kont : Bd F PUnit} {Q : PUnit → sProp 𝕄} :
    holdsAny (F := F) amaxM (amaxR 5) d
      ⊢ iprop((holds amaxM (amaxR 5) d (k0_pay340 v) -∗ wpD d kont Q) -∗ wpD d (amaxInit v kont) Q) := by
  unfold amaxInit holdsAny
  iintro ⟨%w₀, Hw⟩ Hk
  iapply (wp_load_holds (m := amaxM) (R := amaxR 5) (d := d) w₀) $$ Hw
  iintro Hw
  iapply (wp_store_holds (m := amaxM) (R := amaxR 5) (d := d) w₀) $$ Hw
  iexact Hk

set_option maxHeartbeats 1000000 in
/-- Round `k` of the exchange. -/
theorem amax_step (d : Dev nD) (k : Fin 5) (O : CellTallies nD τ sig ℕ) (hO : Above (300 + k.val) O) {kont : Bd F PUnit} {Q : PUnit → sProp 𝕄} :
    iprop(Ctx X Wt K J ∗ deps (F := F) 31 (leftD d) ∗ axPre d k ∗ holds amaxM (amaxR 5) d (mxV X Wt k.val d)
        ∗ (bigSep (grp k.val d) fun e => done (F := F) e) ∗ ow d (O + axDue d k))
      ⊢ iprop(((axPost (F := F) d k ∗ holds amaxM (amaxR 5) d (mxV X Wt (k.val + 1) d)
          ∗ (bigSep (grp (k.val + 1) d) fun e => done (F := F) e) ∗ ow d O) -∗ wpD d kont Q)
        -∗ wpD d (amaxStep d k kont) Q) := by
  have hslot : slotA (F := F) ((partner k d, .inr k) : Key) = holdsAny amaxM (amaxR (k8 k)) (partner k d) := rfl
  have hp1 : (Rd X Wt).payload ((d : Thread nD τ), .dma (axsS k)) 0 0 = pay X Wt d (kAxs k) 0 := Rd_payload X Wt d (kAxs k) 0 0
  have hp2 : (Rd X Wt).payload ((partner k d : Thread nD τ), .dma (axrS k)) 0 0
      = iprop(holds amaxM (amaxR (k8 k)) (partner k d) (mxV X Wt k.val d) ∗ bigSep (grp k.val d) fun e => done e) := by
    have := Rd_payload X Wt (partner k d) (kAxr k) 0 0
    rw [pay_axr, partner_partner] at this
    exact this
  have hdue : O + axDue d k = O + tallyAt ((partner k d : Thread nD τ), .dma (axrS k)) 0 NX := by unfold axDue; rfl
  have hd1 : 0 ∈ (Rd X Wt).duties ((d : Thread nD τ), .dma (axsS k)) 0 := mem_duties X Wt d (kAxs k) (mem_axs k)
  have hd2 : 0 ∈ (Rd X Wt).duties ((partner k d : Thread nD τ), .dma (axrS k)) 0 := mem_duties X Wt (partner k d) (kAxr k) (mem_axr k)
  have ha1 : (Rd X Wt).amount ((d : Thread nD τ), .dma (axsS k)) 0 0 = NX := (Rd_amount X Wt d (kAxs k) 0 0).trans (amt_axs k)
  have ha2 : (Rd X Wt).amount ((partner k d : Thread nD τ), .dma (axrS k)) 0 0 = NX := (Rd_amount X Wt (partner k d) (kAxr k) 0 0).trans (amt_axr k)
  unfold axPre axPost amaxStep
  rw [mx_succ, grp_succ, done_union (grp_dis k d)]
  iintro ⟨#HC, #Hdeps, ⟨Ha1, Ha2, Hd1, Hd2, Hw, Hcr⟩, Hm, #Hg, Ho⟩ Hk
  ihave #Hrel := (partner_dep (F := F) k d) $$ Hdeps
  iapply fupd_wp
  imod (Release.slot_take ES (k := ((partner k d, .inr k) : Key)) (S := slotA (F := F) ((partner k d, .inr k) : Key)) (ι := J (partner k d, .inr k)) (Set.mem_univ _) 1) $$ [Hw] with HS
  · isplitr; · iapply (ctx_slot (X := X) (Wt := Wt) (K := K) (J := J) ((partner k d, .inr k) : Key)); iexact HC
    isplitr; · iexact Hrel
    iexact Hw
  imodintro
  ihave HS := (Entails.of_eq hslot) $$ HS
  ihave Ho := (Entails.of_eq (show ow (F := F) d (O + axDue d k) = iprop(∃ W, owes (d : Thread nD τ) (O + axDue d k) W) from rfl)) $$ Ho
  icases Ho with ⟨%W, Ho⟩
  iapply (wp_send_holds (Rd := Rd X Wt) (d := d) (d' := partner k d) (m₁ := amaxM) (R₁ := amaxR 5) (m₂ := amaxM) (R₂ := amaxR (k8 k)) (X := bigSep (grp k.val d) fun e => done (F := F) e)
      (κ₁ := K (d, kAxs k)) (κ₂ := K (partner k d, kAxr k)) (ρ₁ := 0) (ρ₂ := 0) (t₁ := 0) (t₂ := 0)
      hd1 hd2 0 0 NX (credit_amax (k8 k)) ha1 ha2
      O (O₀ := O + axDue d k) hdue (mxV X Wt k.val d) (mxV X Wt k.val d) (fun x => rfl)
      (by rw [hp1, pay_axs]) (by rw [hp2])) $$ [Hm HS Ho Hd1 Hd2]
  · isplitr; · iapply (ctx_cell (X := X) (Wt := Wt) (K := K) (J := J) d (kAxs k)); iexact HC
    isplitr; · iapply (ctx_cell (X := X) (Wt := Wt) (K := K) (J := J) (partner k d) (kAxr k)); iexact HC
    isplitl [Hm]; · iexact Hm
    isplitl [HS]; · iexact HS
    isplitr; · iexact Hg
    isplitl [Ho]; · iexact Ho
    isplitl [Hd1]; · iexact Hd1
    isplitr; · iapply (ctx_zero (X := X) (Wt := Wt) (K := K) (J := J) d (kAxs k)); iexact HC
    isplitl [Hd2]; · iexact Hd2
    iapply (ctx_zero (X := X) (Wt := Wt) (K := K) (J := J) (partner k d) (kAxr k)); iexact HC
  iintro ⟨Hc, Ho⟩
  ihave Ho := (show owes (d : Thread nD τ) O W ⊢ ow (F := F) d O by unfold ow; iintro H; iexists W; iexact H) $$ Ho
  iapply (wait_one (X := X) (Wt := Wt) (K := K) (J := J) d (kAxs k) rfl (mem_axs k) (hO.mono (Nat.zero_le _) : Above (lvK (kAxs k) 0) O)
    (fun P => (wpE_waitDma2_eq 𝒱₀ (d : Thread nD τ) none Set.univ P).trans (by rw [credit_amax, amt_axs]; rfl))) $$ [Hc Ho Ha1]
  · isplitr; · iexact HC
    isplitl [Hc]; · rw [amt_axs]; iexact Hc
    isplitl [Ho]; · iexact Ho
    rw [(cnt_axs k).1]; iexact Ha1
  iintro ⟨Ho, Ha1, -, Hm⟩
  ihave Hm := (Entails.of_eq (pay_axs (X := X) (Wt := Wt) d k)) $$ Hm
  iapply (wait_one (X := X) (Wt := Wt) (K := K) (J := J) d (kAxr k) rfl (mem_axr k) (show Above (lvK (kAxr k) 0) O from hO)
    (fun P => (wpE_waitDma2_eq 𝒱₀ (d : Thread nD τ) none Set.univ P).trans (by rw [credit_amax, amt_axr]; rfl))) $$ [Hcr Ho Ha2]
  · isplitr; · iexact HC
    isplitl [Hcr]; · rw [amt_axr]; iexact Hcr
    isplitl [Ho]; · iexact Ho
    rw [(cnt_axr k).1]; iexact Ha2
  iintro ⟨Ho, Ha2, -, Hp⟩
  ihave Hp := (Entails.of_eq (pay_axr (X := X) (Wt := Wt) d k)) $$ Hp
  icases Hp with ⟨Hl, #Hg'⟩
  iapply (wp_load_holds (m := amaxM) (R := amaxR 5) (d := d) (mxV X Wt k.val d)) $$ Hm
  iintro Hm
  iapply (wp_load_holds (m := amaxM) (R := amaxR (k8 k)) (d := d) (mxV X Wt k.val (partner k d))) $$ Hl
  iintro Hl
  iapply (wp_load_holds (m := amaxM) (R := amaxR 5) (d := d) (mxV X Wt k.val d)) $$ Hm
  iintro Hm
  iapply (wp_store_holds (m := amaxM) (R := amaxR 5) (d := d) (mxV X Wt k.val d)) $$ Hm
  iintro Hm
  iapply Hk
  isplitl [Ha1 Ha2 Hl]
  · isplitl [Ha1]
    · iapply (Entails.of_eq (congrArg (fun n => (atPos ER (cell d (kAxs k)) n ∅ 0 : sProp 𝕄)) (cnt_axs k).2)) $$ Ha1
    isplitl [Ha2]
    · iapply (Entails.of_eq (congrArg (fun n => (atPos ER (cell d (kAxr k)) n ∅ 0 : sProp 𝕄)) (cnt_axr k).2)) $$ Ha2
    iapply (holds_any (m := amaxM) (R := amaxR (k8 k)) (d := d) (mxV X Wt k.val (partner k d))) $$ Hl
  isplitl [Hm]; · iexact Hm
  isplitr
  · isplitr; · iexact Hg
    iexact Hg'
  iexact Ho

/-- The one entry of the exchanged block. -/
theorem amax_load (d : Dev nD) {kont : Vec F S1x1x1 .f32 → Bd F PUnit} {Q : PUnit → sProp 𝕄} :
    holds amaxM (amaxR 5) d (mxV X Wt 5 d)
      ⊢ iprop((holds amaxM (amaxR 5) d (mxV X Wt 5 d) -∗ wpD d (kont (maxV X Wt d)) Q)
        -∗ wpD d (.op (.load amaxM (Rect.unit (s := S8x8x128) ![5, 0, 0] S1x1x1.size inb_S8x8x128_S1x1x1_5_0_0).toLoadRect (View.loadsAt_vmem h_S1x1x1)) kont) Q) := by
  have hemb : ∀ x : S1x1x1.Idx, (Rect.unit (s := S8x8x128) ![5, 0, 0] S1x1x1.size inb_S8x8x128_S1x1x1_5_0_0).emb x = (amaxR 5).emb (oneIx x) := fun x => by
    funext a
    refine Fin.ext ?_
    have e1 := ValueKit.rect_emb_unit_val (s := S8x8x128) ![5, 0, 0] S1x1x1.size inb_S8x8x128_S1x1x1_5_0_0 x a
    have e2 := ValueKit.rect_emb_unit_val (s := S8x8x128) ![(5 : Fin 8).val, 0, 0] S1x8x128.size (inbA 5) (oneIx x) a
    have e3 := ValueKit.rect_emb_unit_val (s := S1x8x128) ![0, 0, 0] S1x1x1.size inbOne x a
    refine e1.trans (Eq.trans ?_ e2.symm)
    rw [show ((oneIx x) a).val = _ from e3]
    match a with
    | ⟨0, _⟩ => show 5 + _ = 5 + (0 + _); omega
    | ⟨1, _⟩ => show 0 + _ = 0 + (0 + _); omega
    | ⟨2, _⟩ => show 0 + _ = 0 + (0 + _); omega
    | ⟨_ + 3, h⟩ => exact absurd h (by show ¬ _ < 3; omega)
  have hsub : (amaxM.access (Rect.unit (s := S8x8x128) ![5, 0, 0] S1x1x1.size inb_S8x8x128_S1x1x1_5_0_0)).set ⊆ (amaxM.access (amaxR 5)).set := by
    intro i hi
    obtain ⟨x, -, rfl⟩ := Finset.mem_map.mp hi
    exact Finset.mem_map.mpr ⟨oneIx x, Finset.mem_univ _, congrArg amaxM.view.emb (hemb x).symm⟩
  have hval : ∀ f : amaxM.view.ty.Contents (Elt F), (amaxM.access (amaxR 5)).read (Elt F) f = mxV X Wt 5 d →
      (amaxM.access (Rect.unit (s := S8x8x128) ![5, 0, 0] S1x1x1.size inb_S8x8x128_S1x1x1_5_0_0)).read (Elt F) f = maxV X Wt d := fun f hf => by
    funext x
    show _ = mxV X Wt 5 d (oneIx x)
    rw [← hf, read_access, read_access, hemb]
  unfold holds
  iintro ⟨%f, %hf, H⟩ Hk
  iapply (wp_load_rect 𝒱₀ (d : Thread nD τ) none Set.univ (m := amaxM) (r := Rect.unit (s := S8x8x128) ![5, 0, 0] S1x1x1.size inb_S8x8x128_S1x1x1_5_0_0) hsub) $$ H
  iintro H
  rw [hval f hf]
  iapply Hk
  iexists f
  isplitr; · ipureintro; exact hf
  iexact H

end Run

end Cert.Proof
-- ==== Proof.Start.lean ====
module
public import proofs.«01_k».proof.Proof.AgAll
public import proofs.«01_k».proof.Proof.Amax

/-! The first releases, the greeting, and the first chunk. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

omit [FloatOps F] in
/-- Something known to everyone goes into each member. -/
theorem sep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)
omit [FloatOps F] in
/-- And updates member by member are one update. -/
theorem upd_with {I : Type} [DecidableEq I] {S : Finset I} {R : sProp 𝕄} [BI.Persistent R] {Φ Ψ : I → sProp 𝕄}
    (h : ∀ i ∈ S, iprop(R ∗ Φ i) ⊢ (|={Set.univ}=> Ψ i : sProp 𝕄)) : iprop(R ∗ bigSep S Φ) ⊢ (|={Set.univ}=> bigSep S Ψ : sProp 𝕄) :=
  (sep_with h).trans (bigSep_fupd _ _)

/-! ## The first release of the landing slots -/

theorem release_one (k : Key) :
    iprop(Ctx X Wt K J ∗ (Release.readerAt ES k 0 ∗ slotA (F := F) k))
      ⊢ (|={Set.univ}=> iprop(Release.readerAt ES k 1 ∗ Release.released ES k 1) : sProp 𝕄) := by
  iintro ⟨#HC, Hr, HS⟩
  iapply (Release.slot_release ES (k := k) (S := slotA (F := F) k) (ι := J k) (Set.mem_univ _) (slotA_twice _) 0)
  isplitr; · iapply (ctx_slot (X := X) (Wt := Wt) (K := K) (J := J) k); iexact HC
  isplitl [Hr]; · iexact Hr
  iexact HS

/-- Landing slot `κ` of ring `r`, as a key. -/
abbrev rkey (d : Dev nD) (r : Fin 4) (κ : Bool × Fin 4) : Key := (d, .inl (κ.1, r, κ.2))

/-- The marks of ring `r`'s first releases: every landing slot but the gather's slot 0, which starts as the device's own. -/
def ringRel (d : Dev nD) (r : Fin 4) : sProp 𝕄 :=
  bigSep (Finset.univ.erase ((true, 0) : Bool × Fin 4)) fun κ => Release.released ES (rkey d r κ) 1
instance ringRel_persistent (d : Dev nD) (r : Fin 4) : BI.Persistent (ringRel (F := F) d r) := by unfold ringRel; infer_instance

theorem rc_zero (κ : Bool × Fin 4) : rc 0 κ = if κ = (true, 0) then 0 else 1 := by
  unfold rc; rw [Finset.range_zero, Finset.filter_empty, Finset.card_empty, Nat.add_zero]

theorem release_ring (d : Dev nD) (r : Fin 4) :
    iprop(Ctx X Wt K J ∗ (bigSep Finset.univ fun κ : Bool × Fin 4 => Release.readerAt ES (rkey d r κ) 0)
        ∗ bigSep Finset.univ fun κ : Bool × Fin 4 => slotA (F := F) (rkey d r κ))
      ⊢ (|={Set.univ}=> iprop((bigSep Finset.univ fun κ : Bool × Fin 4 => Release.readerAt ES (rkey d r κ) (rc 0 κ))
          ∗ ringRel (F := F) d r ∗ holdsAny (F := F) (agM r) (slot4 0) d) : sProp 𝕄) := by
  unfold ringRel
  rw [bigSep_univ_at (fun κ : Bool × Fin 4 => (Release.readerAt ES (rkey d r κ) 0 : sProp 𝕄)) (true, 0),
    bigSep_univ_at (fun κ : Bool × Fin 4 => slotA (F := F) (rkey d r κ)) (true, 0),
    bigSep_univ_at (fun κ : Bool × Fin 4 => (Release.readerAt ES (rkey d r κ) (rc 0 κ) : sProp 𝕄)) (true, 0)]
  iintro ⟨#HC, ⟨Hr0, Hrs⟩, ⟨HS0, HSs⟩⟩
  imod (upd_with (R := Ctx X Wt K J) (S := Finset.univ.erase ((true, 0) : Bool × Fin 4)) (Φ := fun κ => iprop(Release.readerAt ES (rkey d r κ) 0 ∗ slotA (F := F) (rkey d r κ)))
    (Ψ := fun κ => iprop(Release.readerAt ES (rkey d r κ) 1 ∗ Release.released ES (rkey d r κ) 1)) fun κ _ => release_one (rkey d r κ)) $$ [Hrs HSs] with H
  · isplitr; · iexact HC
    rw [bigSep_sep']
    isplitl [Hrs]; · iexact Hrs
    iexact HSs
  imodintro
  ihave H := (Entails.of_eq (bigSep_sep' _ _ _)) $$ H
  icases H with ⟨Hrs, Hrel⟩
  isplitl [Hr0 Hrs]
  · isplitl [Hr0]; · rw [rc_zero, if_pos rfl]; iexact Hr0
    iapply (Entails.of_eq (bigSep_congr (fun κ hκ => by rw [rc_zero, if_neg (Finset.ne_of_mem_erase hκ)]))) $$ Hrs
  isplitl [Hrel]; · iexact Hrel
  iapply (Entails.of_eq (show slotA (F := F) (rkey d r (true, 0)) = holdsAny (agM r) (slot4 0) d from rfl)) $$ HS0

theorem first_keys : ∀ t ∈ firstMsgs, mk t ≠ ((true, 0) : Bool × Fin 4) ∧ ∀ (d : Dev nD) (r : Fin 4), mkey d r t = rkey d r (mk t) := by
  intro t ht
  refine ⟨?_, fun d r => rfl⟩
  revert t; decide +kernel

theorem greet_of_rel (d : Dev nD) : iprop(ringRel (F := F) d 0 ∗ ringRel (F := F) d 1 ∗ ringRel (F := F) d 2 ∗ ringRel (F := F) d 3) ⊢ greetOf d := by
  have h1 : ∀ r : Fin 4, ringRel (F := F) d r ⊢ bigSep firstMsgs fun t => (Release.released ES (mkey d r t) 1 : sProp 𝕄) := fun r =>
    bigSep_intro_persistent fun t ht => by
      obtain ⟨hk, he⟩ := first_keys t ht
      rw [he]
      unfold ringRel
      exact bigSep_elim (Φ := fun κ => (Release.released ES (rkey d r κ) 1 : sProp 𝕄)) (Finset.mem_erase.mpr ⟨hk, Finset.mem_univ _⟩)
  unfold greetOf
  rw [four]
  exact BIClass.sep_mono (h1 0) (BIClass.sep_mono (h1 1) (BIClass.sep_mono (h1 2) (h1 3)))

theorem release_ax (d : Dev nD) :
    iprop(Ctx X Wt K J ∗ (bigSep Finset.univ fun k : Fin 5 => Release.readerAt ES ((d, .inr k) : Key) 0)
        ∗ bigSep Finset.univ fun k : Fin 5 => holdsAny (F := F) amaxM (amaxR (k8 k)) d)
      ⊢ (|={Set.univ}=> dep (F := F) d : sProp 𝕄) := by
  iintro ⟨#HC, Hr, HS⟩
  imod (upd_with (R := Ctx X Wt K J) (S := Finset.univ) (Φ := fun k : Fin 5 => iprop(Release.readerAt ES ((d, .inr k) : Key) 0 ∗ slotA (F := F) ((d, .inr k) : Key)))
    (Ψ := fun k => iprop(Release.readerAt ES ((d, .inr k) : Key) 1 ∗ Release.released ES ((d, .inr k) : Key) 1)) fun k _ => release_one ((d, .inr k) : Key)) $$ [Hr HS] with H
  · isplitr; · iexact HC
    rw [bigSep_sep']
    isplitl [Hr]; · iexact Hr
    iexact HS
  imodintro
  ihave H := (Entails.of_eq (bigSep_sep' _ _ _)) $$ H
  icases H with ⟨-, H⟩
  unfold dep
  iexact H

/-! ## The greeting -/

theorem mem_bar (u : ℕ) (h : u < 2) : u ∈ names kBar := Finset.mem_range.mpr h
theorem bar_duties (d : Dev nD) : (Rd X Wt).duties ((d : Thread nD τ), .reg barS) 0 = {0, 1} := by
  refine (Rd_duties X Wt d kBar 0).trans ?_
  show (Finset.range 2).filter (fun t => rnd kBar t = 0) = {0, 1}
  decide +kernel
theorem bar_expect (d : Dev nD) : (Rd X Wt).expect ((d : Thread nD τ), .reg barS) 0 = 2 := by
  unfold Schedule.expect Schedule.amountOf
  rw [bar_duties, Finset.sum_pair (by decide)]
  rw [show (Rd X Wt).amount ((d : Thread nD τ), .reg barS) 0 0 = 1 from Rd_amount X Wt d kBar 0 0, show (Rd X Wt).amount ((d : Thread nD τ), .reg barS) 0 1 = 1 from Rd_amount X Wt d kBar 0 1]
theorem bar_pay (d : Dev nD) : bigSep ((Rd X Wt).duties ((d : Thread nD τ), .reg barS) 0 \ ∅) (fun u => (Rd X Wt).payload ((d : Thread nD τ), .reg barS) 0 u) ⊢ greetOf (F := F) (rightD d) := by
  rw [Finset.sdiff_empty, bar_duties]
  refine BIBase.Entails.trans (bigSep_elim (Finset.mem_insert_of_mem (Finset.mem_singleton_self 1))) ?_
  rw [show (Rd X Wt).payload ((d : Thread nD τ), .reg barS) 0 1 = pay X Wt d kBar 1 from Rd_payload X Wt d kBar 0 1]
  exact Entails.of_eq (show pay X Wt d kBar 1 = greetOf (F := F) (rightD d) by show (if 1 = 1 then greetOf (F := F) (rightD d) else iprop(emp)) = _; rw [if_pos rfl])

theorem greet_wp (d : Dev nD) {O : CellTallies nD τ sig ℕ} (hO : Above 1 O) {kont : Bd F PUnit} {Q : PUnit → sProp 𝕄} :
    iprop(Ctx X Wt K J ∗ atPos ER (cell d kBar) 0 ∅ 0 ∗ dutyTok ER (cell (leftD d) kBar) 0 1 ∗ dutyTok ER (cell (rightD d) kBar) 0 0
        ∗ cred (tallyAt (cell d kBar) 0 2) ∗ greetOf (F := F) d
        ∗ ow d (O + tallyAt (cell (rightD d) kBar) 0 1 + tallyAt (cell (leftD d) kBar) 0 1))
      ⊢ iprop(((greetOf (F := F) (rightD d) ∗ atPos ER (cell d kBar) 1 ∅ 0 ∗ ow d O) -∗ wpD d kont Q) -∗ wpD d (greet d kont) Q) := by
  unfold greet ow
  iintro ⟨#HC, Hat, Ht1, Ht0, Hc, HG, ⟨%W, Ho⟩⟩ Hk
  iapply (Rounds.wp_signal 𝒱₀ ER (Rd X Wt) (d : Thread nD τ) none (dst := (leftD d : Thread nD τ)) (κ := K (leftD d, kBar))
      (d := 1) (r := 0) (k' := 1) (mem_duties X Wt (leftD d) kBar (mem_bar 1 (by omega))) (Rd_amount X Wt (leftD d) kBar 0 1) 0
      (O + tallyAt (cell (rightD d) kBar) 0 1) rfl) $$ [Ho Ht1 HG]
  · isplitr; · iapply (ctx_cell (X := X) (Wt := Wt) (K := K) (J := J) (leftD d) kBar); iexact HC
    isplitl [Ho]; · iexact Ho
    isplitl [Ht1]; · iexact Ht1
    isplitl [HG]
    · iapply (Entails.of_eq (show greetOf (F := F) d = (Rd X Wt).payload ((leftD d : Thread nD τ), .reg barS) 0 1 from by
        refine Eq.trans ?_ (Rd_payload X Wt (leftD d) kBar 0 1).symm
        show _ = if 1 = 1 then greetOf (rightD (leftD d)) else iprop(emp)
        rw [if_pos rfl, right_left]))
      iexact HG
    iapply (ctx_zero (X := X) (Wt := Wt) (K := K) (J := J) (leftD d) kBar); iexact HC
  iintro Ho
  iapply (Rounds.wp_signal 𝒱₀ ER (Rd X Wt) (d : Thread nD τ) none (dst := (rightD d : Thread nD τ)) (κ := K (rightD d, kBar))
      (d := 0) (r := 0) (k' := 1) (mem_duties X Wt (rightD d) kBar (mem_bar 0 (by omega))) (Rd_amount X Wt (rightD d) kBar 0 0) 0
      O rfl) $$ [Ho Ht0]
  · isplitr; · iapply (ctx_cell (X := X) (Wt := Wt) (K := K) (J := J) (rightD d) kBar); iexact HC
    isplitl [Ho]; · iexact Ho
    isplitl [Ht0]; · iexact Ht0
    isplitr
    · iapply (Entails.of_eq (show (iprop(emp) : sProp 𝕄) = (Rd X Wt).payload ((rightD d : Thread nD τ), .reg barS) 0 0 from by
        refine Eq.trans ?_ (Rd_payload X Wt (rightD d) kBar 0 0).symm
        show _ = if 0 = 1 then greetOf (rightD (rightD d)) else iprop(emp)
        rw [if_neg (by decide)]))
      iempintro
    iapply (ctx_zero (X := X) (Wt := Wt) (K := K) (J := J) (rightD d) kBar); iexact HC
  iintro Ho
  iapply (Rounds.wp_wait_rest_token 𝒱₀ ER (Rd X Wt) (d : Thread nD τ) none (κ := K (d, kBar)) (k' := 2)
      (wpE_semWait_eq 𝒱₀ (d : Thread nD τ) none Set.univ) (Set.mem_univ _) 0 (O := O) (W := W) (R := 0) (m := 0) (T := ∅)
      (by rw [bar_expect])) $$ [Hc Ho Hat]
  · isplitr; · iapply (ctx_cell (X := X) (Wt := Wt) (K := K) (J := J) d kBar); iexact HC
    isplitl [Hc]; · iexact Hc
    isplitl [Ho]; · iexact Ho
    isplitr; · iapply (ctx_wait (X := X) (Wt := Wt) (K := K) (J := J) d kBar (mem_bar 0 (by omega)) hO); iexact HC
    iexact Hat
  iintro ⟨Ho, Hat, -, Hp⟩
  iapply Hk
  isplitl [Hp]; · iapply (bar_pay (X := X) (Wt := Wt) d) $$ Hp
  isplitl [Hat]; · iexact Hat
  iexists _; iexact Ho

/-! ## The first chunk and the first sends -/

/-- Ring `r` before the first send. -/
def rsPre (X : Dev nD → (cc0_stg0_0 : Ref sig .tc).ty.Contents (Elt F)) (Wt : Dev nD → (cc0_stg1_0 : Ref sig .tc).ty.Contents (Elt F)) (d : Dev nD) (r : Fin 4) : sProp 𝕄 :=
  iprop(rxSt d r 0 ∗ txSt d r 0 0 ∗ crOut d r 0 ∗ crIn X Wt d r 0 ∗ holdsAny (F := F) (wireM r) (slot2 1) d)

theorem first_send (d : Dev nD) (r : Fin 4) (O : CellTallies nD τ sig ℕ) {kont : Bd F PUnit} {Q : PUnit → sProp 𝕄} :
    iprop(Ctx X Wt K J ∗ greetOf (F := F) (rightD d) ∗ dep (F := F) d ∗ rsPre X Wt d r ∗ holds (wireM r) (slot2 0) d (wireW X Wt r 0 d) ∗ ow d (O + dues d r 0 0))
      ⊢ iprop(((rsSt X Wt d 0 r ∗ ow d (O + rsDues d 0 r)) -∗ wpD d kont Q) -∗ wpD d (rsSendOp d r 0 0 0 kont) Q) := by
  unfold rsPre rsSt rsDues wireFree
  rw [if_pos (Or.inl rfl)]
  iintro ⟨#HC, #HG, #Hdep, ⟨Hrx, Htx, Hco, Hci, Hw1⟩, Hw, Ho⟩ Hk
  ihave #Hperm := (first_perm_rs (X := X) (Wt := Wt) (K := K) (J := J) (rightD d) r (t := 0) (by omega)) $$ []
  · isplitr; · iexact HC
    iexact HG
  iapply (rs_send (X := X) (Wt := Wt) (K := K) (J := J) d r (t := 0) (ns := 0) (cg := 0) (by omega) rfl (b := 0) (σs := 0) (σ := 0) rfl rfl rfl O) $$ [Htx Hw Ho]
  · isplitr; · iexact HC
    isplitl [Htx]; · iexact Htx
    isplitr; · iexact Hperm
    isplitl [Hw]; · iexact Hw
    isplitr
    · unfold deps; rw [range_last, Finset.range_zero, bigSep_empty]
      isplitl; · iexact Hdep
      iempintro
    iexact Ho
  iintro ⟨Htx, Ho⟩
  iapply Hk
  isplitr [Ho]
  · isplitl [Hrx]; · iexact Hrx
    isplitl [Htx]; · iexact Htx
    isplitl [Hco]; · iexact Hco
    isplitl [Hci]; · iexact Hci
    isplitl [Hw1]; · iexact Hw1
    rw [show Finset.Ico 27 0 = (∅ : Finset ℕ) from rfl, bigSep_empty]; iempintro
  iexact Ho

theorem acc_zero (r : Fin 4) (d : Dev nD) : accV X Wt r 0 d = rows r (gemmV X Wt d (k0_off1 d) (k0_off1_inb d)) := rfl
theorem tot_zero (d : Dev nD) : totV X Wt 0 d = gemmV X Wt d (k0_off1 d) (k0_off1_inb d) := by
  unfold totV
  exact glue_rows _
theorem wire_zero (r : Fin 4) (d : Dev nD) : wireW X Wt r 0 d = k0_pay2 (rows r (gemmV X Wt d (k0_off1 d) (k0_off1_inb d))) := rfl

theorem prologue_wp (A : CellTallies nD τ sig ℕ) (d : Dev nD) {kont : Bd F PUnit} {Q : PUnit → sProp 𝕄} :
    iprop(Ctx X Wt K J ∗ greetOf (F := F) (rightD d) ∗ dep (F := F) d ∗ stgs X Wt d
        ∗ (rsPre X Wt d 0 ∗ rsPre X Wt d 1 ∗ rsPre X Wt d 2 ∗ rsPre X Wt d 3)
        ∗ (holdsAny (F := F) (wireM 0) (slot2 0) d ∗ holdsAny (F := F) (wireM 1) (slot2 0) d ∗ holdsAny (F := F) (wireM 2) (slot2 0) d ∗ holdsAny (F := F) (wireM 3) (slot2 0) d)
        ∗ holdsAny (F := F) curM (curR 0) d ∗ holdsAny (F := F) curM (curR 1) d
        ∗ ow d (A + (dues d 0 0 0 + dues d 1 0 0 + dues d 2 0 0 + dues d 3 0 0)))
      ⊢ iprop((rsAll X Wt K J A d 0 -∗ wpD d kont Q) -∗ wpD d (prologue (Memref.whole cc0_stg0_0) (Memref.whole cc0_stg1_0) d kont) Q) := by
  unfold prologue
  iintro ⟨#HC, #HG, #Hdep, Hst, ⟨P0, P1, P2, P3⟩, ⟨W0, W1, W2, W3⟩, Hc, Hc1, Ho⟩ Hk
  iapply (gemm_op (X := X) (Wt := Wt) d 0 (k0_off1 d) (k0_off1_inb d)) $$ [Hst Hc]
  · isplitl [Hst]; · iexact Hst
    iexact Hc
  iintro ⟨Hst, Hc⟩
  ihave Hc := ((cur_rows d 0 _).1.trans (Entails.of_eq (four _))) $$ Hc
  icases Hc with ⟨C0, C1, C2, C3⟩
  iapply (pack_op d 0 0 _) $$ [C0 W0]
  · isplitl [C0]; · iexact C0
    iexact W0
  iintro ⟨C0, W0⟩
  iapply (pack_op d 1 0 _) $$ [C1 W1]
  · isplitl [C1]; · iexact C1
    iexact W1
  iintro ⟨C1, W1⟩
  iapply (pack_op d 2 0 _) $$ [C2 W2]
  · isplitl [C2]; · iexact C2
    iexact W2
  iintro ⟨C2, W2⟩
  iapply (pack_op d 3 0 _) $$ [C3 W3]
  · isplitl [C3]; · iexact C3
    iexact W3
  iintro ⟨C3, W3⟩
  ihave Hc := ((Entails.of_eq (four _).symm).trans (cur_rows d 0 _).2) $$ [C0 C1 C2 C3]
  · isplitl [C0]; · iexact C0
    isplitl [C1]; · iexact C1
    isplitl [C2]; · iexact C2
    iexact C3
  ihave Ho := (Entails.of_eq (congrArg (ow (F := F) d) (show A + (dues d 0 0 0 + dues d 1 0 0 + dues d 2 0 0 + dues d 3 0 0) = (A + (dues d 1 0 0 + dues d 2 0 0 + dues d 3 0 0)) + dues d 0 0 0 by ac_rfl))) $$ Ho
  iapply (first_send (X := X) (Wt := Wt) (K := K) (J := J) d 0 (A + (dues d 1 0 0 + dues d 2 0 0 + dues d 3 0 0))) $$ [P0 W0 Ho]
  · isplitr; · iexact HC
    isplitr; · iexact HG
    isplitr; · iexact Hdep
    isplitl [P0]; · iexact P0
    isplitl [W0]; · iexact W0
    iexact Ho
  iintro ⟨P0, Ho⟩
  ihave Ho := (Entails.of_eq (congrArg (ow (F := F) d) (show (A + (dues d 1 0 0 + dues d 2 0 0 + dues d 3 0 0)) + rsDues d 0 0 = (A + (rsDues d 0 0 + dues d 2 0 0 + dues d 3 0 0)) + dues d 1 0 0 by ac_rfl))) $$ Ho
  iapply (first_send (X := X) (Wt := Wt) (K := K) (J := J) d 1 (A + (rsDues d 0 0 + dues d 2 0 0 + dues d 3 0 0))) $$ [P1 W1 Ho]
  · isplitr; · iexact HC
    isplitr; · iexact HG
    isplitr; · iexact Hdep
    isplitl [P1]; · iexact P1
    isplitl [W1]; · iexact W1
    iexact Ho
  iintro ⟨P1, Ho⟩
  ihave Ho := (Entails.of_eq (congrArg (ow (F := F) d) (show (A + (rsDues d 0 0 + dues d 2 0 0 + dues d 3 0 0)) + rsDues d 0 1 = (A + (rsDues d 0 0 + rsDues d 0 1 + dues d 3 0 0)) + dues d 2 0 0 by ac_rfl))) $$ Ho
  iapply (first_send (X := X) (Wt := Wt) (K := K) (J := J) d 2 (A + (rsDues d 0 0 + rsDues d 0 1 + dues d 3 0 0))) $$ [P2 W2 Ho]
  · isplitr; · iexact HC
    isplitr; · iexact HG
    isplitr; · iexact Hdep
    isplitl [P2]; · iexact P2
    isplitl [W2]; · iexact W2
    iexact Ho
  iintro ⟨P2, Ho⟩
  ihave Ho := (Entails.of_eq (congrArg (ow (F := F) d) (show (A + (rsDues d 0 0 + rsDues d 0 1 + dues d 3 0 0)) + rsDues d 0 2 = (A + (rsDues d 0 0 + rsDues d 0 1 + rsDues d 0 2)) + dues d 3 0 0 by ac_rfl))) $$ Ho
  iapply (first_send (X := X) (Wt := Wt) (K := K) (J := J) d 3 (A + (rsDues d 0 0 + rsDues d 0 1 + rsDues d 0 2))) $$ [P3 W3 Ho]
  · isplitr; · iexact HC
    isplitr; · iexact HG
    isplitr; · iexact Hdep
    isplitl [P3]; · iexact P3
    isplitl [W3]; · iexact W3
    iexact Ho
  iintro ⟨P3, Ho⟩
  iapply Hk
  unfold rsAll rsOwed
  isplitr; · iexact HC
  isplitr; · iexact HG
  isplitr; · iexact Hdep
  isplitr; · unfold deps; rw [Finset.range_zero, bigSep_empty]; iempintro
  isplitl [Hst]; · iexact Hst
  isplitl [P0 P1 P2 P3]
  · isplitl [P0]; · iexact P0
    isplitl [P1]; · iexact P1
    isplitl [P2]; · iexact P2
    iexact P3
  isplitl [Hc]; · rw [tot_zero]; iexact Hc
  isplitl [Hc1]; · iexact Hc1
  iapply (Entails.of_eq (congrArg (ow (F := F) d) (show (A + (rsDues d 0 0 + rsDues d 0 1 + rsDues d 0 2)) + rsDues d 0 3 = A + (rsDues d 0 0 + rsDues d 0 1 + rsDues d 0 2 + rsDues d 0 3) by ac_rfl))) $$ Ho

end Run

end Cert.Proof
-- ==== Proof.Close.lean ====
module
public import proofs.«01_k».proof.Proof.Start

/-! The semaphores at the end of the run. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

/-! ## The semaphores at the end -/

theorem close_cell (d : Dev nD) (k : Knd) (ρ : ℕ) (h : lastRnd k ≤ ρ) :
    iprop(Ctx X Wt K J ∗ atPos ER (cell d k) ρ ∅ 0) ⊢ (|={Set.univ}=> semVal (cell d k) 0 : sProp 𝕄) := by
  iintro ⟨#HC, Hat⟩
  iapply (Rounds.cell_close ER (Rd X Wt) (Set.mem_univ (K (d, k))) (fun h => h) (R := ρ) (fun r hr => Rd_later X Wt d k r (h.trans hr)))
  isplitr; · iapply (ctx_cell (X := X) (Wt := Wt) (K := K) (J := J) d k); iexact HC
  iexact Hat

theorem close_all {T : Type} [Fintype T] [DecidableEq T] (d : Dev nD) (ks : T → Knd) (n : ℕ) (h : ∀ σ, lastRnd (ks σ) ≤ cnt (ks σ) n) :
    iprop(Ctx X Wt K J ∗ posAll d ks n) ⊢ (|={Set.univ}=> bigSep Finset.univ fun σ => semVal (cell d (ks σ)) 0 : sProp 𝕄) := by
  unfold posAll
  refine upd_with (R := Ctx X Wt K J) fun σ _ => ?_
  iintro ⟨#HC, Hat, -⟩
  iapply (close_cell (X := X) (Wt := Wt) (K := K) (J := J) d (ks σ) (cnt (ks σ) n) (h σ))
  isplitr; · iexact HC
  iexact Hat

theorem last_recv : ∀ r σ : Fin 4, lastRnd (kRecv r σ) ≤ cnt (kRecv r σ) 62 := by decide +kernel
theorem last_send : ∀ r σ : Fin 4, lastRnd (kSend r σ) ≤ cnt (kSend r σ) 62 := by decide +kernel
theorem last_store : ∀ b : Fin 2, lastRnd (kStore b) ≤ cnt (kStore b) 32 := by decide +kernel
theorem last_ax : ∀ (b : Bool) (k : Fin 5), lastRnd (.inl (.inr (.inl (b, k)))) ≤ 1 := by decide +kernel

theorem close_credit (d : Dev nD) (r : Fin 4) :
    iprop(Ctx X Wt K J ∗ crIn X Wt d r 55) ⊢ (|={Set.univ}=> semVal (cell d (kCredit r)) 0 : sProp 𝕄) := by
  unfold crIn
  iintro ⟨#HC, ⟨%S, %hS, Hat, -⟩, -⟩
  have hdut : (Rd X Wt).duties (cell d (kCredit r)) 0 = Finset.range 55 := by
    refine (Rd_duties X Wt d (kCredit r) 0).trans ?_
    exact Finset.filter_true_of_mem fun t _ => rfl
  have hexp : (Rd X Wt).expect (cell d (kCredit r)) 0 = 55 := by
    unfold Schedule.expect Schedule.amountOf
    rw [hdut]
    refine (Finset.sum_congr rfl fun t _ => Rd_amount X Wt d (kCredit r) 0 t).trans ?_
    show ∑ t ∈ Finset.range 55, 1 = 55
    simp
  have hSe : S = Finset.range 55 := Finset.eq_of_subset_of_card_le hS.1 (by rw [Finset.card_range]; exact hS.2)
  imod (Rounds.fupd_skip ER (Rd X Wt) (κ := K (d, kCredit r)) (g := cell d (kCredit r)) (R := 0) (m := 55) (T := S) (by rw [hdut, hSe]) hexp.symm (Set.mem_univ _)) $$ [Hat] with ⟨Hat, -⟩
  · isplitr; · iapply (ctx_cell (X := X) (Wt := Wt) (K := K) (J := J) d (kCredit r)); iexact HC
    iexact Hat
  iapply (close_cell (X := X) (Wt := Wt) (K := K) (J := J) d (kCredit r) (0 + 1) (le_refl 1))
  isplitr; · iexact HC
  iexact Hat

omit [FloatOps F] in
theorem bool_prod {T : Type} [Fintype T] (Φ : Bool × T → sProp 𝕄) :
    bigSep Finset.univ Φ = iprop((bigSep Finset.univ fun x => Φ (false, x)) ∗ bigSep Finset.univ fun x => Φ (true, x)) := by
  rw [bigSep_univ_prod]
  exact bigSep_univ_eq_bigSepL [false, true] (by decide) (by decide) _

omit [FloatOps F] in
/-- All of the kernel's own semaphores, kind by kind. -/
theorem ck_split (Φ : CK → sProp 𝕄) : bigSep Finset.univ Φ
    = iprop(((bigSep Finset.univ fun r : Fin 4 => bigSep Finset.univ fun σ : Fin 4 => Φ (.inl (false, r, σ)))
        ∗ (bigSep Finset.univ fun r : Fin 4 => bigSep Finset.univ fun σ : Fin 4 => Φ (.inl (true, r, σ))))
      ∗ ((bigSep Finset.univ fun k : Fin 5 => Φ (.inr (.inl (false, k)))) ∗ (bigSep Finset.univ fun k : Fin 5 => Φ (.inr (.inl (true, k)))))
      ∗ (bigSep Finset.univ fun b : Fin 2 => Φ (.inr (.inr (.inl b)))) ∗ (bigSep Finset.univ fun r : Fin 4 => Φ (.inr (.inr (.inr r))))) := by
  have e1 : bigSep Finset.univ Φ = iprop((bigSep Finset.univ fun p => Φ (.inl p)) ∗ bigSep Finset.univ fun p => Φ (.inr p)) := bigSep_univ_sum Φ
  have e2 : (bigSep Finset.univ fun p => Φ (.inr p)) = iprop((bigSep Finset.univ fun p => Φ (.inr (.inl p))) ∗ bigSep Finset.univ fun p => Φ (.inr (.inr p))) := bigSep_univ_sum fun p => Φ (.inr p)
  have e3 : (bigSep Finset.univ fun p => Φ (.inr (.inr p))) = iprop((bigSep Finset.univ fun p => Φ (.inr (.inr (.inl p)))) ∗ bigSep Finset.univ fun p => Φ (.inr (.inr (.inr p)))) := bigSep_univ_sum fun p => Φ (.inr (.inr p))
  rw [e1, e2, e3, bool_prod, bool_prod, bigSep_univ_prod, bigSep_univ_prod]

end Run

end Cert.Proof
-- ==== Proof.Body.lean ====
module
public import proofs.«01_k».proof.Proof.Close

/-! The whole run of one device. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

omit [FloatOps F] in
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## What a device starts from -/

/-- Ring `r`'s tokens. -/
def ringIn (X : Dev nD → (cc0_stg0_0 : Ref sig .tc).ty.Contents (Elt F)) (Wt : Dev nD → (cc0_stg1_0 : Ref sig .tc).ty.Contents (Elt F)) (d : Dev nD) (r : Fin 4) : sProp 𝕄 :=
  iprop(rxSt d r 0 ∗ txSt d r 0 0 ∗ (bigSep Finset.univ fun κ : Bool × Fin 4 => Release.readerAt ES (rkey d r κ) 0)
    ∗ (bigSep (Finset.Ico 0 55) fun m => dutyTok ER (cell (leftD d) (kCredit r)) 0 m) ∗ crIn X Wt d r 0)
/-- Ring `r`'s buffers. -/
def ringBuf (d : Dev nD) (r : Fin 4) : sProp 𝕄 :=
  iprop(holdsAny (F := F) (wireM r) (slot2 0) d ∗ holdsAny (F := F) (wireM r) (slot2 1) d ∗ bigSep Finset.univ fun κ : Bool × Fin 4 => slotA (F := F) (rkey d r κ))

/-- What is owed in the maximum exchange, and in all. -/
def axOwed (d : Dev nD) : CellTallies nD τ sig ℕ := axDue d 0 + axDue d 1 + axDue d 2 + axDue d 3 + axDue d 4
def ringsOwed (d : Dev nD) : CellTallies nD τ sig ℕ := dues d 0 0 0 + dues d 1 0 0 + dues d 2 0 0 + dues d 3 0 0
def allOwed (d : Dev nD) : CellTallies nD τ sig ℕ :=
  (axOwed d + ringsOwed d) + tallyAt (cell (rightD d) kBar) 0 1 + tallyAt (cell (leftD d) kBar) 0 1

theorem axOwed_above (d : Dev nD) : Above 254 (axOwed d) := by
  unfold axOwed
  exact (((((axDue_above d 0 (by decide)).add (axDue_above d 1 (by decide))).add (axDue_above d 2 (by decide))).add (axDue_above d 3 (by decide))).add (axDue_above d 4 (by decide)))
theorem ringsOwed_above (d : Dev nD) : Above 1 (ringsOwed d) := by
  have h : ∀ r, Above 1 (dues d r 0 0) := fun r => dues_above d r 0 0 (fun _ => by rw [if_pos (by decide)]; omega) (fun _ => by rw [if_pos (by decide)]; omega)
  unfold ringsOwed
  exact (((h 0).add (h 1)).add (h 2)).add (h 3)
theorem ga_above (d : Dev nD) : Above 399 (gaOwed d fun _ => 31) := by
  have h : ∀ r, Above 399 (dues d r 31 27) := fun r => dues_above d r 31 27 (fun _ => by rw [if_neg (by decide)]; omega) (fun _ => by rw [if_neg (by decide)]; omega)
  unfold gaOwed
  exact (((h 0).add (h 1)).add (h 2)).add (h 3)

/-- All the tokens. -/
def runPre (X : Dev nD → (cc0_stg0_0 : Ref sig .tc).ty.Contents (Elt F)) (Wt : Dev nD → (cc0_stg1_0 : Ref sig .tc).ty.Contents (Elt F)) (d : Dev nD) : sProp 𝕄 :=
  iprop((ringIn X Wt d 0 ∗ ringIn X Wt d 1 ∗ ringIn X Wt d 2 ∗ ringIn X Wt d 3)
    ∗ (bigSep Finset.univ fun k : Fin 5 => axPre (F := F) d k) ∗ (bigSep Finset.univ fun k : Fin 5 => Release.readerAt ES ((d, .inr k) : Key) 0)
    ∗ (atPos ER (cell d kBar) 0 ∅ 0 ∗ dutyTok ER (cell (leftD d) kBar) 0 1 ∗ dutyTok ER (cell (rightD d) kBar) 0 0 ∗ cred (tallyAt (cell d kBar) 0 2)))
/-- All the buffers. -/
def bufPre (d : Dev nD) : sProp 𝕄 :=
  iprop((ringBuf (F := F) d 0 ∗ ringBuf d 1 ∗ ringBuf d 2 ∗ ringBuf d 3)
    ∗ (holdsAny (F := F) curM (curR 0) d ∗ holdsAny (F := F) curM (curR 1) d)
    ∗ (bigSep Finset.univ fun k : Fin 5 => holdsAny (F := F) amaxM (amaxR (k8 k)) d))

theorem open_ring (d : Dev nD) (r : Fin 4) :
    iprop(Ctx X Wt K J ∗ ringIn X Wt d r ∗ ringBuf (F := F) d r)
      ⊢ (|={Set.univ}=> iprop(rsPre X Wt d r ∗ holdsAny (F := F) (wireM r) (slot2 0) d ∗ ringRel (F := F) d r ∗ holdsAny (F := F) (agM r) (slot4 0) d) : sProp 𝕄) := by
  unfold ringIn ringBuf rsPre crOut
  iintro ⟨#HC, ⟨Hrx, Htx, Hrd, Hts, Hci⟩, W0, W1, HS⟩
  imod (release_ring (X := X) (Wt := Wt) (K := K) (J := J) d r) $$ [Hrd HS] with ⟨Hrd, Hrel, Hag⟩
  · isplitr; · iexact HC
    isplitl [Hrd]; · iexact Hrd
    iexact HS
  imodintro
  isplitr [W0 Hrel Hag]
  · isplitl [Hrx]; · iexact Hrx
    isplitl [Htx]; · iexact Htx
    isplitl [Hrd Hts]
    · isplitl [Hrd]; · iexact Hrd
      isplitl [Hts]; · iexact Hts
      rw [Finset.range_zero, bigSep_empty]; iempintro
    isplitl [Hci]; · iexact Hci
    iexact W1
  isplitl [W0]; · iexact W0
  isplitl [Hrel]; · iexact Hrel
  iexact Hag

/-- The greeting and the first sends, from the start. -/
theorem start_wp (d : Dev nD) {kont : Bd F PUnit} {Q : PUnit → sProp 𝕄} :
    iprop(Ctx X Wt K J ∗ runPre X Wt d ∗ bufPre (F := F) d ∗ stgs X Wt d ∗ ow d (allOwed d))
      ⊢ iprop(((rsAll X Wt K J (axOwed d) d 0 ∗ (bigSep Finset.univ fun k : Fin 5 => axPre (F := F) d k) ∗ atPos ER (cell d kBar) 1 ∅ 0
          ∗ (holdsAny (F := F) (agM 0) (slot4 0) d ∗ holdsAny (F := F) (agM 1) (slot4 0) d ∗ holdsAny (F := F) (agM 2) (slot4 0) d ∗ holdsAny (F := F) (agM 3) (slot4 0) d)) -∗ wpD d kont Q)
        -∗ wpD d (greet d (prologue (Memref.whole cc0_stg0_0) (Memref.whole cc0_stg1_0) d kont)) Q) := by
  unfold runPre bufPre allOwed
  iintro ⟨#HC, ⟨⟨R0, R1, R2, R3⟩, Hax, Hrd, ⟨Hat, Ht1, Ht0, Hcr⟩⟩, ⟨⟨B0, B1, B2, B3⟩, ⟨Hc0, Hc1⟩, Hsl⟩, Hst, Ho⟩ Hk
  iapply fupd_wp
  imod (open_ring (X := X) (Wt := Wt) (K := K) (J := J) d 0) $$ [R0 B0] with ⟨R0, W0, #L0, G0⟩
  · isplitr; · iexact HC
    isplitl [R0]; · iexact R0
    iexact B0
  imod (open_ring (X := X) (Wt := Wt) (K := K) (J := J) d 1) $$ [R1 B1] with ⟨R1, W1, #L1, G1⟩
  · isplitr; · iexact HC
    isplitl [R1]; · iexact R1
    iexact B1
  imod (open_ring (X := X) (Wt := Wt) (K := K) (J := J) d 2) $$ [R2 B2] with ⟨R2, W2, #L2, G2⟩
  · isplitr; · iexact HC
    isplitl [R2]; · iexact R2
    iexact B2
  imod (open_ring (X := X) (Wt := Wt) (K := K) (J := J) d 3) $$ [R3 B3] with ⟨R3, W3, #L3, G3⟩
  · isplitr; · iexact HC
    isplitl [R3]; · iexact R3
    iexact B3
  imod (release_ax (X := X) (Wt := Wt) (K := K) (J := J) d) $$ [Hrd Hsl] with #Hdep
  · isplitr; · iexact HC
    isplitl [Hrd]; · iexact Hrd
    iexact Hsl
  imodintro
  iapply (greet_wp (X := X) (Wt := Wt) (K := K) (J := J) d (O := axOwed d + ringsOwed d) (((axOwed_above d).mono (by omega)).add (ringsOwed_above d))) $$ [Hat Ht1 Ht0 Hcr Ho]
  · isplitr; · iexact HC
    isplitl [Hat]; · iexact Hat
    isplitl [Ht1]; · iexact Ht1
    isplitl [Ht0]; · iexact Ht0
    isplitl [Hcr]; · iexact Hcr
    isplitr
    · iapply (greet_of_rel (F := F) d)
      isplitr; · iexact L0
      isplitr; · iexact L1
      isplitr; · iexact L2
      iexact L3
    iexact Ho
  iintro ⟨#HG, Hat, Ho⟩
  unfold ringsOwed
  iapply (prologue_wp (X := X) (Wt := Wt) (K := K) (J := J) (axOwed d) d) $$ [Hst R0 R1 R2 R3 W0 W1 W2 W3 Hc0 Hc1 Ho]
  · isplitr; · iexact HC
    isplitr; · iexact HG
    isplitr; · iexact Hdep
    isplitl [Hst]; · iexact Hst
    isplitl [R0 R1 R2 R3]
    · isplitl [R0]; · iexact R0
      isplitl [R1]; · iexact R1
      isplitl [R2]; · iexact R2
      iexact R3
    isplitl [W0 W1 W2 W3]
    · isplitl [W0]; · iexact W0
      isplitl [W1]; · iexact W1
      isplitl [W2]; · iexact W2
      iexact W3
    isplitl [Hc0]; · iexact Hc0
    isplitl [Hc1]; · iexact Hc1
    iexact Ho
  iintro H
  iapply Hk
  isplitl [H]; · iexact H
  isplitl [Hax]; · iexact Hax
  isplitl [Hat]; · iexact Hat
  isplitl [G0]; · iexact G0
  isplitl [G1]; · iexact G1
  isplitl [G2]; · iexact G2
  iexact G3

/-! ## After the reduce-scatter -/

/-- What is left of ring `r`'s buffers of the reduce-scatter. -/
def rsLeft (d : Dev nD) (r : Fin 4) : sProp 𝕄 :=
  iprop(holdsAny (F := F) (wireM r) (slot2 0) d ∗ holdsAny (F := F) (wireM r) (slot2 1) d ∗ bigSep (Finset.Ico 27 31) fun t => holdsAny (F := F) (commM r) (slot4 (m4 t)) d)
/-- Ring `r` between the two phases. -/
def ringMid (X : Dev nD → (cc0_stg0_0 : Ref sig .tc).ty.Contents (Elt F)) (Wt : Dev nD → (cc0_stg1_0 : Ref sig .tc).ty.Contents (Elt F)) (d : Dev nD) (r : Fin 4) : sProp 𝕄 :=
  iprop(rxSt d r 31 ∗ txSt d r 31 31 ∗ crOut d r 27 ∗ crIn X Wt d r 27)

/-- The last send of ring `r` has left. -/
theorem last_sent (d : Dev nD) (r : Fin 4) {O : CellTallies nD τ sig ℕ} (hO : Above 0 O) {kont : Bd F PUnit} {Q : PUnit → sProp 𝕄} :
    iprop(Ctx X Wt K J ∗ rsSt X Wt d 31 r ∗ ow d O)
      ⊢ iprop(((ringMid X Wt d r ∗ rsLeft (F := F) d r ∗ (bigSep Finset.univ fun σ => reached ER (cell d (kRecv r σ)) (cnt (kRecv r σ) 31)) ∗ ow d O) -∗ wpD d kont Q)
        -∗ wpD d (rsSentOp r 0 0 2 kont) Q) := by
  unfold rsSt wireFree ringMid rsLeft
  rw [if_pos (Or.inr rfl)]
  iintro ⟨#HC, ⟨Hrx, Htx, Hco, Hci, W1, Hkeep⟩, Ho⟩ Hk
  iapply (rs_sent (X := X) (Wt := Wt) (K := K) (J := J) d r (t := 30) (nm := 31) (by omega) (by omega) (by omega) (b := 0) (σs := 0) rfl rfl hO) $$ [Htx Ho]
  · isplitr; · iexact HC
    isplitl [Htx]; · iexact Htx
    iexact Ho
  iintro ⟨Htx, Ho, W0⟩
  iapply Hk
  unfold rxSt posAll
  rw [bigSep_sep']
  icases Hrx with ⟨⟨Hat, #Hre⟩, Hcs⟩
  isplitl [Hat Hcs Htx Hco Hci]
  · isplitl [Hat Hcs]
    · isplitl [Hat]
      · isplitl [Hat]; · iexact Hat
        iexact Hre
      iexact Hcs
    isplitl [Htx]; · iexact Htx
    isplitl [Hco]; · iexact Hco
    iexact Hci
  isplitl [W0 W1 Hkeep]
  · isplitl [W0]; · iexact W0
    isplitl [W1]; · iexact W1
    iexact Hkeep
  isplitr; · iexact Hre
  iexact Ho

theorem done_of (d : Dev nD) :
    iprop((bigSep Finset.univ fun σ : Fin 4 => reached ER (cell d (kRecv 0 σ)) (cnt (kRecv 0 σ) 31)) ∗ (bigSep Finset.univ fun σ : Fin 4 => reached ER (cell d (kRecv 1 σ)) (cnt (kRecv 1 σ) 31))
      ∗ (bigSep Finset.univ fun σ : Fin 4 => reached ER (cell d (kRecv 2 σ)) (cnt (kRecv 2 σ) 31)) ∗ (bigSep Finset.univ fun σ : Fin 4 => reached ER (cell d (kRecv 3 σ)) (cnt (kRecv 3 σ) 31)))
      ⊢ done (F := F) d := by
  unfold done
  rw [bigSep_univ_prod, four (fun a : Fin 4 => bigSep Finset.univ fun b : Fin 4 => reached ER (cell d (kRecv (a, b).1 (a, b).2)) (cnt (kRecv (a, b).1 (a, b).2) 31))]

theorem rs_end (d : Dev nD) {kont : (S1x128x8192.Idx → Elt F .f32) → Bd F PUnit} {Q : PUnit → sProp 𝕄} :
    rsAll X Wt K J (axOwed d) d 31
      ⊢ iprop(((Ctx X Wt K J ∗ greetOf (F := F) (rightD d) ∗ deps (F := F) 31 (leftD d) ∗ done (F := F) d ∗ stgs X Wt d
          ∗ (ringMid X Wt d 0 ∗ ringMid X Wt d 1 ∗ ringMid X Wt d 2 ∗ ringMid X Wt d 3)
          ∗ (rsLeft (F := F) d 0 ∗ rsLeft d 1 ∗ rsLeft d 2 ∗ rsLeft d 3)
          ∗ holdsAny (F := F) curM (curR 0) d ∗ holdsAny (F := F) curM (curR 1) d ∗ ow d (axOwed d + gaOwed d fun _ => 31)) -∗ wpD d (kont (totV X Wt 31 d)) Q)
        -∗ wpD d (rsSentOp 0 0 0 2 <| rsSentOp 1 0 0 2 <| rsSentOp 2 0 0 2 <| rsSentOp 3 0 0 2 <|
            .op (.load curM (curR 1).toLoadRect (View.loadsAt_vmem h_S1x128x8192)) kont) Q) := by
  have hO : rsOwed (axOwed d) d (fun _ => 31) = axOwed d + gaOwed d fun _ => 31 := rfl
  have hA : Above 0 (axOwed d + gaOwed d fun _ => 31) := ((axOwed_above d).mono (by omega)).add ((ga_above d).mono (by omega))
  unfold rsAll
  rw [hO]
  iintro ⟨#HC, #HG, -, #Hdeps, Hst, ⟨R0, R1, R2, R3⟩, Hc1, Hc0, Ho⟩ Hk
  iapply (last_sent (X := X) (Wt := Wt) (K := K) (J := J) d 0 hA) $$ [R0 Ho]
  · isplitr; · iexact HC
    isplitl [R0]; · iexact R0
    iexact Ho
  iintro ⟨R0, B0, #D0, Ho⟩
  iapply (last_sent (X := X) (Wt := Wt) (K := K) (J := J) d 1 hA) $$ [R1 Ho]
  · isplitr; · iexact HC
    isplitl [R1]; · iexact R1
    iexact Ho
  iintro ⟨R1, B1, #D1, Ho⟩
  iapply (last_sent (X := X) (Wt := Wt) (K := K) (J := J) d 2 hA) $$ [R2 Ho]
  · isplitr; · iexact HC
    isplitl [R2]; · iexact R2
    iexact Ho
  iintro ⟨R2, B2, #D2, Ho⟩
  iapply (last_sent (X := X) (Wt := Wt) (K := K) (J := J) d 3 hA) $$ [R3 Ho]
  · isplitr; · iexact HC
    isplitl [R3]; · iexact R3
    iexact Ho
  iintro ⟨R3, B3, #D3, Ho⟩
  ihave Hc1 := (Entails.of_eq (show holds curM (curR (m2 31)) d (totV X Wt 31 d) = holds curM (curR 1) d (totV X Wt 31 d) from rfl)) $$ Hc1
  iapply (wp_load_holds (m := curM) (R := curR 1) (d := d) (totV X Wt 31 d)) $$ Hc1
  iintro Hc1
  iapply Hk
  isplitr; · iexact HC
  isplitr; · iexact HG
  isplitr; · iexact Hdeps
  isplitr
  · iapply (done_of (F := F) d)
    isplitr; · iexact D0
    isplitr; · iexact D1
    isplitr; · iexact D2
    iexact D3
  isplitl [Hst]; · iexact Hst
  isplitl [R0 R1 R2 R3]
  · isplitl [R0]; · iexact R0
    isplitl [R1]; · iexact R1
    isplitl [R2]; · iexact R2
    iexact R3
  isplitl [B0 B1 B2 B3]
  · isplitl [B0]; · iexact B0
    isplitl [B1]; · iexact B1
    isplitl [B2]; · iexact B2
    iexact B3
  isplitl [Hc0]; · iexact Hc0
  isplitl [Hc1]; · iapply (holds_any (m := curM) (R := curR 1) (d := d) (totV X Wt 31 d)) $$ Hc1
  iexact Ho

/-! ## The maximum exchange, all rounds -/

theorem ax_all (d : Dev nD) (v : S1x128x8192.Idx → Elt F .f32) (hv : v = totV X Wt 31 d) {kont : Vec F S1x1x1 .f32 → Bd F PUnit} {Q : PUnit → sProp 𝕄} :
    iprop(Ctx X Wt K J ∗ deps (F := F) 31 (leftD d) ∗ done (F := F) d ∗ (bigSep Finset.univ fun k : Fin 5 => axPre (F := F) d k)
        ∗ holdsAny (F := F) amaxM (amaxR 5) d ∗ ow d (axOwed d + gaOwed d fun _ => 31))
      ⊢ iprop((((bigSep Finset.univ fun k : Fin 5 => axPost (F := F) d k) ∗ holdsAny (F := F) amaxM (amaxR 5) d ∗ done (F := F) (rightD d) ∗ ow d (gaOwed d fun _ => 31)) -∗ wpD d (kont (maxV X Wt d)) Q)
        -∗ wpD d (amaxInit v <| amaxStep d 0 <| amaxStep d 1 <| amaxStep d 2 <| amaxStep d 3 <| amaxStep d 4 <|
            .op (.load amaxM (Rect.unit (s := S8x8x128) ![5, 0, 0] S1x1x1.size inb_S8x8x128_S1x1x1_5_0_0).toLoadRect (View.loadsAt_vmem h_S1x1x1)) kont) Q) := by
  subst hv
  have hg : ∀ k : Fin 5, Above (300 + k.val) (gaOwed d fun _ => 31) := fun k => (ga_above d).mono (by have := k.isLt; omega)
  have ha : ∀ (k j : Fin 5), k.val < j.val → Above (300 + k.val) (axDue d j) := fun k j h => axDue_above d j (by omega)
  rw [five, five]
  iintro ⟨#HC, #Hdeps, #HD, ⟨P0, P1, P2, P3, P4⟩, Hm, Ho⟩ Hk
  iapply (amax_init d (totV X Wt 31 d)) $$ Hm
  iintro Hm
  ihave Ho := (Entails.of_eq (congrArg (ow (F := F) d) (show axOwed d + (gaOwed d fun _ => 31) = ((((gaOwed d fun _ => 31) + axDue d 4) + axDue d 3) + axDue d 2 + axDue d 1) + axDue d 0 by unfold axOwed; ac_rfl))) $$ Ho
  iapply (amax_step (X := X) (Wt := Wt) (K := K) (J := J) d 0 ((((gaOwed d fun _ => 31) + axDue d 4) + axDue d 3) + axDue d 2 + axDue d 1)
    (((((hg 0).add (ha 0 4 (by decide))).add (ha 0 3 (by decide))).add (ha 0 2 (by decide))).add (ha 0 1 (by decide)))) $$ [P0 Hm Ho]
  · isplitr; · iexact HC
    isplitr; · iexact Hdeps
    isplitl [P0]; · iexact P0
    isplitl [Hm]; · iexact Hm
    isplitr
    · rw [show grp ((0 : Fin 5) : ℕ) d = {d} from grp_zero d, bigSep_singleton]; iexact HD
    iexact Ho
  iintro ⟨P0, Hm, #G1, Ho⟩
  iapply (amax_step (X := X) (Wt := Wt) (K := K) (J := J) d 1 ((((gaOwed d fun _ => 31) + axDue d 4) + axDue d 3) + axDue d 2)
    ((((hg 1).add (ha 1 4 (by decide))).add (ha 1 3 (by decide))).add (ha 1 2 (by decide)))) $$ [P1 Hm Ho]
  · isplitr; · iexact HC
    isplitr; · iexact Hdeps
    isplitl [P1]; · iexact P1
    isplitl [Hm]; · iexact Hm
    isplitr; · iexact G1
    iexact Ho
  iintro ⟨P1, Hm, #G2, Ho⟩
  iapply (amax_step (X := X) (Wt := Wt) (K := K) (J := J) d 2 (((gaOwed d fun _ => 31) + axDue d 4) + axDue d 3)
    (((hg 2).add (ha 2 4 (by decide))).add (ha 2 3 (by decide)))) $$ [P2 Hm Ho]
  · isplitr; · iexact HC
    isplitr; · iexact Hdeps
    isplitl [P2]; · iexact P2
    isplitl [Hm]; · iexact Hm
    isplitr; · iexact G2
    iexact Ho
  iintro ⟨P2, Hm, #G3, Ho⟩
  iapply (amax_step (X := X) (Wt := Wt) (K := K) (J := J) d 3 ((gaOwed d fun _ => 31) + axDue d 4)
    ((hg 3).add (ha 3 4 (by decide)))) $$ [P3 Hm Ho]
  · isplitr; · iexact HC
    isplitr; · iexact Hdeps
    isplitl [P3]; · iexact P3
    isplitl [Hm]; · iexact Hm
    isplitr; · iexact G3
    iexact Ho
  iintro ⟨P3, Hm, #G4, Ho⟩
  iapply (amax_step (X := X) (Wt := Wt) (K := K) (J := J) d 4 (gaOwed d fun _ => 31) (hg 4)) $$ [P4 Hm Ho]
  · isplitr; · iexact HC
    isplitr; · iexact Hdeps
    isplitl [P4]; · iexact P4
    isplitl [Hm]; · iexact Hm
    isplitr; · iexact G4
    iexact Ho
  iintro ⟨P4, Hm, #G5, Ho⟩
  ihave Hm := (Entails.of_eq (show holds amaxM (amaxR 5) d (mxV X Wt (((4 : Fin 5) : ℕ) + 1) d) = holds amaxM (amaxR 5) d (mxV X Wt 5 d) from rfl)) $$ Hm
  iapply (amax_load (X := X) (Wt := Wt) d) $$ Hm
  iintro Hm
  iapply Hk
  isplitl [P0 P1 P2 P3 P4]
  · isplitl [P0]; · iexact P0
    isplitl [P1]; · iexact P1
    isplitl [P2]; · iexact P2
    isplitl [P3]; · iexact P3
    iexact P4
  isplitl [Hm]; · iapply (holds_any (m := amaxM) (R := amaxR 5) (d := d) (mxV X Wt 5 d)) $$ Hm
  isplitr
  · iapply (show (bigSep (grp (((4 : Fin 5) : ℕ) + 1) d) fun e => done (F := F) e) ⊢ done (F := F) (rightD d) from by
      rw [show grp (((4 : Fin 5) : ℕ) + 1) d = Finset.univ from grp_five d]
      exact bigSep_elim (Φ := fun e => done (F := F) e) (Finset.mem_univ (rightD d)))
    iexact G5
  iexact Ho

/-! ## The whole run -/

/-- What the run leaves: the result's chunks, the staged inputs, the rings, and the rest. -/
def runPost (X : Dev nD → (cc0_stg0_0 : Ref sig .tc).ty.Contents (Elt F)) (Wt : Dev nD → (cc0_stg1_0 : Ref sig .tc).ty.Contents (Elt F)) (d : Dev nD) : sProp 𝕄 :=
  iprop(stgs X Wt d ∗ (rsLeft (F := F) d 0 ∗ rsLeft d 1 ∗ rsLeft d 2 ∗ rsLeft d 3)
    ∗ (agSt X Wt d 31 0 ∗ agSt X Wt d 31 1 ∗ agSt X Wt d 31 2 ∗ agSt X Wt d 31 3)
    ∗ stSt X Wt d 32 32 ∗ (holdsAny (F := F) curM (curR 0) d ∗ holdsAny (F := F) curM (curR 1) d)
    ∗ (bigSep Finset.univ fun k : Fin 5 => axPost (F := F) d k) ∗ holdsAny (F := F) amaxM (amaxR 5) d
    ∗ atPos ER (cell d kBar) 1 ∅ 0 ∗ ow d 0)

theorem wpD_device (d : Dev nD) {k : Dev nD → Bd F PUnit} {Q : PUnit → sProp 𝕄} : wpD d (.op .deviceId k) Q = wpD d (k d) Q := by
  simp only [wp_deviceId]

/-- The whole body, from all the tokens and buffers. -/
theorem run_wp (d : Dev nD) {Q : PUnit → sProp 𝕄} :
    iprop(Ctx X Wt K J ∗ runPre X Wt d ∗ bufPre (F := F) d ∗ holdsAny (F := F) amaxM (amaxR 5) d ∗ stSt X Wt d 0 0 ∗ stgs X Wt d ∗ ow d (allOwed d))
      ⊢ iprop((runPost X Wt d -∗ wpD d (.ret ⟨⟩) Q) -∗ wpD d (mainProg (Memref.whole cc0_stg0_0) (Memref.whole cc0_stg1_0)) Q) := by
  unfold mainProg
  rw [wpD_device]
  iintro ⟨#HC, Hpre, Hbuf, Hm, Hst, Hstg, Ho⟩ Hk
  iapply (start_wp (X := X) (Wt := Wt) (K := K) (J := J) d) $$ [Hpre Hbuf Hstg Ho]
  · isplitr; · iexact HC
    isplitl [Hpre]; · iexact Hpre
    isplitl [Hbuf]; · iexact Hbuf
    isplitl [Hstg]; · iexact Hstg
    iexact Ho
  iintro ⟨H, Hax, Hbar, ⟨G0, G1, G2, G3⟩⟩
  iapply (rs_all (X := X) (Wt := Wt) (K := K) (J := J) (axOwed d) (axOwed_above d) d) $$ H
  iintro H
  iapply (rs_end (X := X) (Wt := Wt) (K := K) (J := J) d) $$ H
  iintro ⟨-, #HG, #Hdeps, #HD, Hstg, ⟨R0, R1, R2, R3⟩, Hleft, Hc0, Hc1, Ho⟩
  unfold amaxProg
  iapply (ax_all (X := X) (Wt := Wt) (K := K) (J := J) d _ rfl) $$ [Hax Hm Ho]
  · isplitr; · iexact HC
    isplitr; · iexact Hdeps
    isplitr; · iexact HD
    isplitl [Hax]; · iexact Hax
    isplitl [Hm]; · iexact Hm
    iexact Ho
  iintro ⟨Hax, Hm, #HDr, Ho⟩
  have hpre : ∀ r, iprop(ringMid X Wt d r ∗ holdsAny (F := F) (agM r) (slot4 0) d) ⊢ agPre X Wt d r := fun r => by
    unfold ringMid agPre
    iintro ⟨⟨H1, H2, H3, H4⟩, H5⟩
    isplitl [H1]; · iexact H1
    isplitl [H2]; · iexact H2
    isplitl [H3]; · iexact H3
    isplitl [H4]; · iexact H4
    iexact H5
  iapply (gather_wp (X := X) (Wt := Wt) (K := K) (J := J) d) $$ [R0 R1 R2 R3 G0 G1 G2 G3 Hst Hc0 Hc1 Ho]
  · isplitr; · iexact HC
    isplitr; · iexact HG
    isplitr; · iexact HDr
    isplitl [R0 R1 R2 R3 G0 G1 G2 G3]
    · isplitl [R0 G0]
      · iapply (hpre 0); isplitl [R0]; · iexact R0
        iexact G0
      isplitl [R1 G1]
      · iapply (hpre 1); isplitl [R1]; · iexact R1
        iexact G1
      isplitl [R2 G2]
      · iapply (hpre 2); isplitl [R2]; · iexact R2
        iexact G2
      iapply (hpre 3); isplitl [R3]; · iexact R3
      iexact G3
    isplitl [Hst]; · iexact Hst
    isplitl [Hc0]; · iexact Hc0
    isplitl [Hc1]; · iexact Hc1
    iexact Ho
  iintro ⟨Hag, Hst, Hc0, Hc1, Ho⟩
  iapply Hk
  unfold runPost
  isplitl [Hstg]; · iexact Hstg
  isplitl [Hleft]; · iexact Hleft
  isplitl [Hag]; · iexact Hag
  isplitl [Hst]; · iexact Hst
  isplitl [Hc0 Hc1]
  · isplitl [Hc0]; · iexact Hc0
    iexact Hc1
  isplitl [Hax]; · iexact Hax
  isplitl [Hm]; · iexact Hm
  isplitl [Hbar]; · iexact Hbar
  iexact Ho

end Run

end Cert.Proof
-- ==== Proof.Buffers.lean ====
module
public import proofs.«01_k».proof.Proof.Body

/-! The scratch buffers and the result's buffer, cut into the run's slots and put together again. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

/-! ## Buffers cut into slabs -/

section Slabs
variable {s : Shape} {T : Type} [Fintype T] [DecidableEq T] (a₀ : Fin s.rank) (h : ℕ) (size : Fin s.rank → ℕ) (off : T → Fin s.rank → ℕ) (b : T → ℕ)
  (inb : ∀ t a, off t a + size a ≤ s.size a)

/-- Slabs of height `h` along one axis, at every multiple of `h`, make up the whole. -/
theorem slabs_cov (hh : 0 < h) (hsz : ∀ a, size a = if a = a₀ then h else s.size a) (hoff : ∀ t a, off t a = if a = a₀ then h * b t else 0)
    (hall : ∀ n < s.size a₀, ∃ t, b t = n / h) :
    (Finset.univ : Finset s.Idx) = Finset.univ.biUnion fun t => (Rect.unit (off t) size (inb t)).set := by
  refine Finset.Subset.antisymm (fun i _ => ?_) (Finset.subset_univ _)
  obtain ⟨t, ht⟩ := hall (i a₀) (i a₀).isLt
  refine Finset.mem_biUnion.mpr ⟨t, Finset.mem_univ _, Rect.mem_set_unit.mpr fun a => ?_⟩
  rw [hsz, hoff]
  have hd := Nat.div_add_mod (i a₀).val h
  have hm := Nat.mod_lt (i a₀).val hh
  by_cases ha : a = a₀
  · subst ha
    rw [if_pos rfl, if_pos rfl, ht]
    omega
  · rw [if_neg ha, if_neg ha]
    exact ⟨Nat.zero_le _, by have := (i a).isLt; omega⟩

/-- Different slabs have no element in common. -/
theorem slabs_dis (hsz : ∀ a, size a = if a = a₀ then h else s.size a) (hoff : ∀ t a, off t a = if a = a₀ then h * b t else 0)
    (hinj : ∀ t t', b t = b t' → t = t') (t t' : T) (hne : t ≠ t') :
    Disjoint (Rect.unit (off t) size (inb t)).set (Rect.unit (off t') size (inb t')).set := by
  rw [Finset.disjoint_left]
  intro i hi hi'
  have h1 := Rect.mem_set_unit.mp hi a₀
  have h2 := Rect.mem_set_unit.mp hi' a₀
  rw [hsz, hoff, if_pos rfl, if_pos rfl] at h1 h2
  refine hne (hinj t t' (Nat.le_antisymm (Nat.le_of_lt_succ ?_) (Nat.le_of_lt_succ ?_)))
  · refine Nat.lt_of_mul_lt_mul_left (a := h) ?_
    rw [Nat.succ_eq_add_one, Nat.mul_add, Nat.mul_one]; omega
  · refine Nat.lt_of_mul_lt_mul_left (a := h) ?_
    rw [Nat.succ_eq_add_one, Nat.mul_add, Nat.mul_one]; omega
end Slabs

theorem first3 {n : ℕ} (h : n = 1 * n) : ∀ a : Fin 3, (![n, 0, 0] : Fin 3 → ℕ) a = if a = 0 then 1 * n else 0 := by
  intro a
  match a with
  | ⟨0, _⟩ => exact h
  | ⟨1, _⟩ => rfl
  | ⟨2, _⟩ => rfl

theorem inj_val {n : ℕ} : ∀ t t' : Fin n, t.val = t'.val → t = t' := fun _ _ h => Fin.ext h
theorem all_val {n : ℕ} : ∀ k < n, ∃ t : Fin n, t.val = k / 1 := fun k h => ⟨⟨k, h⟩, (Nat.div_one k).symm⟩

theorem off3 (n : ℕ) (a : Fin 3) : (![n, 0, 0] : Fin 3 → ℕ) a = if a = 0 then 1 * n else 0 := first3 (Nat.one_mul n).symm a

theorem size2 : ∀ a, S1x32x8192.size a = if a = (0 : Fin 3) then 1 else S2x32x8192.size a := by decide
theorem size4 : ∀ a, S1x32x8192.size a = if a = (0 : Fin 3) then 1 else S4x32x8192.size a := by decide
theorem sizeC : ∀ a, S1x128x8192.size a = if a = (0 : Fin 3) then 1 else S2x128x8192.size a := by decide
theorem sizeA : ∀ a, S1x8x128.size a = if a = (0 : Fin 3) then 1 else S8x8x128.size a := by decide
theorem sizeO : ∀ a, S128x8192.size a = if a = (0 : Fin 2) then 128 else S4096x8192.size a := by decide

/-- Where the stored chunks go: device `d`'s `n`-th is chunk `d + 1 - n`. -/
def outChunk (d : Dev nD) (n : Fin 32) : ℕ := (d.val + 33 - n.val) % 32
theorem outOff_at : ∀ (d : Dev nD) (n : Fin 32) (a : Fin 2), outOff d n.val a = if a = 0 then 128 * outChunk d n else 0 := by decide +kernel
theorem outChunk_inj (d : Dev nD) (n n' : Fin 32) (h : outChunk d n = outChunk d n') : n = n' := by
  unfold outChunk at h
  have h1 := n.isLt; have h2 := n'.isLt; have h3 : d.val < 32 := d.isLt
  refine Fin.ext ?_
  omega
theorem outChunk_all (d : Dev nD) (k : ℕ) (hk : k < 4096) : ∃ n, outChunk d n = k / 128 := by
  have h3 : d.val < 32 := d.isLt
  refine ⟨⟨(d.val + 33 - k / 128) % 32, Nat.mod_lt _ (by decide)⟩, ?_⟩
  unfold outChunk
  show (d.val + 33 - (d.val + 33 - k / 128) % 32) % 32 = k / 128
  omega

theorem out_cov (d : Dev nD) : (Finset.univ : Finset S4096x8192.Idx) = Finset.univ.biUnion fun n : Fin 32 => (outR d n.val).set :=
  slabs_cov (s := S4096x8192) (0 : Fin 2) 128 S128x8192.size (fun n : Fin 32 => outOff d n.val) (outChunk d) _ (by decide) sizeO (outOff_at d) (outChunk_all d)
theorem out_dis (d : Dev nD) (n n' : Fin 32) (h : n ≠ n') : Disjoint (outR d n.val).set (outR d n'.val).set :=
  slabs_dis (s := S4096x8192) (0 : Fin 2) 128 S128x8192.size (fun n : Fin 32 => outOff d n.val) (outChunk d) (fun n => outOff_inb d n.val) sizeO (outOff_at d) (outChunk_inj d) n n' h

theorem cur_whole (d : Dev nD) : (iprop(∃ f : Buf (Elt F) (curM.view.loc (d : Thread nD τ)), (curM.view.loc (d : Thread nD τ)) ↦{fullShare} f) : sProp 𝕄)
    ⊣⊢ bigSep Finset.univ fun b => holdsAny (F := F) curM (curR b) d :=
  whole_parts curR (View.set_whole _) (slabs_cov (s := S2x128x8192) (0 : Fin 3) 1 S1x128x8192.size (fun b : Fin 2 => ![b.val, 0, 0]) (fun b => b.val) inbCur (by decide) sizeC (fun b => off3 b.val) all_val)
    (slabs_dis (s := S2x128x8192) (0 : Fin 3) 1 S1x128x8192.size (fun b : Fin 2 => ![b.val, 0, 0]) (fun b => b.val) inbCur sizeC (fun b => off3 b.val) inj_val)
theorem amax_whole (d : Dev nD) : (iprop(∃ f : Buf (Elt F) (amaxM.view.loc (d : Thread nD τ)), (amaxM.view.loc (d : Thread nD τ)) ↦{fullShare} f) : sProp 𝕄)
    ⊣⊢ bigSep Finset.univ fun k => holdsAny (F := F) amaxM (amaxR k) d :=
  whole_parts amaxR (View.set_whole _) (slabs_cov (s := S8x8x128) (0 : Fin 3) 1 S1x8x128.size (fun b : Fin 8 => ![b.val, 0, 0]) (fun b => b.val) inbA (by decide) sizeA (fun b => off3 b.val) all_val)
    (slabs_dis (s := S8x8x128) (0 : Fin 3) 1 S1x8x128.size (fun b : Fin 8 => ![b.val, 0, 0]) (fun b => b.val) inbA sizeA (fun b => off3 b.val) inj_val)

theorem wire_set (r : Fin 4) : (wireM r).view.set = Finset.univ := by fin_cases r <;> exact View.set_whole _
theorem comm_set (r : Fin 4) : (commM r).view.set = Finset.univ := by fin_cases r <;> exact View.set_whole _
theorem ag_set (r : Fin 4) : (agM r).view.set = Finset.univ := by fin_cases r <;> exact View.set_whole _

theorem wire_whole (r : Fin 4) (d : Dev nD) : (iprop(∃ f : Buf (Elt F) ((wireM r).view.loc (d : Thread nD τ)), ((wireM r).view.loc (d : Thread nD τ)) ↦{fullShare} f) : sProp 𝕄)
    ⊣⊢ bigSep Finset.univ fun b => holdsAny (F := F) (wireM r) (slot2 b) d :=
  whole_parts slot2 (wire_set r) (slabs_cov (s := S2x32x8192) (0 : Fin 3) 1 S1x32x8192.size (fun b : Fin 2 => ![b.val, 0, 0]) (fun b => b.val) inb2 (by decide) size2 (fun b => off3 b.val) all_val)
    (slabs_dis (s := S2x32x8192) (0 : Fin 3) 1 S1x32x8192.size (fun b : Fin 2 => ![b.val, 0, 0]) (fun b => b.val) inb2 size2 (fun b => off3 b.val) inj_val)
theorem slot4_cov : (Finset.univ : Finset S4x32x8192.Idx) = Finset.univ.biUnion fun b => (slot4 b).set :=
  slabs_cov (s := S4x32x8192) (0 : Fin 3) 1 S1x32x8192.size (fun b : Fin 4 => ![b.val, 0, 0]) (fun b => b.val) inb4 (by decide) size4 (fun b => off3 b.val) all_val
theorem slot4_dis (b b' : Fin 4) (h : b ≠ b') : Disjoint (slot4 b).set (slot4 b').set :=
  slabs_dis (s := S4x32x8192) (0 : Fin 3) 1 S1x32x8192.size (fun b : Fin 4 => ![b.val, 0, 0]) (fun b => b.val) inb4 size4 (fun b => off3 b.val) inj_val b b' h
theorem comm_whole (r : Fin 4) (d : Dev nD) : (iprop(∃ f : Buf (Elt F) ((commM r).view.loc (d : Thread nD τ)), ((commM r).view.loc (d : Thread nD τ)) ↦{fullShare} f) : sProp 𝕄)
    ⊣⊢ bigSep Finset.univ fun b => holdsAny (F := F) (commM r) (slot4 b) d := whole_parts slot4 (comm_set r) slot4_cov slot4_dis
theorem ag_whole (r : Fin 4) (d : Dev nD) : (iprop(∃ f : Buf (Elt F) ((agM r).view.loc (d : Thread nD τ)), ((agM r).view.loc (d : Thread nD τ)) ↦{fullShare} f) : sProp 𝕄)
    ⊣⊢ bigSep Finset.univ fun b => holdsAny (F := F) (agM r) (slot4 b) d := whole_parts slot4 (ag_set r) slot4_cov slot4_dis

/-! ## The region's scratch buffers -/

/-- A memref's buffer, whole, at some contents. -/
def buf {sp : Space} {s : Shape} {e : EltTy} (m : Memref sig .tc sp s e) (d : Dev nD) : sProp 𝕄 :=
  iprop(∃ f : Buf (Elt F) (m.view.loc (d : Thread nD τ)), (m.view.loc (d : Thread nD τ)) ↦{fullShare} f)

theorem scratch_eq (d : Dev nD) : (Pipeline.scopedRest (Ix := ℕ) (Name := ℕ) (U := UU) (Lvl := ℕ) (Val := Elt F) cfg0.spec d : sProp 𝕄)
    = iprop(buf (F := F) curM d ∗ buf (wireM 0) d ∗ buf (wireM 1) d ∗ buf (wireM 2) d ∗ buf (wireM 3) d
      ∗ buf (commM 0) d ∗ buf (commM 1) d ∗ buf (commM 2) d ∗ buf (commM 3) d
      ∗ buf (agM 0) d ∗ buf (agM 1) d ∗ buf (agM 2) d ∗ buf (agM 3) d ∗ buf amaxM d) := scopedRest0_eq d

/-- Ring `r`'s three buffers. -/
def ringBufs (r : Fin 4) (d : Dev nD) : sProp 𝕄 := iprop(buf (F := F) (wireM r) d ∗ buf (commM r) d ∗ buf (agM r) d)

theorem scratch_rings (d : Dev nD) : (Pipeline.scopedRest (Ix := ℕ) (Name := ℕ) (U := UU) (Lvl := ℕ) (Val := Elt F) cfg0.spec d : sProp 𝕄)
    ⊣⊢ iprop(buf (F := F) curM d ∗ (ringBufs 0 d ∗ ringBufs 1 d ∗ ringBufs 2 d ∗ ringBufs 3 d) ∗ buf amaxM d) := by
  rw [scratch_eq]
  unfold ringBufs
  constructor
  · iintro ⟨C, W0, W1, W2, W3, M0, M1, M2, M3, A0, A1, A2, A3, X⟩
    isplitl [C]; · iexact C
    isplitr [X]
    · isplitl [W0 M0 A0]
      · isplitl [W0]; · iexact W0
        isplitl [M0] <;> iassumption
      isplitl [W1 M1 A1]
      · isplitl [W1]; · iexact W1
        isplitl [M1] <;> iassumption
      isplitl [W2 M2 A2]
      · isplitl [W2]; · iexact W2
        isplitl [M2] <;> iassumption
      isplitl [W3]; · iexact W3
      isplitl [M3] <;> iassumption
    iexact X
  · iintro ⟨C, ⟨⟨W0, M0, A0⟩, ⟨W1, M1, A1⟩, ⟨W2, M2, A2⟩, W3, M3, A3⟩, X⟩
    isplitl [C]; · iexact C
    isplitl [W0]; · iexact W0
    isplitl [W1]; · iexact W1
    isplitl [W2]; · iexact W2
    isplitl [W3]; · iexact W3
    isplitl [M0]; · iexact M0
    isplitl [M1]; · iexact M1
    isplitl [M2]; · iexact M2
    isplitl [M3]; · iexact M3
    isplitl [A0]; · iexact A0
    isplitl [A1]; · iexact A1
    isplitl [A2]; · iexact A2
    isplitl [A3]; · iexact A3
    iexact X

theorem two (Φ : Fin 2 → sProp 𝕄) : bigSep Finset.univ Φ = iprop(Φ 0 ∗ Φ 1) := bigSep_univ_eq_bigSepL [0, 1] (by decide) (by decide) Φ
theorem eight (Φ : Fin 8 → sProp 𝕄) : bigSep Finset.univ Φ = iprop((bigSep Finset.univ fun k : Fin 5 => Φ (k8 k)) ∗ Φ 5 ∗ Φ 6 ∗ Φ 7) := by
  rw [show (bigSep Finset.univ fun k : Fin 5 => Φ (k8 k)) = iprop(Φ 0 ∗ Φ 1 ∗ Φ 2 ∗ Φ 3 ∗ Φ 4) from five _, show bigSep Finset.univ Φ = iprop(Φ 0 ∗ Φ 1 ∗ Φ 2 ∗ Φ 3 ∗ Φ 4 ∗ Φ 5 ∗ Φ 6 ∗ Φ 7) from bigSep_univ_eq_bigSepL [0, 1, 2, 3, 4, 5, 6, 7] (by decide) (by decide) Φ]
  refine BI.Entails.antisymm (show _ ⊢ (_ : sProp 𝕄) from ?_) (show _ ⊢ (_ : sProp 𝕄) from ?_)
  · iintro ⟨H0, H1, H2, H3, H4, H5⟩
    isplitr [H5]; swap; · iexact H5
    isplitl [H0]; · iexact H0
    isplitl [H1]; · iexact H1
    isplitl [H2]; · iexact H2
    isplitl [H3]; · iexact H3
    iexact H4
  · iintro ⟨⟨H0, H1, H2, H3, H4⟩, H5⟩
    isplitl [H0]; · iexact H0
    isplitl [H1]; · iexact H1
    isplitl [H2]; · iexact H2
    isplitl [H3]; · iexact H3
    isplitl [H4]; · iexact H4
    iexact H5

theorem ring_open (r : Fin 4) (d : Dev nD) : ringBufs (F := F) r d ⊢ ringBuf d r := by
  unfold ringBufs ringBuf buf
  rw [bool_prod]
  iintro ⟨W, M, A⟩
  ihave W := ((wire_whole (F := F) r d).1.trans (Entails.of_eq (two _))) $$ W
  icases W with ⟨W0, W1⟩
  isplitl [W0]; · iexact W0
  isplitl [W1]; · iexact W1
  isplitl [M]
  · iapply (show _ ⊢ (bigSep Finset.univ fun σ : Fin 4 => slotA (F := F) (rkey d r (false, σ))) from (comm_whole (F := F) r d).1) $$ M
  iapply (show _ ⊢ (bigSep Finset.univ fun σ : Fin 4 => slotA (F := F) (rkey d r (true, σ))) from (ag_whole (F := F) r d).1) $$ A

/-- The slots of the gather that end free. -/
def agLeft (d : Dev nD) (r : Fin 4) : sProp 𝕄 :=
  iprop((bigSep (Finset.Ico 28 31) fun t => holdsAny (F := F) (agM r) (slot4 (m4 t)) d) ∗ holdsAny (F := F) (agM r) (slot4 3) d)

theorem ring_close (r : Fin 4) (d : Dev nD) : iprop(rsLeft (F := F) d r ∗ agLeft d r) ⊢ ringBufs r d := by
  unfold rsLeft agLeft ringBufs buf
  rw [show bigSep (Finset.Ico 27 31) (fun t => holdsAny (F := F) (commM r) (slot4 (m4 t)) d) = iprop(holdsAny (F := F) (commM r) (slot4 (m4 27)) d ∗ holdsAny (F := F) (commM r) (slot4 (m4 28)) d
      ∗ holdsAny (F := F) (commM r) (slot4 (m4 29)) d ∗ holdsAny (F := F) (commM r) (slot4 (m4 30)) d) from bigSep_eq_bigSepL_of_eq [27, 28, 29, 30] (by decide) (by decide) _,
    show bigSep (Finset.Ico 28 31) (fun t => holdsAny (F := F) (agM r) (slot4 (m4 t)) d) = iprop(holdsAny (F := F) (agM r) (slot4 (m4 28)) d
      ∗ holdsAny (F := F) (agM r) (slot4 (m4 29)) d ∗ holdsAny (F := F) (agM r) (slot4 (m4 30)) d) from bigSep_eq_bigSepL_of_eq [28, 29, 30] (by decide) (by decide) _]
  iintro ⟨⟨W0, W1, M3, M0, M1, M2⟩, ⟨A0, A1, A2⟩, A3⟩
  isplitl [W0 W1]
  · iapply (wire_whole (F := F) r d).2
    rw [two]
    isplitl [W0] <;> iassumption
  isplitl [M3 M0 M1 M2]
  · iapply (comm_whole (F := F) r d).2
    rw [four]
    isplitl [M0]; · iexact M0
    isplitl [M1]; · iexact M1
    isplitl [M2]; · iexact M2
    iexact M3
  iapply (ag_whole (F := F) r d).2
  rw [four]
  isplitl [A0]; · iexact A0
  isplitl [A1]; · iexact A1
  isplitl [A2]; · iexact A2
  iexact A3

/-- The rest of the exchange's blocks: its own, and two that stay unused. -/
def amaxOwn (d : Dev nD) : sProp 𝕄 := holdsAny (F := F) amaxM (amaxR 5) d
def amaxIdle (d : Dev nD) : sProp 𝕄 := iprop(holdsAny (F := F) amaxM (amaxR 6) d ∗ holdsAny (F := F) amaxM (amaxR 7) d)

theorem scratch_open (d : Dev nD) : (Pipeline.scopedRest (Ix := ℕ) (Name := ℕ) (U := UU) (Lvl := ℕ) (Val := Elt F) cfg0.spec d : sProp 𝕄)
    ⊢ iprop(bufPre (F := F) d ∗ amaxOwn d ∗ amaxIdle d) := by
  refine BIBase.Entails.trans (scratch_rings (F := F) d).1 ?_
  unfold bufPre amaxOwn amaxIdle
  iintro ⟨C, ⟨R0, R1, R2, R3⟩, A⟩
  unfold buf
  ihave C := ((cur_whole (F := F) d).1.trans (Entails.of_eq (two _))) $$ C
  ihave A := ((amax_whole (F := F) d).1.trans (Entails.of_eq (eight _))) $$ A
  icases A with ⟨A, A5, A67⟩
  isplitr [A5 A67]
  · isplitl [R0 R1 R2 R3]
    · isplitl [R0]; · iapply (ring_open (F := F) 0 d) $$ R0
      isplitl [R1]; · iapply (ring_open (F := F) 1 d) $$ R1
      isplitl [R2]; · iapply (ring_open (F := F) 2 d) $$ R2
      iapply (ring_open (F := F) 3 d) $$ R3
    isplitl [C]; · iexact C
    iexact A
  isplitl [A5]; · iexact A5
  iexact A67

theorem scratch_close (d : Dev nD) :
    iprop((holdsAny (F := F) curM (curR 0) d ∗ holdsAny (F := F) curM (curR 1) d)
        ∗ ((rsLeft (F := F) d 0 ∗ agLeft d 0) ∗ (rsLeft (F := F) d 1 ∗ agLeft d 1) ∗ (rsLeft (F := F) d 2 ∗ agLeft d 2) ∗ (rsLeft (F := F) d 3 ∗ agLeft d 3))
        ∗ (bigSep Finset.univ fun k : Fin 5 => holdsAny (F := F) amaxM (amaxR (k8 k)) d) ∗ amaxOwn (F := F) d ∗ amaxIdle d)
      ⊢ (Pipeline.scopedRest (Ix := ℕ) (Name := ℕ) (U := UU) (Lvl := ℕ) (Val := Elt F) cfg0.spec d : sProp 𝕄) := by
  refine BIBase.Entails.trans ?_ (scratch_rings (F := F) d).2
  unfold amaxOwn amaxIdle buf
  iintro ⟨C, ⟨R0, R1, R2, R3⟩, A, A5, A67⟩
  isplitl [C]
  · iapply (cur_whole (F := F) d).2
    rw [two]; iexact C
  isplitl [R0 R1 R2 R3]
  · isplitl [R0]; · iapply (ring_close (F := F) 0 d) $$ R0
    isplitl [R1]; · iapply (ring_close (F := F) 1 d) $$ R1
    isplitl [R2]; · iapply (ring_close (F := F) 2 d) $$ R2
    iapply (ring_close (F := F) 3 d) $$ R3
  iapply (amax_whole (F := F) d).2
  rw [eight]
  isplitl [A]; · iexact A
  isplitl [A5]; · iexact A5
  iexact A67

/-! ## The result's buffer -/

theorem range_fin {n : ℕ} (Φ : ℕ → sProp 𝕄) : bigSep (Finset.range n) Φ = bigSep Finset.univ fun i : Fin n => Φ i.val := by
  refine Eq.trans ?_ (bigSep_map (s := (Finset.univ : Finset (Fin n))) Fin.valEmbedding (Φ := Φ))
  refine congrArg (fun s => bigSep s Φ) ?_
  ext x
  simp only [Finset.mem_range, Finset.mem_map, Finset.mem_univ, true_and]
  exact ⟨fun h => ⟨⟨x, h⟩, rfl⟩, fun ⟨i, h⟩ => h ▸ i.isLt⟩

/-- The result's buffer, chunk by chunk. -/
theorem out_open (d : Dev nD) (f : Buf (Elt F) (outM.view.loc (d : Thread nD τ))) :
    ((outM.view.loc (d : Thread nD τ)) ↦{fullShare} f : sProp 𝕄) ⊢ bigSep (Finset.Ico 0 32) fun n => holdsAny (F := F) outM (outR d n) d := by
  rw [← Finset.range_eq_Ico, range_fin]
  iintro H
  iapply (whole_parts (F := F) (m := outM) (d := d) (fun n : Fin 32 => outR d n.val) (View.set_whole _) (out_cov d) (out_dis d)).1
  iexists f; iexact H

/-- The result's buffer from its chunks. -/
theorem out_close (d : Dev nD) :
    (bigSep (Finset.range 32) fun n => holds outM (outR d n) d (outVal X Wt d n) : sProp 𝕄)
      ⊢ iprop(∃ f : Buf (Elt F) (outM.view.loc (d : Thread nD τ)), ⌜∀ (n : Fin 32) x, outM.view.read (Elt F) f ((outR d n.val).emb x) = outVal X Wt d n.val x⌝
          ∗ ((outM.view.loc (d : Thread nD τ)) ↦{fullShare} f)) := by
  rw [range_fin]
  have hu : (Finset.univ : Finset S4096x8192.Idx).map outM.view.emb = Finset.univ := View.set_whole _
  refine BIBase.Entails.trans (parts_iff (F := F) (m := outM) (d := d) (fun n : Fin 32 => outR d n.val) Finset.univ (out_cov d) (out_dis d) (fun n => outVal X Wt d n.val)).2 ?_
  rw [hu]

end Run

end Cert.Proof
-- ==== Proof.Deal.lean ====
module
public import proofs.«01_k».proof.Proof.Buffers

/-! The ghost state the run starts from, dealt to the devices. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

/-! ## What each device's semaphores and slots start with -/

def cells : Finset (GSem nD τ sig) :=
  (Finset.univ : Finset (Dev nD × Knd)).map ⟨fun p => cell p.1 p.2, fun p q h => Prod.ext (cell_inj h).1 (cell_inj h).2⟩
def tokSet : Finset (GSem nD τ sig × ℕ × ℕ) :=
  ((Finset.univ : Finset (Dev nD × Knd)).sigma fun p => names p.2).map
    ⟨fun x => (cell x.1.1 x.1.2, rnd x.1.2 x.2, x.2), fun x y h => by
      obtain ⟨⟨d, k⟩, t⟩ := x
      obtain ⟨⟨d', k'⟩, t'⟩ := y
      obtain ⟨rfl, rfl⟩ := cell_inj (congrArg Prod.fst h)
      obtain rfl : t = t' := congrArg (fun z : GSem nD τ sig × ℕ × ℕ => z.2.2) h
      rfl⟩

/-- The ghost state the run starts from. -/
def ghost₀ : UB × Release.USlots Key := (initOf cells tokSet, Release.initSlots (Finset.univ : Finset Key) 8)

def posOf (e : Dev nD) : sProp 𝕄 := bigSep Finset.univ fun k : Knd => atPos ER (cell e k) 0 ∅ 0
def toksOf (e : Dev nD) : sProp 𝕄 := bigSep Finset.univ fun k : Knd => bigSep (names k) fun t => dutyTok ER (cell e k) (rnd k t) t
def rdsOf (e : Dev nD) : sProp 𝕄 := bigSep Finset.univ fun s : SlotK => Release.readerAt ES ((e, s) : Key) 0
def wrsOf (e : Dev nD) : sProp 𝕄 := bigSep Finset.univ fun s : SlotK => bigSep (Finset.range 8) fun n => Release.writeTok ES ((e, s) : Key) (n + 1)
def ownOf (e : Dev nD) : sProp 𝕄 := iprop(posOf (F := F) e ∗ toksOf e ∗ rdsOf e ∗ wrsOf e)

/-- What device `e` is dealt at first. -/
def deal0 (X : Dev nD → (cc0_stg0_0 : Ref sig .tc).ty.Contents (Elt F)) (Wt : Dev nD → (cc0_stg1_0 : Ref sig .tc).ty.Contents (Elt F)) (e : Dev nD) : sProp 𝕄 :=
  iprop((bigSep Finset.univ fun k : Knd => roundState ER (Rd X Wt) (cell e k) 0) ∗ (bigSep Finset.univ fun k : Knd => reached ER (cell e k) 0)
    ∗ (bigSep Finset.univ fun s : SlotK => iprop(∃ ι : ℕ, Release.slotInv ES ι ((e, s) : Key) (slotA (F := F) (e, s)))) ∗ ownOf e)

theorem over_product {A B : Type} [DecidableEq A] [DecidableEq B] (s : Finset A) (t : Finset B) (Φ : A × B → sProp 𝕄) :
    bigSep (s ×ˢ t) Φ = bigSep s fun a => bigSep t fun b => Φ (a, b) := by
  have e : s ×ˢ t = (s.sigma fun _ => t).map (Equiv.sigmaEquivProd A B).toEmbedding := by
    ext ⟨a, b⟩
    simp only [Finset.mem_product, Finset.mem_map, Finset.mem_sigma, Equiv.coe_toEmbedding]
    constructor
    · intro h; exact ⟨⟨a, b⟩, h, rfl⟩
    · rintro ⟨⟨a', b'⟩, h, e⟩
      obtain rfl : a' = a := congrArg Prod.fst e
      obtain rfl : b' = b := congrArg Prod.snd e
      exact h
  rw [e, bigSep_map, Pipeline.bigSep_sigma]
  rfl
theorem over_cells (Φ : GSem nD τ sig → sProp 𝕄) : bigSep cells Φ = bigSep Finset.univ fun e : Dev nD => bigSep Finset.univ fun k : Knd => Φ (cell e k) := by
  unfold cells; rw [bigSep_map, bigSep_univ_prod]; rfl
theorem over_keys (Φ : Key → sProp 𝕄) : bigSep Finset.univ Φ = bigSep Finset.univ fun e : Dev nD => bigSep Finset.univ fun s : SlotK => Φ (e, s) :=
  bigSep_univ_prod Φ

/-- The whole ghost state, device by device. -/
theorem deal : BI.own (embR ghost₀ : 𝕄) ⊢ (|={Set.univ}=> bigSep Finset.univ (deal0 X Wt) : sProp 𝕄) := by
  have hT : bigSep tokSet (fun x => (dutyTok ER x.1 x.2.1 x.2.2 : sProp 𝕄)) = bigSep Finset.univ fun e : Dev nD => toksOf e := by
    unfold tokSet toksOf; rw [bigSep_map, Pipeline.bigSep_sigma, bigSep_univ_prod]; rfl
  have hW : bigSep ((Finset.univ : Finset Key) ×ˢ Finset.range 8) (fun x => (Release.writeTok ES x.1 (x.2 + 1) : sProp 𝕄)) = bigSep Finset.univ fun e : Dev nD => wrsOf e := by
    unfold wrsOf; rw [over_product, over_keys]
  unfold ghost₀
  iintro H
  ihave H := (own_pair_emb (embR : Emb (UB × Release.USlots Key) 𝕄) (initOf cells tokSet) (Release.initSlots (Finset.univ : Finset Key) 8)) $$ H
  icases H with ⟨HR, HS⟩
  imod (Rounds.fund ER (Rd X Wt) cells tokSet) $$ HR with ⟨Hst, Hr, Hat, Htok⟩
  imod (Release.slots_init (Es := Set.univ) ES (Finset.univ : Finset Key) 8 (slotA (F := F))) $$ HS with ⟨%J, -, Hsl, Hrd, Hwr⟩
  imodintro
  ihave Hst := (Entails.of_eq (over_cells fun g => roundState ER (Rd X Wt) g 0)) $$ Hst
  ihave Hr := (Entails.of_eq (over_cells fun g => reached ER g 0)) $$ Hr
  ihave Hat := (Entails.of_eq (over_cells fun g => atPos ER g 0 ∅ 0)) $$ Hat
  ihave Htok := (Entails.of_eq hT) $$ Htok
  ihave Hwr := (Entails.of_eq hW) $$ Hwr
  ihave Hrd := (Entails.of_eq (over_keys fun k => Release.readerAt ES k 0)) $$ Hrd
  ihave Hsl := ((bigSep_mono' fun k _ => show Release.slotInv ES (J k) k (slotA (F := F) k) ⊢ iprop(∃ ι : ℕ, Release.slotInv ES ι k (slotA (F := F) k)) from by
    iintro H; iexists J k; iexact H).trans (Entails.of_eq (over_keys fun k => iprop(∃ ι : ℕ, Release.slotInv ES ι k (slotA (F := F) k))))) $$ Hsl
  unfold deal0 ownOf
  simp only [bigSep_sep']
  isplitl [Hst]; · iexact Hst
  isplitl [Hr]; · iexact Hr
  isplitl [Hsl]; · iexact Hsl
  isplitl [Hat]; · unfold posOf; iexact Hat
  isplitl [Htok]; · iexact Htok
  isplitl [Hrd]; · unfold rdsOf; iexact Hrd
  iexact Hwr

/-! ## Sorting it -/

/-- What stays with the device. -/
def stayR (e : Dev nD) (r : Fin 4) : sProp 𝕄 :=
  iprop((bigSep Finset.univ fun σ => atPos ER (cell e (kRecv r σ)) 0 ∅ 0) ∗ (bigSep Finset.univ fun σ => atPos ER (cell e (kSend r σ)) 0 ∅ 0)
    ∗ (bigSep (Finset.Ico 0 62) fun t => dutyTok ER (cell e (kSend r (sslot t))) (cnt (kSend r (sslot t)) t) t)
    ∗ (bigSep Finset.univ fun κ : Bool × Fin 4 => Release.readerAt ES (rkey e r κ) 0) ∗ atPos ER (cell e (kCredit r)) 0 ∅ 0)
def stayX (e : Dev nD) (k : Fin 5) : sProp 𝕄 :=
  iprop(atPos ER (cell e (kAxs k)) 0 ∅ 0 ∗ atPos ER (cell e (kAxr k)) 0 ∅ 0 ∗ dutyTok ER (cell e (kAxs k)) 0 0 ∗ Release.readerAt ES ((e, .inr k) : Key) 0)
def stayS (e : Dev nD) : sProp 𝕄 :=
  iprop((bigSep Finset.univ fun b => atPos ER (cell e (kStore b)) 0 ∅ 0)
    ∗ bigSep (Finset.Ico 0 32) fun n => dutyTok ER (cell e (kStore (m2 n))) (cnt (kStore (m2 n)) n) n)
def stay (e : Dev nD) : sProp 𝕄 :=
  iprop((bigSep Finset.univ fun r => stayR (F := F) e r) ∗ (bigSep Finset.univ fun k => stayX (F := F) e k) ∗ stayS (F := F) e ∗ atPos ER (cell e kBar) 0 ∅ 0)
/-- What goes to the left neighbour, who sends to `e`. -/
def toLeft (e : Dev nD) : sProp 𝕄 :=
  iprop((bigSep Finset.univ fun r : Fin 4 => iprop((bigSep (Finset.Ico 0 62) fun t => Release.writeTok ES (mkey e r t) (mcnt t))
      ∗ bigSep (Finset.Ico 0 62) fun t => dutyTok ER (cell e (kRecv r (rslot t))) (cnt (kRecv r (rslot t)) t) t))
    ∗ dutyTok ER (cell e kBar) 0 0)
/-- What goes to the right neighbour, who gives `e` credits. -/
def toRight (e : Dev nD) : sProp 𝕄 :=
  iprop((bigSep Finset.univ fun r : Fin 4 => bigSep (Finset.Ico 0 55) fun m => dutyTok ER (cell e (kCredit r)) 0 m) ∗ dutyTok ER (cell e kBar) 0 1)
/-- What goes to the partner of round `k`. -/
def toPart (k : Fin 5) (e : Dev nD) : sProp 𝕄 := iprop(dutyTok ER (cell e (kAxr k)) 0 0 ∗ Release.writeTok ES ((e, .inr k) : Key) 1)

theorem swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun x : A × B => Φ x.1 x.2, ← bigSep_univ_prod fun x : B × A => Φ x.2 x.1, bigSep_univ_equiv (Equiv.prodComm B A)]
  rfl

/-- Messages slot by slot are the messages in order. -/
theorem by_slot {T : Type} [Fintype T] [DecidableEq T] (N : ℕ) (g : ℕ → T) (hg : (Finset.range N).image g = Finset.univ) (f : T → ℕ → sProp 𝕄) :
    (bigSep Finset.univ fun σ => bigSep ((Finset.range N).filter fun t => g t = σ) (f σ)) = bigSep (Finset.Ico 0 N) fun t => f (g t) t := by
  rw [show Finset.Ico 0 N = Finset.range N from (Finset.range_eq_Ico N).symm, bigSep_fiberwise (Finset.range N) g, hg]
  exact bigSep_congr fun σ _ => bigSep_congr fun t ht => by rw [(Finset.mem_filter.mp ht).2]

theorem img_r : (Finset.range 62).image rslot = Finset.univ := by decide +kernel
theorem img_s : (Finset.range 62).image sslot = Finset.univ := by decide +kernel
theorem img_2 : (Finset.range 32).image (fun n => m2 n) = Finset.univ := by decide +kernel
theorem two_names (Φ : ℕ → sProp 𝕄) : bigSep (Finset.range 2) Φ = iprop(Φ 0 ∗ Φ 1) :=
  bigSep_eq_bigSepL_of_eq [0, 1] (by decide) (by decide) Φ
theorem unit_one (Φ : Unit → sProp 𝕄) : bigSep Finset.univ Φ = Φ () := bigSep_univ_eq_bigSepL [()] (by decide) (by decide) Φ

theorem pos_split (e : Dev nD) : posOf (F := F) e = iprop((((bigSep Finset.univ fun r => bigSep Finset.univ fun σ => atPos ER (cell e (kSend r σ)) 0 ∅ 0)
        ∗ (bigSep Finset.univ fun r => bigSep Finset.univ fun σ => atPos ER (cell e (kRecv r σ)) 0 ∅ 0))
      ∗ ((bigSep Finset.univ fun k => atPos ER (cell e (kAxs k)) 0 ∅ 0) ∗ (bigSep Finset.univ fun k => atPos ER (cell e (kAxr k)) 0 ∅ 0))
      ∗ (bigSep Finset.univ fun b => atPos ER (cell e (kStore b)) 0 ∅ 0) ∗ (bigSep Finset.univ fun r => atPos ER (cell e (kCredit r)) 0 ∅ 0))
    ∗ atPos ER (cell e kBar) 0 ∅ 0) := by
  unfold posOf
  rw [bigSep_univ_sum, ck_split, unit_one]
  rfl

theorem toks_split (e : Dev nD) : toksOf (F := F) e = iprop((((bigSep Finset.univ fun r => bigSep (Finset.Ico 0 62) fun t => dutyTok ER (cell e (kSend r (sslot t))) (cnt (kSend r (sslot t)) t) t)
        ∗ (bigSep Finset.univ fun r => bigSep (Finset.Ico 0 62) fun t => dutyTok ER (cell e (kRecv r (rslot t))) (cnt (kRecv r (rslot t)) t) t))
      ∗ ((bigSep Finset.univ fun k => dutyTok ER (cell e (kAxs k)) 0 0) ∗ (bigSep Finset.univ fun k => dutyTok ER (cell e (kAxr k)) 0 0))
      ∗ (bigSep (Finset.Ico 0 32) fun n => dutyTok ER (cell e (kStore (m2 n))) (cnt (kStore (m2 n)) n) n) ∗ (bigSep Finset.univ fun r => bigSep (Finset.Ico 0 55) fun m => dutyTok ER (cell e (kCredit r)) 0 m))
    ∗ (dutyTok ER (cell e kBar) 0 0 ∗ dutyTok ER (cell e kBar) 0 1)) := by
  have h1 (r : Fin 4) := by_slot (F := F) 62 sslot img_s fun σ t => dutyTok ER (cell e (kSend r σ)) (cnt (kSend r σ) t) t
  have h2 (r : Fin 4) := by_slot (F := F) 62 rslot img_r fun σ t => dutyTok ER (cell e (kRecv r σ)) (cnt (kRecv r σ) t) t
  have h3 := by_slot (F := F) 32 (fun n => m2 n) img_2 fun b n => dutyTok ER (cell e (kStore b)) (cnt (kStore b) n) n
  have h4 (b : Bool) (k : Fin 5) : bigSep (names (.inl (.inr (.inl (b, k))))) (fun t => (dutyTok ER (cell e (.inl (.inr (.inl (b, k))))) (rnd (.inl (.inr (.inl (b, k)))) t) t : sProp 𝕄))
      = dutyTok ER (cell e (.inl (.inr (.inl (b, k))))) 0 0 := bigSep_singleton
  have h5 (r : Fin 4) : bigSep (names (kCredit r)) (fun m => (dutyTok ER (cell e (kCredit r)) (rnd (kCredit r) m) m : sProp 𝕄))
      = bigSep (Finset.Ico 0 55) fun m => dutyTok ER (cell e (kCredit r)) 0 m := by
    rw [show Finset.Ico 0 55 = names (kCredit r) from (Finset.range_eq_Ico 55).symm]; rfl
  unfold toksOf
  rw [bigSep_univ_sum, ck_split, unit_one]
  refine congrArg₂ _ (congrArg₂ _ (congrArg₂ _ ?_ ?_) (congrArg₂ _ (congrArg₂ _ ?_ ?_) (congrArg₂ _ ?_ ?_))) ?_
  · exact bigSep_congr fun r _ => h1 r
  · exact bigSep_congr fun r _ => h2 r
  · exact bigSep_congr fun k _ => h4 false k
  · exact bigSep_congr fun k _ => h4 true k
  · exact h3
  · exact bigSep_congr fun r _ => h5 r
  · exact two_names _

theorem rds_split (e : Dev nD) : rdsOf (F := F) e = iprop((bigSep Finset.univ fun r => bigSep Finset.univ fun κ : Bool × Fin 4 => Release.readerAt ES (rkey e r κ) 0)
    ∗ bigSep Finset.univ fun k : Fin 5 => Release.readerAt ES ((e, .inr k) : Key) 0) := by
  unfold rdsOf
  rw [bigSep_univ_sum]
  refine congrArg₂ _ ?_ rfl
  rw [bigSep_univ_prod, bigSep_congr (s := Finset.univ) (fun (b : Bool) _ => bigSep_univ_prod fun p : Fin 4 × Fin 4 => (Release.readerAt ES ((e, .inl (b, p)) : Key) 0 : sProp 𝕄)), swap]
  exact bigSep_congr fun r _ => (bigSep_univ_prod fun κ : Bool × Fin 4 => (Release.readerAt ES (rkey e r κ) 0 : sProp 𝕄)).symm

theorem write_inj : ∀ t : Fin 62, ∀ t' : Fin 62, mk t.val = mk t'.val → mcnt t.val - 1 = mcnt t'.val - 1 → t = t' := by decide +kernel
theorem write_rng : ∀ t : Fin 62, 1 ≤ mcnt t.val ∧ mcnt t.val - 1 < 8 := by decide +kernel

theorem wrs_split (e : Dev nD) : wrsOf (F := F) e ⊢ iprop((bigSep Finset.univ fun r => bigSep (Finset.Ico 0 62) fun t => Release.writeTok ES (mkey e r t) (mcnt t))
    ∗ bigSep Finset.univ fun k : Fin 5 => Release.writeTok ES ((e, .inr k) : Key) 1) := by
  unfold wrsOf
  rw [bigSep_univ_sum]
  refine BIClass.sep_mono ?_ (bigSep_mono' fun k _ => show bigSep (Finset.range 8) (fun n => (Release.writeTok ES ((e, .inr k) : Key) (n + 1) : sProp 𝕄)) ⊢ _ from bigSep_elim (Finset.mem_range.mpr (by decide : 0 < 8)))
  have hf : Function.Injective fun x : Fin 4 × Fin 62 => (((mk x.2.val).1, x.1, (mk x.2.val).2), mcnt x.2.val - 1) := fun x y h => by
    have h1 : x.1 = y.1 := congrArg (fun z : (Bool × Fin 4 × Fin 4) × ℕ => z.1.2.1) h
    have h2 : mk x.2.val = mk y.2.val := Prod.ext (congrArg (fun z : (Bool × Fin 4 × Fin 4) × ℕ => z.1.1) h) (congrArg (fun z : (Bool × Fin 4 × Fin 4) × ℕ => z.1.2.2) h)
    exact Prod.ext h1 (write_inj _ _ h2 (congrArg Prod.snd h))
  rw [← over_product Finset.univ (Finset.range 8) fun x : (Bool × Fin 4 × Fin 4) × ℕ => (Release.writeTok ES ((e, .inl x.1) : Key) (x.2 + 1) : sProp 𝕄)]
  refine BIBase.Entails.trans (Q := bigSep ((Finset.univ : Finset (Fin 4 × Fin 62)).map ⟨_, hf⟩) _) (bigSep_subset fun y hy => ?_) (Entails.of_eq ?_)
  · obtain ⟨x, -, rfl⟩ := Finset.mem_map.mp hy
    exact Finset.mem_product.mpr ⟨Finset.mem_univ _, Finset.mem_range.mpr (write_rng x.2).2⟩
  · rw [bigSep_map, bigSep_univ_prod]
    refine bigSep_congr fun r _ => ?_
    rw [show Finset.Ico 0 62 = Finset.range 62 from (Finset.range_eq_Ico 62).symm, range_fin]
    refine bigSep_congr fun t _ => ?_
    show (Release.writeTok ES (mkey e r t.val) (mcnt t.val - 1 + 1) : sProp 𝕄) = _
    rw [Nat.sub_add_cancel (write_rng t).1]

/-- A device's own ghost state, sorted by who gets it. -/
theorem sort (e : Dev nD) : ownOf (F := F) e ⊢ iprop(stay (F := F) e ∗ toLeft (F := F) e ∗ toRight (F := F) e ∗ bigSep Finset.univ fun k => toPart (F := F) k e) := by
  unfold ownOf stay toLeft toRight toPart stayR stayX stayS
  rw [pos_split, toks_split, rds_split]
  simp only [bigSep_sep']
  iintro ⟨⟨⟨⟨Ps, Pr⟩, ⟨Pxs, Pxr⟩, Pst, Pc⟩, Pb⟩, ⟨⟨⟨Ts, Tr⟩, ⟨Txs, Txr⟩, Tst, Tc⟩, ⟨Tb0, Tb1⟩⟩, ⟨Rr, Rx⟩, Hw⟩
  ihave Hw := (wrs_split (F := F) e) $$ Hw
  icases Hw with ⟨Wr, Wx⟩
  isplitr [Wr Tr Tb0 Tc Tb1 Txr Wx]
  · isplitl [Pr Ps Ts Rr Pc]
    · isplitl [Pr]; · iexact Pr
      isplitl [Ps]; · iexact Ps
      isplitl [Ts]; · iexact Ts
      isplitl [Rr]; · iexact Rr
      iexact Pc
    isplitl [Pxs Pxr Txs Rx]
    · isplitl [Pxs]; · iexact Pxs
      isplitl [Pxr]; · iexact Pxr
      isplitl [Txs]; · iexact Txs
      iexact Rx
    isplitl [Pst Tst]
    · isplitl [Pst]; · iexact Pst
      iexact Tst
    iexact Pb
  isplitl [Wr Tr Tb0]
  · isplitl [Wr Tr]
    · isplitl [Wr]; · iexact Wr
      iexact Tr
    iexact Tb0
  isplitl [Tc Tb1]
  · isplitl [Tc]; · iexact Tc
    iexact Tb1
  isplitl [Txr]; · iexact Txr
  iexact Wx

def ring : Dev nD ≃ Dev nD := ⟨rightD, leftD, left_right, right_left⟩
def pair (k : Fin 5) : Dev nD ≃ Dev nD := ⟨partner k, partner k, partner_partner k, partner_partner k⟩

/-- What a device holds once the tokens are dealt around. -/
def hand (d : Dev nD) : sProp 𝕄 :=
  iprop(stay (F := F) d ∗ toLeft (F := F) (rightD d) ∗ toRight (F := F) (leftD d) ∗ bigSep Finset.univ fun k => toPart (F := F) k (partner k d))

theorem around : bigSep Finset.univ (ownOf (F := F)) ⊢ bigSep Finset.univ (hand (F := F)) := by
  refine (bigSep_mono' fun e _ => sort e).trans (Entails.of_eq ?_)
  unfold hand
  simp only [bigSep_sep']
  rw [bigSep_univ_equiv ring (toLeft (F := F)), bigSep_univ_equiv ring.symm (toRight (F := F)), swap, swap fun (d : Dev nD) k => toPart (F := F) k (partner k d)]
  refine congrArg _ (congrArg _ (congrArg _ (bigSep_congr fun k _ => bigSep_univ_equiv (pair k) (toPart (F := F) k))))

end Run

end Cert.Proof
-- ==== Proof.Finish.lean ====
module
public import proofs.«01_k».proof.Proof.Buffers

/-! What one device's run leaves: its semaphores at zero, its buffers whole, the result's buffer written. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

/-- The result's buffer holds every chunk. -/
def outDone (X : Dev nD → (cc0_stg0_0 : Ref sig .tc).ty.Contents (Elt F)) (Wt : Dev nD → (cc0_stg1_0 : Ref sig .tc).ty.Contents (Elt F)) (d : Dev nD) : sProp 𝕄 :=
  iprop(∃ f : Buf (Elt F) (outM.view.loc (d : Thread nD τ)), ⌜∀ (n : Fin 32) x, outM.view.read (Elt F) f ((outR d n.val).emb x) = outVal X Wt d n.val x⌝
    ∗ ((outM.view.loc (d : Thread nD τ)) ↦{fullShare} f))

/-- Ring `r`'s semaphores at zero, and its free slots. -/
theorem finish_ring (d : Dev nD) (r : Fin 4) :
    iprop(Ctx X Wt K J ∗ agSt X Wt d 31 r)
      ⊢ (|={Set.univ}=> iprop((bigSep Finset.univ fun σ => semVal (cell d (kSend r σ)) 0) ∗ (bigSep Finset.univ fun σ => semVal (cell d (kRecv r σ)) 0)
          ∗ semVal (cell d (kCredit r)) 0 ∗ agLeft (F := F) d r) : sProp 𝕄) := by
  unfold agSt rxSt txSt agLeft
  rw [if_pos rfl]
  iintro ⟨#HC, ⟨Hr, -⟩, ⟨Hs, -, -⟩, -, Hci, Hk, H3⟩
  imod (close_all (X := X) (Wt := Wt) (K := K) (J := J) d (kSend r) 62 (last_send r)) $$ [Hs] with Hs
  · isplitr; · iexact HC
    iexact Hs
  imod (close_all (X := X) (Wt := Wt) (K := K) (J := J) d (kRecv r) 62 (last_recv r)) $$ [Hr] with Hr
  · isplitr; · iexact HC
    iexact Hr
  imod (close_credit (X := X) (Wt := Wt) (K := K) (J := J) d r) $$ [Hci] with Hci
  · isplitr; · iexact HC
    iexact Hci
  imodintro
  isplitl [Hs]; · iexact Hs
  isplitl [Hr]; · iexact Hr
  isplitl [Hci]; · iexact Hci
  isplitl [Hk]; · iexact Hk
  iexact H3

theorem finish_ax (d : Dev nD) :
    iprop(Ctx X Wt K J ∗ bigSep Finset.univ fun k : Fin 5 => axPost (F := F) d k)
      ⊢ (|={Set.univ}=> bigSep Finset.univ fun k : Fin 5 => iprop(semVal (cell d (kAxs k)) 0 ∗ semVal (cell d (kAxr k)) 0 ∗ holdsAny (F := F) amaxM (amaxR (k8 k)) d) : sProp 𝕄) := by
  refine upd_with (R := Ctx X Wt K J) fun k _ => ?_
  unfold axPost
  iintro ⟨#HC, H1, H2, H3⟩
  imod (close_cell (X := X) (Wt := Wt) (K := K) (J := J) d (kAxs k) 1 (last_ax false k)) $$ [H1] with H1
  · isplitr; · iexact HC
    iexact H1
  imod (close_cell (X := X) (Wt := Wt) (K := K) (J := J) d (kAxr k) 1 (last_ax true k)) $$ [H2] with H2
  · isplitr; · iexact HC
    iexact H2
  imodintro
  isplitl [H1]; · iexact H1
  isplitl [H2] <;> iassumption

/-- The scoped semaphores of a device, ring by ring. -/
theorem sems_split (d : Dev nD) (S R : Fin 4 → sProp 𝕄) (hS : S = fun r => bigSep Finset.univ fun σ => semVal (cell d (kSend r σ)) 0) (hR : R = fun r => bigSep Finset.univ fun σ => semVal (cell d (kRecv r σ)) 0) :
    (bigSep Finset.univ fun k : CK => semVal (cell d (.inl k)) 0 : sProp 𝕄)
      = iprop(((S 0 ∗ S 1 ∗ S 2 ∗ S 3) ∗ (R 0 ∗ R 1 ∗ R 2 ∗ R 3))
        ∗ ((bigSep Finset.univ fun k => semVal (cell d (kAxs k)) 0) ∗ (bigSep Finset.univ fun k => semVal (cell d (kAxr k)) 0))
        ∗ (bigSep Finset.univ fun k => semVal (cell d (kStore k)) 0)
        ∗ (semVal (cell d (kCredit 0)) 0 ∗ semVal (cell d (kCredit 1)) 0 ∗ semVal (cell d (kCredit 2)) 0 ∗ semVal (cell d (kCredit 3)) 0)) := by
  rw [ck_split, ← four S, ← four R, ← four fun r => semVal (cell d (kCredit r)) 0, hS, hR]

theorem finish (d : Dev nD) :
    iprop(Ctx X Wt K J ∗ runPost X Wt d ∗ amaxIdle (F := F) d)
      ⊢ (|={Set.univ}=> iprop(stgs X Wt d ∗ ow d 0 ∗ outDone X Wt d ∗ (bigSep Finset.univ fun k : CK => semVal (cell d (.inl k)) 0) ∗ semVal (cell d kBar) 0
          ∗ Pipeline.scopedRest (Ix := ℕ) (Name := ℕ) (U := UU) (Lvl := ℕ) (Val := Elt F) cfg0.spec d) : sProp 𝕄) := by
  unfold runPost stSt
  iintro ⟨#HC, ⟨Hst, ⟨B0, B1, B2, B3⟩, ⟨G0, G1, G2, G3⟩, ⟨Hp, -, -, Hout⟩, Hcur, Hax, Hm, Hbar, Ho⟩, Hidle⟩
  imod (finish_ring (X := X) (Wt := Wt) (K := K) (J := J) d 0) $$ [G0] with ⟨S0, R0, C0, A0⟩
  · isplitr; · iexact HC
    iexact G0
  imod (finish_ring (X := X) (Wt := Wt) (K := K) (J := J) d 1) $$ [G1] with ⟨S1, R1, C1, A1⟩
  · isplitr; · iexact HC
    iexact G1
  imod (finish_ring (X := X) (Wt := Wt) (K := K) (J := J) d 2) $$ [G2] with ⟨S2, R2, C2, A2⟩
  · isplitr; · iexact HC
    iexact G2
  imod (finish_ring (X := X) (Wt := Wt) (K := K) (J := J) d 3) $$ [G3] with ⟨S3, R3, C3, A3⟩
  · isplitr; · iexact HC
    iexact G3
  imod (finish_ax (X := X) (Wt := Wt) (K := K) (J := J) d) $$ [Hax] with Hax
  · isplitr; · iexact HC
    iexact Hax
  imod (close_all (X := X) (Wt := Wt) (K := K) (J := J) d kStore 32 last_store) $$ [Hp] with Hp
  · isplitr; · iexact HC
    iexact Hp
  imod (close_cell (X := X) (Wt := Wt) (K := K) (J := J) d kBar 1 (le_refl 1)) $$ [Hbar] with Hbar
  · isplitr; · iexact HC
    iexact Hbar
  imodintro
  ihave Hax := (Entails.of_eq ((bigSep_sep' _ _ _).trans (congrArg _ (bigSep_sep' _ _ _)))) $$ Hax
  icases Hax with ⟨X1, X2, X3⟩
  isplitl [Hst]; · iexact Hst
  isplitl [Ho]; · iexact Ho
  isplitl [Hout]; · unfold outDone; iapply (out_close (X := X) (Wt := Wt) d) $$ Hout
  isplitl [S0 S1 S2 S3 R0 R1 R2 R3 C0 C1 C2 C3 X1 X2 Hp]
  · iapply (Entails.of_eq (sems_split (F := F) d _ _ rfl rfl).symm)
    isplitl [S0 S1 S2 S3 R0 R1 R2 R3]
    · isplitl [S0 S1 S2 S3]
      · isplitl [S0]; · iexact S0
        isplitl [S1]; · iexact S1
        isplitl [S2]; · iexact S2
        iexact S3
      isplitl [R0]; · iexact R0
      isplitl [R1]; · iexact R1
      isplitl [R2]; · iexact R2
      iexact R3
    isplitl [X1 X2]
    · isplitl [X1] <;> iassumption
    isplitl [Hp]; · iexact Hp
    isplitl [C0]; · iexact C0
    isplitl [C1]; · iexact C1
    isplitl [C2]; · iexact C2
    iexact C3
  isplitl [Hbar]; · iexact Hbar
  iapply (scratch_close (F := F) d)
  isplitl [Hcur]; · iexact Hcur
  isplitl [B0 B1 B2 B3 A0 A1 A2 A3]
  · isplitl [B0 A0]; · isplitl [B0] <;> iassumption
    isplitl [B1 A1]; · isplitl [B1] <;> iassumption
    isplitl [B2 A2]; · isplitl [B2] <;> iassumption
    isplitl [B3] <;> iassumption
  isplitl [X3]; · iexact X3
  isplitl [Hm]; · unfold amaxOwn; iexact Hm
  iexact Hidle

end Run

end Cert.Proof
-- ==== Proof.Ready.lean ====
module
public import proofs.«01_k».proof.Proof.Deal
public import proofs.«01_k».proof.Proof.Finish

/-! What every device's run starts from, out of the launch. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run
variable {X : Dev nD → (cc0_stg0_0 : Ref sig .tc).ty.Contents (Elt F)} {Wt : Dev nD → (cc0_stg1_0 : Ref sig .tc).ty.Contents (Elt F)}
variable {K : Dev nD × Knd → ℕ} {J : Key → ℕ}

/-! ## The credits a device starts with -/

theorem cred_ring (r : Fin 4) (d : Dev nD) :
    (Pipeline.launchCred (fun d => dues d r 0 0) d : sProp 𝕄)
      ⊢ iprop((bigSep (Finset.Ico 0 62) fun t => cred (tallyAt (cell d (kRecv r (rslot t))) t (amtM t)))
        ∗ bigSep (Finset.Ico 0 55) fun m => cred (tallyAt (cell d (kCredit r)) m 1)) := by
  unfold dues
  rw [Pipeline.launchCred_add (fun d => ∑ t ∈ Finset.Ico 0 62, tallyAt (cell (rightD d) (kRecv r (rslot t))) t (amtM t)) (fun d => ∑ m ∈ Finset.Ico 0 55, tallyAt (cell (leftD d) (kCredit r)) m 1),
    Pipeline.launchCred_sum (Finset.Ico 0 62) (fun t d => tallyAt (cell (rightD d) (kRecv r (rslot t))) t (amtM t)),
    Pipeline.launchCred_sum (Finset.Ico 0 55) (fun m d => tallyAt (cell (leftD d) (kCredit r)) m 1)]
  exact BIClass.sep_mono
    (bigSep_mono' fun t _ => Pipeline.launchCred_tallyAt (semOf (kRecv r (rslot t))) rightD leftD right_left left_right t (amtM t) d)
    (bigSep_mono' fun m _ => Pipeline.launchCred_tallyAt (semOf (kCredit r)) leftD rightD left_right right_left m 1 d)

theorem cred_ax (k : Fin 5) (d : Dev nD) :
    (Pipeline.launchCred (fun d => axDue d k) d : sProp 𝕄) ⊢ cred (tallyAt (cell d (kAxr k)) 0 NX) :=
  Pipeline.launchCred_tallyAt (semOf (kAxr k)) (partner k) (partner k) (partner_partner k) (partner_partner k) 0 NX d

def credR (d : Dev nD) (r : Fin 4) : sProp 𝕄 :=
  iprop((bigSep (Finset.Ico 0 62) fun t => cred (tallyAt (cell d (kRecv r (rslot t))) t (amtM t)))
    ∗ bigSep (Finset.Ico 0 55) fun m => cred (tallyAt (cell d (kCredit r)) m 1))

theorem creds (d : Dev nD) :
    (Pipeline.launchCred allOwed d : sProp 𝕄)
      ⊢ iprop((bigSep Finset.univ fun r => credR (F := F) d r) ∗ (bigSep Finset.univ fun k => cred (tallyAt (cell d (kAxr k)) 0 NX)) ∗ cred (tallyAt (cell d kBar) 0 2)) := by
  have e : (Pipeline.launchCred allOwed d : sProp 𝕄)
      = iprop(((((((Pipeline.launchCred (fun d => axDue d 0) d ∗ Pipeline.launchCred (fun d => axDue d 1) d) ∗ Pipeline.launchCred (fun d => axDue d 2) d) ∗ Pipeline.launchCred (fun d => axDue d 3) d) ∗ Pipeline.launchCred (fun d => axDue d 4) d)
        ∗ (((Pipeline.launchCred (fun d => dues d 0 0 0) d ∗ Pipeline.launchCred (fun d => dues d 1 0 0) d) ∗ Pipeline.launchCred (fun d => dues d 2 0 0) d) ∗ Pipeline.launchCred (fun d => dues d 3 0 0) d))
        ∗ Pipeline.launchCred (fun d => tallyAt (cell (rightD d) kBar) 0 1) d) ∗ Pipeline.launchCred (fun d => tallyAt (cell (leftD d) kBar) 0 1) d) := by
    rw [← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add, ← Pipeline.launchCred_add]
    rfl
  have hbar : iprop(cred (tallyAt (cell d kBar) 0 1) ∗ cred (tallyAt (cell d kBar) 0 1)) ⊢ (cred (tallyAt (cell d kBar) 0 2) : sProp 𝕄) := by
    rw [show (tallyAt (cell d kBar) 0 2 : CellTallies nD τ sig ℕ) = tallyAt (cell d kBar) 0 1 + tallyAt (cell d kBar) 0 1 from (tallyAt_add (cell d kBar) 0 1 1).symm]
    exact (cred_add _ _).2
  rw [e, four (fun r => credR (F := F) d r), five (fun k => (cred (tallyAt (cell d (kAxr k)) 0 NX) : sProp 𝕄))]
  unfold credR
  iintro ⟨⟨⟨⟨⟨⟨⟨A0, A1⟩, A2⟩, A3⟩, A4⟩, ⟨⟨⟨R0, R1⟩, R2⟩, R3⟩⟩, B0⟩, B1⟩
  isplitl [R0 R1 R2 R3]
  · isplitl [R0]; · iapply (cred_ring (F := F) 0 d) $$ R0
    isplitl [R1]; · iapply (cred_ring (F := F) 1 d) $$ R1
    isplitl [R2]; · iapply (cred_ring (F := F) 2 d) $$ R2
    iapply (cred_ring (F := F) 3 d) $$ R3
  isplitl [A0 A1 A2 A3 A4]
  · isplitl [A0]; · iapply (cred_ax (F := F) 0 d) $$ A0
    isplitl [A1]; · iapply (cred_ax (F := F) 1 d) $$ A1
    isplitl [A2]; · iapply (cred_ax (F := F) 2 d) $$ A2
    isplitl [A3]; · iapply (cred_ax (F := F) 3 d) $$ A3
    iapply (cred_ax (F := F) 4 d) $$ A4
  ihave B0 := (Pipeline.launchCred_tallyAt (semOf kBar) rightD leftD right_left left_right 0 1 d) $$ B0
  ihave B1 := (Pipeline.launchCred_tallyAt (semOf kBar) leftD rightD left_right right_left 0 1 d) $$ B1
  iapply hbar
  isplitl [B0]; · iexact B0
  iexact B1

/-! ## What the run starts from -/

/-- The invariants and marks everyone knows. -/
def Ctx₀ (X : Dev nD → (cc0_stg0_0 : Ref sig .tc).ty.Contents (Elt F)) (Wt : Dev nD → (cc0_stg1_0 : Ref sig .tc).ty.Contents (Elt F)) (K : Dev nD × Knd → ℕ) (J : Key → ℕ) : sProp 𝕄 :=
  iprop((bigSep Finset.univ fun p : Dev nD × Knd => cellInv ER (Rd X Wt) (K p) (cell p.1 p.2))
    ∗ (bigSep Finset.univ fun p : Dev nD × Knd => reached ER (cell p.1 p.2) 0)
    ∗ (bigSep Finset.univ fun k : Key => Release.slotInv ES (J k) k (slotA (F := F) k)))
instance Ctx₀_persistent : BI.Persistent (Ctx₀ X Wt K J) := by unfold Ctx₀; infer_instance

theorem pos_zero {T : Type} [Fintype T] [DecidableEq T] (d : Dev nD) (ks : T → Knd) :
    iprop(Ctx X Wt K J ∗ bigSep Finset.univ fun σ => atPos ER (cell d (ks σ)) 0 ∅ 0) ⊢ posAll (F := F) d ks 0 := by
  unfold posAll
  refine sep_with fun σ _ => ?_
  rw [show cnt (ks σ) 0 = 0 by unfold cnt; rw [Finset.filter_false_of_mem fun x _ => Nat.not_lt_zero x]; rfl]
  iintro ⟨#HC, H⟩
  isplitl [H]; · iexact H
  iapply (ctx_zero (X := X) (Wt := Wt) (K := K) (J := J) d (ks σ)); iexact HC

def handR (d : Dev nD) (r : Fin 4) : sProp 𝕄 :=
  iprop(stayR (F := F) d r ∗ ((bigSep (Finset.Ico 0 62) fun t => Release.writeTok ES (mkey (rightD d) r t) (mcnt t))
      ∗ bigSep (Finset.Ico 0 62) fun t => dutyTok ER (cell (rightD d) (kRecv r (rslot t))) (cnt (kRecv r (rslot t)) t) t)
    ∗ (bigSep (Finset.Ico 0 55) fun m => dutyTok ER (cell (leftD d) (kCredit r)) 0 m) ∗ credR (F := F) d r)

theorem ring_ready (d : Dev nD) (r : Fin 4) : iprop(Ctx X Wt K J ∗ handR (F := F) d r) ⊢ ringIn X Wt d r := by
  unfold handR ringIn stayR credR rxSt txSt crIn
  simp only [bigSep_sep']
  iintro ⟨#HC, ⟨Pr, Ps, Ts, Rr, Pc⟩, ⟨Wr, Tr⟩, Tc, Cr, Cc⟩
  isplitl [Pr Cr]
  · isplitl [Pr]
    · iapply (pos_zero (X := X) (Wt := Wt) (K := K) (J := J) d (kRecv r))
      isplitr; · iexact HC
      iexact Pr
    iexact Cr
  isplitl [Ps Wr Ts Tr]
  · isplitl [Ps]
    · iapply (pos_zero (X := X) (Wt := Wt) (K := K) (J := J) d (kSend r))
      isplitr; · iexact HC
      iexact Ps
    isplitr; · rw [Finset.Ico_self, bigSep_empty]; iempintro
    isplitl [Wr]; · iexact Wr
    isplitl [Ts]; · iexact Ts
    iexact Tr
  isplitl [Rr]; · iexact Rr
  isplitl [Tc]; · iexact Tc
  isplitl [Pc]
  · iexists (∅ : Finset ℕ)
    isplitr; · ipureintro; exact ⟨Finset.empty_subset _, Nat.zero_le _⟩
    isplitl [Pc]; · iexact Pc
    rw [bigSep_empty]; iempintro
  iexact Cc

theorem store_ready (d : Dev nD) (f : Buf (Elt F) (outM.view.loc (d : Thread nD τ))) :
    iprop(Ctx X Wt K J ∗ stayS (F := F) d ∗ ((outM.view.loc (d : Thread nD τ)) ↦{fullShare} f)) ⊢ stSt X Wt d 0 0 := by
  unfold stayS stSt
  simp only [bigSep_sep']
  iintro ⟨#HC, ⟨Ps, Ts⟩, Hf⟩
  isplitl [Ps]
  · iapply (pos_zero (X := X) (Wt := Wt) (K := K) (J := J) d kStore)
    isplitr; · iexact HC
    iexact Ps
  isplitr; · rw [Finset.Ico_self, bigSep_empty]; iempintro
  isplitl [Ts Hf]
  · isplitl [Ts]; · iexact Ts
    iapply (out_open (F := F) d f) $$ Hf
  rw [Finset.range_zero, bigSep_empty]; iempintro

/-- Everything a device's run needs but its scratch buffers. -/
theorem run_ready (d : Dev nD) (f : Buf (Elt F) (outM.view.loc (d : Thread nD τ))) :
    iprop(Ctx X Wt K J ∗ hand (F := F) d ∗ Pipeline.launchCred allOwed d ∗ ((outM.view.loc (d : Thread nD τ)) ↦{fullShare} f))
      ⊢ iprop(runPre X Wt d ∗ stSt X Wt d 0 0) := by
  unfold hand stay toLeft toRight
  rw [five (fun k => toPart (F := F) k (partner k d))]
  unfold runPre
  iintro ⟨#HC, ⟨⟨SR, SX, SS, Pb⟩, ⟨LR, Tb0⟩, ⟨RR, Tb1⟩, PX⟩, Hcr, Hf⟩
  ihave Hcr := (creds (F := F) d) $$ Hcr
  icases Hcr with ⟨CR, CX, CB⟩
  ihave PX := (Entails.of_eq (five (fun k => toPart (F := F) k (partner k d))).symm) $$ PX
  ihave HR := (show iprop((bigSep Finset.univ fun r => stayR (F := F) d r)
      ∗ (bigSep Finset.univ fun r : Fin 4 => iprop((bigSep (Finset.Ico 0 62) fun t => Release.writeTok ES (mkey (rightD d) r t) (mcnt t))
          ∗ bigSep (Finset.Ico 0 62) fun t => dutyTok ER (cell (rightD d) (kRecv r (rslot t))) (cnt (kRecv r (rslot t)) t) t))
      ∗ (bigSep Finset.univ fun r : Fin 4 => bigSep (Finset.Ico 0 55) fun m => dutyTok ER (cell (leftD d) (kCredit r)) 0 m)
      ∗ (bigSep Finset.univ fun r => credR (F := F) d r)) ⊢ (bigSep Finset.univ fun r => handR (F := F) d r : sProp 𝕄) from
        Entails.of_eq (by unfold handR; simp only [bigSep_sep'])) $$ [SR LR RR CR]
  · isplitl [SR]; · iexact SR
    isplitl [LR]; · iexact LR
    isplitl [RR]; · iexact RR
    iexact CR
  ihave HR := (sep_with (R := Ctx X Wt K J) (Ψ := fun r => ringIn X Wt d r) fun r _ => ring_ready d r) $$ [HR]
  · isplitr; · iexact HC
    iexact HR
  ihave HR := (Entails.of_eq (four fun r => ringIn X Wt d r)) $$ HR
  isplitr [SS Hf]
  · isplitl [HR]; · iexact HR
    unfold stayX toPart axPre
    simp only [bigSep_sep']
    icases SX with ⟨P1, P2, T1, R1⟩
    icases PX with ⟨T2, W2⟩
    isplitl [P1 P2 T1 T2 W2 CX]
    · isplitl [P1]; · iexact P1
      isplitl [P2]; · iexact P2
      isplitl [T1]; · iexact T1
      isplitl [T2]; · iexact T2
      isplitl [W2]; · iexact W2
      iexact CX
    isplitl [R1]; · iexact R1
    isplitl [Pb]; · iexact Pb
    isplitl [Tb1]; · iexact Tb1
    isplitl [Tb0]; · iexact Tb0
    iexact CB
  iapply (store_ready (X := X) (Wt := Wt) (K := K) (J := J) d f)
  isplitr; · iexact HC
  isplitl [SS]; · iexact SS
  iexact Hf

/-! ## The semaphores' invariants -/

/-- What a device's ghost state becomes. -/
def G' (X : Dev nD → (cc0_stg0_0 : Ref sig .tc).ty.Contents (Elt F)) (Wt : Dev nD → (cc0_stg1_0 : Ref sig .tc).ty.Contents (Elt F)) (d : Dev nD) : sProp 𝕄 :=
  iprop(∃ K J, Ctx₀ X Wt K J ∗ hand (F := F) d)

theorem unscoped_bar (d : Dev nD) : (unscopedSems0 d : sProp 𝕄) = semVal (cell d kBar) 0 := by
  unfold unscopedSems0; rw [bigSep_eq_bigSepL_of_eq [SemLoc.reg barS] (by decide) (by decide)]; rfl
theorem own_sems (d : Dev nD) : (Pipeline.ownSems0 (Ix := ℕ) (Name := ℕ) (U := UU) (Lvl := ℕ) (Val := Elt F) (τ := τ) osem d : sProp 𝕄)
    = bigSep Finset.univ fun k : CK => semVal (cell d (.inl k)) 0 := rfl

theorem all_sems (d : Dev nD) :
    (bigSep Finset.univ fun k : Knd => (semVal (cell d k) 0 : sProp 𝕄))
      = iprop(Pipeline.ownSems0 (Ix := ℕ) (Name := ℕ) (U := UU) (Lvl := ℕ) (Val := Elt F) (τ := τ) osem d ∗ unscopedSems0 d) := by
  rw [own_sems, unscoped_bar, bigSep_univ_sum, unit_one]
  rfl

/-- What is left of a device's share when its semaphores' invariants are made. -/
def invd (X : Dev nD → (cc0_stg0_0 : Ref sig .tc).ty.Contents (Elt F)) (Wt : Dev nD → (cc0_stg1_0 : Ref sig .tc).ty.Contents (Elt F)) (d : Dev nD) : sProp 𝕄 :=
  iprop((bigSep Finset.univ fun k : Knd => iprop(∃ κ : ℕ, cellInv ER (Rd X Wt) κ (cell d k))) ∗ (bigSep Finset.univ fun k : Knd => reached ER (cell d k) 0)
    ∗ (bigSep Finset.univ fun s : SlotK => iprop(∃ ι : ℕ, Release.slotInv ES ι ((d, s) : Key) (slotA (F := F) (d, s)))) ∗ ownOf (F := F) d)

theorem make_invs (d : Dev nD) :
    iprop(Pipeline.ownSems0 (Ix := ℕ) (Name := ℕ) (U := UU) (Lvl := ℕ) (Val := Elt F) (τ := τ) osem d ∗ unscopedSems0 d ∗ deal0 X Wt d)
      ⊢ (|={Set.univ}=> invd X Wt d : sProp 𝕄) := by
  unfold deal0 invd
  iintro ⟨Ho, Hu, Hst, Hr, Hs, Hw⟩
  ihave Hv := (Entails.of_eq (all_sems (F := F) d).symm) $$ [Ho Hu]
  · isplitl [Ho] <;> iassumption
  imod (show iprop((bigSep Finset.univ fun k : Knd => semVal (cell d k) 0) ∗ bigSep Finset.univ fun k : Knd => roundState ER (Rd X Wt) (cell d k) 0)
      ⊢ (|={Set.univ}=> bigSep Finset.univ fun k : Knd => iprop(∃ κ : ℕ, cellInv ER (Rd X Wt) κ (cell d k)) : sProp 𝕄) from by
        rw [← bigSep_sep']
        exact (bigSep_mono fun k _ => (Rounds.body_intro ER (Rd X Wt) (cell d k)).trans inv_alloc).trans (bigSep_fupd _ _)) $$ [Hv Hst] with Hinv
  · isplitl [Hv] <;> iassumption
  imodintro
  isplitl [Hinv]; · iexact Hinv
  isplitl [Hr]; · iexact Hr
  isplitl [Hs]; · iexact Hs
  iexact Hw

theorem share_out : bigSep Finset.univ (invd X Wt) ⊢ bigSep Finset.univ (G' X Wt) := by
  have e : bigSep Finset.univ (invd X Wt) = iprop((bigSep Finset.univ fun p : Dev nD × Knd => iprop(∃ κ : ℕ, cellInv ER (Rd X Wt) κ (cell p.1 p.2)))
      ∗ (bigSep Finset.univ fun p : Dev nD × Knd => reached ER (cell p.1 p.2) 0)
      ∗ (bigSep Finset.univ fun k : Key => iprop(∃ ι : ℕ, Release.slotInv ES ι k (slotA (F := F) k))) ∗ bigSep Finset.univ (ownOf (F := F))) := by
    unfold invd
    rw [bigSep_sep', bigSep_sep', bigSep_sep', bigSep_univ_prod, bigSep_univ_prod, bigSep_univ_prod]
  rw [e]
  iintro ⟨HI, #HR, HS, Hw⟩
  ihave HK := (BI.bigSep_exists_pi Finset.univ (fun (p : Dev nD × Knd) (κ : ℕ) => (cellInv ER (Rd X Wt) κ (cell p.1 p.2) : sProp 𝕄))) $$ HI
  icases HK with ⟨%K, #HI⟩
  ihave HJ := (BI.bigSep_exists_pi Finset.univ (fun (k : Key) (ι : ℕ) => (Release.slotInv ES ι k (slotA (F := F) k) : sProp 𝕄))) $$ HS
  icases HJ with ⟨%J, #HS⟩
  ihave Hw := (around (F := F)) $$ Hw
  iapply (sep_with (R := Ctx₀ X Wt K J) (Φ := hand (F := F)) (Ψ := G' X Wt) fun d _ => show iprop(Ctx₀ X Wt K J ∗ hand (F := F) d) ⊢ G' X Wt d from by
    unfold G'; iintro H; iexists K, J; iexact H)
  isplitr
  · unfold Ctx₀
    isplitr; · iexact HI
    isplitr; · iexact HR
    iexact HS
  iexact Hw

/-- All the devices' semaphores at once. -/
theorem glob : (bigSep Finset.univ fun d => iprop(Pipeline.ownSems0 (Ix := ℕ) (Name := ℕ) (U := UU) (Lvl := ℕ) (Val := Elt F) (τ := τ) osem d ∗ unscopedSems0 d ∗ deal0 X Wt d) : sProp 𝕄)
    ⊢ |={Set.univ}=> bigSep Finset.univ (G' X Wt) :=
  ((bigSep_mono fun d _ => make_invs d).trans (bigSep_fupd _ _)).trans (BI.fupd_mono share_out)

end Run

end Cert.Proof
-- ==== Proof.BodyEq.lean ====
module
public import proofs.«01_k».proof.Proof.Pieces

/-! The printed body is the short program. -/

@[expose] public section
noncomputable section

namespace Cert.Proof
open Cert.KernelIdeal Cert.KernelIdeal.Gen
open Idealize.ShloMosaic Idealize.ShloMosaic.TcCoe
open Idealize.SL Idealize.SL.Sem

variable {F : FTy → Type} [FloatOps F]

set_option maxRecDepth 100000 in
set_option maxHeartbeats 0 in
theorem bodyAt0_eq (t : Fin cfg0.N) :
    (bodyAt0 t : Bd F PUnit) = mainProg (win0_0.stage (cfg0.slots t 0)) (win0_1.stage (cfg0.slots t 1)) := rfl

end Cert.Proof
-- ==== Proof.Launch.lean ====
module
public import proofs.«01_k».proof.Proof.Ready
public import proofs.«01_k».proof.Proof.BodyEq
public import Idealize.ShloMosaic.Lib.Pipeline.CollectiveSegs

/-! The whole machine's run. -/

@[expose] public section
set_option maxRecDepth 100000
noncomputable section

namespace Cert.Proof
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- Device `d`'s block of `x`, and of `w`. -/
def xIn (d : Dev nD) : (cc0_stg0_0 : Ref sig .tc).ty.Contents (Elt F) :=
  (win0_0.blk (0 : Fin 1)).view.read (Elt F) (m ((d : Thread nD τ).loc main_arg0))
/-- The block of `w` device `d` stages. -/
def wIn (d : Dev nD) : (cc0_stg1_0 : Ref sig .tc).ty.Contents (Elt F) :=
  (win0_1.blk (0 : Fin 1)).view.read (Elt F) (m ((d : Thread nD τ).loc main_arg1))

/-! ## The proof data -/

/-- The launch has one point, … -/
theorem cfg0_N : cfg0.N = 1 := by decide
def t₀ : Fin cfg0.N := ⟨0, by rw [cfg0_N]; decide⟩
/-- … so any point is that one. -/
theorem fin_N (t : Fin cfg0.N) : t = t₀ := by
  obtain ⟨t, ht⟩ := t; have := cfg0_N; exact Fin.ext (by simp only [t₀]; omega)

/-- What a device starts from. -/
def start (d : Dev nD) : sProp 𝕄 :=
  iprop(∃ K J, Ctx (xIn m) (wIn m) K J ∗ runPre (xIn m) (wIn m) d ∗ stSt (xIn m) (wIn m) d 0 0)
def Φ₀ (d : Dev nD) : sProp 𝕄 :=
  iprop(start m d ∗ Pipeline.scopedRest (Ix := ℕ) (Name := ℕ) (U := UU) (Lvl := ℕ) (Val := Elt F) cfg0.spec d)
/-- What it ends with. -/
def Φ₁ (d : Dev nD) : sProp 𝕄 :=
  iprop(outDone (xIn m) (wIn m) d ∗ (bigSep Finset.univ fun k : CK => semVal (cell d (.inl k)) 0) ∗ semVal (cell d kBar) 0
    ∗ Pipeline.scopedRest (Ix := ℕ) (Name := ℕ) (U := UU) (Lvl := ℕ) (Val := Elt F) cfg0.spec d)

def dats (_ : Fin 1) (d : Dev nD) : Dat τ (Elt F) ℕ ℕ UU ℕ cfg0 d where
  A w := m ((cfg0.win w).arr.view.loc (d : Thread nD τ))
  after w _ := match w with
    | ⟨0, _⟩ => xIn m d
    | ⟨1, _⟩ => wIn m d
  Φ t := match t with
    | ⟨0, _⟩ => Φ₀ m d
    | ⟨_ + 1, _⟩ => Φ₁ m d
  q _ := fullShare
  owed t := match t with
    | ⟨0, _⟩ => allOwed d
    | ⟨_ + 1, _⟩ => 0

/-- A conjunction over the two windows. -/
theorem over_windows (Φ : Fin cfg0.W → sProp 𝕄) : bigSep Finset.univ Φ = iprop(Φ (0 : Fin 2) ∗ Φ (1 : Fin 2)) := bigSep_W0 Φ
/-- The first window is fetched. -/
theorem fetch_0 (t : Fin cfg0.N) : (cfg0.win (0 : Fin 2)).fetch t = true := by rw [fin_N t]; rfl
/-- The second window is fetched. -/
theorem fetch_1 (t : Fin cfg0.N) : (cfg0.win (1 : Fin 2)).fetch t = true := by rw [fin_N t]; rfl

/-- A staging buffer, whole, at known contents. -/
def staged (d : Dev nD) (b : Ref sig .tc) (V : b.ty.Contents (Elt F)) : sProp 𝕄 :=
  iprop(∃ f : Buf (Elt F) ((d : Thread nD τ).loc b), ⌜f = V⌝ ∗ (((d : Thread nD τ).loc b) ↦{fullShare} f))
theorem owns_staged (d : Dev nD) (b : Ref sig .tc) (V : b.ty.Contents (Elt F)) :
    (owns (Ix := ℕ) (Name := ℕ) (U := UU) (Lvl := ℕ) (d : Thread nD τ) (Memref.whole b) fullShare V : sProp 𝕄) = staged d b V := by
  unfold owns staged; simp only [Memref.view_whole, View.read_whole, View.set_whole]

/-- What the body is given and what it gives. -/
def bodyPre (d : Dev nD) : sProp 𝕄 :=
  iprop(Φ₀ m d ∗ (dats m 0 d).owesAt 0 t₀.castSucc
    ∗ (∃ v, staged d cc0_stg0_0 ((dats m 0 d).before (0 : Fin 2) t₀ v)) ∗ (∃ v, staged d cc0_stg1_0 ((dats m 0 d).before (1 : Fin 2) t₀ v)))
def bodyPost (d : Dev nD) : sProp 𝕄 :=
  iprop(Φ₁ m d ∗ (dats m 0 d).owesAt 0 t₀.succ ∗ staged d cc0_stg0_0 (xIn m d) ∗ staged d cc0_stg1_0 (wIn m d))

theorem body_run (d : Dev nD) :
    bodyPre m d ⊢ wpD d (mainProg (Memref.whole cc0_stg0_0) (Memref.whole cc0_stg1_0)) fun _ => bodyPost m d := by
  unfold bodyPre Φ₀ start staged
  iintro ⟨⟨⟨%K, %J, #HC, Hpre, Hst⟩, Hsc⟩, Ho, ⟨%v0, %g0, %hg0, H0⟩, ⟨%v1, %g1, %hg1, H1⟩⟩
  have h0 : g0 = xIn m d := by rw [hg0]; unfold Dat.before; rw [if_pos (fetch_0 t₀)]; rfl
  have h1 : g1 = wIn m d := by rw [hg1]; unfold Dat.before; rw [if_pos (fetch_1 t₀)]; rfl
  subst h0 h1
  ihave Hsc := (scratch_open (F := F) d) $$ Hsc
  icases Hsc with ⟨Hbuf, Hown, Hidle⟩
  unfold Dat.owesAt Pipeline.owesWithin
  icases Ho with ⟨%W, -, Ho⟩
  iapply (run_wp (X := xIn m) (Wt := wIn m) (K := K) (J := J) d) $$ [Hpre Hst Hbuf Hown Ho H0 H1]
  · isplitr; · iexact HC
    isplitl [Hpre]; · iexact Hpre
    isplitl [Hbuf]; · iexact Hbuf
    isplitl [Hown]; · unfold amaxOwn; iexact Hown
    isplitl [Hst]; · iexact Hst
    isplitl [H0 H1]
    · unfold stgs
      isplitl [H0] <;> iassumption
    unfold ow
    iexists W; iexact Ho
  iintro Hpost
  iapply fupd_wp
  imod (finish (X := xIn m) (Wt := wIn m) (K := K) (J := J) d) $$ [Hpost Hidle] with ⟨Hstg, Ho, Hout, Hsem, Hbar, Hsc⟩
  · isplitr; · iexact HC
    isplitl [Hpost] <;> iassumption
  imodintro
  rw [wp_ret]; imodintro
  unfold bodyPost Φ₁ Dat.owesAt Pipeline.owesWithin ow stgs staged
  rw [show (dats m 0 d).owed t₀.succ = 0 from rfl]
  icases Ho with ⟨%W', Ho⟩
  icases Hstg with ⟨H0, H1⟩
  isplitl [Hout Hsem Hbar Hsc]
  · isplitl [Hout]; · iexact Hout
    isplitl [Hsem]; · iexact Hsem
    isplitl [Hbar] <;> iassumption
  isplitl [Ho]
  · iexists W'
    isplitr; · ipureintro; exact fun _ _ => Or.inl trivial
    iexact Ho
  isplitl [H0]
  · iexists _; isplitr; · (ipureintro; rfl)
    iexact H0
  iexists _; isplitr; · (ipureintro; rfl)
  iexact H1

theorem body_is (t : Fin cfg0.N) : defs₀ (F := F) .tc cfg0.body (cfg0.bodyArgs t (cfg0.slots t)) = bodyAt0 t := rfl

theorem body_obligation (d : Dev nD) : BodyObligation (dats (F := F) m 0 d) (defs₀ (F := F)) 𝒱₀ 0 Set.univ := fun t => by
  rw [fin_N t]
  rw [over_windows, over_windows]
  rw [body_is, bodyAt0_eq]
  simp only [owns_staged]
  rw [show stage0_0 0 = Memref.whole cc0_stg0_0 from rfl, show stage0_1 0 = Memref.whole cc0_stg1_0 from rfl]
  have h := body_run m d
  generalize (mainProg (F := F) (Memref.whole cc0_stg0_0) (Memref.whole cc0_stg1_0)) = p at h ⊢
  exact h

/-! ## The launch -/

theorem ownSemFacts : Pipeline.OwnSemFacts cfg0.spec osem :=
  ⟨by decide +kernel, fun k k' h => Sum.inl.inj (semOf_inj (.inl k) (.inl k') h), by decide +kernel⟩
theorem share_eq (d : Dev nD) (w : Fin cfg0.W) : (dats m 0 d).share w = fullShare := by unfold Dat.share; split <;> rfl

def u₀ : UU := (initOf (Pipeline.cells cfgs cellOf_inj) (Pipeline.launchToks cfgs cellOf_inj), ghost₀)

theorem start_intro (d : Dev nD) :
    iprop(Pipeline.unscopedRestP Pipeline.Prefetch.none cfg0.spec d (fun b => m ((d : Thread nD τ).loc b)) ∗ levAts L lv
        ∗ Pipeline.launchCred allOwed d ∗ prngReg d (ρ d) ∗ G' (xIn m) (wIn m) d)
      ⊢ (|={Set.univ}=> iprop(start m d ∗ emp) : sProp 𝕄) := by
  rw [Pipeline.unscopedRestP_none, unscopedRest0_eq]
  unfold G'
  iintro ⟨Hf, #Hlev, Hcr, -, ⟨%K, %J, #HC, Hh⟩⟩
  imodintro
  isplitl
  · unfold start
    iexists K, J
    ihave #HX := (show iprop(Ctx₀ (xIn m) (wIn m) K J ∗ levAts L lv) ⊢ Ctx (xIn m) (wIn m) K J from by
      unfold Ctx₀ Ctx; iintro ⟨⟨H1, H2, H3⟩, H4⟩
      isplitl [H1]; · iexact H1
      isplitl [H2]; · iexact H2
      isplitl [H3] <;> iassumption) $$ []
    · isplitr; · iexact HC
      iexact Hlev
    isplitr; · iexact HX
    iapply (run_ready (X := xIn m) (Wt := wIn m) (K := K) (J := J) d (m ((d : Thread nD τ).loc main_v1)))
    isplitr; · iexact HX
    isplitl [Hh]; · iexact Hh
    isplitl [Hcr]; · iexact Hcr
    iexact Hf
  · iempintro

theorem phi_in (d : Dev nD) :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl]
  unfold Φ₀
  iintro ⟨Hs, -, Hr⟩
  isplitl [Hs] <;> iassumption

theorem phi_out (d : Dev nD) :
    (dats m 0 d).Φ (Fin.last cfg0.N) ⊢ iprop((outDone (xIn m) (wIn m) d ∗ unscopedSems0 d) ∗ Pipeline.ownSems0 osem d ∗ Pipeline.scopedRest cfg0.spec d) := by
  rw [show (dats m 0 d).Φ (Fin.last cfg0.N) = Φ₁ m d from rfl, own_sems, unscoped_bar]
  unfold Φ₁
  iintro ⟨Ho, Hs, Hb, Hr⟩
  isplitl [Ho Hb]
  · isplitl [Ho] <;> iassumption
  isplitl [Hs] <;> iassumption

theorem allOwed_above (d : Dev nD) : Above 0 (allOwed d) := by
  unfold allOwed
  exact ((((axOwed_above d).mono (by omega)).add ((ringsOwed_above d).mono (by omega))).add
    (Above.tally _ kBar 0 1 (by decide) (by decide))).add (Above.tally _ kBar 0 1 (by decide) (by decide))

theorem stage_free (s : SemLoc sig) (h : ∀ k, semOf k ≠ s) : kndOf s = none := by
  unfold kndOf; rw [dif_neg fun ⟨k, hk⟩ => h k hk]

theorem wait_stage (d : Dev nD) (q : DmaSem sig) (hq : ∀ k, semOf k ≠ .dma q) (O : CellTallies nD τ sig ℕ) (hO : O = allOwed d ∨ O = 0) :
    (levAts L lv : sProp 𝕄) ⊢ MayWait (d : Thread nD τ) (.dma q) 0 O := by
  rcases hO with rfl | rfl
  · exact MayOwe.of_cut (L := L) (lev := lv) 0
      (fun p hp => by rw [Finset.mem_singleton.mp hp]; unfold L; rw [if_pos rfl, stage_free _ hq]; exact Finset.mem_singleton_self _)
      (fun g u hg => (allOwed_above d g u hg).1)
      (fun p hp => by rw [Finset.mem_singleton.mp hp]; unfold lv; rw [stage_free _ hq])
      (fun g u hg => (allOwed_above d g u hg).2)
  · rw [MayWait_zero]; iintro -; iempintro

set_option maxRecDepth 100000 in
theorem waits (d : Dev nD) : (levAts L lv : sProp 𝕄) ⊢ Pipeline.cellsWaits cfgs (dats m) 0 0 d :=
  Pipeline.cellsWaits_intro cfgs (dats m) 0 0 d fun w s t =>
    wait_stage d _ (by fin_cases w <;> fin_cases s <;> decide +kernel) _ (by
      rcases t with ⟨_ | _, ht⟩
      · exact Or.inl rfl
      · exact Or.inr rfl)

/-- What the final state of device `d` is: its result is written chunk by chunk, and its free semaphores are at zero. -/
def QY (d : Dev nD) (s : MemSt nD τ sig (Elt F)) : Prop :=
  (∀ (n : Fin 32) x, outM.view.read (Elt F) (s.mem (outM.view.loc (d : Thread nD τ))) ((outR d n.val).emb x) = outVal (xIn m) (wIn m) d n.val x)
    ∧ ∀ sm : SemLoc sig, sm.isScoped .tc = false → s.sem ((d.tc : Thread nD τ), sm) = 0

theorem read_out (d : Dev nD) (s' : Phys nD τ sig (Elt F)) :
    iprop((outDone (xIn m) (wIn m) d ∗ unscopedSems0 d) ∗ emp ∗ SI s') ⊢ (|={Set.univ}=> iprop(⌜QY m d s'.mem⌝ ∗ SI s') : sProp 𝕄) := by
  unfold outDone
  iintro ⟨⟨⟨%f, %hf, Hf⟩, Hu⟩, -, HSI⟩
  ihave %h := (SI_pointsTo_agree (st := s') (ℓ := outM.view.loc (d : Thread nD τ)) (I := Finset.univ) (q := fullShare) (f := f)) $$ [Hf HSI]
  · isplitl [HSI] <;> iassumption
  have hm : s'.mem.mem (outM.view.loc (d : Thread nD τ)) = f := funext fun i => h i (Finset.mem_univ i)
  imod (Pipeline.unscopedSems0_read (X := unscopedSems0 d) (c := d) fupd_intro s') $$ [Hu HSI] with ⟨%hs, HSI⟩
  · isplitl [Hu] <;> iassumption
  imodintro
  isplitr
  · ipureintro
    refine ⟨fun n x => ?_, hs⟩
    rw [hm]; exact hf n x
  iexact HSI

/-- The run's outcome: every device's result written chunk by chunk, its inputs as they were, every semaphore at zero. -/
def Good : PUnit × MemSt nD τ sig (Elt F) → Prop := fun r =>
  (∀ d : Dev nD, (∀ w : Fin cfg0.W, r.2.mem ((cfg0.win w).arr.view.loc (d : Thread nD τ)) = m ((cfg0.win w).arr.view.loc (d : Thread nD τ)))
    ∧ ∀ (n : Fin 32) x, outM.view.read (Elt F) (r.2.mem (outM.view.loc (d : Thread nD τ))) ((outR d n.val).emb x) = outVal (xIn m) (wIn m) d n.val x)
  ∧ r.2.sem = fun _ => 0

/-- The two arguments' arrays are kept. -/
theorem arr_kept (d : Dev nD) (w : Fin cfg0.W) : (dats (F := F) m 0 d).arrAt w cfg0.N = m ((cfg0.win w).arr.view.loc (d : Thread nD τ)) := by
  fin_cases w
  · exact (dats (F := F) m 0 d).arrAt_in (0 : Fin 2) rfl _
  · exact (dats (F := F) m 0 d).arrAt_in (1 : Fin 2) rfl _

set_option maxHeartbeats 1000000 in
/-- From any memory with zero counters, every weakly fair execution of the program on all devices terminates, with the outcome above. -/
theorem run_main : θ_run defs (onTc (τ := τ) (main (F := F))) (s₀ m ρ) (Good m) := by
  refine Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := ?hmain)
    (hbody := ?hbody) (hne := fun w => by fin_cases w <;> exact Nat.succ_pos _) (harr := arr_whole0) (hstage := stage_whole0) (hshare := share_eq m)
    (hdistinct := winFacts0.arr_inj)
    (O₀ := allOwed) (howed₀ := ?h0) (howedN := ?hN)
    (L := L) (lv := lv) (hL := L_of_ne) (hwaits := ?hwaits)
    (G := deal0 (xIn m) (wIn m)) (G' := G' (xIn m) (wIn m)) (u₀ := u₀)
    (hu₀ := ?hu) (hglob := ?hglob)
    (hA := ?hA) (hpf := fun _ k => k.elim0)
    (X := start m) (Y := fun d => iprop(outDone (xIn m) (wIn m) d ∗ unscopedSems0 d)) (Z := fun _ => iprop(emp))
    (hX := ?hX) (hin := ?hin) (hout := ?hout)
    (QY := QY m) (hY := ?hY) (hQ := ?hQ)
  case hmain => exact fun _ => rfl
  case hbody => exact fun c => (body_obligation m c).loose
  case h0 => exact fun _ => rfl
  case hN => exact fun _ => rfl
  case hwaits => exact waits m
  case hu =>
    unfold u₀
    iintro Hu
    ihave H := (ownU_pair _ _) $$ Hu
    icases H with ⟨HP, HX⟩
    imod (deal (X := xIn m) (Wt := wIn m)) $$ HX with HG
    imodintro
    isplitl [HP] <;> iassumption
  case hglob => exact glob
  case hA => exact fun _ _ => rfl
  case hX => exact start_intro m ρ
  case hin => exact phi_in m
  case hout => exact phi_out m
  case hY => exact read_out m
  case hQ => exact fun _ h hs => ⟨fun d => ⟨fun w => ((h d).1 w).trans (arr_kept m d w), (h d).2.2.1⟩, sem_eq_zero hs fun d => (h d).2.2.2⟩

end Cert.Proof
-- ==== Proof.Frames.lean ====
module
public import proofs.«01_k».proof.Proof.Launch
public import proofs.«01_k».proof.Defs
public import proofs.«01_k».proof.Proof.Gen.Kernel
public import proofs.«01_k».proof.Proof.Gen.ReferenceIdeal.Run
public import Idealize.ShloMosaic.Init

/-! The frames: the runs with the results' contents forgotten. -/

@[expose] public section
noncomputable section

namespace Cert.Proof
open Idealize.ShloMosaic Idealize.SL.Sem

/-- What both frames say, over any float values. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1 (0 : Fin 2), (h.1 c).1 (1 : Fin 2)⟩, h.2⟩) (run_main (F := F) m g)

/-- The idealized kernel terminates without a fault, keeps its arguments and leaves every counter at zero. -/
theorem frame_kernelIdeal : Cert.quiescent_KernelIdeal := fun m g _ => frame_any m g

section Same
set_option maxRecDepth 100000
set_option maxHeartbeats 0
variable {F : FTy → Type} [FloatOps F]

/-- The two texts are the same: their bodies, … -/
theorem body_same : @Cert.Kernel.cc0_body F _ _ = @Cert.KernelIdeal.cc0_body F _ _ := rfl
/-- … their body tables, … -/
theorem bodies_same : @Cert.Kernel.defs₀ F _ _ = @Cert.KernelIdeal.defs₀ F _ _ := by
  refine funext fun p => ?_
  cases p with
  | tc =>
    refine funext fun ℓ => funext fun a => ?_
    obtain ⟨n, hn⟩ := ℓ
    cases n with
    | zero => obtain ⟨t, s⟩ := a; rfl
    | succ n => exact absurd hn (by omega)
  | scScalar _ => rfl
  | scVector _ _ => rfl
/-- … and their tables with the pipelines'. -/
theorem defs_same : @Cert.Kernel.defs F _ _ = @Cert.KernelIdeal.defs F _ _ :=
  congrArg (fun D => Pipeline.defs (Cert.KernelIdeal.pcfgs (F := F)) D) bodies_same

/-- So does the kernel: its text is the same. -/
theorem frame_kernel : Cert.quiescent_Kernel := fun m g _ => by
  have h := frame_any (F := Bits) m g
  rw [← defs_same] at h
  exact h
end Same

/-- The reference terminates without a fault and keeps its arguments; it declares no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof
-- ==== Proof.Sums.lean ====
module
public import proofs.«01_k».proof.Proof.Values
public import Idealize.ShloMosaic.Lib.ValueLayout
public import Idealize.ShloMosaic.Lib.ValueIdx
public import Idealize.ShloMosaic.PureOps.Ideal.Laws

/-! The reduced chunk in exact arithmetic: a sum over the devices. -/

@[expose] public section
set_option maxRecDepth 100000
noncomputable section

namespace Cert.Proof
open Cert.KernelIdeal Cert.KernelIdeal.Gen
open Idealize.ShloMosaic Idealize.ShloMosaic.TcCoe Idealize.ShloMosaic.ValueIdx
open scoped BigOperators

/-- Row `a` of chunk `c` (modulo 32), as a row of the whole. -/
def rowAt (c : ℕ) (a : Fin 128) : Fin 4096 := ⟨128 * (c % 32) + a.val, by omega⟩
/-- Row `a` of ring `r`, as a row of the chunk. -/
def ringRow (r : Fin 4) (a : Fin 32) : Fin 128 := ⟨32 * r.val + a.val, by omega⟩

/-- Index `(u, a, j)` of ring `r`'s rows is `(u, 32 r + a, j)` of the chunk. -/
theorem rowIx_ix3 (r : Fin 4) (u : Fin 1) (a : Fin 32) (j : Fin 8192) : rowIx r (ix3 u a j) = ix3 u (ringRow r a) j := by
  funext b
  refine Fin.ext ?_
  rw [rowIx_val]
  match b with
  | ⟨0, _⟩ => exact Nat.zero_add _
  | ⟨1, _⟩ => rfl
  | ⟨2, _⟩ => exact Nat.zero_add _

/-- Every row of a chunk is a row of one of its rings. -/
theorem ringRow_surj (a : Fin 128) : ∃ r b, ringRow r b = a :=
  ⟨⟨a.val / 32, by omega⟩, ⟨a.val % 32, by omega⟩, Fin.ext (Nat.div_add_mod _ 32)⟩

/-! ## Where the chunks are -/

/-- The left neighbour is one back around the ring. -/
theorem left_val : ∀ d : Dev nD, (leftD d).val = (d.val + 31) % 32 := by decide +kernel
/-- Going back `n` steps, modulo 32. -/
theorem back_val (n : ℕ) : ∀ d : Dev nD, (back n d).val = (d.val + 31 * n) % 32 := by
  induction n with
  | zero => intro d; show d.val = _; have : d.val < 32 := d.isLt; omega
  | succ n ih => intro d; show (back n (leftD d)).val = _; rw [ih, left_val]; omega

/-- The first product's rows: the device's own chunk. -/
theorem off1_at : ∀ d : Dev nD, k0_off1 d = ![128 * (d.val % 32), 0] := by decide +kernel
/-- Step `t`'s rows: the chunk `t + 1` back. -/
theorem off2_at : ∀ (d : Dev nD) (t : Fin 31), k0_off2 d (BitVec.ofNat 32 t.val) = ![128 * ((d.val + 31 * (t.val + 1)) % 32), 0] := by decide +kernel

/-! ## The products -/

section Run
variable (X : Dev nD → (cc0_stg0_0 : Ref sig .tc).ty.Contents (Elt Ideal)) (Wt : Dev nD → (cc0_stg1_0 : Ref sig .tc).ty.Contents (Elt Ideal))

/-- Entry `(i, k)` of device `d`'s block of `x`. -/
def xAt (d : Dev nD) (i : Fin 4096) (k : Fin 128) : EReal := X d (ix2 i k)
/-- Entry `(k, j)` of device `d`'s block of `w`. -/
def wAt (d : Dev nD) (k : Fin 128) (j : Fin 8192) : EReal := Wt d (ix2 k j)

/-- Device `d`'s part of the product's entry `(i, j)`. -/
def part (d : Dev nD) (i : Fin 4096) (j : Fin 8192) : EReal :=
  ∑ k : Fin 128, xAt X d i k * wAt Wt d k j

/-- The contracted axis of a device's product is the 128 columns of its block. -/
def kEq : dot_S128x128_S128x8192_S128x8192_1_0_0_1_n_n.contr.Idx ≃ Fin 128 :=
  contrEquiv1 dot_S128x128_S128x8192_S128x8192_1_0_0_1_n_n 128 rfl rfl

/-- A device's product of a chunk of its block of `x` by its block of `w`. -/
theorem gemm_at (d : Dev nD) (off : Fin 2 → Nat) (hoff) (c : ℕ) (h : off = ![128 * (c % 32), 0]) (u : Fin 1) (a : Fin 128) (j : Fin 8192) :
    gemmV X Wt d off hoff (ix3 u a j) = part X Wt d (rowAt c a) j := by
  subst h
  unfold gemmV k0_pay1
  rw [shapeCast_self, shapeCast_self]
  refine (shapeCast_ab_1ab_apply _ shapeCasts_S128x8192_S1x128x8192 u a j).trans ?_
  refine (Ideal.matmul_constant_zero_apply dot_S128x128_S128x8192_S128x8192_1_0_0_1_n_n none _ _ (ix2 a j)).trans ?_
  rw [← Equiv.sum_comp kEq.symm]
  unfold part
  refine Finset.sum_congr rfl fun k _ => ?_
  have hk : ((kEq.symm k) ⟨0, by decide⟩ : ℕ) = k.val := contrEquiv1_symm_val _ 128 rfl rfl k
  refine congrArg₂ (fun p q : EReal => p * q) ?_ ?_
  · refine congrArg (X d) (Shape.idx_ext₂ ?_ ?_)
    · refine (ValueKit.rect_emb_unit_val (s := S4096x128) _ S128x128.size hoff _ (0 : Fin 2)).trans ?_
      rfl
    · refine (ValueKit.rect_emb_unit_val (s := S4096x128) _ S128x128.size hoff _ (1 : Fin 2)).trans ?_
      exact (Nat.zero_add _).trans hk
  · refine congrArg (Wt d) (Shape.idx_ext₂ ?_ ?_)
    · refine (ValueKit.rect_emb_unit_val (s := S128x8192) _ S128x8192.size inb_S128x8192_S128x8192_0_0 _ (0 : Fin 2)).trans ?_
      exact (Nat.zero_add _).trans hk
    · refine (ValueKit.rect_emb_unit_val (s := S128x8192) _ S128x8192.size inb_S128x8192_S128x8192_0_0 _ (1 : Fin 2)).trans ?_
      exact Nat.zero_add _

/-! ## The running sums -/

/-- In exact arithmetic the packed message is the running sum itself. -/
theorem pack_at (v : Vec Ideal S1x32x8192 .f32) (u : Fin 1) (a : Fin 32) (j : Fin 8192) :
    k0_pay2 v (ix3 u a j) = v (ix3 (0 : Fin 1) a j) := by
  unfold k0_pay2
  refine (shapeCast_ab_1ab_apply _ shapeCasts_S32x8192_S1x32x8192 u a j).trans ?_
  exact shapeCast_1ab_ab_apply _ shapeCasts_S1x32x8192_S32x8192 a j

/-- The step of a running sum adds the message to the product. -/
theorem step_at (v : Vec Ideal S1x32x8192 .f32) (w : Vec Ideal S1x32x8192 .bf16) (u : Fin 1) (a : Fin 32) (j : Fin 8192) :
    (k0_pay7 v w (ix3 u a j) : EReal) = (v (ix3 (0 : Fin 1) a j) : EReal) + (w (ix3 (0 : Fin 1) a j) : EReal) := by
  unfold k0_pay7
  refine (shapeCast_ab_1ab_apply _ shapeCasts_S32x8192_S1x32x8192 u a j).trans ?_
  exact congrArg₂ (fun p q : EReal => p + q) (shapeCast_1ab_ab_apply v shapeCasts_S1x32x8192_S32x8192 a j)
    (shapeCast_1ab_ab_apply w shapeCasts_S1x32x8192_S32x8192 a j)

/-- After `t` steps a ring's running sum holds the parts of the `t + 1` devices it came through. -/
theorem acc_at (r : Fin 4) (t : ℕ) (ht : t < 32) : ∀ (d : Dev nD) (u : Fin 1) (a : Fin 32) (j : Fin 8192),
    (accV X Wt r t d (ix3 u a j) : EReal) = ∑ s ∈ Finset.range (t + 1), part X Wt (back s d) (rowAt (d.val + 31 * t) (ringRow r a)) j := by
  induction t with
  | zero =>
    intro d u a j
    rw [Finset.sum_range_one]
    show gemmV X Wt d (k0_off1 d) (k0_off1_inb d) (rowIx r (ix3 u a j)) = _
    rw [rowIx_ix3]
    exact gemm_at X Wt d _ _ _ (off1_at d) u _ j
  | succ t ih =>
    intro d u a j
    refine (step_at _ _ u a j).trans ?_
    rw [pack_at, ih (by omega)]
    have hr : rowAt ((leftD d).val + 31 * t) (ringRow r a) = rowAt (d.val + 31 * (t + 1)) (ringRow r a) := by
      refine Fin.ext ?_
      show 128 * (((leftD d).val + 31 * t) % 32) + _ = 128 * ((d.val + 31 * (t + 1)) % 32) + _
      rw [left_val]; omega
    rw [hr, Finset.sum_range_succ' _ (t + 1)]
    refine (add_comm _ _).trans (congrArg₂ (fun p q : EReal => p + q) rfl ?_)
    show gemmV X Wt d (k0_off2 d (BitVec.ofNat 32 (t % 31))) (off2_inb d t) (rowIx r (ix3 (0 : Fin 1) a j)) = _
    rw [rowIx_ix3]
    have ho := off2_at d ⟨t, by omega⟩
    refine gemm_at X Wt d _ _ _ ?_ _ _ j
    rw [Nat.mod_eq_of_lt (by omega : t < 31)]
    exact ho

/-- Going back 0 to 31 steps reaches every device once. -/
theorem back_bij (d : Dev nD) : Function.Bijective (fun s : Fin 32 => back s.val d) := by
  rw [Fintype.bijective_iff_injective_and_card]
  refine ⟨fun s s' h => Fin.ext ?_, rfl⟩
  have := congrArg Fin.val h
  simp only [back_val] at this
  omega

/-- The whole product's entry: the sum of the devices' parts. -/
def yAt (i : Fin 4096) (j : Fin 8192) : EReal := ∑ d : Dev nD, part X Wt d i j

/-- The reduced chunk of device `d` is the chunk of rows after its own of the whole product. -/
theorem tot_at (d : Dev nD) (u : Fin 1) (a : Fin 128) (j : Fin 8192) :
    (totV X Wt 31 d (ix3 u a j) : EReal) = yAt X Wt (rowAt (d.val + 1) a) j := by
  obtain ⟨r, b, rfl⟩ := ringRow_surj a
  have h := congrFun (rows_glue (fun r => accV X Wt r 31 d) r) (ix3 u b j)
  unfold rows at h
  rw [rowIx_ix3] at h
  refine (show totV X Wt 31 d _ = _ from h).trans ?_
  refine (acc_at X Wt r 31 (by decide) d u b j).trans ?_
  have hr : rowAt (d.val + 31 * 31) (ringRow r b) = rowAt (d.val + 1) (ringRow r b) := by
    refine Fin.ext ?_
    show 128 * ((d.val + 31 * 31) % 32) + _ = 128 * ((d.val + 1) % 32) + _
    omega
  rw [hr, Finset.sum_range]
  exact (back_bij d).sum_comp fun e => part X Wt e (rowAt (d.val + 1) (ringRow r b)) j

end Run

end Cert.Proof
-- ==== Proof.Numbers.lean ====
module
public import Idealize.ShloMosaic.PureOps.Ideal.Laws
public import Idealize.ShloMosaic.Lib.IdealHost

/-! Rounding to the codes from -127 to 127, and back, in exact arithmetic. -/

@[expose] public section
noncomputable section

namespace Cert.Proof
open Idealize.ShloMosaic

/-- The word 0x42FE0000 is 127. -/
theorem word_hi : Ideal.ofBits .f32 0x42FE0000#32 = ((127 : ℝ) : EReal) := by
  simp [Ideal.ofBits, Ideal.ieee, -EReal.coe_mul]; norm_num

/-- The word 0xC2FE0000 is -127. -/
theorem word_lo : Ideal.ofBits .f32 0xC2FE0000#32 = ((-127 : ℝ) : EReal) := by
  simp [Ideal.ofBits, Ideal.ieee, -EReal.coe_mul, -EReal.coe_neg]; norm_num

/-- The word 0xFF800000 is minus infinity. -/
theorem word_bot : Ideal.ofBits .f32 0xFF800000#32 = ⊥ := by
  simp [Ideal.ofBits, Ideal.ieee]

/-- The code of `z` at scale `s`: the quotient rounded, then clipped to ±127. -/
def code (s z : EReal) : EReal :=
  min (Ideal.ofBits .f32 0x42FE0000#32) (max (Ideal.ofBits .f32 0xC2FE0000#32) (Ideal.liftRound Ideal.roundHalfEven (Ideal.div z s)))

/-- A rounded extended real, clipped to ±127, is an integer of that range. -/
theorem clip_int (y : EReal) : ∃ n : ℤ, -127 ≤ n ∧ n ≤ 127 ∧
    min ((127 : ℝ) : EReal) (max ((-127 : ℝ) : EReal) (Ideal.liftRound Ideal.roundHalfEven y)) = ((n : ℝ) : EReal) := by
  induction y using EReal.rec with
  | bot =>
    refine ⟨-127, le_refl _, by norm_num, ?_⟩
    rw [Ideal.liftRound_bot, max_eq_left bot_le, min_eq_right (by exact_mod_cast (by norm_num : (-127 : ℝ) ≤ 127))]
    norm_num
  | top =>
    refine ⟨127, by norm_num, le_refl _, ?_⟩
    rw [Ideal.liftRound_top, max_eq_right le_top, min_eq_left le_top]
    norm_num
  | coe r =>
    refine ⟨min 127 (max (-127) (Ideal.roundHalfEven r)), by omega, by omega, ?_⟩
    rw [Ideal.liftRound_coe]
    push_cast
    rfl

/-- Every code is an integer from -127 to 127. -/
theorem code_int (s z : EReal) : ∃ n : ℤ, -127 ≤ n ∧ n ≤ 127 ∧ code s z = ((n : ℝ) : EReal) := by
  unfold code; rw [word_hi, word_lo]; exact clip_int _

/-- A code stored in eight bits and read back is the code. -/
theorem code_back (s z : EReal) : FloatOps.sitofp (F := Ideal) .f32 (FloatOps.fptosi (F := Ideal) (φ := .f32) 8 (code s z)) = code s z := by
  obtain ⟨n, h1, h2, e⟩ := code_int s z
  rw [e]
  have ht : Ideal.toIntClamped (-(2 ^ (8 - 1) : Nat)) ((2 ^ (8 - 1) : Nat) - 1) ((n : ℝ) : EReal) = n := by
    rw [Ideal.toIntClamped_coe]
    have hf : (if 0 ≤ (n : ℝ) then ⌊(n : ℝ)⌋ else ⌈(n : ℝ)⌉) = n := by split <;> simp
    rw [hf]
    norm_num
    omega
  show (((BitVec.ofInt 8 (Ideal.toIntClamped (-(2 ^ (8 - 1) : Nat)) ((2 ^ (8 - 1) : Nat) - 1) ((n : ℝ) : EReal))).toInt : ℝ) : EReal) = _
  rw [ht, BitVec.toInt_ofInt]
  have : n.bmod (2 ^ 8) = n := by
    apply Int.bmod_eq_of_le <;> norm_num <;> omega
  rw [this]

end Cert.Proof
-- ==== Proof.Scale.lean ====
module
public import proofs.«01_k».proof.Proof.Sums
public import proofs.«01_k».proof.Proof.Numbers

/-! The maximum every device scales by, in exact arithmetic. -/

@[expose] public section
set_option maxRecDepth 100000
noncomputable section

namespace Cert.Proof
open Cert.KernelIdeal Cert.KernelIdeal.Gen
open Idealize.ShloMosaic Idealize.ShloMosaic.TcCoe Idealize.ShloMosaic.ValueIdx
open scoped BigOperators

/-- The rectified chunk at an entry. -/
theorem relu_at (v : Vec Ideal S1x128x8192 .f32) (a : Fin 128) (j : Fin 8192) :
    (k0_pay339 v (ix2 a j) : EReal) = max (v (ix3 (0 : Fin 1) a j) : EReal) 0 := by
  unfold k0_pay339
  exact congrArg₂ (fun p q : EReal => max p q) (shapeCast_1ab_ab_apply v shapeCasts_S1x128x8192_S128x8192 a j) Ideal.ofBits_zero_f32

/-- A maximum reduction is at most `B` exactly when every entry that reduces there is. -/
theorem reduce_le {s t : Shape} {axes : List (Fin s.rank)} (src : FVec Ideal s .f32) (h : s.Reduces axes t) (hφ) (hacc) (k : t.Idx) (B : EReal) :
    (multiReduction (F := Ideal) .maximumf axes t src 0xFF800000#32 h hφ hacc k : EReal) ≤ B ↔ ∀ i, h.drop i = k → (src i : EReal) ≤ B := by
  rw [multiReduction_maximumf_eq_fold]
  refine (Finset.fold_max_le (β := EReal) B).trans ⟨fun H i hi => H.2 i (Finset.mem_filter.mpr ⟨Finset.mem_univ _, hi⟩), fun H => ⟨?_, fun i hi => H i (Finset.mem_filter.mp hi).2⟩⟩
  exact (le_of_eq word_bot).trans bot_le

/-- The block filled with a one-entry vector's entry. -/
theorem spread_le (M : FVec Ideal S1 .f32) (x : S1x8x128.Idx) (B : EReal) (P : Prop) (H : ∀ k, (M k : EReal) ≤ B ↔ P) :
    (shapeCast S1x8x128 (broadcast S8x128 (extractAt ![0, 0, 0] (shapeCast S1x1x1 M shapeCasts_S1_S1x1x1) inpos_S1x1x1_p0_0_0)) shapeCasts_S8x128_S1x8x128 x : EReal) ≤ B ↔ P :=
  H _

/-- The one-entry shape has one entry, … -/
theorem one_size : ∀ b, S1.size b = 1 := by decide
/-- … so one index. -/
theorem only_one (i k : S1.Idx) : i = k := by
  funext b
  refine Fin.ext ?_
  have h1 : (i b).val < S1.size b := (i b).isLt
  have h2 : (k b).val < S1.size b := (k b).isLt
  have h3 := one_size b
  omega

/-- The maximum a device starts with is at most `B` exactly when every rectified entry of its chunk is. -/
theorem first_le (v : Vec Ideal S1x128x8192 .f32) (x : S1x8x128.Idx) (B : EReal) :
    (k0_pay340 v x : EReal) ≤ B ↔ ∀ (a : Fin 128) (j : Fin 8192), max (v (ix3 (0 : Fin 1) a j) : EReal) 0 ≤ B := by
  unfold k0_pay340
  refine spread_le _ x B _ fun k => ?_
  refine (reduce_le _ reduces_S1x128x8192_S1 _ _ k B).trans ?_
  have key : ∀ (u : Fin 1) (a : Fin 128) (j : Fin 8192),
      (shapeCast S1x128x8192 (k0_pay339 v) shapeCasts_S128x8192_S1x128x8192 (ix3 u a j) : EReal) = max (v (ix3 (0 : Fin 1) a j) : EReal) 0 :=
    fun u a j => (shapeCast_ab_1ab_apply _ shapeCasts_S128x8192_S1x128x8192 u a j).trans (relu_at v a j)
  constructor
  · intro h a j
    rw [← key 0 a j]
    exact h _ (only_one _ _)
  · intro h i _
    rw [eq_ix3 i]
    exact (le_of_eq (key _ _ _)).trans (h _ _)

/-- A round of the exchange keeps the larger of the two. -/
theorem swap_at (v w : Vec Ideal S1x8x128 .f32) (u : Fin 1) (a : Fin 8) (j : Fin 128) :
    (k0_pay341 v w (ix3 u a j) : EReal) = max (v (ix3 (0 : Fin 1) a j) : EReal) (w (ix3 (0 : Fin 1) a j)) := by
  unfold k0_pay341
  refine (shapeCast_ab_1ab_apply _ shapeCasts_S8x128_S1x8x128 u a j).trans ?_
  exact congrArg₂ (fun p q : EReal => max p q) (shapeCast_1ab_ab_apply v shapeCasts_S1x8x128_S8x128 a j)
    (shapeCast_1ab_ab_apply w shapeCasts_S1x8x128_S8x128 a j)

/-- The devices whose maximum device `d` knows after `k` rounds. -/
def knows : ℕ → Dev nD → Dev nD → Bool
  | 0, d, e => decide (e = d)
  | k + 1, d, e => knows k d e || knows k (partner (k5 k) d) e

/-- After five rounds a device knows the maxima of all. -/
theorem knows_all : ∀ d e : Dev nD, knows 5 d e = true := by decide +kernel

section Run
variable (X : Dev nD → (cc0_stg0_0 : Ref sig .tc).ty.Contents (Elt Ideal)) (Wt : Dev nD → (cc0_stg1_0 : Ref sig .tc).ty.Contents (Elt Ideal))

/-- The rectified product at an entry. -/
def zAt (i : Fin 4096) (j : Fin 8192) : EReal := max (yAt X Wt i j) 0

/-- After `k` rounds a device holds the maximum over the chunks of the devices it knows. -/
theorem mx_le (B : EReal) (k : ℕ) : ∀ (d : Dev nD) (u : Fin 1) (p : Fin 8) (q : Fin 128),
    (mxV X Wt k d (ix3 u p q) : EReal) ≤ B ↔ ∀ e : Dev nD, knows k d e = true → ∀ a j, zAt X Wt (rowAt (e.val + 1) a) j ≤ B := by
  induction k with
  | zero =>
    intro d u p q
    refine (first_le (totV X Wt 31 d) (ix3 u p q) B).trans ⟨?_, ?_⟩
    · intro h e he a j
      obtain rfl : e = d := of_decide_eq_true he
      have := h a j
      rw [tot_at] at this
      exact this
    · intro h a j
      rw [tot_at]
      exact h d (decide_eq_true rfl) a j
  | succ k ih =>
    intro d u p q
    rw [show (mxV X Wt (k + 1) d (ix3 u p q) : EReal) = max _ _ from swap_at _ _ u p q, max_le_iff, ih, ih]
    constructor
    · rintro ⟨h1, h2⟩ e he
      rcases Bool.or_eq_true_iff.mp (show (knows k d e || knows k (partner (k5 k) d) e) = true from he) with h | h
      · exact h1 e h
      · exact h2 e h
    · intro h
      exact ⟨fun e he => h e (Bool.or_eq_true_iff.mpr (.inl he)), fun e he => h e (Bool.or_eq_true_iff.mpr (.inr he))⟩

/-- Every row of the whole is a row of a chunk. -/
theorem rowAt_surj (i : Fin 4096) : ∃ (c : Dev nD) (a : Fin 128), rowAt c.val a = i ∧ rowAt ((back 1 c).val + 1) a = i := by
  refine ⟨⟨i.val / 128, by show _ < 32; omega⟩, ⟨i.val % 128, by omega⟩, Fin.ext ?_, Fin.ext ?_⟩
  · show 128 * ((i.val / 128) % 32) + i.val % 128 = i.val
    omega
  · show 128 * (((back 1 _).val + 1) % 32) + i.val % 128 = i.val
    rw [back_val]
    show 128 * (((i.val / 128 + 31 * 1) % 32 + 1) % 32) + i.val % 128 = i.val
    omega

/-- The maximum device `d` scales by is at most `B` exactly when the whole rectified product is. -/
theorem max_le (d : Dev nD) (x : S1x1x1.Idx) (B : EReal) : (maxV X Wt d x : EReal) ≤ B ↔ ∀ i j, zAt X Wt i j ≤ B := by
  unfold maxV
  rw [eq_ix3 (oneIx x)]
  refine (mx_le X Wt B 5 d _ _ _).trans ⟨fun h i j => ?_, fun h e _ a j => h _ j⟩
  obtain ⟨c, a, -, rfl⟩ := rowAt_surj i
  exact h (back 1 c) (knows_all _ _) a j

end Run

end Cert.Proof
-- ==== Proof.Result.lean ====
module
public import proofs.«01_k».proof.Proof.Scale

/-! The result's entries in exact arithmetic. -/

@[expose] public section
set_option maxRecDepth 100000
noncomputable section

namespace Cert.Proof
open Cert.KernelIdeal Cert.KernelIdeal.Gen
open Idealize.ShloMosaic Idealize.ShloMosaic.TcCoe Idealize.ShloMosaic.ValueIdx
open scoped BigOperators

/-! ## Coding and scaling back, entry by entry -/

/-- The one index of the scalar block that is read. -/
def oneAt : S1x1x1.Idx := fun a => ⟨(![0, 0, 0] : Fin 3 → Nat) a, inpos_S1x1x1_p0_0_0 a⟩

/-- The scale is the maximum divided by 127. -/
theorem scale_at (m : Vec Ideal S1x1x1 .f32) : (k0_pay347 m : EReal) = Ideal.div (m oneAt) (Ideal.ofBits .f32 0x42FE0000#32) := rfl

/-- The codes of a chunk. -/
theorem codes_at (v : FVec Ideal S128x8192 .f32) (m : Vec Ideal S1x1x1 .f32) (a : Fin 128) (j : Fin 8192) :
    (k0_pay348 v m (ix2 a j) : EReal) = code (k0_pay347 m) (v (ix2 a j)) := by
  unfold k0_pay348; rfl

/-- The codes of a chunk, sliced at ring `r`'s rows. -/
theorem slice_at (q : FVec Ideal S128x8192 .f32) (r : Fin 4) (h) (a : Fin 32) (j : Fin 8192) :
    extractStridedSlice S32x8192 ![32 * r.val, 0] q h (ix2 a j) = q (ix2 (ringRow r a) j) :=
  slice2_axis0_apply _ _ _ _ _ _ rfl

/-- Ring `r`'s eight-bit codes. -/
theorem bytes_at (r : Fin 4) (v : FVec Ideal S128x8192 .f32) (m : Vec Ideal S1x1x1 .f32) (u : Fin 1) (a : Fin 32) (j : Fin 8192) :
    quantV r v m (ix3 u a j) = FloatOps.fptosi (F := Ideal) (φ := .f32) 8 (code (k0_pay347 m) (v (ix2 (ringRow r a) j))) := by
  have key : ∀ (h), fptosi (F := Ideal) (φ := .f32) 8 (extractStridedSlice S32x8192 ![32 * r.val, 0] (k0_pay348 v m) h) (ix2 a j)
      = FloatOps.fptosi (F := Ideal) (φ := .f32) 8 (code (k0_pay347 m) (v (ix2 (ringRow r a) j))) := fun h =>
    congrArg (FloatOps.fptosi (F := Ideal) (φ := .f32) 8) ((slice_at _ r h a j).trans (codes_at v m _ j))
  match r with
  | 0 => exact (shapeCast_ab_1ab_apply _ shapeCasts_S32x8192_S1x32x8192 u a j).trans (key slices_S128x8192_o0_0_S32x8192)
  | 1 => exact (shapeCast_ab_1ab_apply _ shapeCasts_S32x8192_S1x32x8192 u a j).trans (key slices_S128x8192_o32_0_S32x8192)
  | 2 => exact (shapeCast_ab_1ab_apply _ shapeCasts_S32x8192_S1x32x8192 u a j).trans (key slices_S128x8192_o64_0_S32x8192)
  | 3 => exact (shapeCast_ab_1ab_apply _ shapeCasts_S32x8192_S1x32x8192 u a j).trans (key slices_S128x8192_o96_0_S32x8192)

/-- The device's own chunk scaled back. -/
theorem own_at (s : Ideal .f32) (q : FVec Ideal S128x8192 .f32) (u : Fin 1) (a : Fin 128) (j : Fin 8192) :
    (k0_pay354 s q (ix3 u a j) : EReal) = @HMul.hMul EReal EReal EReal _ (q (ix2 a j)) s := by
  unfold k0_pay354
  exact shapeCast_ab_1ab_apply _ shapeCasts_S128x8192_S1x128x8192 u a j

/-- Arrived codes scaled back. -/
theorem got_at (s : Ideal .f32) (w : Vec Ideal S1x32x8192 .i8) (u : Fin 1) (a : Fin 32) (j : Fin 8192) :
    (k0_pay355 s w (ix3 u a j) : EReal) = @HMul.hMul EReal EReal EReal _ (FloatOps.sitofp (F := Ideal) .f32 (w (ix3 (0 : Fin 1) a j))) s := by
  unfold k0_pay355
  refine (shapeCast_ab_1ab_apply _ shapeCasts_S32x8192_S1x32x8192 u a j).trans ?_
  exact congrArg (fun b => @HMul.hMul EReal EReal EReal _ (FloatOps.sitofp (F := Ideal) .f32 b) s) (shapeCast_1ab_ab_apply w shapeCasts_S1x32x8192_S32x8192 a j)

section Run
variable (X : Dev nD → (cc0_stg0_0 : Ref sig .tc).ty.Contents (Elt Ideal)) (Wt : Dev nD → (cc0_stg1_0 : Ref sig .tc).ty.Contents (Elt Ideal))

/-- The scale: the maximum over 127. -/
def scaleV : EReal := Ideal.div (maxV X Wt 0 oneAt) (Ideal.ofBits .f32 0x42FE0000#32)

/-- The scale is the same on every device. -/
theorem scale_same (d : Dev nD) : (k0_pay347 (maxV X Wt d) : EReal) = scaleV X Wt := by
  have e : @Eq EReal (maxV X Wt d oneAt) (maxV X Wt 0 oneAt) :=
    eq_of_forall_ge_iff (α := EReal) fun B => Iff.trans (max_le X Wt d oneAt B) (max_le X Wt 0 oneAt B).symm
  exact (scale_at (maxV X Wt d)).trans (congrArg (fun z : EReal => Ideal.div z (Ideal.ofBits .f32 0x42FE0000#32)) e)

/-- The result's entry `(i, j)`. -/
def outAt (i : Fin 4096) (j : Fin 8192) : EReal := code (scaleV X Wt) (zAt X Wt i j) * scaleV X Wt

/-- Which chunk of rows the `n`-th stored one is. -/
def chunkNo (d : Dev nD) : ℕ → ℕ
  | 0 => d.val + 1
  | g + 1 => d.val + 31 * g

/-- The rectified entry of the reduced chunk. -/
theorem z_at (d : Dev nD) (a : Fin 128) (j : Fin 8192) : (k0_pay339 (totV X Wt 31 d) (ix2 a j) : EReal) = zAt X Wt (rowAt (d.val + 1) a) j := by
  rw [relu_at, tot_at]; rfl

/-- The stored chunks hold the result's entries. -/
theorem chunk_at (d : Dev nD) (n : ℕ) (u : Fin 1) (a : Fin 128) (j : Fin 8192) :
    (chunkV X Wt d n (ix3 u a j) : EReal) = outAt X Wt (rowAt (chunkNo d n) a) j := by
  cases n with
  | zero =>
    refine (own_at _ _ u a j).trans ?_
    rw [codes_at, scale_same, z_at]; rfl
  | succ g =>
    obtain ⟨r, b, rfl⟩ := ringRow_surj a
    have h := congrFun (rows_glue (fun r => k0_pay355 (k0_pay347 (maxV X Wt d)) (qV X Wt r (back g (leftD d)))) r) (ix3 u b j)
    unfold rows at h
    rw [rowIx_ix3] at h
    refine (show chunkV X Wt d (g + 1) _ = _ from h).trans ?_
    refine (got_at _ _ u b j).trans ?_
    unfold qV
    rw [bytes_at, code_back, scale_same, scale_same, z_at]
    have hr : rowAt ((back g (leftD d)).val + 1) (ringRow r b) = rowAt (chunkNo d (g + 1)) (ringRow r b) := by
      refine Fin.ext ?_
      show 128 * (((back g (leftD d)).val + 1) % 32) + _ = 128 * ((d.val + 31 * g) % 32) + _
      rw [back_val, left_val]; omega
    rw [hr]; rfl

/-- … at the shape of the result's rows. -/
theorem outVal_at (d : Dev nD) (n : ℕ) (a : Fin 128) (j : Fin 8192) :
    (outVal X Wt d n (ix2 a j) : EReal) = outAt X Wt (rowAt (chunkNo d n) a) j := by
  unfold outVal
  rw [reshapeEquiv_ix2_1ab]
  exact chunk_at X Wt d n _ a j

end Run

/-! ## Where the stored chunks go -/

/-- The own chunk goes one chunk on. -/
theorem off3_at : ∀ d : Dev nD, k0_off3 d = ![128 * ((d.val + 1) % 32), 0] := by decide +kernel
/-- Arrived chunk `t` goes `t` back. -/
theorem off4_at : ∀ (d : Dev nD) (t : Fin 31), k0_off4 d (BitVec.ofNat 32 t.val) = ![128 * ((d.val + 31 * t.val) % 32), 0] := by decide +kernel

/-- Where the `n`-th stored chunk goes. -/
theorem outOff_eq (d : Dev nD) (n : ℕ) (hn : n < 32) : outOff d n = ![128 * (chunkNo d n % 32), 0] := by
  cases n with
  | zero => exact off3_at d
  | succ g =>
    show k0_off4 d (BitVec.ofNat 32 (g % 31)) = _
    rw [Nat.mod_eq_of_lt (by omega : g < 31)]
    exact off4_at d ⟨g, by omega⟩

/-- Entry `(a, j)` of the `n`-th stored chunk is entry `(128 c + a, j)` of the result. -/
theorem outR_at (d : Dev nD) (n : ℕ) (hn : n < 32) (a : Fin 128) (j : Fin 8192) :
    (outR d n).emb (ix2 a j) = ix2 (rowAt (chunkNo d n) a) j := by
  have h := outOff_eq d n hn
  refine Shape.idx_ext₂ ?_ ?_
  · refine (ValueKit.rect_emb_unit_val (s := S4096x8192) _ S128x8192.size (outOff_inb d n) _ (0 : Fin 2)).trans ?_
    exact congrArg (fun o : Fin 2 → ℕ => o 0 + a.val) h
  · refine (ValueKit.rect_emb_unit_val (s := S4096x8192) _ S128x8192.size (outOff_inb d n) _ (1 : Fin 2)).trans ?_
    exact (congrArg (fun o : Fin 2 → ℕ => o 1 + j.val) h).trans (Nat.zero_add _)

/-- Every row of the result is in a stored chunk. -/
theorem stored (d : Dev nD) (i : Fin 4096) : ∃ (n : Fin 32) (a : Fin 128), rowAt (chunkNo d n.val) a = i := by
  have hd : d.val < 32 := d.isLt
  by_cases h : i.val / 128 = (d.val + 1) % 32
  · refine ⟨0, ⟨i.val % 128, by omega⟩, Fin.ext ?_⟩
    show 128 * ((d.val + 1) % 32) + i.val % 128 = i.val
    omega
  · refine ⟨⟨(d.val + 31 * (i.val / 128)) % 32 + 1, by omega⟩, ⟨i.val % 128, by omega⟩, Fin.ext ?_⟩
    show 128 * ((d.val + 31 * ((d.val + 31 * (i.val / 128)) % 32)) % 32) + i.val % 128 = i.val
    omega

end Cert.Proof
-- ==== Proof.Plain.lean ====
module
public import proofs.«01_k».proof.Proof.Gen.ReferenceIdeal.Run
public import proofs.«01_k».proof.Proof.Numbers
public import Idealize.ShloMosaic.Lib.ValueLayout
public import Idealize.ShloMosaic.Lib.ValueIdx
public import Idealize.ShloMosaic.Lib.IdealHost
public import Idealize.ShloMosaic.PureOps.Ideal.Laws

/-! The reference's result, entry by entry, in exact arithmetic. -/

@[expose] public section
set_option maxRecDepth 100000
noncomputable section

namespace Cert.Proof.Plain
open Cert.ReferenceIdeal Cert.ReferenceIdeal.Gen
open Idealize.ShloMosaic Idealize.ShloMosaic.TcCoe Idealize.ShloMosaic.ValueIdx
open scoped BigOperators

/-- A host maximum reduction from minus infinity to one entry is at most `B` exactly when every entry is. -/
theorem host_le {s t u : Shape} {axes : List (Fin s.rank)} (x : FVec Ideal s .f32) (h : s.ReducesTo axes t) (hu : 0 < u.numel) (j : t.Idx)
    (hj : ∀ k : t.Idx, k = j) (B : EReal) :
    (Host.reduce (FloatOps.maximumf (F := Ideal) (φ := .f32)) x (constant (F := Ideal) u .f32 0xFF800000#32) h hu j : EReal) ≤ B ↔ ∀ i, (x i : EReal) ≤ B := by
  rw [Host.reduce_eq_fold]
  refine (Finset.fold_max_le (β := EReal) B).trans ⟨fun H i => H.2 i (Finset.mem_filter.mpr ⟨Finset.mem_univ _, hj _⟩), fun H => ⟨?_, fun i _ => H i⟩⟩
  exact (le_of_eq word_bot).trans bot_le

section Of
variable (A : FVec Ideal S4096x4096 .f32) (B : FVec Ideal S4096x8192 .f32)

/-- The rectified product. -/
def prod : FVec Ideal S4096x8192 .f32 :=
  maximumf (Host.dotGeneral dot_S4096x4096_S4096x8192_S4096x8192_1_0_0_1_n_n none A B) (broadcastInDim S4096x8192 ![] bcast_S_S4096x8192 (constant S_ .f32 0x00000000#32))
/-- Its greatest entry. -/
def top : FVec Ideal S_ .f32 :=
  Host.reduce FloatOps.maximumf (Host.absf (prod A B)) (constant S_ .f32 0xFF800000#32) reducesTo_S4096x8192_S_d0_1 h_S_
/-- The scale. -/
def scale : FVec Ideal S_ .f32 := Host.divf (top A B) (constant S_ .f32 0x42FE0000#32)
/-- The reference's result. -/
def result : FVec Ideal S4096x8192 .f32 :=
  mulf (minimumf (broadcastInDim S4096x8192 ![] bcast_S_S4096x8192 (id (constant S_ .f32 0x42FE0000#32))) (maximumf (broadcastInDim S4096x8192 ![] bcast_S_S4096x8192 (id (constant S_ .f32 0xC2FE0000#32))) (Host.roundeven (Host.divf (prod A B) (broadcastInDim S4096x8192 ![] bcast_S_S4096x8192 (scale A B)))))) (broadcastInDim S4096x8192 ![] bcast_S_S4096x8192 (scale A B))

/-- An entry of the product, as a sum over the 4096 contracted columns. -/
def yRef (i : Fin 4096) (j : Fin 8192) : EReal := ∑ k : Fin 4096, @HMul.hMul EReal EReal EReal _ (A (ix2 i k)) (B (ix2 k j))

/-- The contracted axis is the 4096 columns of the first operand. -/
def kEq : dot_S4096x4096_S4096x8192_S4096x8192_1_0_0_1_n_n.contr.Idx ≃ Fin 4096 :=
  contrEquiv1 dot_S4096x4096_S4096x8192_S4096x8192_1_0_0_1_n_n 4096 rfl rfl

/-- The host product at an entry. -/
theorem dot_at (i : Fin 4096) (j : Fin 8192) :
    (Host.dotGeneral dot_S4096x4096_S4096x8192_S4096x8192_1_0_0_1_n_n none A B (ix2 i j) : EReal) = yRef A B i j := by
  unfold Host.dotGeneral
  refine (Ideal.dotGeneral_apply dot_S4096x4096_S4096x8192_S4096x8192_1_0_0_1_n_n none _ A B (ix2 i j)).trans ?_
  rw [← Equiv.sum_comp kEq.symm]
  unfold yRef
  refine Finset.sum_congr rfl fun k _ => ?_
  have hk : ((kEq.symm k) ⟨0, by decide⟩ : ℕ) = k.val := contrEquiv1_symm_val _ 4096 rfl rfl k
  refine congrArg₂ (fun p q : EReal => p * q) (congrArg A (Shape.idx_ext₂ ?_ ?_)) (congrArg B (Shape.idx_ext₂ ?_ ?_))
  · rfl
  · exact hk
  · exact hk
  · rfl

/-- The rectified product at an entry. -/
theorem prod_at (i : Fin 4096) (j : Fin 8192) : (prod A B (ix2 i j) : EReal) = max (yRef A B i j) 0 := by
  unfold prod
  exact congrArg₂ (fun p q : EReal => max p q) (dot_at A B i j) Ideal.ofBits_zero_f32

/-- The greatest entry is at most `C` exactly when every rectified entry is. -/
theorem top_le (C : EReal) (k : S_.Idx) : (top A B k : EReal) ≤ C ↔ ∀ i j, max (yRef A B i j) 0 ≤ C := by
  unfold top
  refine (host_le _ reducesTo_S4096x8192_S_d0_1 h_S_ k (fun k' => (eq_ix0 k').trans (eq_ix0 k).symm) C).trans ?_
  have key : ∀ i j, (Host.absf (prod A B) (ix2 i j) : EReal) = max (yRef A B i j) 0 := fun i j => by
    refine (show _ = max (prod A B (ix2 i j) : EReal) (-(prod A B (ix2 i j) : EReal)) from rfl).trans ?_
    rw [prod_at]
    have h0 : (0 : EReal) ≤ max (yRef A B i j) 0 := le_max_right _ _
    exact max_eq_left ((EReal.neg_le_zero.mpr h0).trans h0)
  constructor
  · intro h i j
    rw [← key]; exact h _
  · intro h i
    rw [eq_ix2 i]
    exact (le_of_eq (key _ _)).trans (h _ _)

/-- The result's entry. -/
theorem result_at (i : Fin 4096) (j : Fin 8192) :
    (result A B (ix2 i j) : EReal) = @HMul.hMul EReal EReal EReal _
      (code (Ideal.div (top A B ix0) (Ideal.ofBits .f32 0x42FE0000#32)) (max (yRef A B i j) 0)) (Ideal.div (top A B ix0) (Ideal.ofBits .f32 0x42FE0000#32)) := by
  have hs : ∀ k : S_.Idx, (scale A B k : EReal) = Ideal.div (top A B ix0) (Ideal.ofBits .f32 0x42FE0000#32) := fun k => by
    rw [eq_ix0 k]; rfl
  have hb : (broadcastInDim S4096x8192 ![] bcast_S_S4096x8192 (scale A B) (ix2 i j) : EReal) = Ideal.div (top A B ix0) (Ideal.ofBits .f32 0x42FE0000#32) := hs _
  unfold result code
  rw [← hb, ← prod_at]
  rfl

end Of

end Cert.Proof.Plain
-- ==== Proof.Algebraic.lean ====
module
public import proofs.«01_k».proof.Proof.Frames
public import proofs.«01_k».proof.Proof.Result
public import proofs.«01_k».proof.Proof.Plain
public import Idealize.ShloMosaic.Lib.Layout

/-! In exact arithmetic every device's result is the reference's. -/

@[expose] public section
set_option maxRecDepth 100000
noncomputable section

namespace Cert.Proof
open Cert.KernelIdeal Cert.KernelIdeal.Gen
open Idealize.ShloMosaic Idealize.ShloMosaic.TcCoe Idealize.ShloMosaic.ValueIdx Idealize.SL.Sem
open scoped BigOperators

/-- Column `k` of block `d`, as a column of the whole. -/
def colAt (d : Dev nD) (k : Fin 128) : Fin 4096 := ⟨128 * d.val + k.val, by have : d.val < 32 := d.isLt; omega⟩

/-- A sum over the 32 blocks of 128 is the sum over the 4096. -/
theorem cut_sum (f : Fin 4096 → EReal) : ∑ d : Dev nD, ∑ k : Fin 128, f (colAt d k) = ∑ K : Fin 4096, f K := by
  refine Eq.trans ?_ ((finProdFinEquiv (m := 32) (n := 128)).sum_comp f)
  rw [Fintype.sum_prod_type]
  refine Finset.sum_congr rfl fun d _ => Finset.sum_congr rfl fun k _ => congrArg f (Fin.ext ?_)
  show 128 * d.val + k.val = k.val + 128 * d.val
  omega

section Launched
variable (m : (ℓ : Loc nD τ sig) → Buf (Elt Ideal) ℓ)

/-- A device's staged block of `x` is its argument. -/
theorem xIn_at (d : Dev nD) (i : Fin 4096) (k : Fin 128) :
    xIn m d (ix2 i k) = m ((d : Thread nD τ).loc main_arg0) (ix2 i k) := by
  unfold xIn
  refine congrArg (m ((d : Thread nD τ).loc main_arg0)) (Shape.idx_ext₂ (x := (win0_0.blk (0 : Fin 1)).view.emb (ix2 i k)) (y := ix2 i k) ?_ ?_)
  · show 0 * 4096 + 1 * i.val = i.val
    omega
  · show 0 * 128 + 1 * k.val = k.val
    omega

/-- A device's staged block of `w` is its argument. -/
theorem wIn_at (d : Dev nD) (k : Fin 128) (j : Fin 8192) :
    wIn m d (ix2 k j) = m ((d : Thread nD τ).loc main_arg1) (ix2 k j) := by
  unfold wIn
  refine congrArg (m ((d : Thread nD τ).loc main_arg1)) (Shape.idx_ext₂ (x := (win0_1.blk (0 : Fin 1)).view.emb (ix2 k j)) (y := ix2 k j) ?_ ?_)
  · show 0 * 128 + 1 * k.val = k.val
    omega
  · show 0 * 8192 + 1 * j.val = j.val
    omega

variable (A : FVec Ideal ⟨2, ![4096, 4096]⟩ .f32) (B : FVec Ideal ⟨2, ![4096, 8192]⟩ .f32)

/-- The devices hold the blocks of `A` and `B`. -/
def Held : Prop := ∀ c : Dev nD,
  m ((c : Thread nD τ).loc main_arg0) = Layout.block ⟨2, ![4096, 128]⟩ ⟨2, ![4096, 4096]⟩ 1 32 c A
  ∧ m ((c : Thread nD τ).loc main_arg1) = Layout.block ⟨2, ![128, 8192]⟩ ⟨2, ![4096, 8192]⟩ 0 32 c B

variable {m A B} (h : Held m A B)
include h

/-- A device's entries of `x` are entries of the whole. -/
theorem x_at (d : Dev nD) (i : Fin 4096) (k : Fin 128) : xAt (xIn m) d i k = A (ix2 i (colAt d k)) := by
  refine (xIn_at m d i k).trans ?_
  rw [(h d).1, Layout.block_apply]
  refine congrArg A (Shape.idx_ext₂ rfl ?_)
  show d.val * 128 + k.val = 128 * d.val + k.val
  omega

/-- A device's entries of `w` are entries of the whole. -/
theorem w_at (d : Dev nD) (k : Fin 128) (j : Fin 8192) : wAt (wIn m) d k j = B (ix2 (colAt d k) j) := by
  refine (wIn_at m d k j).trans ?_
  rw [(h d).2, Layout.block_apply]
  refine congrArg B (Shape.idx_ext₂ ?_ rfl)
  show d.val * 128 + k.val = 128 * d.val + k.val
  omega

/-- The devices' parts add up to the whole product. -/
theorem y_same (i : Fin 4096) (j : Fin 8192) : yAt (xIn m) (wIn m) i j = Plain.yRef A B i j := by
  unfold yAt part Plain.yRef
  rw [← cut_sum]
  refine Finset.sum_congr rfl fun d _ => Finset.sum_congr rfl fun k _ => ?_
  rw [x_at h, w_at h]

/-- The two maxima are the same. -/
theorem top_same (k : Cert.ReferenceIdeal.S_.Idx) : @Eq EReal (maxV (xIn m) (wIn m) 0 oneAt) (Plain.top A B k) := by
  refine eq_of_forall_ge_iff (α := EReal) fun C => Iff.trans (max_le (xIn m) (wIn m) 0 oneAt C) (Iff.trans ?_ (Plain.top_le A B C k).symm)
  unfold zAt
  simp only [y_same h]

/-- Entry by entry the stored result is the reference's. -/
theorem out_same (i : Fin 4096) (j : Fin 8192) : outAt (xIn m) (wIn m) i j = Plain.result A B (ix2 i j) := by
  refine Eq.trans ?_ (Plain.result_at A B i j).symm
  unfold outAt scaleV zAt
  rw [y_same h, top_same h ix0]

/-- A finished device's whole result is the reference's. -/
theorem whole_same {r : PUnit × MemSt nD τ sig (Elt Ideal)} (hr : Good m r) (d : Dev nD) :
    r.2.mem ((d : Thread nD τ).loc main_v1) = Plain.result A B := by
  refine funext fun (y : S4096x8192.Idx) => ?_
  obtain ⟨i, j, rfl⟩ : ∃ (i : Fin 4096) (j : Fin 8192), y = ix2 i j := ⟨y 0, y 1, eq_ix2 y⟩
  obtain ⟨n, a, rfl⟩ := stored d i
  refine Eq.trans ?_ (out_same h _ j)
  refine Eq.trans ?_ (outVal_at (xIn m) (wIn m) d n.val a j)
  refine Eq.trans ?_ ((hr.1 d).2 n (ix2 a j))
  rw [outR_at d n.val n.isLt a j]
  rfl

end Launched

/-- The idealized kernel's result, on every device, is the idealized reference's. -/
theorem algebraic : Cert.algebraic_KernelIdeal_ReferenceIdeal := by
  intro m g m' g' _ hm
  refine ⟨Plain.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ⟨whole_same hm hr c, (hr.1 c).1 (0 : Fin 2), (hr.1 c).1 (1 : Fin 2)⟩) (run_main (F := Ideal) m g)
  · exact (θ_run Cert.ReferenceIdeal.defs _ _).mono (fun r hr => hr 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
